-- ==== Defs.lean ====
def Pre_Kernel [hPre_nodes_in_range : Cert.Pre_nodes_in_range.Facts] (m : (ℓ : Loc Cert.Kernel.nD Cert.Kernel.τ Cert.Kernel.sig) → Buf (Elt Bits) ℓ) : Prop :=
  ∀ c : Dev Cert.Kernel.nD,
    (Cert.Pre_nodes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_nodes_in_range : Cert.Pre_nodes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] [hPre_nodes_in_range : Cert.Pre_nodes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)) (v5 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v137) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_nodes_in_range : Cert.Pre_nodes_in_range.Facts) (hPre_inputs_ok : Cert.Pre_inputs_ok.Facts),
    quiescent_Kernel (hKernel := hKernel) (hPre_nodes_in_range := hPre_nodes_in_range)
    ∧ quiescent_KernelIdeal (hKernelIdeal := hKernelIdeal) (hPre_nodes_in_range := hPre_nodes_in_range)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x883x1280 : Shape := ⟨3, ![4, 883, 1280]⟩
abbrev S883x20 : Shape := ⟨2, ![883, 20]⟩
abbrev S2x28256 : Shape := ⟨2, ![2, 28256]⟩
abbrev S4x883 : Shape := ⟨2, ![4, 883]⟩
abbrev S20x128 : Shape := ⟨2, ![20, 128]⟩
abbrev S128 : Shape := ⟨1, ![128]⟩
abbrev S128x128 : Shape := ⟨2, ![128, 128]⟩
abbrev S2816x256 : Shape := ⟨2, ![2816, 256]⟩
abbrev S256 : Shape := ⟨1, ![256]⟩
abbrev S512x256 : Shape := ⟨2, ![512, 256]⟩
abbrev S8x256x128 : Shape := ⟨3, ![8, 256, 128]⟩
abbrev S8x128 : Shape := ⟨2, ![8, 128]⟩
abbrev S8 : Shape := ⟨1, ![8]⟩
abbrev S256x8 : Shape := ⟨2, ![256, 8]⟩
abbrev S_ : Shape := ⟨0, ![]⟩

class Facts : Prop where
  bcast_S_S2x28256 : S_.BroadcastsInDim S2x28256 (![] : Fin 0 → Fin S2x28256.rank)
  reducesTo_S2x28256_S_d0_1 : S2x28256.ReducesTo [0, 1] S_
  h_S_ : 0 < S_.numel
  bcast_S_S4x883x1280 : S_.BroadcastsInDim S4x883x1280 (![] : Fin 0 → Fin S4x883x1280.rank)
  reducesTo_S4x883x1280_S_d0_1_2 : S4x883x1280.ReducesTo [0, 1, 2] S_
  bcast_S_S2816x256 : S_.BroadcastsInDim S2816x256 (![] : Fin 0 → Fin S2816x256.rank)
  reducesTo_S2816x256_S_d0_1 : S2816x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg8 : FVec F S128 .f32) (main_v5 : IVec S_ 1) (main_v14 : IVec S_ 1) (main_v15 : FVec F S2816x256 .f32) (main_cst_5 : FVec F S_ .f32) : IVec S_ 1 :=
  let main_v16 : FVec F S2816x256 .f32 := broadcastInDim S2816x256 ![] bcast_S_S2816x256 main_cst_5
  let main_v17 : IVec S2816x256 1 := cmpf .olt main_v15 main_v16
  let main_c_6 : IVec S_ 1 := constantI S_ 1 1#1
  let main_v18 : IVec S_ 1 := (fun x v => Host.reduce IntOp.andi x v reducesTo_S2816x256_S_d0_1 h_S_) main_v17 main_c_6
  let main_v19 : IVec S_ 1 := andi main_v14 main_v18
  let main_v20 : IVec S_ 1 := andi main_v5 main_v19
  let main_cst_7 : FVec F S_ .f32 := constant S_ .f32 0x00000000#32
  let main_v21 : FVec F S128 .f32 := broadcastInDim S128 ![] bcast_S_S128 main_cst_7
  let main_v22 : IVec S128 1 := cmpf .oeq main_arg6 main_v21
  let main_c_8 : IVec S_ 1 := constantI S_ 1 1#1
  let main_v23 : IVec S_ 1 := (fun x v => Host.reduce IntOp.andi x v reducesTo_S128_S_d0 h_S_) main_v22 main_c_8
  let main_v24 : IVec S_ 1 := andi main_v20 main_v23
  let main_cst_9 : FVec F S_ .f32 := constant S_ .f32 0x00000000#32
  let main_v25 : FVec F S128 .f32 := broadcastInDim S128 ![] bcast_S_S128 main_cst_9
  let main_v26 : IVec S128 1 := cmpf .oeq main_arg8 main_v25
  let main_c_10 : IVec S_ 1 := constantI S_ 1 1#1
  let main_v27 : IVec S_ 1 := (fun x v => Host.reduce IntOp.andi x v reducesTo_S128_S_d0 h_S_) main_v26 main_c_10
  let main_v28 : IVec S_ 1 := andi main_v24 main_v27
  main_v28

def fn {F : FTy → Type} [FloatOps F] (main_arg0 : FVec F S4x883x1280 .f32) (main_arg1 : FVec F S4x883x1280 .f32) (main_arg2 : FVec F S883x20 .f32) (main_arg3 : IVec S2x28256 32) (main_arg4 : FVec F S4x883 .f32) (main_arg5 : FVec F S20x128 .f32) (main_arg6 : FVec F S128 .f32) (main_arg7 : FVec F S128x128 .f32) (main_arg8 : FVec F S128 .f32) (main_arg9 : FVec F S2816x256 .f32) (main_arg10 : FVec F S256 .f32) (main_arg11 : FVec F S512x256 .f32) (main_arg12 : FVec F S256 .f32) (main_arg13 : FVec F S512x256 .f32) (main_arg14 : FVec F S256 .f32) (main_arg15 : FVec F S8x256x128 .f32) (main_arg16 : FVec F S8x128 .f32) (main_arg17 : FVec F S8x128 .f32) (main_arg18 : FVec F S8 .f32) (main_arg19 : FVec F S8x128 .f32) (main_arg20 : FVec F S8 .f32) (main_arg21 : FVec F S8x128 .f32) (main_arg22 : FVec F S8 .f32) (main_arg23 : FVec F S256x8 .f32) (main_arg24 : FVec F S8 .f32) : IVec S_ 1 :=
  let main_c : IVec S_ 32 := constantI S_ 32 0#32
  let main_v0 : IVec S2x28256 32 := broadcastInDim S2x28256 ![] bcast_S_S2x28256 main_c
  let main_v1 : IVec S2x28256 1 := cmpi .sge main_arg3 main_v0
  let main_c_0 : IVec S_ 32 := constantI S_ 32 883#32
  let main_v2 : IVec S2x28256 32 := broadcastInDim S2x28256 ![] bcast_S_S2x28256 main_c_0
  let main_v3 : IVec S2x28256 1 := cmpi .slt main_arg3 main_v2
  let main_v4 : IVec S2x28256 1 := andi main_v1 main_v3
  let main_c_1 : IVec S_ 1 := constantI S_ 1 1#1
  let main_v5 : IVec S_ 1 := (fun x v => Host.reduce IntOp.andi x v reducesTo_S2x28256_S_d0_1 h_S_) main_v4 main_c_1
  let main_v6 : FVec F S4x883x1280 .f32 := Host.absf main_arg0
  let main_cst : FVec F S_ .f32 := constant S_ .f32 0x7F800000#32
  let main_v7 : FVec F S4x883x1280 .f32 := broadcastInDim S4x883x1280 ![] bcast_S_S4x883x1280 main_cst
  let main_v8 : IVec S4x883x1280 1 := cmpf .olt main_v6 main_v7
  let main_c_2 : IVec S_ 1 := constantI S_ 1 1#1
  let main_v9 : IVec S_ 1 := (fun x v => Host.reduce IntOp.andi x v reducesTo_S4x883x1280_S_d0_1_2 h_S_) main_v8 main_c_2
  let main_v10 : FVec F S4x883x1280 .f32 := Host.absf main_arg1
  let main_cst_3 : FVec F S_ .f32 := constant S_ .f32 0x7F800000#32
  let main_v11 : FVec F S4x883x1280 .f32 := broadcastInDim S4x883x1280 ![] bcast_S_S4x883x1280 main_cst_3
  let main_v12 : IVec S4x883x1280 1 := cmpf .olt main_v10 main_v11
  let main_c_4 : IVec S_ 1 := constantI S_ 1 1#1
  let main_v13 : IVec S_ 1 := (fun x v => Host.reduce IntOp.andi x v reducesTo_S4x883x1280_S_d0_1_2 h_S_) main_v12 main_c_4
  let main_v14 : IVec S_ 1 := andi main_v9 main_v13
  let main_v15 : FVec F S2816x256 .f32 := Host.absf main_arg9
  let main_cst_5 : FVec F S_ .f32 := constant S_ .f32 0x7F800000#32
  fn_part1 (F := F) main_arg6 main_arg8 main_v5 main_v14 main_v15 main_cst_5
-- ==== Pre_nodes_in_range.lean ====
abbrev S4x883x1280 : Shape := ⟨3, ![4, 883, 1280]⟩
abbrev S883x20 : Shape := ⟨2, ![883, 20]⟩
abbrev S2x28256 : Shape := ⟨2, ![2, 28256]⟩
abbrev S4x883 : Shape := ⟨2, ![4, 883]⟩
abbrev S20x128 : Shape := ⟨2, ![20, 128]⟩
abbrev S128 : Shape := ⟨1, ![128]⟩
abbrev S128x128 : Shape := ⟨2, ![128, 128]⟩
abbrev S2816x256 : Shape := ⟨2, ![2816, 256]⟩
abbrev S256 : Shape := ⟨1, ![256]⟩
abbrev S512x256 : Shape := ⟨2, ![512, 256]⟩
abbrev S8x256x128 : Shape := ⟨3, ![8, 256, 128]⟩
abbrev S8x128 : Shape := ⟨2, ![8, 128]⟩
abbrev S8 : Shape := ⟨1, ![8]⟩
abbrev S256x8 : Shape := ⟨2, ![256, 8]⟩
abbrev S_ : Shape := ⟨0, ![]⟩

class Facts : Prop where
  bcast_S_S2x28256 : S_.BroadcastsInDim S2x28256 (![] : Fin 0 → Fin S2x28256.rank)
  reducesTo_S2x28256_S_d0_1 : S2x28256.ReducesTo [0, 1] S_
  h_S_ : 0 < S_.numel

variable [Facts]

def fn {F : FTy → Type} [FloatOps F] (main_arg0 : FVec F S4x883x1280 .f32) (main_arg1 : FVec F S4x883x1280 .f32) (main_arg2 : FVec F S883x20 .f32) (main_arg3 : IVec S2x28256 32) (main_arg4 : FVec F S4x883 .f32) (main_arg5 : FVec F S20x128 .f32) (main_arg6 : FVec F S128 .f32) (main_arg7 : FVec F S128x128 .f32) (main_arg8 : FVec F S128 .f32) (main_arg9 : FVec F S2816x256 .f32) (main_arg10 : FVec F S256 .f32) (main_arg11 : FVec F S512x256 .f32) (main_arg12 : FVec F S256 .f32) (main_arg13 : FVec F S512x256 .f32) (main_arg14 : FVec F S256 .f32) (main_arg15 : FVec F S8x256x128 .f32) (main_arg16 : FVec F S8x128 .f32) (main_arg17 : FVec F S8x128 .f32) (main_arg18 : FVec F S8 .f32) (main_arg19 : FVec F S8x128 .f32) (main_arg20 : FVec F S8 .f32) (main_arg21 : FVec F S8x128 .f32) (main_arg22 : FVec F S8 .f32) (main_arg23 : FVec F S256x8 .f32) (main_arg24 : FVec F S8 .f32) : IVec S_ 1 :=
  let main_c : IVec S_ 32 := constantI S_ 32 0#32
  let main_v0 : IVec S2x28256 32 := broadcastInDim S2x28256 ![] bcast_S_S2x28256 main_c
  let main_v1 : IVec S2x28256 1 := cmpi .sge main_arg3 main_v0
  let main_c_0 : IVec S_ 32 := constantI S_ 32 883#32
  let main_v2 : IVec S2x28256 32 := broadcastInDim S2x28256 ![] bcast_S_S2x28256 main_c_0
  let main_v3 : IVec S2x28256 1 := cmpi .slt main_arg3 main_v2
  let main_v4 : IVec S2x28256 1 := andi main_v1 main_v3
  let main_c_1 : IVec S_ 1 := constantI S_ 1 1#1
  let main_v5 : IVec S_ 1 := (fun x v => Host.reduce IntOp.andi x v reducesTo_S2x28256_S_d0_1 h_S_) main_v4 main_c_1
  main_v5
-- ==== Kernel.lean ====
abbrev S4x883x1280 : Shape := ⟨3, ![4, 883, 1280]⟩
abbrev S883x20 : Shape := ⟨2, ![883, 20]⟩
abbrev S2x28256 : Shape := ⟨2, ![2, 28256]⟩
abbrev S4x883 : Shape := ⟨2, ![4, 883]⟩
abbrev S20x128 : Shape := ⟨2, ![20, 128]⟩
abbrev S128 : Shape := ⟨1, ![128]⟩
abbrev S128x128 : Shape := ⟨2, ![128, 128]⟩
abbrev S2816x256 : Shape := ⟨2, ![2816, 256]⟩
abbrev S256 : Shape := ⟨1, ![256]⟩
abbrev S512x256 : Shape := ⟨2, ![512, 256]⟩
abbrev S8x256x128 : Shape := ⟨3, ![8, 256, 128]⟩
abbrev S8x128 : Shape := ⟨2, ![8, 128]⟩
abbrev S8 : Shape := ⟨1, ![8]⟩
abbrev S256x8 : Shape := ⟨2, ![256, 8]⟩
abbrev S1x28256 : Shape := ⟨2, ![1, 28256]⟩
abbrev S28256 : Shape := ⟨1, ![28256]⟩
abbrev S802816 : Shape := ⟨1, ![802816]⟩
abbrev S50176 : Shape := ⟨1, ![50176]⟩
abbrev S_ : Shape := ⟨0, ![]⟩
abbrev S16 : Shape := ⟨1, ![16]⟩
abbrev S896x896 : Shape := ⟨2, ![896, 896]⟩
abbrev S896x20 : Shape := ⟨2, ![896, 20]⟩
abbrev S4x896 : Shape := ⟨2, ![4, 896]⟩
abbrev S4x1x896 : Shape := ⟨3, ![4, 1, 896]⟩
abbrev S1x256 : Shape := ⟨2, ![1, 256]⟩
abbrev S8x1 : Shape := ⟨2, ![8, 1]⟩
abbrev S1x8 : Shape := ⟨2, ![1, 8]⟩
abbrev S4x1x256 : Shape := ⟨3, ![4, 1, 256]⟩
abbrev S4x8x1 : Shape := ⟨3, ![4, 8, 1]⟩
abbrev S4x1x8 : Shape := ⟨3, ![4, 1, 8]⟩
abbrev S4x1x1 : Shape := ⟨3, ![4, 1, 1]⟩
abbrev S1x883x1280 : Shape := ⟨3, ![1, 883, 1280]⟩
abbrev S1x1x896 : Shape := ⟨3, ![1, 1, 896]⟩
abbrev S1x1x256 : Shape := ⟨3, ![1, 1, 256]⟩
abbrev S1x8x1 : Shape := ⟨3, ![1, 8, 1]⟩
abbrev S1x1x8 : Shape := ⟨3, ![1, 1, 8]⟩
abbrev S1x1x1 : Shape := ⟨3, ![1, 1, 1]⟩
abbrev S896x256 : Shape := ⟨2, ![896, 256]⟩
abbrev S896 : Shape := ⟨1, ![896]⟩
abbrev S896x1 : Shape := ⟨2, ![896, 1]⟩
abbrev S896x128 : Shape := ⟨2, ![896, 128]⟩
abbrev S128x256 : Shape := ⟨2, ![128, 256]⟩
abbrev S883x1280 : Shape := ⟨2, ![883, 1280]⟩
abbrev S1280x256 : Shape := ⟨2, ![1280, 256]⟩
abbrev S883x256 : Shape := ⟨2, ![883, 256]⟩
abbrev S13x256 : Shape := ⟨2, ![13, 256]⟩
abbrev S256x256 : Shape := ⟨2, ![256, 256]⟩
abbrev S1x896 : Shape := ⟨2, ![1, 896]⟩
abbrev S1 : Shape := ⟨1, ![1]⟩
abbrev S1x256x128 : Shape := ⟨3, ![1, 256, 128]⟩
abbrev S256x128 : Shape := ⟨2, ![256, 128]⟩
abbrev S1x128 : Shape := ⟨2, ![1, 128]⟩
abbrev S128x1 : Shape := ⟨2, ![128, 1]⟩
abbrev S1x1 : Shape := ⟨2, ![1, 1]⟩
abbrev S4x256 : Shape := ⟨2, ![4, 256]⟩
abbrev S4x8 : Shape := ⟨2, ![4, 8]⟩
abbrev S4 : Shape := ⟨1, ![4]⟩

abbrev nBuf : Table → Nat
  | .hbm => 57
  | .local .tc .vmem => 40
  | .local .scVector .vmem => 3
  | _ => 0

abbrev bufTy : (tb : Table) → Fin (nBuf tb) → BufTy
  | .hbm, ⟨0, _⟩ => ⟨S4x883x1280, .f32⟩
  | .hbm, ⟨1, _⟩ => ⟨S4x883x1280, .f32⟩
  | .hbm, ⟨2, _⟩ => ⟨S883x20, .f32⟩
  | .hbm, ⟨3, _⟩ => ⟨S2x28256, .i32⟩
  | .hbm, ⟨4, _⟩ => ⟨S4x883, .f32⟩
  | .hbm, ⟨5, _⟩ => ⟨S20x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S2816x256, .f32⟩
  | .hbm, ⟨10, _⟩ => ⟨S256, .f32⟩
  | .hbm, ⟨11, _⟩ => ⟨S512x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S8x256x128, .f32⟩
  | .hbm, ⟨16, _⟩ => ⟨S8x128, .f32⟩
  | .hbm, ⟨17, _⟩ => ⟨S8x128, .f32⟩
  | .hbm, ⟨18, _⟩ => ⟨S8, .f32⟩
  | .hbm, ⟨19, _⟩ => ⟨S8x128, .f32⟩
  | .hbm, ⟨20, _⟩ => ⟨S8, .f32⟩
  | .hbm, ⟨21, _⟩ => ⟨S8x128, .f32⟩
  | .hbm, ⟨22, _⟩ => ⟨S8, .f32⟩
  | .hbm, ⟨23, _⟩ => ⟨S256x8, .f32⟩
  | .hbm, ⟨24, _⟩ => ⟨S8, .f32⟩
  | .hbm, ⟨25, _⟩ => ⟨S1x28256, .i32⟩
  | .hbm, ⟨26, _⟩ => ⟨S28256, .i32⟩
  | .hbm, ⟨27, _⟩ => ⟨S1x28256, .i32⟩
  | .hbm, ⟨28, _⟩ => ⟨S28256, .i32⟩
  | .hbm, ⟨29, _⟩ => ⟨S802816, .f32⟩
  | .hbm, ⟨30, _⟩ => ⟨S896x896, .f32⟩
  | .hbm, ⟨31, _⟩ => ⟨S_, .i32⟩
  | .hbm, ⟨32, _⟩ => ⟨S_, .f32⟩
  | .hbm, ⟨33, _⟩ => ⟨S896x20, .f32⟩
  | .hbm, ⟨34, _⟩ => ⟨S_, .i32⟩
  | .hbm, ⟨35, _⟩ => ⟨S_, .f32⟩
  | .hbm, ⟨36, _⟩ => ⟨S4x896, .f32⟩
  | .hbm, ⟨37, _⟩ => ⟨S4x1x896, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S8x1, .f32⟩
  | .hbm, ⟨42, _⟩ => ⟨S8x1, .f32⟩
  | .hbm, ⟨43, _⟩ => ⟨S8x1, .f32⟩
  | .hbm, ⟨44, _⟩ => ⟨S1x8, .f32⟩
  | .hbm, ⟨45, _⟩ => ⟨S4x1x256, .f32⟩
  | .hbm, ⟨46, _⟩ => ⟨S4x8x1, .f32⟩
  | .hbm, ⟨47, _⟩ => ⟨S4x1x8, .f32⟩
  | .hbm, ⟨48, _⟩ => ⟨S4x8x1, .f32⟩
  | .hbm, ⟨49, _⟩ => ⟨S4x8x1, .f32⟩
  | .hbm, ⟨50, _⟩ => ⟨S4x1x1, .i32⟩
  | .hbm, ⟨51, _⟩ => ⟨S4x256, .f32⟩
  | .hbm, ⟨52, _⟩ => ⟨S4x8, .f32⟩
  | .hbm, ⟨53, _⟩ => ⟨S4x8, .f32⟩
  | .hbm, ⟨54, _⟩ => ⟨S4x8, .f32⟩
  | .hbm, ⟨55, _⟩ => ⟨S4x8, .f32⟩
  | .hbm, ⟨56, _⟩ => ⟨S4, .i32⟩
  | .local .tc .vmem, ⟨0, _⟩ => ⟨S896x896, .f32⟩
  | .local .tc .vmem, ⟨1, _⟩ => ⟨S1x883x1280, .f32⟩
  | .local .tc .vmem, ⟨2, _⟩ => ⟨S1x883x1280, .f32⟩
  | .local .tc .vmem, ⟨3, _⟩ => ⟨S1x883x1280, .f32⟩
  | .local .tc .vmem, ⟨4, _⟩ => ⟨S1x883x1280, .f32⟩
  | .local .tc .vmem, ⟨5, _⟩ => ⟨S896x20, .f32⟩
  | .local .tc .vmem, ⟨6, _⟩ => ⟨S1x1x896, .f32⟩
  | .local .tc .vmem, ⟨7, _⟩ => ⟨S1x1x896, .f32⟩
  | .local .tc .vmem, ⟨8, _⟩ => ⟨S20x128, .f32⟩
  | .local .tc .vmem, ⟨9, _⟩ => ⟨S128x128, .f32⟩
  | .local .tc .vmem, ⟨10, _⟩ => ⟨S2816x256, .f32⟩
  | .local .tc .vmem, ⟨11, _⟩ => ⟨S1x256, .f32⟩
  | .local .tc .vmem, ⟨12, _⟩ => ⟨S512x256, .f32⟩
  | .local .tc .vmem, ⟨13, _⟩ => ⟨S1x256, .f32⟩
  | .local .tc .vmem, ⟨14, _⟩ => ⟨S512x256, .f32⟩
  | .local .tc .vmem, ⟨15, _⟩ => ⟨S1x256, .f32⟩
  | .local .tc .vmem, ⟨16, _⟩ => ⟨S8x256x128, .f32⟩
  | .local .tc .vmem, ⟨17, _⟩ => ⟨S8x128, .f32⟩
  | .local .tc .vmem, ⟨18, _⟩ => ⟨S8x128, .f32⟩
  | .local .tc .vmem, ⟨19, _⟩ => ⟨S8x1, .f32⟩
  | .local .tc .vmem, ⟨20, _⟩ => ⟨S8x128, .f32⟩
  | .local .tc .vmem, ⟨21, _⟩ => ⟨S8x1, .f32⟩
  | .local .tc .vmem, ⟨22, _⟩ => ⟨S8x128, .f32⟩
  | .local .tc .vmem, ⟨23, _⟩ => ⟨S8x1, .f32⟩
  | .local .tc .vmem, ⟨24, _⟩ => ⟨S256x8, .f32⟩
  | .local .tc .vmem, ⟨25, _⟩ => ⟨S1x8, .f32⟩
  | .local .tc .vmem, ⟨26, _⟩ => ⟨S1x1x256, .f32⟩
  | .local .tc .vmem, ⟨27, _⟩ => ⟨S1x1x256, .f32⟩
  | .local .tc .vmem, ⟨28, _⟩ => ⟨S1x8x1, .f32⟩
  | .local .tc .vmem, ⟨29, _⟩ => ⟨S1x8x1, .f32⟩
  | .local .tc .vmem, ⟨30, _⟩ => ⟨S1x1x8, .f32⟩
  | .local .tc .vmem, ⟨31, _⟩ => ⟨S1x1x8, .f32⟩
  | .local .tc .vmem, ⟨32, _⟩ => ⟨S1x8x1, .f32⟩
  | .local .tc .vmem, ⟨33, _⟩ => ⟨S1x8x1, .f32⟩
  | .local .tc .vmem, ⟨34, _⟩ => ⟨S1x8x1, .f32⟩
  | .local .tc .vmem, ⟨35, _⟩ => ⟨S1x8x1, .f32⟩
  | .local .tc .vmem, ⟨36, _⟩ => ⟨S1x1x1, .i32⟩
  | .local .tc .vmem, ⟨37, _⟩ => ⟨S1x1x1, .i32⟩
  | .local .tc .vmem, ⟨38, _⟩ => ⟨S896x896, .f32⟩
  | .local .tc .vmem, ⟨39, _⟩ => ⟨S896x256, .f32⟩
  | .local .scVector .vmem, ⟨0, _⟩ => ⟨S28256, .i32⟩
  | .local .scVector .vmem, ⟨1, _⟩ => ⟨S28256, .i32⟩
  | .local .scVector .vmem, ⟨2, _⟩ => ⟨S50176, .f32⟩
  | _, _ => ⟨S4x883x1280, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c : Ref sig .tc := ⟨.hbm, 31, rfl⟩
abbrev main_call0_v0 : Ref sig .tc := ⟨.hbm, 32, rfl⟩
abbrev main_v6 : Ref sig .tc := ⟨.hbm, 33, rfl⟩
abbrev main_c_0 : Ref sig .tc := ⟨.hbm, 34, rfl⟩
abbrev main_call1_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16_0 : Ref sig .tc := ⟨.hbm, 45, rfl⟩
abbrev main_v16_1 : Ref sig .tc := ⟨.hbm, 46, rfl⟩
abbrev main_v16_2 : Ref sig .tc := ⟨.hbm, 47, rfl⟩
abbrev main_v16_3 : Ref sig .tc := ⟨.hbm, 48, rfl⟩
abbrev main_v16_4 : Ref sig .tc := ⟨.hbm, 49, rfl⟩
abbrev main_v16_5 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v1_scv : Ref sig .scVector := ⟨.hbm, 26, rfl⟩
abbrev main_v3_scv : Ref sig .scVector := ⟨.hbm, 28, rfl⟩
abbrev main_v4_scv : Ref sig .scVector := ⟨.hbm, 29, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg15_0 : Ref sig .tc := ⟨.vmem, 18, rfl⟩
abbrev cc1_stg16_0 : Ref sig .tc := ⟨.vmem, 19, rfl⟩
abbrev cc1_stg17_0 : Ref sig .tc := ⟨.vmem, 20, rfl⟩
abbrev cc1_stg18_0 : Ref sig .tc := ⟨.vmem, 21, rfl⟩
abbrev cc1_stg19_0 : Ref sig .tc := ⟨.vmem, 22, rfl⟩
abbrev cc1_stg20_0 : Ref sig .tc := ⟨.vmem, 23, rfl⟩
abbrev cc1_stg21_0 : Ref sig .tc := ⟨.vmem, 24, rfl⟩
abbrev cc1_stg22_0 : Ref sig .tc := ⟨.vmem, 25, rfl⟩
abbrev cc1_stg23_0 : Ref sig .tc := ⟨.vmem, 26, rfl⟩
abbrev cc1_stg23_1 : Ref sig .tc := ⟨.vmem, 27, rfl⟩
abbrev cc1_stg24_0 : Ref sig .tc := ⟨.vmem, 28, rfl⟩
abbrev cc1_stg24_1 : Ref sig .tc := ⟨.vmem, 29, rfl⟩
abbrev cc1_stg25_0 : Ref sig .tc := ⟨.vmem, 30, rfl⟩
abbrev cc1_stg25_1 : Ref sig .tc := ⟨.vmem, 31, rfl⟩
abbrev cc1_stg26_0 : Ref sig .tc := ⟨.vmem, 32, rfl⟩
abbrev cc1_stg26_1 : Ref sig .tc := ⟨.vmem, 33, rfl⟩
abbrev cc1_stg27_0 : Ref sig .tc := ⟨.vmem, 34, rfl⟩
abbrev cc1_stg27_1 : Ref sig .tc := ⟨.vmem, 35, rfl⟩
abbrev cc1_stg28_0 : Ref sig .tc := ⟨.vmem, 36, rfl⟩
abbrev cc1_stg28_1 : Ref sig .tc := ⟨.vmem, 37, rfl⟩
abbrev cc1_scratch0 : Ref sig .tc := ⟨.vmem, 38, rfl⟩
abbrev cc1_scratch1 : Ref sig .tc := ⟨.vmem, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21
abbrev cc1_sem16_0 : DmaSem sig := 22
abbrev cc1_sem17_0 : DmaSem sig := 23
abbrev cc1_sem18_0 : DmaSem sig := 24
abbrev cc1_sem19_0 : DmaSem sig := 25
abbrev cc1_sem20_0 : DmaSem sig := 26
abbrev cc1_sem21_0 : DmaSem sig := 27
abbrev cc1_sem22_0 : DmaSem sig := 28
abbrev cc1_sem23_0 : DmaSem sig := 29
abbrev cc1_sem23_1 : DmaSem sig := 30
abbrev cc1_sem24_0 : DmaSem sig := 31
abbrev cc1_sem24_1 : DmaSem sig := 32
abbrev cc1_sem25_0 : DmaSem sig := 33
abbrev cc1_sem25_1 : DmaSem sig := 34
abbrev cc1_sem26_0 : DmaSem sig := 35
abbrev cc1_sem26_1 : DmaSem sig := 36
abbrev cc1_sem27_0 : DmaSem sig := 37
abbrev cc1_sem27_1 : DmaSem sig := 38
abbrev cc1_sem28_0 : DmaSem sig := 39
abbrev cc1_sem28_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_0 : BitVec 32 := 0#32
  let c392_i32 : BitVec 32 := 392#32
  let v2 : BitVec 32 := Scalar.addi c0_i32_0 c392_i32
  let c1_i32 : BitVec 32 := 1#32
  ⟨c0_i32_0, v2, c1_i32⟩
def k0_off1 (k0_t1 : Fin k0_t1_loop.trips) (c0_i32_37 : BitVec 32) : Fin 1 → Nat :=
  let c0_i32_0 : BitVec 32 := 0#32
  let c1_i32 : BitVec 32 := 1#32
  let arg8 : BitVec 32 := Scf.iv c0_i32_0 c1_i32 k0_t1
  let c128_i32 : BitVec 32 := 128#32
  let v90 : BitVec 32 := Scalar.muli arg8 c128_i32
  let v91 : BitVec 32 := Scalar.addi v90 c0_i32_37
  let v92 : Index := Scalar.indexCast v91
  ![v92.toNat]
@[reducible] def k0_t2_loop : Scf.Loop 32 :=
  let c0_i32_4 : BitVec 32 := 0#32
  let c220_i32 : BitVec 32 := 220#32
  let v4 : BitVec 32 := Scalar.addi c0_i32_4 c220_i32
  let c1_i32_5 : BitVec 32 := 1#32
  ⟨c0_i32_4, v4, c1_i32_5⟩
def k0_off2 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c0_i32_37 : BitVec 32 := 0#32
  let v91 : BitVec 32 := Scalar.addi v90 c0_i32_37
  let v92 : Index := Scalar.indexCast v91
  ![v92.toNat]

def k0_chk1 (v107 : IVec S16 32) : Prop :=
  (∀ a x, ((![v107] : Fin 1 → IVec S16 32) a x).toNat < S50176.size a)
theorem k0_idx1_inb : ∀ (v107 : IVec S16 32) (k0_hw1 : k0_chk1 v107), ∀ a x, ((![v107] : Fin 1 → IVec S16 32) a x).toNat < S50176.size a := fun v107 k0_hw1 => k0_hw1
def k0_off3 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c16_i32 : BitVec 32 := 16#32
  let v108 : BitVec 32 := Scalar.addi v90 c16_i32
  let v109 : Index := Scalar.indexCast v108
  ![v109.toNat]

def k0_chk2 (v124 : IVec S16 32) : Prop :=
  (∀ a x, ((![v124] : Fin 1 → IVec S16 32) a x).toNat < S50176.size a)
theorem k0_idx2_inb : ∀ (v124 : IVec S16 32) (k0_hw2 : k0_chk2 v124), ∀ a x, ((![v124] : Fin 1 → IVec S16 32) a x).toNat < S50176.size a := fun v124 k0_hw2 => k0_hw2
def k0_off4 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c32_i32 : BitVec 32 := 32#32
  let v125 : BitVec 32 := Scalar.addi v90 c32_i32
  let v126 : Index := Scalar.indexCast v125
  ![v126.toNat]

def k0_chk3 (v141 : IVec S16 32) : Prop :=
  (∀ a x, ((![v141] : Fin 1 → IVec S16 32) a x).toNat < S50176.size a)
theorem k0_idx3_inb : ∀ (v141 : IVec S16 32) (k0_hw3 : k0_chk3 v141), ∀ a x, ((![v141] : Fin 1 → IVec S16 32) a x).toNat < S50176.size a := fun v141 k0_hw3 => k0_hw3
def k0_off5 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c48_i32 : BitVec 32 := 48#32
  let v142 : BitVec 32 := Scalar.addi v90 c48_i32
  let v143 : Index := Scalar.indexCast v142
  ![v143.toNat]

def k0_chk4 (v158 : IVec S16 32) : Prop :=
  (∀ a x, ((![v158] : Fin 1 → IVec S16 32) a x).toNat < S50176.size a)
theorem k0_idx4_inb : ∀ (v158 : IVec S16 32) (k0_hw4 : k0_chk4 v158), ∀ a x, ((![v158] : Fin 1 → IVec S16 32) a x).toNat < S50176.size a := fun v158 k0_hw4 => k0_hw4
def k0_off6 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c64_i32 : BitVec 32 := 64#32
  let v159 : BitVec 32 := Scalar.addi v90 c64_i32
  let v160 : Index := Scalar.indexCast v159
  ![v160.toNat]

def k0_chk5 (v175 : IVec S16 32) : Prop :=
  (∀ a x, ((![v175] : Fin 1 → IVec S16 32) a x).toNat < S50176.size a)
theorem k0_idx5_inb : ∀ (v175 : IVec S16 32) (k0_hw5 : k0_chk5 v175), ∀ a x, ((![v175] : Fin 1 → IVec S16 32) a x).toNat < S50176.size a := fun v175 k0_hw5 => k0_hw5
def k0_off7 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c80_i32 : BitVec 32 := 80#32
  let v176 : BitVec 32 := Scalar.addi v90 c80_i32
  let v177 : Index := Scalar.indexCast v176
  ![v177.toNat]

def k0_chk6 (v192 : IVec S16 32) : Prop :=
  (∀ a x, ((![v192] : Fin 1 → IVec S16 32) a x).toNat < S50176.size a)
theorem k0_idx6_inb : ∀ (v192 : IVec S16 32) (k0_hw6 : k0_chk6 v192), ∀ a x, ((![v192] : Fin 1 → IVec S16 32) a x).toNat < S50176.size a := fun v192 k0_hw6 => k0_hw6
def k0_off8 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c96_i32 : BitVec 32 := 96#32
  let v193 : BitVec 32 := Scalar.addi v90 c96_i32
  let v194 : Index := Scalar.indexCast v193
  ![v194.toNat]

def k0_chk7 (v209 : IVec S16 32) : Prop :=
  (∀ a x, ((![v209] : Fin 1 → IVec S16 32) a x).toNat < S50176.size a)
theorem k0_idx7_inb : ∀ (v209 : IVec S16 32) (k0_hw7 : k0_chk7 v209), ∀ a x, ((![v209] : Fin 1 → IVec S16 32) a x).toNat < S50176.size a := fun v209 k0_hw7 => k0_hw7
def k0_off9 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c128_i32 : BitVec 32 := 128#32
  let v90 : BitVec 32 := Scalar.muli arg8 c128_i32
  let c112_i32 : BitVec 32 := 112#32
  let v210 : BitVec 32 := Scalar.addi v90 c112_i32
  let v211 : Index := Scalar.indexCast v210
  ![v211.toNat]

def k0_chk8 (v226 : IVec S16 32) : Prop :=
  (∀ a x, ((![v226] : Fin 1 → IVec S16 32) a x).toNat < S50176.size a)
theorem k0_idx8_inb : ∀ (v226 : IVec S16 32) (k0_hw8 : k0_chk8 v226), ∀ a x, ((![v226] : Fin 1 → IVec S16 32) a x).toNat < S50176.size a := fun v226 k0_hw8 => k0_hw8

def k0_chk9 (v18 : IVec S16 32) : Prop :=
  (∀ a x, ((![v18] : Fin 1 → IVec S16 32) a x).toNat < S50176.size a)
theorem k0_idx9_inb : ∀ (v18 : IVec S16 32) (k0_hw9 : k0_chk9 v18), ∀ a x, ((![v18] : Fin 1 → IVec S16 32) a x).toNat < S50176.size a := fun v18 k0_hw9 => k0_hw9

def k0_chk10 (v32 : IVec S16 32) : Prop :=
  (∀ a x, ((![v32] : Fin 1 → IVec S16 32) a x).toNat < S50176.size a)
theorem k0_idx10_inb : ∀ (v32 : IVec S16 32) (k0_hw10 : k0_chk10 v32), ∀ a x, ((![v32] : Fin 1 → IVec S16 32) a x).toNat < S50176.size a := fun v32 k0_hw10 => k0_hw10

def k0_chk11 (v46 : IVec S16 32) : Prop :=
  (∀ a x, ((![v46] : Fin 1 → IVec S16 32) a x).toNat < S50176.size a)
theorem k0_idx11_inb : ∀ (v46 : IVec S16 32) (k0_hw11 : k0_chk11 v46), ∀ a x, ((![v46] : Fin 1 → IVec S16 32) a x).toNat < S50176.size a := fun v46 k0_hw11 => k0_hw11

def k0_chk12 (v60 : IVec S16 32) : Prop :=
  (∀ a x, ((![v60] : Fin 1 → IVec S16 32) a x).toNat < S50176.size a)
theorem k0_idx12_inb : ∀ (v60 : IVec S16 32) (k0_hw12 : k0_chk12 v60), ∀ a x, ((![v60] : Fin 1 → IVec S16 32) a x).toNat < S50176.size a := fun v60 k0_hw12 => k0_hw12

def k0_chk13 (v74 : IVec S16 32) : Prop :=
  (∀ a x, ((![v74] : Fin 1 → IVec S16 32) a x).toNat < S50176.size a)
theorem k0_idx13_inb : ∀ (v74 : IVec S16 32) (k0_hw13 : k0_chk13 v74), ∀ a x, ((![v74] : Fin 1 → IVec S16 32) a x).toNat < S50176.size a := fun v74 k0_hw13 => k0_hw13

def k0_chk14 (v88 : IVec S16 32) : Prop :=
  (∀ a x, ((![v88] : Fin 1 → IVec S16 32) a x).toNat < S50176.size a)
theorem k0_idx14_inb : ∀ (v88 : IVec S16 32) (k0_hw14 : k0_chk14 v88), ∀ a x, ((![v88] : Fin 1 → IVec S16 32) a x).toNat < S50176.size a := fun v88 k0_hw14 => k0_hw14
def k0_off10 (i : grid0.Coords) : Fin 1 → Nat :=
  let arg1 : BitVec 32 := BitVec.ofNat 32 (i 1).val
  let c56_i32 : BitVec 32 := 56#32
  let v0 : BitVec 32 := Scalar.muli arg1 c56_i32
  let c896_i32_36 : BitVec 32 := 896#32
  let v89 : BitVec 32 := Scalar.muli v0 c896_i32_36
  ![v89.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_24 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_25 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_26 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_27 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_28 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S896x896 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x883x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x883x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S896x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x896 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S20x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x256x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S8x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S8x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S8x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S8x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S8x1 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S8x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S8x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S256x8 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x8 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 2 → Memref sig .tc .vmem S1x1x256 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S1x8x1 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S1x1x8 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S1x8x1 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S1x8x1 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev stage1_28 : Fin 2 → Memref sig .tc .vmem S1x1x1 .i32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x883x1280 : Shape := ⟨3, ![4, 883, 1280]⟩
abbrev S883x20 : Shape := ⟨2, ![883, 20]⟩
abbrev S2x28256 : Shape := ⟨2, ![2, 28256]⟩
abbrev S4x883 : Shape := ⟨2, ![4, 883]⟩
abbrev S20x128 : Shape := ⟨2, ![20, 128]⟩
abbrev S128 : Shape := ⟨1, ![128]⟩
abbrev S128x128 : Shape := ⟨2, ![128, 128]⟩
abbrev S2816x256 : Shape := ⟨2, ![2816, 256]⟩
abbrev S256 : Shape := ⟨1, ![256]⟩
abbrev S512x256 : Shape := ⟨2, ![512, 256]⟩
abbrev S8x256x128 : Shape := ⟨3, ![8, 256, 128]⟩
abbrev S8x128 : Shape := ⟨2, ![8, 128]⟩
abbrev S8 : Shape := ⟨1, ![8]⟩
abbrev S256x8 : Shape := ⟨2, ![256, 8]⟩
abbrev S1x28256 : Shape := ⟨2, ![1, 28256]⟩
abbrev S28256 : Shape := ⟨1, ![28256]⟩
abbrev S_ : Shape := ⟨0, ![]⟩
abbrev S883 : Shape := ⟨1, ![883]⟩
abbrev S28256x1 : Shape := ⟨2, ![28256, 1]⟩
abbrev S883x128 : Shape := ⟨2, ![883, 128]⟩
abbrev S1x128 : Shape := ⟨2, ![1, 128]⟩
abbrev S4x883x128 : Shape := ⟨3, ![4, 883, 128]⟩
abbrev S4x883x1408 : Shape := ⟨3, ![4, 883, 1408]⟩
abbrev S1 : Shape := ⟨1, ![1]⟩
abbrev S1x1 : Shape := ⟨2, ![1, 1]⟩
abbrev S4x28256x1408 : Shape := ⟨3, ![4, 28256, 1408]⟩
abbrev S883x1408 : Shape := ⟨2, ![883, 1408]⟩
abbrev S883x1 : Shape := ⟨2, ![883, 1]⟩
abbrev S1x883x1 : Shape := ⟨3, ![1, 883, 1]⟩
abbrev S4x883x2816 : Shape := ⟨3, ![4, 883, 2816]⟩
abbrev S4x883x256 : Shape := ⟨3, ![4, 883, 256]⟩
abbrev S1x256 : Shape := ⟨2, ![1, 256]⟩
abbrev S1x1x256 : Shape := ⟨3, ![1, 1, 256]⟩
abbrev S4x28256x256 : Shape := ⟨3, ![4, 28256, 256]⟩
abbrev S883x256 : Shape := ⟨2, ![883, 256]⟩
abbrev S4x883x512 : Shape := ⟨3, ![4, 883, 512]⟩
abbrev S4x883x1 : Shape := ⟨3, ![4, 883, 1]⟩
abbrev S4x256 : Shape := ⟨2, ![4, 256]⟩
abbrev S4 : Shape := ⟨1, ![4]⟩
abbrev S4x1 : Shape := ⟨2, ![4, 1]⟩
abbrev S4x512 : Shape := ⟨2, ![4, 512]⟩
abbrev S4x8x128 : Shape := ⟨3, ![4, 8, 128]⟩
abbrev S1x8x128 : Shape := ⟨3, ![1, 8, 128]⟩
abbrev S8x4 : Shape := ⟨2, ![8, 4]⟩
abbrev S4x8 : Shape := ⟨2, ![4, 8]⟩
abbrev S1x8 : Shape := ⟨2, ![1, 8]⟩

abbrev nBuf : Space → Nat
  | .hbm => 302
  | .vmem => 0
  | .smem => 0
  | _ => 0

abbrev hbmTy0_0 (i : Nat) : BufTy := match i % 128 with
  | 0 => ⟨S4x883x1280, .f32⟩
  | 1 => ⟨S4x883x1280, .f32⟩
  | 2 => ⟨S883x20, .f32⟩
  | 3 => ⟨S2x28256, .i32⟩
  | 4 => ⟨S4x883, .f32⟩
  | 5 => ⟨S20x128, .f32⟩
  | 6 => ⟨S128, .f32⟩
  | 7 => ⟨S128x128, .f32⟩
  | 8 => ⟨S128, .f32⟩
  | 9 => ⟨S2816x256, .f32⟩
  | 10 => ⟨S256, .f32⟩
  | 11 => ⟨S512x256, .f32⟩
  | 12 => ⟨S256, .f32⟩
  | 13 => ⟨S512x256, .f32⟩
  | 14 => ⟨S256, .f32⟩
  | 15 => ⟨S8x256x128, .f32⟩
  | 16 => ⟨S8x128, .f32⟩
  | 17 => ⟨S8x128, .f32⟩
  | 18 => ⟨S8, .f32⟩
  | 19 => ⟨S8x128, .f32⟩
  | 20 => ⟨S8, .f32⟩
  | 21 => ⟨S8x128, .f32⟩
  | 22 => ⟨S8, .f32⟩
  | 23 => ⟨S256x8, .f32⟩
  | 24 => ⟨S8, .f32⟩
  | 25 => ⟨S1x28256, .i32⟩
  | 26 => ⟨S28256, .i32⟩
  | 27 => ⟨S1x28256, .i32⟩
  | 28 => ⟨S28256, .i32⟩
  | 29 => ⟨S_, .f32⟩
  | 30 => ⟨S28256, .f32⟩
  | 31 => ⟨S_, .f32⟩
  | 32 => ⟨S883, .f32⟩
  | 33 => ⟨S28256x1, .i32⟩
  | 34 => ⟨S883, .f32⟩
  | 35 => ⟨S_, .f32⟩
  | 36 => ⟨S_, .f32⟩
  | 37 => ⟨S883, .f32⟩
  | 38 => ⟨S883, .f32⟩
  | 39 => ⟨S883x128, .f32⟩
  | 40 => ⟨S1x128, .f32⟩
  | 41 => ⟨S883x128, .f32⟩
  | 42 => ⟨S883x128, .f32⟩
  | 43 => ⟨S_, .f32⟩
  | 44 => ⟨S883x128, .f32⟩
  | 45 => ⟨S883x128, .f32⟩
  | 46 => ⟨S883x128, .f32⟩
  | 47 => ⟨S1x128, .f32⟩
  | 48 => ⟨S883x128, .f32⟩
  | 49 => ⟨S883x128, .f32⟩
  | 50 => ⟨S_, .f32⟩
  | 51 => ⟨S883x128, .f32⟩
  | 52 => ⟨S883x128, .f32⟩
  | 53 => ⟨S4x883x128, .f32⟩
  | 54 => ⟨S4x883x1408, .f32⟩
  | 55 => ⟨S_, .i32⟩
  | 56 => ⟨S28256, .i32⟩
  | 57 => ⟨S28256, .i1⟩
  | 58 => ⟨S_, .i32⟩
  | 59 => ⟨S28256, .i32⟩
  | 60 => ⟨S28256, .i32⟩
  | 61 => ⟨S28256, .i32⟩
  | 62 => ⟨S28256x1, .i32⟩
  | 63 => ⟨S1, .i32⟩
  | 64 => ⟨S_, .i32⟩
  | 65 => ⟨S28256x1, .i32⟩
  | 66 => ⟨S28256x1, .i1⟩
  | 67 => ⟨S1x1, .i32⟩
  | 68 => ⟨S28256x1, .i32⟩
  | 69 => ⟨S28256x1, .i1⟩
  | 70 => ⟨S28256x1, .i1⟩
  | 71 => ⟨S_, .i1⟩
  | 72 => ⟨S28256, .i1⟩
  | 73 => ⟨S4x28256x1408, .f32⟩
  | 74 => ⟨S4x28256x1408, .i1⟩
  | 75 => ⟨S_, .f32⟩
  | 76 => ⟨S4x28256x1408, .f32⟩
  | 77 => ⟨S4x28256x1408, .f32⟩
  | 78 => ⟨S_, .f32⟩
  | 79 => ⟨S883x1408, .f32⟩
  | 80 => ⟨S28256x1, .i32⟩
  | 81 => ⟨S4x883x1408, .f32⟩
  | 82 => ⟨S4x883x1408, .f32⟩
  | 83 => ⟨S883x1, .f32⟩
  | 84 => ⟨S1x883x1, .f32⟩
  | 85 => ⟨S4x883x1408, .f32⟩
  | 86 => ⟨S4x883x1408, .f32⟩
  | 87 => ⟨S4x883x2816, .f32⟩
  | 88 => ⟨S4x883x256, .f32⟩
  | 89 => ⟨S1x256, .f32⟩
  | 90 => ⟨S1x1x256, .f32⟩
  | 91 => ⟨S4x883x256, .f32⟩
  | 92 => ⟨S4x883x256, .f32⟩
  | 93 => ⟨S_, .f32⟩
  | 94 => ⟨S4x883x256, .f32⟩
  | 95 => ⟨S4x883x256, .f32⟩
  | 96 => ⟨S_, .i32⟩
  | 97 => ⟨S28256, .i32⟩
  | 98 => ⟨S28256, .i1⟩
  | 99 => ⟨S_, .i32⟩
  | 100 => ⟨S28256, .i32⟩
  | 101 => ⟨S28256, .i32⟩
  | 102 => ⟨S28256, .i32⟩
  | 103 => ⟨S28256x1, .i32⟩
  | 104 => ⟨S1, .i32⟩
  | 105 => ⟨S_, .i32⟩
  | 106 => ⟨S28256x1, .i32⟩
  | 107 => ⟨S28256x1, .i1⟩
  | 108 => ⟨S1x1, .i32⟩
  | 109 => ⟨S28256x1, .i32⟩
  | 110 => ⟨S28256x1, .i1⟩
  | 111 => ⟨S28256x1, .i1⟩
  | 112 => ⟨S_, .i1⟩
  | 113 => ⟨S28256, .i1⟩
  | 114 => ⟨S4x28256x256, .f32⟩
  | 115 => ⟨S4x28256x256, .i1⟩
  | 116 => ⟨S_, .f32⟩
  | 117 => ⟨S4x28256x256, .f32⟩
  | 118 => ⟨S4x28256x256, .f32⟩
  | 119 => ⟨S_, .f32⟩
  | 120 => ⟨S883x256, .f32⟩
  | 121 => ⟨S28256x1, .i32⟩
  | 122 => ⟨S4x883x256, .f32⟩
  | 123 => ⟨S4x883x256, .f32⟩
  | 124 => ⟨S883x1, .f32⟩
  | 125 => ⟨S1x883x1, .f32⟩
  | 126 => ⟨S4x883x256, .f32⟩
  | 127 => ⟨S4x883x256, .f32⟩
  | _ => ⟨S4x883x1280, .f32⟩

abbrev hbmTy0_1 (i : Nat) : BufTy := match i % 128 with
  | 0 => ⟨S4x883x512, .f32⟩
  | 1 => ⟨S4x883x256, .f32⟩
  | 2 => ⟨S1x256, .f32⟩
  | 3 => ⟨S1x1x256, .f32⟩
  | 4 => ⟨S4x883x256, .f32⟩
  | 5 => ⟨S4x883x256, .f32⟩
  | 6 => ⟨S_, .f32⟩
  | 7 => ⟨S4x883x256, .f32⟩
  | 8 => ⟨S4x883x256, .f32⟩
  | 9 => ⟨S4x883x128, .f32⟩
  | 10 => ⟨S4x883x1408, .f32⟩
  | 11 => ⟨S_, .i32⟩
  | 12 => ⟨S28256, .i32⟩
  | 13 => ⟨S28256, .i1⟩
  | 14 => ⟨S_, .i32⟩
  | 15 => ⟨S28256, .i32⟩
  | 16 => ⟨S28256, .i32⟩
  | 17 => ⟨S28256, .i32⟩
  | 18 => ⟨S28256x1, .i32⟩
  | 19 => ⟨S1, .i32⟩
  | 20 => ⟨S_, .i32⟩
  | 21 => ⟨S28256x1, .i32⟩
  | 22 => ⟨S28256x1, .i1⟩
  | 23 => ⟨S1x1, .i32⟩
  | 24 => ⟨S28256x1, .i32⟩
  | 25 => ⟨S28256x1, .i1⟩
  | 26 => ⟨S28256x1, .i1⟩
  | 27 => ⟨S_, .i1⟩
  | 28 => ⟨S28256, .i1⟩
  | 29 => ⟨S4x28256x1408, .f32⟩
  | 30 => ⟨S4x28256x1408, .i1⟩
  | 31 => ⟨S_, .f32⟩
  | 32 => ⟨S4x28256x1408, .f32⟩
  | 33 => ⟨S4x28256x1408, .f32⟩
  | 34 => ⟨S_, .f32⟩
  | 35 => ⟨S883x1408, .f32⟩
  | 36 => ⟨S28256x1, .i32⟩
  | 37 => ⟨S4x883x1408, .f32⟩
  | 38 => ⟨S4x883x1408, .f32⟩
  | 39 => ⟨S883x1, .f32⟩
  | 40 => ⟨S1x883x1, .f32⟩
  | 41 => ⟨S4x883x1408, .f32⟩
  | 42 => ⟨S4x883x1408, .f32⟩
  | 43 => ⟨S4x883x2816, .f32⟩
  | 44 => ⟨S4x883x256, .f32⟩
  | 45 => ⟨S1x256, .f32⟩
  | 46 => ⟨S1x1x256, .f32⟩
  | 47 => ⟨S4x883x256, .f32⟩
  | 48 => ⟨S4x883x256, .f32⟩
  | 49 => ⟨S_, .f32⟩
  | 50 => ⟨S4x883x256, .f32⟩
  | 51 => ⟨S4x883x256, .f32⟩
  | 52 => ⟨S_, .i32⟩
  | 53 => ⟨S28256, .i32⟩
  | 54 => ⟨S28256, .i1⟩
  | 55 => ⟨S_, .i32⟩
  | 56 => ⟨S28256, .i32⟩
  | 57 => ⟨S28256, .i32⟩
  | 58 => ⟨S28256, .i32⟩
  | 59 => ⟨S28256x1, .i32⟩
  | 60 => ⟨S1, .i32⟩
  | 61 => ⟨S_, .i32⟩
  | 62 => ⟨S28256x1, .i32⟩
  | 63 => ⟨S28256x1, .i1⟩
  | 64 => ⟨S1x1, .i32⟩
  | 65 => ⟨S28256x1, .i32⟩
  | 66 => ⟨S28256x1, .i1⟩
  | 67 => ⟨S28256x1, .i1⟩
  | 68 => ⟨S_, .i1⟩
  | 69 => ⟨S28256, .i1⟩
  | 70 => ⟨S4x28256x256, .f32⟩
  | 71 => ⟨S4x28256x256, .i1⟩
  | 72 => ⟨S_, .f32⟩
  | 73 => ⟨S4x28256x256, .f32⟩
  | 74 => ⟨S4x28256x256, .f32⟩
  | 75 => ⟨S_, .f32⟩
  | 76 => ⟨S883x256, .f32⟩
  | 77 => ⟨S28256x1, .i32⟩
  | 78 => ⟨S4x883x256, .f32⟩
  | 79 => ⟨S4x883x256, .f32⟩
  | 80 => ⟨S883x1, .f32⟩
  | 81 => ⟨S1x883x1, .f32⟩
  | 82 => ⟨S4x883x256, .f32⟩
  | 83 => ⟨S4x883x256, .f32⟩
  | 84 => ⟨S4x883x512, .f32⟩
  | 85 => ⟨S4x883x256, .f32⟩
  | 86 => ⟨S1x256, .f32⟩
  | 87 => ⟨S1x1x256, .f32⟩
  | 88 => ⟨S4x883x256, .f32⟩
  | 89 => ⟨S4x883x256, .f32⟩
  | 90 => ⟨S_, .f32⟩
  | 91 => ⟨S4x883x256, .f32⟩
  | 92 => ⟨S4x883x256, .f32⟩
  | 93 => ⟨S4x883x256, .f32⟩
  | 94 => ⟨S4x883x1, .f32⟩
  | 95 => ⟨S4x883x256, .f32⟩
  | 96 => ⟨S4x883x256, .f32⟩
  | 97 => ⟨S_, .f32⟩
  | 98 => ⟨S4x256, .f32⟩
  | 99 => ⟨S_, .f32⟩
  | 100 => ⟨S4, .f32⟩
  | 101 => ⟨S_, .f32⟩
  | 102 => ⟨S_, .f32⟩
  | 103 => ⟨S4, .f32⟩
  | 104 => ⟨S4, .f32⟩
  | 105 => ⟨S4x1, .f32⟩
  | 106 => ⟨S4x256, .f32⟩
  | 107 => ⟨S4x256, .f32⟩
  | 108 => ⟨S_, .f32⟩
  | 109 => ⟨S4x256, .f32⟩
  | 110 => ⟨S_, .f32⟩
  | 111 => ⟨S4x256, .f32⟩
  | 112 => ⟨S4x256, .f32⟩
  | 113 => ⟨S4x512, .f32⟩
  | 114 => ⟨S4x256, .f32⟩
  | 115 => ⟨S1x256, .f32⟩
  | 116 => ⟨S4x256, .f32⟩
  | 117 => ⟨S4x256, .f32⟩
  | 118 => ⟨S_, .f32⟩
  | 119 => ⟨S4x256, .f32⟩
  | 120 => ⟨S4x256, .f32⟩
  | 121 => ⟨S4x8x128, .f32⟩
  | 122 => ⟨S1x8x128, .f32⟩
  | 123 => ⟨S4x8x128, .f32⟩
  | 124 => ⟨S4x8x128, .f32⟩
  | 125 => ⟨S_, .f32⟩
  | 126 => ⟨S4x8x128, .f32⟩
  | 127 => ⟨S4x8x128, .f32⟩
  | _ => ⟨S4x883x1280, .f32⟩

abbrev hbmTy0_2 (i : Nat) : BufTy := match i % 128 with
  | 0 => ⟨S8x4, .f32⟩
  | 1 => ⟨S4x8, .f32⟩
  | 2 => ⟨S1x8, .f32⟩
  | 3 => ⟨S4x8, .f32⟩
  | 4 => ⟨S4x8, .f32⟩
  | 5 => ⟨S4x8, .f32⟩
  | 6 => ⟨S4x8, .f32⟩
  | 7 => ⟨S_, .f32⟩
  | 8 => ⟨S4x8, .f32⟩
  | 9 => ⟨S4x8, .f32⟩
  | 10 => ⟨S_, .f32⟩
  | 11 => ⟨S4x8, .f32⟩
  | 12 => ⟨S4x8, .f32⟩
  | 13 => ⟨S8x4, .f32⟩
  | 14 => ⟨S4x8, .f32⟩
  | 15 => ⟨S1x8, .f32⟩
  | 16 => ⟨S4x8, .f32⟩
  | 17 => ⟨S4x8, .f32⟩
  | 18 => ⟨S8x4, .f32⟩
  | 19 => ⟨S4x8, .f32⟩
  | 20 => ⟨S1x8, .f32⟩
  | 21 => ⟨S4x8, .f32⟩
  | 22 => ⟨S4x8, .f32⟩
  | 23 => ⟨S_, .f32⟩
  | 24 => ⟨S4x8, .f32⟩
  | 25 => ⟨S4x8, .f32⟩
  | 26 => ⟨S4x8, .f32⟩
  | 27 => ⟨S4x8, .f32⟩
  | 28 => ⟨S4x8, .i1⟩
  | 29 => ⟨S4x8, .f32⟩
  | 30 => ⟨S4x8, .f32⟩
  | 31 => ⟨S4x8, .f32⟩
  | 32 => ⟨S4x8, .f32⟩
  | 33 => ⟨S4x8, .f32⟩
  | 34 => ⟨S4x8, .f32⟩
  | 35 => ⟨S4x8, .f32⟩
  | 36 => ⟨S4x8, .f32⟩
  | 37 => ⟨S4x8, .f32⟩
  | 38 => ⟨S1x8, .f32⟩
  | 39 => ⟨S4x8, .f32⟩
  | 40 => ⟨S4x8, .f32⟩
  | 41 => ⟨S4x8, .i32⟩
  | 42 => ⟨S_, .f32⟩
  | 43 => ⟨S_, .i32⟩
  | 44 => ⟨S4, .f32⟩
  | 45 => ⟨S4, .i32⟩
  | _ => ⟨S4x883x1280, .f32⟩

abbrev hbmTy (i : Nat) : BufTy := match i / 128 with
  | 0 => hbmTy0_0 i
  | 1 => hbmTy0_1 i
  | 2 => hbmTy0_2 i
  | _ => ⟨S4x883x1280, .f32⟩

abbrev bufTy : (tb : Table) → Fin (tcTables nBuf tb) → BufTy
  | .hbm, ⟨i, _⟩ => hbmTy i
  | _, _ => ⟨S4x883x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call1_cst : Ref sig .tc := ⟨.hbm, 43, rfl⟩
abbrev main_call1_v0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call2_cst : Ref sig .tc := ⟨.hbm, 50, rfl⟩
abbrev main_call2_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_call3_cst : Ref sig .tc := ⟨.hbm, 75, rfl⟩
abbrev main_call3_v15 : Ref sig .tc := ⟨.hbm, 76, rfl⟩
abbrev main_v21 : Ref sig .tc := ⟨.hbm, 77, rfl⟩
abbrev main_cst_2 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_call4_cst : Ref sig .tc := ⟨.hbm, 93, rfl⟩
abbrev main_call4_v0 : Ref sig .tc := ⟨.hbm, 94, rfl⟩
abbrev main_v36 : Ref sig .tc := ⟨.hbm, 95, rfl⟩
abbrev main_call5_c : Ref sig .tc := ⟨.hbm, 96, rfl⟩
abbrev main_call5_v0 : Ref sig .tc := ⟨.hbm, 97, rfl⟩
abbrev main_call5_v1 : Ref sig .tc := ⟨.hbm, 98, rfl⟩
abbrev main_call5_c_0 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_c_1 : Ref sig .tc := ⟨.hbm, 104, rfl⟩
abbrev main_call5_c_2 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_c_3 : Ref sig .tc := ⟨.hbm, 112, rfl⟩
abbrev main_call5_v12 : Ref sig .tc := ⟨.hbm, 113, rfl⟩
abbrev main_call5_v13 : Ref sig .tc := ⟨.hbm, 114, rfl⟩
abbrev main_call5_v14 : Ref sig .tc := ⟨.hbm, 115, rfl⟩
abbrev main_call5_cst : Ref sig .tc := ⟨.hbm, 116, rfl⟩
abbrev main_call5_v15 : Ref sig .tc := ⟨.hbm, 117, rfl⟩
abbrev main_v37 : Ref sig .tc := ⟨.hbm, 118, rfl⟩
abbrev main_cst_3 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_call6_cst : Ref sig .tc := ⟨.hbm, 134, rfl⟩
abbrev main_call6_v0 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_call7_c : Ref sig .tc := ⟨.hbm, 139, rfl⟩
abbrev main_call7_v0 : Ref sig .tc := ⟨.hbm, 140, rfl⟩
abbrev main_call7_v1 : Ref sig .tc := ⟨.hbm, 141, rfl⟩
abbrev main_call7_c_0 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_call7_v5 : Ref sig .tc := ⟨.hbm, 146, rfl⟩
abbrev main_call7_c_1 : Ref sig .tc := ⟨.hbm, 147, rfl⟩
abbrev main_call7_c_2 : Ref sig .tc := ⟨.hbm, 148, rfl⟩
abbrev main_call7_v6 : Ref sig .tc := ⟨.hbm, 149, rfl⟩
abbrev main_call7_v7 : Ref sig .tc := ⟨.hbm, 150, rfl⟩
abbrev main_call7_v8 : Ref sig .tc := ⟨.hbm, 151, rfl⟩
abbrev main_call7_v9 : Ref sig .tc := ⟨.hbm, 152, rfl⟩
abbrev main_call7_v10 : Ref sig .tc := ⟨.hbm, 153, rfl⟩
abbrev main_call7_v11 : Ref sig .tc := ⟨.hbm, 154, rfl⟩
abbrev main_call7_c_3 : Ref sig .tc := ⟨.hbm, 155, rfl⟩
abbrev main_call7_v12 : Ref sig .tc := ⟨.hbm, 156, rfl⟩
abbrev main_call7_v13 : Ref sig .tc := ⟨.hbm, 157, rfl⟩
abbrev main_call7_v14 : Ref sig .tc := ⟨.hbm, 158, rfl⟩
abbrev main_call7_cst : Ref sig .tc := ⟨.hbm, 159, rfl⟩
abbrev main_call7_v15 : Ref sig .tc := ⟨.hbm, 160, rfl⟩
abbrev main_v55 : Ref sig .tc := ⟨.hbm, 161, rfl⟩
abbrev main_cst_4 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_call8_cst : Ref sig .tc := ⟨.hbm, 177, rfl⟩
abbrev main_call8_v0 : Ref sig .tc := ⟨.hbm, 178, rfl⟩
abbrev main_v70 : Ref sig .tc := ⟨.hbm, 179, rfl⟩
abbrev main_call9_c : Ref sig .tc := ⟨.hbm, 180, rfl⟩
abbrev main_call9_v0 : Ref sig .tc := ⟨.hbm, 181, rfl⟩
abbrev main_call9_v1 : Ref sig .tc := ⟨.hbm, 182, rfl⟩
abbrev main_call9_c_0 : Ref sig .tc := ⟨.hbm, 183, rfl⟩
abbrev main_call9_v2 : Ref sig .tc := ⟨.hbm, 184, rfl⟩
abbrev main_call9_v3 : Ref sig .tc := ⟨.hbm, 185, rfl⟩
abbrev main_call9_v4 : Ref sig .tc := ⟨.hbm, 186, rfl⟩
abbrev main_call9_v5 : Ref sig .tc := ⟨.hbm, 187, rfl⟩
abbrev main_call9_c_1 : Ref sig .tc := ⟨.hbm, 188, rfl⟩
abbrev main_call9_c_2 : Ref sig .tc := ⟨.hbm, 189, rfl⟩
abbrev main_call9_v6 : Ref sig .tc := ⟨.hbm, 190, rfl⟩
abbrev main_call9_v7 : Ref sig .tc := ⟨.hbm, 191, rfl⟩
abbrev main_call9_v8 : Ref sig .tc := ⟨.hbm, 192, rfl⟩
abbrev main_call9_v9 : Ref sig .tc := ⟨.hbm, 193, rfl⟩
abbrev main_call9_v10 : Ref sig .tc := ⟨.hbm, 194, rfl⟩
abbrev main_call9_v11 : Ref sig .tc := ⟨.hbm, 195, rfl⟩
abbrev main_call9_c_3 : Ref sig .tc := ⟨.hbm, 196, rfl⟩
abbrev main_call9_v12 : Ref sig .tc := ⟨.hbm, 197, rfl⟩
abbrev main_call9_v13 : Ref sig .tc := ⟨.hbm, 198, rfl⟩
abbrev main_call9_v14 : Ref sig .tc := ⟨.hbm, 199, rfl⟩
abbrev main_call9_cst : Ref sig .tc := ⟨.hbm, 200, rfl⟩
abbrev main_call9_v15 : Ref sig .tc := ⟨.hbm, 201, rfl⟩
abbrev main_v71 : Ref sig .tc := ⟨.hbm, 202, rfl⟩
abbrev main_cst_5 : Ref sig .tc := ⟨.hbm, 203, rfl⟩
abbrev main_v72 : Ref sig .tc := ⟨.hbm, 204, rfl⟩
abbrev main_v73 : Ref sig .tc := ⟨.hbm, 205, rfl⟩
abbrev main_v74 : Ref sig .tc := ⟨.hbm, 206, rfl⟩
abbrev main_v75 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_call10_cst : Ref sig .tc := ⟨.hbm, 218, rfl⟩
abbrev main_call10_v0 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_cst_6 : Ref sig .tc := ⟨.hbm, 225, rfl⟩
abbrev main_v91 : Ref sig .tc := ⟨.hbm, 226, rfl⟩
abbrev main_cst_7 : Ref sig .tc := ⟨.hbm, 227, rfl⟩
abbrev main_v92 : Ref sig .tc := ⟨.hbm, 228, rfl⟩
abbrev main_cst_8 : Ref sig .tc := ⟨.hbm, 229, rfl⟩
abbrev main_call11_v0 : Ref sig .tc := ⟨.hbm, 230, rfl⟩
abbrev main_call11_v1 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_cst_9 : Ref sig .tc := ⟨.hbm, 236, rfl⟩
abbrev main_v97 : Ref sig .tc := ⟨.hbm, 237, rfl⟩
abbrev main_cst_10 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_call12_cst : Ref sig .tc := ⟨.hbm, 246, rfl⟩
abbrev main_call12_v0 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_call13_cst : Ref sig .tc := ⟨.hbm, 253, rfl⟩
abbrev main_call13_v0 : Ref sig .tc := ⟨.hbm, 254, rfl⟩
abbrev main_v110 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_v116 : Ref sig .tc := ⟨.hbm, 261, rfl⟩
abbrev main_v117 : Ref sig .tc := ⟨.hbm, 262, rfl⟩
abbrev main_cst_11 : Ref sig .tc := ⟨.hbm, 263, rfl⟩
abbrev main_v118 : Ref sig .tc := ⟨.hbm, 264, rfl⟩
abbrev main_v119 : Ref sig .tc := ⟨.hbm, 265, rfl⟩
abbrev main_cst_12 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_v129 : Ref sig .tc := ⟨.hbm, 276, rfl⟩
abbrev main_v130 : Ref sig .tc := ⟨.hbm, 277, rfl⟩
abbrev main_v131 : Ref sig .tc := ⟨.hbm, 278, rfl⟩
abbrev main_call14_cst : Ref sig .tc := ⟨.hbm, 279, rfl⟩
abbrev main_call14_v0 : Ref sig .tc := ⟨.hbm, 280, rfl⟩
abbrev main_call14_v1 : Ref sig .tc := ⟨.hbm, 281, rfl⟩
abbrev main_call14_v2 : Ref sig .tc := ⟨.hbm, 282, rfl⟩
abbrev main_call14_v3 : Ref sig .tc := ⟨.hbm, 283, rfl⟩
abbrev main_call14_v4 : Ref sig .tc := ⟨.hbm, 284, rfl⟩
abbrev main_call14_v5 : Ref sig .tc := ⟨.hbm, 285, rfl⟩
abbrev main_call14_v6 : Ref sig .tc := ⟨.hbm, 286, rfl⟩
abbrev main_call14_v7 : Ref sig .tc := ⟨.hbm, 287, rfl⟩
abbrev main_call14_v8 : Ref sig .tc := ⟨.hbm, 288, rfl⟩
abbrev main_call14_v9 : Ref sig .tc := ⟨.hbm, 289, rfl⟩
abbrev main_call14_v10 : Ref sig .tc := ⟨.hbm, 290, rfl⟩
abbrev main_call14_v11 : Ref sig .tc := ⟨.hbm, 291, rfl⟩
abbrev main_v132 : Ref sig .tc := ⟨.hbm, 292, rfl⟩
abbrev main_v133 : Ref sig .tc := ⟨.hbm, 293, rfl⟩
abbrev main_v134 : Ref sig .tc := ⟨.hbm, 294, rfl⟩
abbrev main_v135 : Ref sig .tc := ⟨.hbm, 295, rfl⟩
abbrev main_v136 : Ref sig .tc := ⟨.hbm, 296, rfl⟩
abbrev main_call15_v0 : Ref sig .tc := ⟨.hbm, 297, rfl⟩
abbrev main_call15_cst : Ref sig .tc := ⟨.hbm, 298, rfl⟩
abbrev main_call15_c : Ref sig .tc := ⟨.hbm, 299, rfl⟩
abbrev main_call15_v1_0 : Ref sig .tc := ⟨.hbm, 300, rfl⟩
abbrev main_v137 : Ref sig .tc := ⟨.hbm, 301, rfl⟩

abbrev nD : Nat := 1
abbrev τ : Topo := Topo.v7x

variable {F : FTy → Type} [FloatOps F]
-- ==== Proof.Edges.lean ====
/- What one SparseCore tile accumulates: the masked scatter-add of an edge list into the tile's block of
   56 adjacency rows, edge by edge, and the sixteen-lane scatter as sixteen such steps. -/
module

public import proofs.«01_k».proof.Proof.Gen.KernelIdeal.Skeleton

@[expose] public section

noncomputable section

namespace Cert.Proof.Adj

open Cert.KernelIdeal Cert.KernelIdeal.Gen
open Idealize.ShloMosaic

variable {F : FTy → Type} [FloatOps F]

/-- Whether the edge's target row falls into the 56 rows from `r0` on, as a mask bit. -/
def emask (r0 d : BitVec 32) : BitVec 1 :=
  IntOp.andi (IntOp.cmpi .sge (IntOp.subi d r0) 0#32) (IntOp.cmpi .slt (IntOp.subi d r0) 56#32)

/-- The accumulator cell of the edge `s → d` in the block from row `r0` on; cell 0 for an edge outside the block. -/
def ecell (r0 d s : BitVec 32) : BitVec 32 :=
  Scalar.select (emask r0 d) (IntOp.addi (IntOp.muli (IntOp.subi d r0) 896#32) s) 0#32

abbrev zeroF : F .f32 := Scalar.ofBits .f32 0x00000000#32
abbrev oneF : F .f32 := Scalar.ofBits .f32 0x3F800000#32

/-- One edge added into the accumulator. -/
def bump (r0 d s : BitVec 32) (g : FVec F S50176 .f32) : FVec F S50176 .f32 :=
  if emask r0 d = 1 then fun j => if (j 0).val = (ecell r0 d s).toNat then FloatOps.idxAddf (g j) oneF else g j else g

/-- Edge `n` of a list. -/
def at28 (v : S28256.Idx → BitVec 32) (n : ℕ) : BitVec 32 := if h : n < 28256 then v (Shape.ofLane (d := ![28256]) ⟨n, h⟩) else 0#32

/-- The accumulator of the block from row `r0` on, after the first `n` edges. -/
def accN (r0 : BitVec 32) (sv dv : S28256.Idx → BitVec 32) : ℕ → FVec F S50176 .f32
  | 0 => fun _ => zeroF
  | n + 1 => bump r0 (at28 dv n) (at28 sv n) (accN r0 sv dv n)

/-- Sixteen lanes of a list from edge `n` on. -/
def lanes (v : S28256.Idx → BitVec 32) (n : ℕ) : IVec S16 32 := fun x => at28 v (n + (x 0).val)

def mask16 (r0 : BitVec 32) (d : IVec S16 32) : IVec S16 1 := fun x => emask r0 (d x)
def cell16 (r0 : BitVec 32) (d s : IVec S16 32) : IVec S16 32 := fun x => ecell r0 (d x) (s x)

/-- A fold over all lanes of a step that advances a sequence. -/
theorem foldl_seq {α : Type} (G : ℕ → α) : ∀ (m : ℕ) (f : α → Fin m → α), (∀ k : Fin m, f (G k.val) k = G (k.val + 1)) →
    (List.finRange m).foldl f (G 0) = G m
  | 0, _, _ => rfl
  | m + 1, f, h => by
    rw [List.finRange_succ_last, List.foldl_append, List.foldl_map]
    have e : (List.finRange m).foldl (fun x y => f x y.castSucc) (G 0) = G m :=
      foldl_seq G m (fun x y => f x y.castSucc) fun k => h k.castSucc
    rw [e]
    exact h (Fin.last m)

/-- Whether an edge's source is a column of the padded matrix. -/
def SrcOK (sv : S28256.Idx → BitVec 32) : Prop := ∀ j, (sv j).toNat < 896

theorem at28_lt {sv : S28256.Idx → BitVec 32} (h : SrcOK sv) (n : ℕ) : (at28 sv n).toNat < 896 := by
  unfold at28; split
  · exact h _
  · decide

theorem ofBool_one (p : Bool) : (BitVec.ofBool p = 1#1) ↔ p = true := by cases p <;> decide
theorem andi_ofBool' (p q : Bool) : IntOp.andi (BitVec.ofBool p) (BitVec.ofBool q) = BitVec.ofBool (p && q) := by
  cases p <;> cases q <;> decide

theorem emask_iff (r0 d : BitVec 32) : emask r0 d = 1 ↔ (d - r0).toNat < 56 := by
  have e : (1 : BitVec 1) = 1#1 := rfl
  unfold emask
  simp only [IntOp.cmpi, IntOp.subi, andi_ofBool', e, ofBool_one, Bool.and_eq_true, BitVec.sle_eq_decide, BitVec.slt_eq_decide,
    decide_eq_true_eq, BitVec.toInt_eq_toNat_cond, BitVec.toNat_ofNat, Nat.reducePow, Nat.reduceMod]
  have := (d - r0).isLt
  constructor <;> intro h <;> (try split at h) <;> (try split) <;> omega

theorem ecell_hit {r0 d s : BitVec 32} (h : emask r0 d = 1) (hs : s.toNat < 896) : (ecell r0 d s).toNat = (d - r0).toNat * 896 + s.toNat := by
  have h' := (emask_iff r0 d).mp h
  unfold ecell
  rw [h]
  show ((d - r0) * 896#32 + s).toNat = _
  rw [BitVec.toNat_add, BitVec.toNat_mul]
  simp only [BitVec.toNat_ofNat, Nat.reducePow, Nat.reduceMod]
  omega

theorem ecell_lt {r0 d s : BitVec 32} (hs : s.toNat < 896) : (ecell r0 d s).toNat < 50176 := by
  by_cases h : emask r0 d = 1
  · have h' := (emask_iff r0 d).mp h
    rw [ecell_hit h hs]; omega
  · unfold ecell
    rw [show emask r0 d = 0#1 by
      have : ∀ b : BitVec 1, ¬ b = 1 → b = 0#1 := by decide
      exact this _ h]
    exact (by decide : (0#32).toNat < 50176)

theorem cell16_inb {r0 : BitVec 32} {sv : S28256.Idx → BitVec 32} (d : IVec S16 32) (h : SrcOK sv) (n : ℕ) :
    ∀ a x, ((![cell16 r0 d (lanes sv n)] : Fin 1 → IVec S16 32) a x).toNat < S50176.size a := by
  intro a x
  have : a = 0 := Subsingleton.elim _ _
  subst this
  exact ecell_lt (at28_lt h _)

/-- The scatter of sixteen edges is sixteen steps of the accumulation. -/
theorem storeIdx_accN (r0 : BitVec 32) (sv dv : S28256.Idx → BitVec 32) (n : ℕ)
    (h : ∀ a x, ((![cell16 r0 (lanes dv n) (lanes sv n)] : Fin 1 → IVec S16 32) a x).toNat < S50176.size a) :
    storeIdx (F := F) (s := S50176) (e := .f32) (accN r0 sv dv n) ![cell16 r0 (lanes dv n) (lanes sv n)] (k0_pay30 (F := F)) (mask16 r0 (lanes dv n)) true h
      = accN r0 sv dv (n + 16) := by
  unfold storeIdx
  refine foldl_seq (fun k => accN (F := F) r0 sv dv (n + k)) 16 _ fun k => ?_
  show _ = bump r0 (at28 dv (n + k.val)) (at28 sv (n + k.val)) (accN r0 sv dv (n + k.val))
  unfold bump
  show (if emask r0 (at28 dv (n + k.val)) = 1 then _ else _) = _
  split
  · funext j
    have hiff : (∀ a, (j a).val = (idxAt ![cell16 r0 (lanes dv n) (lanes sv n)] h (Shape.ofLane k) a).val)
        ↔ (j 0).val = (ecell r0 (at28 dv (n + k.val)) (at28 sv (n + k.val))).toNat := by
      constructor
      · intro hh; exact hh 0
      · intro hh a
        have : a = 0 := Subsingleton.elim _ _
        subst this; exact hh
    by_cases hj : (j 0).val = (ecell r0 (at28 dv (n + k.val)) (at28 sv (n + k.val))).toNat
    · have hj' := hiff.mpr hj
      have e : idxAt ![cell16 r0 (lanes dv n) (lanes sv n)] h (Shape.ofLane k) = j := funext fun a => Fin.ext (hj' a).symm
      simp only [hj, if_true, hj']
      rw [if_pos (fun _ => trivial), e]
      rfl
    · rw [if_neg hj, if_neg (fun hh => hj (hiff.mp hh))]
  · rfl

end Cert.Proof.Adj

end
-- ==== Proof.Setup.lean ====
/- The SparseCore call as the launch theorem sees it: the handshakes' resource algebra, the three arrays of the call and
   what each of the sixteen tiles takes of them (a read share of the two edge lists, its own block of the result). -/
module

public import Idealize.ShloMosaic.Lib.SparseCore.Quiescent
public import Idealize.ShloMosaic.Lib.SparseCore.Ops
public import Idealize.ShloMosaic.Lib.ShareLeaves
public import Idealize.ShloMosaic.Lib.Writes
public import Idealize.ShloMosaic.Lib.StableHlo.Run
public import Idealize.ShloMosaic.Lib.Pipeline.Kit
public import Idealize.ShloMosaic.Lib.Tactic
public import proofs.«01_k».proof.Proof.Edges

@[expose] public section

noncomputable section

namespace Cert.Proof.Adj

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped where the launch needs it, and no SparseCore buffer is a task's shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds of the TensorCore call. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The arrays -/

/-- The source list, the target list and the result of the call, on device `d`. -/
abbrev sLoc (d : Dev nD) : Loc nD τ sig := (SparseCore.T d).loc main_v1
abbrev dLoc (d : Dev nD) : Loc nD τ sig := (SparseCore.T d).loc main_v3
abbrev oLoc (d : Dev nD) : Loc nD τ sig := (SparseCore.T d).loc main_v4

local notation "srcV" => (Memref.whole Cert.KernelIdeal.main_v1_scv : Memref Cert.KernelIdeal.sig Kind.scVector Space.hbm Cert.KernelIdeal.S28256 EltTy.i32)
local notation "dstV" => (Memref.whole Cert.KernelIdeal.main_v3_scv : Memref Cert.KernelIdeal.sig Kind.scVector Space.hbm Cert.KernelIdeal.S28256 EltTy.i32)
local notation "outV" => (Memref.whole Cert.KernelIdeal.main_v4_scv : Memref Cert.KernelIdeal.sig Kind.scVector Space.hbm Cert.KernelIdeal.S802816 EltTy.f32)
local notation "sS" => (Memref.whole Cert.KernelIdeal.cc0_scratch0 : Memref Cert.KernelIdeal.sig Kind.scVector Space.vmem Cert.KernelIdeal.S28256 EltTy.i32)
local notation "sD" => (Memref.whole Cert.KernelIdeal.cc0_scratch1 : Memref Cert.KernelIdeal.sig Kind.scVector Space.vmem Cert.KernelIdeal.S28256 EltTy.i32)
local notation "sA" => (Memref.whole Cert.KernelIdeal.cc0_scratch2 : Memref Cert.KernelIdeal.sig Kind.scVector Space.vmem Cert.KernelIdeal.S50176 EltTy.f32)

theorem hdiv : 16 ∣ S802816.size 0 := ⟨50176, rfl⟩
/-- Block `i` of the result: 56 rows of the matrix, flat. -/
abbrev blk (i : Fin 16) : Rect S802816 := Rect.part (s := S802816) (a₀ := 0) hdiv i
abbrev blkSet (i : Fin 16) : Finset S802816.Idx := ((outV).view.slice (blk i)).set

/-- Task `i`'s read share of the two lists: the `i`-th of the whole cut in sixteen. -/
abbrev rq (i : Fin 16) : PosShare TreeShare := ShareLeaves.leaf 4 fullShare i

/-- The first row of block `t`. -/
def row0 (t : ℕ) : BitVec 32 := BitVec.ofNat 32 (56 * t)

variable [FloatOps F]

/-- What the call leaves in its result, from the two lists: each block the accumulation of all edges into it. -/
def adjFlat (sv dv : S28256.Idx → BitVec 32) : FVec F S802816 .f32 :=
  fun j => accN (row0 ((j 0).val / 50176)) sv dv 28256 (Shape.ofLane (d := ![50176]) ⟨(j 0).val % 50176, Nat.mod_lt _ (by decide)⟩)

variable (sv dv : S28256.Idx → BitVec 32)

/-! ## What the handshakes carry -/

abbrev sPts (d : Dev nD) : sProp 𝕄 := sLoc d ↦{fullShare} sv
abbrev dPts (d : Dev nD) : sProp 𝕄 := dLoc d ↦{fullShare} dv
abbrev oPts (d : Dev nD) (f : Buf (Elt F) (oLoc d)) : sProp 𝕄 := oLoc d ↦{fullShare} f
abbrev sSh (d : Dev nD) (i : Fin 16) : sProp 𝕄 := sLoc d ↦{rq i} sv
abbrev dSh (d : Dev nD) (i : Fin 16) : sProp 𝕄 := dLoc d ↦{rq i} dv
abbrev oBlk (d : Dev nD) (i : Fin 16) (f : Buf (Elt F) (oLoc d)) : sProp 𝕄 := oLoc d ↦[blkSet i]{fullShare} f

/-- The call takes both lists and the result whole, deals each task a read share of the lists and its block, and brings them
    back with the block at the accumulated counts. -/
def P (svd dvd : Dev nD → S28256.Idx → BitVec 32) : (K (F := F)).Pay (nD := nD) (Val := Elt F) (Name := ℕ) (U := UU) where
  st := fun q d _ => match q with | 0 => iprop(sPts (svd d) d ∗ dPts (dvd d) d ∗ ∃ f, oPts d f)
  dn := fun q d _ => match q with | 0 => iprop(sPts (svd d) d ∗ dPts (dvd d) d ∗ oPts d (adjFlat (svd d) (dvd d)))
  go := fun q d _ i => match q with
    | 0 => iprop(sSh (svd d) d (Fin.cast nSub_zero i) ∗ dSh (dvd d) d (Fin.cast nSub_zero i) ∗ ∃ f, oBlk d (Fin.cast nSub_zero i) f)
  td := fun q d _ i => match q with
    | 0 => iprop(sSh (svd d) d (Fin.cast nSub_zero i) ∗ dSh (dvd d) d (Fin.cast nSub_zero i) ∗ oBlk d (Fin.cast nSub_zero i) (adjFlat (svd d) (dvd d)))
  x := fun _ _ => iprop(emp)

instance P_storable (svd dvd : Dev nD → S28256.Idx → BitVec 32) : (P (F := F) svd dvd).IsStorable where
  st q d _ := match q with
    | 0 => (inferInstance : BI.Storable (upEmb : UEmb _ 𝕄) iprop(sPts (svd d) d ∗ dPts (dvd d) d ∗ ∃ f, oPts d f))
  dn q d _ := match q with
    | 0 => (inferInstance : BI.Storable (upEmb : UEmb _ 𝕄) iprop(sPts (svd d) d ∗ dPts (dvd d) d ∗ oPts d (adjFlat (svd d) (dvd d))))
  go q d _ i := match q with
    | 0 => (inferInstance : BI.Storable (upEmb : UEmb _ 𝕄)
      iprop(sSh (svd d) d (Fin.cast nSub_zero i) ∗ dSh (dvd d) d (Fin.cast nSub_zero i) ∗ ∃ f, oBlk d (Fin.cast nSub_zero i) f))
  td q d _ i := match q with
    | 0 => (inferInstance : BI.Storable (upEmb : UEmb _ 𝕄)
      iprop(sSh (svd d) d (Fin.cast nSub_zero i) ∗ dSh (dvd d) d (Fin.cast nSub_zero i) ∗ oBlk d (Fin.cast nSub_zero i) (adjFlat (svd d) (dvd d))))

end Cert.Proof.Adj

end
-- ==== Proof.Count.lean ====
/- The accumulated block over the extended reals: cell (r, c) counts the edges from node c to node r. -/
module

public import proofs.«01_k».proof.Proof.Setup
public import Idealize.ShloMosaic.Lib.IdealHost
public import Idealize.ShloMosaic.Lib.Pointwise

@[expose] public section

noncomputable section

namespace Cert.Proof.Adj

open Cert.KernelIdeal Cert.KernelIdeal.Gen
open Idealize.ShloMosaic

/-- The source and the target node of edge `e` in a list of pairs. -/
def srcW (E : S2x28256.Idx → BitVec 32) (e : Fin 28256) : ℕ := (E (ix2 (0 : Fin 2) e)).toNat
def dstW (E : S2x28256.Idx → BitVec 32) (e : Fin 28256) : ℕ := (E (ix2 (1 : Fin 2) e)).toNat

/-- How many edges lead from node `c` to node `r`. -/
def edgeCount (E : S2x28256.Idx → BitVec 32) (r c : ℕ) : EReal := ∑ e : Fin 28256, if dstW E e = r ∧ srcW E e = c then (1 : EReal) else 0

theorem zeroF_ideal : (zeroF (F := Ideal)) = (0 : EReal) := Ideal.ofBits_zero_f32
theorem oneF_ideal : (oneF (F := Ideal)) = (1 : EReal) := Ideal.ofBits_one_f32

theorem bump_ideal (r0 d s : BitVec 32) (g : FVec Ideal S50176 .f32) (j : S50176.Idx) :
    bump r0 d s g j = (g j + if emask r0 d = 1 ∧ (j 0).val = (ecell r0 d s).toNat then (1 : EReal) else 0 : EReal) := by
  unfold bump
  by_cases h : emask r0 d = 1
  · rw [if_pos h]
    by_cases h2 : (j 0).val = (ecell r0 d s).toNat
    · simp only [h2, if_true, h, and_self]
      show (g j + oneF (F := Ideal) : EReal) = _
      rw [oneF_ideal]
    · simp only [h2, if_false, and_false, add_zero]
  · rw [if_neg h, if_neg (fun hh => h hh.1), add_zero]

theorem accN_ideal (r0 : BitVec 32) (sv dv : S28256.Idx → BitVec 32) (j : S50176.Idx) : ∀ n,
    accN (F := Ideal) r0 sv dv n j = ((∑ k ∈ Finset.range n, if emask r0 (at28 dv k) = 1 ∧ (j 0).val = (ecell r0 (at28 dv k) (at28 sv k)).toNat then (1 : EReal) else 0) : EReal)
  | 0 => by rw [Finset.sum_range_zero]; exact zeroF_ideal
  | n + 1 => by
    rw [Finset.sum_range_succ, ← accN_ideal r0 sv dv j n]
    exact bump_ideal _ _ _ _ j

/-- An edge hits cell `(r, c)` of its block exactly when it leads from node `c` to node `r`. -/
theorem hit_iff {r0 d s : BitVec 32} {t r c : ℕ} (h0 : r0.toNat = 56 * t) (ht : t < 16) (hr : r < 56) (hc : c < 896) (hs : s.toNat < 896) (hd : d.toNat < 896) :
    (emask r0 d = 1 ∧ r * 896 + c = (ecell r0 d s).toNat) ↔ (d.toNat = 56 * t + r ∧ s.toNat = c) := by
  have hsub : (d - r0).toNat = (d.toNat + (4294967296 - 56 * t)) % 4294967296 := by
    rw [BitVec.toNat_sub, h0]
    omega
  constructor
  · rintro ⟨hm, hcell⟩
    have := (emask_iff r0 d).mp hm
    rw [ecell_hit hm hs] at hcell
    omega
  · rintro ⟨hd', hs'⟩
    have hm : emask r0 d = 1 := (emask_iff r0 d).mpr (by omega)
    refine ⟨hm, ?_⟩
    rw [ecell_hit hm hs]
    omega

theorem ofLane_eq_ix1 (e : Fin 28256) : (Shape.ofLane (d := ![28256]) e : S28256.Idx) = ix1 e := by
  funext a
  have : a = 0 := Subsingleton.elim (α := Fin 1) _ _
  subst this; rfl

/-- The array the tiles write, at row `r` and column `c` of the matrix it is reshaped to. -/
theorem adjFlat_at (E : S2x28256.Idx → BitVec 32) (sv dv : S28256.Idx → BitVec 32) (hs : ∀ e : Fin 28256, sv (ix1 e) = E (ix2 (0 : Fin 2) e))
    (hd : ∀ e : Fin 28256, dv (ix1 e) = E (ix2 (1 : Fin 2) e)) (hE : ∀ j, (E j).toNat < 896) (j : S802816.Idx) (r c : Fin 896) (hj : (j 0).val = r.val * 896 + c.val) :
    adjFlat (F := Ideal) sv dv j = (edgeCount E r.val c.val : EReal) := by
  unfold adjFlat
  refine (accN_ideal _ sv dv _ _).trans ?_
  unfold edgeCount
  rw [Finset.sum_range]
  refine Finset.sum_congr rfl fun e _ => ?_
  have hrow : (row0 ((j 0).val / 50176)).toNat = 56 * (r.val / 56) := by
    unfold row0
    rw [BitVec.toNat_ofNat, hj]
    have := r.isLt; have := c.isLt
    omega
  have ha : ∀ v : S28256.Idx → BitVec 32, at28 v e.val = v (ix1 e) := fun v => by
    unfold at28; rw [dif_pos e.isLt]; exact congrArg v (ofLane_eq_ix1 e)
  rw [ha, ha, hs, hd]
  have hcell : ((Shape.ofLane (d := ![50176]) ⟨(j 0).val % 50176, Nat.mod_lt _ (by decide)⟩ : S50176.Idx) 0).val = (r.val % 56) * 896 + c.val := by
    show (j 0).val % 50176 = _
    have := c.isLt; omega
  have key := hit_iff (d := E (ix2 (1 : Fin 2) e)) (s := E (ix2 (0 : Fin 2) e)) (r := r.val % 56) (c := c.val) hrow (by have := r.isLt; omega) (by omega) c.isLt (hE _) (hE _)
  have hr : 56 * (r.val / 56) + r.val % 56 = r.val := Nat.div_add_mod _ _
  rw [hr] at key
  refine if_congr (Iff.trans ?_ key) rfl rfl
  rw [← hcell]

end Cert.Proof.Adj

end
-- ==== Proof.Alg.lean ====
/- The mathematics both programs compute, over the extended reals, and the identity that lets a sum over edges, then a
   product with a weight, be a product with the weight first and a product with the matrix of edge counts after it. -/
module

public import proofs.«01_k».proof.Proof.Count

@[expose] public section

noncomputable section

namespace Cert.Proof.Alg

open Idealize.ShloMosaic
open Cert.Proof.Adj (edgeCount srcW dstW)

/-! ## Sums in the extended reals -/

section Sums
variable {ι : Type} [Fintype ι]

theorem sum_mul_real (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, EReal.right_distrib_of_nonneg_of_ne_top (EReal.coe_nonneg.mpr hc) (EReal.coe_ne_top c), ih]

theorem real_mul_sum (f : ι → EReal) (c : ℝ) (hc : 0 ≤ c) : (c : EReal) * (∑ i, f i) = ∑ i, (c : EReal) * f i := by
  rw [mul_comm, sum_mul_real f c hc]
  exact Finset.sum_congr rfl fun i _ => mul_comm _ _

theorem sum_mul_nonneg (f : ι → EReal) (hf : ∀ i, 0 ≤ f i) (x : EReal) : (∑ i, f i) * x = ∑ i, f i * x := by
  classical
  induction (Finset.univ : Finset ι) using Finset.induction_on with
  | empty => simp
  | insert a s ha ih =>
    rw [Finset.sum_insert ha, Finset.sum_insert ha, EReal.right_distrib_of_nonneg (hf a) (Finset.sum_nonneg fun i _ => hf i), ih]

theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

end Sums

/-- A sum over the padded nodes whose padding is zero. -/
theorem sum_trim (f : Fin 896 → EReal) (h : ∀ j : Fin 896, 883 ≤ j.val → f j = 0) : ∑ j, f j = ∑ j : Fin 883, f ⟨j.val, by omega⟩ := by
  have e := Fin.sum_univ_add (a := 883) (b := 13) f
  refine e.trans ?_
  rw [Finset.sum_eq_zero (s := Finset.univ) (f := fun i : Fin 13 => f (Fin.natAdd 883 i)) (fun i _ => h _ (by simp)), add_zero]
  rfl

/-! ## The two ways round a product with a weight -/

variable {J K : Type} [Fintype J] [Fintype K]

/-- The mean first, then the weight; the features nonnegative. -/
theorem agg_nonneg (a : J → ℝ) (ha : ∀ j, 0 ≤ a j) (x : J → K → EReal) (hx : ∀ j k, 0 ≤ x j k) (w : K → EReal) :
    ∑ k, (∑ j, (a j : EReal) * x j k) * w k = ∑ j, (a j : EReal) * ∑ k, x j k * w k := by
  have h1 : ∀ k, (∑ j, (a j : EReal) * x j k) * w k = ∑ j, (a j : EReal) * (x j k * w k) := fun k => by
    rw [sum_mul_nonneg _ (fun j => mul_nonneg (EReal.coe_nonneg.mpr (ha j)) (hx j k))]
    exact Finset.sum_congr rfl fun j _ => mul_assoc _ _ _
  rw [Finset.sum_congr rfl fun k _ => h1 k, Finset.sum_comm]
  exact Finset.sum_congr rfl fun j _ => (real_mul_sum _ _ (ha j)).symm

/-- The same for real features and a real weight. -/
theorem agg_real (a : J → ℝ) (ha : ∀ j, 0 ≤ a j) (x : J → K → EReal) (hx : ∀ j k, ∃ r : ℝ, x j k = r) (w : K → EReal) (hw : ∀ k, ∃ r : ℝ, w k = r) :
    ∑ k, (∑ j, (a j : EReal) * x j k) * w k = ∑ j, (a j : EReal) * ∑ k, x j k * w k := by
  choose x' hx' using hx
  choose w' hw' using hw
  simp only [hx', hw']
  simp only [← EReal.coe_mul, ← coe_sum]
  refine congrArg (fun r : ℝ => (r : EReal)) ?_
  simp only [Finset.sum_mul, Finset.mul_sum]
  rw [Finset.sum_comm]
  exact Finset.sum_congr rfl fun j _ => Finset.sum_congr rfl fun k _ => mul_assoc _ _ _

/-! ## The counts -/

/-- A list of pairs of nodes. -/
abbrev Edges := (⟨2, ![2, 28256]⟩ : Shape).Idx → BitVec 32

section Counts
variable (E : Edges)

theorem count_real (r c : ℕ) : ∃ a : ℝ, 0 ≤ a ∧ edgeCount E r c = a := by
  refine ⟨∑ e : Fin 28256, if dstW E e = r ∧ srcW E e = c then (1 : ℝ) else 0, Finset.sum_nonneg fun e _ => by split <;> norm_num, ?_⟩
  unfold edgeCount
  rw [coe_sum]
  exact Finset.sum_congr rfl fun e _ => by split <;> simp

theorem count_out (hE : ∀ j, (E j).toNat < 883) (r c : ℕ) (h : 883 ≤ r ∨ 883 ≤ c) : edgeCount E r c = 0 := by
  unfold edgeCount
  refine Finset.sum_eq_zero fun e _ => if_neg fun hh => ?_
  have h0 := hE (ix2 (0 : Fin 2) e); have h1 := hE (ix2 (1 : Fin 2) e)
  unfold dstW srcW at hh
  omega

/-- The number of edges into a node, at least one. -/
def degS (r : ℕ) : EReal := max (∑ c : Fin 883, edgeCount E r c.val) 1
/-- The matrix of edge counts, each row over its node's degree. -/
def adjS (r j : ℕ) : EReal := Ideal.div (edgeCount E r j) (degS E r)

theorem deg_real (r : ℕ) : ∃ d : ℝ, 1 ≤ d ∧ degS E r = d := by
  choose a ha he using fun c : Fin 883 => count_real E r c.val
  refine ⟨max (∑ c, a c) 1, le_max_right _ _, ?_⟩
  unfold degS
  rw [Finset.sum_congr rfl fun c _ => he c, ← coe_sum]
  exact (EReal.coe_strictMono.monotone.map_max (a := ∑ c, a c) (b := 1)).symm

/-- Division by a degree is multiplication by a nonnegative real. -/
theorem div_deg (r : ℕ) : ∃ q : ℝ, 0 ≤ q ∧ ∀ x, Ideal.div x (degS E r) = x * (q : EReal) := by
  obtain ⟨d, hd, e⟩ := deg_real E r
  refine ⟨1 / d, by positivity, fun x => ?_⟩
  rw [e]
  exact Ideal.div_coe (by linarith [hd]) x

theorem adj_real (r j : ℕ) : ∃ a : ℝ, 0 ≤ a ∧ adjS E r j = a := by
  obtain ⟨q, hq, e⟩ := div_deg E r
  obtain ⟨a, ha, ea⟩ := count_real E r j
  exact ⟨a * q, mul_nonneg ha hq, by unfold adjS; rw [e, ea, EReal.coe_mul]⟩

theorem adj_out (hE : ∀ j, (E j).toNat < 883) (r j : ℕ) (h : 883 ≤ j) : adjS E r j = 0 := by
  obtain ⟨q, hq, e⟩ := div_deg E r
  unfold adjS
  rw [e, count_out E hE r j (.inr h), zero_mul]

theorem deg_edges (hE : ∀ j, (E j).toNat < 883) (r : ℕ) : max 1 (∑ e : Fin 28256, if dstW E e = r then (1 : EReal) else 0) = degS E r := by
  unfold degS edgeCount
  rw [max_comm, Finset.sum_comm]
  refine congrArg (max · 1) (Finset.sum_congr rfl fun e _ => ?_)
  have h0 : srcW E e < 883 := hE _
  rw [Finset.sum_eq_single (⟨srcW E e, h0⟩ : Fin 883)]
  · by_cases h : dstW E e = r <;> simp [h]
  · intro c _ hc
    exact if_neg fun hh => hc (Fin.ext hh.2.symm)
  · intro h; exact absurd (Finset.mem_univ _) h

/-- The mean over a node's edges, as a product with the matrix. -/
theorem mean_edges (hE : ∀ j, (E j).toNat < 883) (r : ℕ) (x : Fin 883 → EReal) :
    Ideal.div (∑ e : Fin 28256, if dstW E e = r then x ⟨srcW E e, hE _⟩ else 0) (degS E r) = ∑ j : Fin 883, adjS E r j.val * x j := by
  obtain ⟨q, hq, e⟩ := div_deg E r
  have h1 : ∀ c : Fin 883, edgeCount E r c.val * x c = ∑ e : Fin 28256, if dstW E e = r ∧ srcW E e = c.val then x c else 0 := fun c => by
    unfold edgeCount
    rw [sum_mul_nonneg _ (fun e => by split <;> norm_num)]
    exact Finset.sum_congr rfl fun e _ => by split <;> simp
  have h2 : (∑ e : Fin 28256, if dstW E e = r then x ⟨srcW E e, hE _⟩ else 0) = ∑ c : Fin 883, edgeCount E r c.val * x c := by
    rw [Finset.sum_congr rfl fun c _ => h1 c, Finset.sum_comm]
    refine Finset.sum_congr rfl fun e _ => ?_
    have h0 : srcW E e < 883 := hE _
    rw [Finset.sum_eq_single (⟨srcW E e, h0⟩ : Fin 883)]
    · by_cases h : dstW E e = r <;> simp [h]
    · intro c _ hc
      exact if_neg fun hh => hc (Fin.ext hh.2.symm)
    · intro h; exact absurd (Finset.mem_univ _) h
  rw [h2, e, sum_mul_real _ _ hq]
  refine Finset.sum_congr rfl fun c _ => ?_
  unfold adjS
  rw [e, mul_assoc, mul_assoc, mul_comm (x c)]

end Counts

/-! ## What both programs compute -/

section Spec
variable (E : Edges)

/-- The structural encoder's two layers, without a bias. -/
def s1S (x : (⟨2, ![883, 20]⟩ : Shape).Idx → EReal) (w : (⟨2, ![20, 128]⟩ : Shape).Idx → EReal) (r : Fin 883) (k : Fin 128) : EReal :=
  max (∑ i : Fin 20, x (ix2 r i) * w (ix2 i k)) 0
def s2S (x : (⟨2, ![883, 20]⟩ : Shape).Idx → EReal) (w : (⟨2, ![20, 128]⟩ : Shape).Idx → EReal) (w2 : (⟨2, ![128, 128]⟩ : Shape).Idx → EReal) (r : Fin 883) (k : Fin 128) : EReal :=
  max (∑ i : Fin 128, s1S x w r i * w2 (ix2 i k)) 0

/-- The structural features' part of the first graph layer. -/
def seqS (s : Fin 883 → Fin 128 → EReal) (w : (⟨2, ![2816, 256]⟩ : Shape).Idx → EReal) (b : Fin 256 → EReal) (r : Fin 883) (f : Fin 256) : EReal :=
  (∑ k : Fin 128, s r k * w (ix2 (⟨1280 + k.val, by omega⟩ : Fin 2816) f))
    + (∑ j : Fin 883, adjS E r.val j.val * ∑ k : Fin 128, s j k * w (ix2 (⟨2688 + k.val, by omega⟩ : Fin 2816) f)) + b f
/-- The first graph layer. -/
def h1S (x : Fin 883 → Fin 1280 → EReal) (s : Fin 883 → Fin 128 → EReal) (w : (⟨2, ![2816, 256]⟩ : Shape).Idx → EReal) (b : Fin 256 → EReal) (r : Fin 883) (f : Fin 256) : EReal :=
  max ((∑ k : Fin 1280, x r k * w (ix2 (⟨k.val, by omega⟩ : Fin 2816) f))
    + (∑ j : Fin 883, adjS E r.val j.val * ∑ k : Fin 1280, x j k * w (ix2 (⟨1408 + k.val, by omega⟩ : Fin 2816) f)) + seqS E s w b r f) 0
/-- The second. -/
def h2S (h : Fin 883 → Fin 256 → EReal) (w : (⟨2, ![512, 256]⟩ : Shape).Idx → EReal) (b : Fin 256 → EReal) (r : Fin 883) (f : Fin 256) : EReal :=
  max ((∑ k : Fin 256, h r k * w (ix2 (⟨k.val, by omega⟩ : Fin 512) f))
    + (∑ j : Fin 883, adjS E r.val j.val * ∑ k : Fin 256, h j k * w (ix2 (⟨256 + k.val, by omega⟩ : Fin 512) f)) + b f) 0
/-- The change's two means, and the fused row. -/
def locS (mask : Fin 883 → EReal) (d : Fin 883 → Fin 256 → EReal) (k : Fin 256) : EReal :=
  Ideal.div (∑ r, mask r * d r k) (max (∑ r, mask r) 1)
def globS (d : Fin 883 → Fin 256 → EReal) (k : Fin 256) : EReal := Ideal.div (∑ r, d r k) (Ideal.ofBits .f32 0x445CC000#32)
def fuseS (l g : Fin 256 → EReal) (w : (⟨2, ![512, 256]⟩ : Shape).Idx → EReal) (b : Fin 256 → EReal) (f : Fin 256) : EReal :=
  max ((∑ k : Fin 256, l k * w (ix2 (⟨k.val, by omega⟩ : Fin 512) f)) + (∑ k : Fin 256, g k * w (ix2 (⟨256 + k.val, by omega⟩ : Fin 512) f)) + b f) 0

theorem h1S_nonneg {x s w b} (r f) : 0 ≤ h1S E x s w b r f := le_max_right _ _
theorem s2S_nonneg {x w w2} (r k) : 0 ≤ s2S x w w2 r k := le_max_right _ _

end Spec

end Cert.Proof.Alg

end
-- ==== Proof.Pre.lean ====
/- The two preconditions, read element by element. -/
module

public import proofs.«01_k».proof.Proof.Gen.Pre_nodes_in_range
public import proofs.«01_k».proof.Proof.Gen.Pre_inputs_ok
public import proofs.«01_k».proof.Proof.Alg
public import Idealize.ShloMosaic.PureOps
public import Idealize.ShloMosaic.Lib.ReduceAll

@[expose] public section

set_option maxRecDepth 16384

noncomputable section

namespace Cert.Proof.Pre

open Idealize.ShloMosaic

theorem bit {b : Bool} (h : BitVec.ofBool b = 1#1) : b = true := by revert h; cases b <;> decide
theorem both {a b : BitVec 1} (h : IntOp.andi a b = 1#1) : a = 1#1 ∧ b = 1#1 := by revert a b; decide

/-- A word in the range is a node. -/
theorem node (v : BitVec 32) (h : IntOp.andi (IntOp.cmpi .sge v 0#32) (IntOp.cmpi .slt v 883#32) = 1#1) : v.toNat < 883 := by
  obtain ⟨h0, h1⟩ := both h
  have h0 := bit h0
  have h1 := bit h1
  simp only [BitVec.sle_eq_decide, BitVec.slt_eq_decide, decide_eq_true_eq, BitVec.toInt_eq_toNat_cond, BitVec.toNat_ofNat, Nat.reducePow, Nat.reduceMod] at h0 h1
  omega

/-- A float whose absolute value is below infinity is a real. -/
theorem real (x : EReal) (h : FloatOps.cmpf (F := Ideal) (φ := .f32) .olt (FloatOps.absf (F := Ideal) (φ := .f32) x) (Ideal.ofBits .f32 0x7F800000#32) = 1#1) : ∃ q : ℝ, x = (q : EReal) := by
  have e : Ideal.ofBits .f32 0x7F800000#32 = (⊤ : EReal) := by simp [Ideal.ofBits, Ideal.ieee]
  have h : (max x (-x) : EReal) < Ideal.ofBits .f32 0x7F800000#32 := by
    have := bit (b := decide ((max x (-x) : EReal) < Ideal.ofBits .f32 0x7F800000#32)) h
    simpa using this
  rw [e] at h
  induction x using EReal.rec with
  | bot => simp at h
  | top => simp at h
  | coe q => exact ⟨q, rfl⟩

theorem zero (x : EReal) (h : FloatOps.cmpf (F := Ideal) (φ := .f32) .oeq x (Ideal.ofBits .f32 0x00000000#32) = 1#1) : x = 0 := by
  have := bit (b := decide (x = Ideal.ofBits .f32 0x00000000#32)) h
  rw [decide_eq_true_eq, Ideal.ofBits_zero_f32] at this
  exact this

section
open Cert.Pre_nodes_in_range
theorem nodes {F : FTy → Type} [FloatOps F] {a0 a1 a2 a3 a4 a5 a6 a7 a8 a9 a10 a11 a12 a13 a14 a15 a16 a17 a18 a19 a20 a21 a22 a23 a24}
    (h : fn (F := F) a0 a1 a2 a3 a4 a5 a6 a7 a8 a9 a10 a11 a12 a13 a14 a15 a16 a17 a18 a19 a20 a21 a22 a23 a24 = fun _ => 1#1) (j : S2x28256.Idx) : (a3 j).toNat < 883 := by
  have e := congrFun h (Shape.Idx.first (by decide))
  dsimp only [fn] at e
  exact node _ (Host.reduce_andi_all _ _ _ _ _ e j)
end

section
open Cert.Pre_inputs_ok
variable {F : FTy → Type} [FloatOps F]

/-- What each conjunct says of an element, whatever the shape. -/
theorem all_lt {s : Shape} {dims : List (Fin s.rank)} (x : FVec F s .f32) (hb : S_.BroadcastsInDim s (![] : Fin 0 → Fin s.rank)) (hr : s.ReducesTo dims S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    FloatOps.cmpf .olt (FloatOps.hostAbsf (x i)) (FloatOps.ofBits .f32 0x7F800000#32) = 1#1 := Host.reduce_andi_all _ _ _ _ _ h i
theorem all_zero {s : Shape} {dims : List (Fin s.rank)} (x : FVec F s .f32) (hb : S_.BroadcastsInDim s (![] : Fin 0 → Fin s.rank)) (hr : s.ReducesTo dims S_) (hu : 0 < S_.numel) (j : S_.Idx)
    (h : Host.reduce IntOp.andi (cmpf .oeq x (broadcastInDim s ![] hb (constant S_ .f32 0x00000000#32))) (constantI S_ 1 1#1) hr hu j = 1#1) (i : s.Idx) :
    FloatOps.cmpf .oeq (x i) (FloatOps.ofBits .f32 0x00000000#32) = 1#1 := Host.reduce_andi_all _ _ _ _ _ h i

theorem inputs {a0 a1 a2 a3 a4 a5 a6 a7 a8 a9 a10 a11 a12 a13 a14 a15 a16 a17 a18 a19 a20 a21 a22 a23 a24}
    (h : fn (F := Ideal) a0 a1 a2 a3 a4 a5 a6 a7 a8 a9 a10 a11 a12 a13 a14 a15 a16 a17 a18 a19 a20 a21 a22 a23 a24 = fun _ => 1#1) :
    (∀ j, (a3 j).toNat < 883) ∧ (∀ j, ∃ q : ℝ, (a0 j : EReal) = (q : EReal)) ∧ (∀ j, ∃ q : ℝ, (a1 j : EReal) = (q : EReal)) ∧ (∀ j, ∃ q : ℝ, (a9 j : EReal) = (q : EReal))
      ∧ (∀ j, (a6 j : EReal) = 0) ∧ (∀ j, (a8 j : EReal) = 0) := by
  have e := congrFun h (Shape.Idx.first (by decide))
  dsimp only [fn, fn_part1] at e
  obtain ⟨e, e8⟩ := both e
  obtain ⟨e, e6⟩ := both e
  obtain ⟨e3, e⟩ := both e
  obtain ⟨e, e9⟩ := both e
  obtain ⟨e0, e1⟩ := both e
  exact ⟨fun j => node _ (Host.reduce_andi_all _ _ _ _ _ e3 j), fun j => real _ (all_lt _ _ _ _ _ e0 j), fun j => real _ (all_lt _ _ _ _ _ e1 j), fun j => real _ (all_lt _ _ _ _ _ e9 j),
    fun j => zero _ (all_zero _ _ _ _ _ e6 j), fun j => zero _ (all_zero _ _ _ _ _ e8 j)⟩
end

end Cert.Proof.Pre

end
-- ==== Proof.TcVals.lean ====
/- What one grid point of the TensorCore call computes, as functions of the blocks it reads: the row-normalised adjacency
   and the sequence branch it keeps in scratch, and the six blocks it leaves. -/
module

public import proofs.«01_k».proof.Proof.Setup
public import proofs.«01_k».proof.Proof.Gen.KernelIdeal.Skeleton
public import Idealize.ShloMosaic.Lib.Pipeline.FrameBody
public import Idealize.ShloMosaic.Lib.WholeRead
public import Idealize.ShloMosaic.Lib.VecWindow

@[expose] public section

noncomputable section

namespace Cert.Proof.Adj

open Cert.KernelIdeal Cert.KernelIdeal.Gen
open Idealize.ShloMosaic

variable {F : FTy → Type} [FloatOps F]

/-! ## Reads of a part of a block -/

/-- The part of a block a load takes. -/
def cut {s : Shape} {e : EltTy} (B : LoadRect s) (X : s.Idx → Elt F e) : B.shape.Idx → Elt F e := fun x => X (B.idx x)

theorem readAt_cut {κ : Kind} {sp : Space} {s : Shape} {e : EltTy} {m : Memref sig κ sp s e} (h : m.IsWhole) (X : s.Idx → Elt F e) (B : LoadRect s) :
    View.readAt (Elt F) m.view B (h.unread X) = cut B X := funext fun x => h.readAt_unread X B x

/-- A load of the whole block takes the block. -/
theorem cut_whole {s : Shape} {e : EltTy} (off : Fin s.rank → ℕ) (h0 : ∀ a, off a = 0) (inb : ∀ a, off a + s.size a ≤ s.size a) (X : s.Idx → Elt F e) :
    cut (Rect.unit (s := s) off s.size inb).toLoadRect X = X :=
  funext fun x => congrArg X (funext fun a => Fin.ext (by
    show off a + 1 * (x a).val = (x a).val
    rw [h0 a, Nat.one_mul, Nat.zero_add]))

/-- What a buffer reads after one store of the whole block: the stored block. -/
theorem read_store_whole {κ : Kind} {sp : Space} {s : Shape} {e : EltTy} (v : View sig κ sp s e) (f : v.ty.Contents (Elt F)) (off : Fin s.rank → ℕ)
    (h0 : ∀ a, off a = 0) (inb : ∀ a, off a + s.size a ≤ s.size a) (w : s.Idx → Elt F e) :
    v.read (Elt F) (v.writes (Elt F) f [⟨Rect.unit (s := s) off s.size inb, w⟩]) = w :=
  funext fun y => by
    have hy : (Rect.unit (s := s) off s.size inb).emb y = y := funext fun a => Fin.ext (by
      show off a + 1 * (y a).val = (y a).val
      rw [h0 a, Nat.one_mul, Nat.zero_add])
    have := View.read_writes_cons_emb v f (Rect.unit (s := s) off s.size inb) w [] y
    rw [hy] at this
    exact this

/-- A load of the whole block after one store of the whole block reads the stored block. -/
theorem read_back {κ : Kind} {sp : Space} {s : Shape} {e : EltTy} (v : View sig κ sp s e) (off : Fin s.rank → ℕ)
    (inb : ∀ a, off a + s.size a ≤ s.size a) (w : s.Idx → Elt F e) :
    v.readCov [⟨Rect.unit (s := s) off s.size inb, w⟩] (Rect.unit (s := s) off s.size inb).toLoadRect = w :=
  View.readCov_full v inb inb w []

theorem zero2 : ∀ a : Fin 2, (![0, 0] : Fin 2 → ℕ) a = 0 := by decide
theorem zero3 : ∀ a : Fin 3, (![0, 0, 0] : Fin 3 → ℕ) a = 0 := by decide

/-- The four parts of the first layer's weight: the rows for a node's own features, from the embedding and from the
    sequence branch, and the rows for its neighbours' mean, likewise. -/
def ownEsm (x7 : Vec F S2816x256 .f32) : Vec F S1280x256 .f32 := cut (Rect.unit (s := S2816x256) ![0, 0] S1280x256.size inb_S2816x256_S1280x256_0_0).toLoadRect x7
def nbrEsm (x7 : Vec F S2816x256 .f32) : Vec F S1280x256 .f32 := cut (Rect.unit (s := S2816x256) ![1408, 0] S1280x256.size inb_S2816x256_S1280x256_1408_0).toLoadRect x7
def ownSeq (x7 : Vec F S2816x256 .f32) : Vec F S128x256 .f32 := cut (Rect.unit (s := S2816x256) ![1280, 0] S128x256.size inb_S2816x256_S128x256_1280_0).toLoadRect x7
def nbrSeq (x7 : Vec F S2816x256 .f32) : Vec F S128x256 .f32 := cut (Rect.unit (s := S2816x256) ![2688, 0] S128x256.size inb_S2816x256_S128x256_2688_0).toLoadRect x7
/-- The upper and lower half of a weight of 512 rows. -/
def upper (x : Vec F S512x256 .f32) : Vec F S256x256 .f32 := cut (Rect.unit (s := S512x256) ![0, 0] S256x256.size inb_S512x256_S256x256_0_0).toLoadRect x
def lower (x : Vec F S512x256 .f32) : Vec F S256x256 .f32 := cut (Rect.unit (s := S512x256) ![256, 0] S256x256.size inb_S512x256_S256x256_256_0).toLoadRect x
/-- The heads' first weights and biases, head by head. -/
def headW0 (x : Vec F S8x256x128 .f32) : Vec F S1x256x128 .f32 := cut (Rect.unit (s := S8x256x128) ![0, 0, 0] S1x256x128.size inb_S8x256x128_S1x256x128_0_0_0).toLoadRect x
def headB0 (x : Vec F S8x128 .f32) : Vec F S1x128 .f32 := cut (Rect.unit (s := S8x128) ![0, 0] S1x128.size inb_S8x128_S1x128_0_0).toLoadRect x
def headW1 (x : Vec F S8x256x128 .f32) : Vec F S1x256x128 .f32 := cut (Rect.unit (s := S8x256x128) ![1, 0, 0] S1x256x128.size inb_S8x256x128_S1x256x128_1_0_0).toLoadRect x
def headB1 (x : Vec F S8x128 .f32) : Vec F S1x128 .f32 := cut (Rect.unit (s := S8x128) ![1, 0] S1x128.size inb_S8x128_S1x128_1_0).toLoadRect x
def headW2 (x : Vec F S8x256x128 .f32) : Vec F S1x256x128 .f32 := cut (Rect.unit (s := S8x256x128) ![2, 0, 0] S1x256x128.size inb_S8x256x128_S1x256x128_2_0_0).toLoadRect x
def headB2 (x : Vec F S8x128 .f32) : Vec F S1x128 .f32 := cut (Rect.unit (s := S8x128) ![2, 0] S1x128.size inb_S8x128_S1x128_2_0).toLoadRect x
def headW3 (x : Vec F S8x256x128 .f32) : Vec F S1x256x128 .f32 := cut (Rect.unit (s := S8x256x128) ![3, 0, 0] S1x256x128.size inb_S8x256x128_S1x256x128_3_0_0).toLoadRect x
def headB3 (x : Vec F S8x128 .f32) : Vec F S1x128 .f32 := cut (Rect.unit (s := S8x128) ![3, 0] S1x128.size inb_S8x128_S1x128_3_0).toLoadRect x
def headW4 (x : Vec F S8x256x128 .f32) : Vec F S1x256x128 .f32 := cut (Rect.unit (s := S8x256x128) ![4, 0, 0] S1x256x128.size inb_S8x256x128_S1x256x128_4_0_0).toLoadRect x
def headB4 (x : Vec F S8x128 .f32) : Vec F S1x128 .f32 := cut (Rect.unit (s := S8x128) ![4, 0] S1x128.size inb_S8x128_S1x128_4_0).toLoadRect x
def headW5 (x : Vec F S8x256x128 .f32) : Vec F S1x256x128 .f32 := cut (Rect.unit (s := S8x256x128) ![5, 0, 0] S1x256x128.size inb_S8x256x128_S1x256x128_5_0_0).toLoadRect x
def headB5 (x : Vec F S8x128 .f32) : Vec F S1x128 .f32 := cut (Rect.unit (s := S8x128) ![5, 0] S1x128.size inb_S8x128_S1x128_5_0).toLoadRect x
def headW6 (x : Vec F S8x256x128 .f32) : Vec F S1x256x128 .f32 := cut (Rect.unit (s := S8x256x128) ![6, 0, 0] S1x256x128.size inb_S8x256x128_S1x256x128_6_0_0).toLoadRect x
def headB6 (x : Vec F S8x128 .f32) : Vec F S1x128 .f32 := cut (Rect.unit (s := S8x128) ![6, 0] S1x128.size inb_S8x128_S1x128_6_0).toLoadRect x
def headW7 (x : Vec F S8x256x128 .f32) : Vec F S1x256x128 .f32 := cut (Rect.unit (s := S8x256x128) ![7, 0, 0] S1x256x128.size inb_S8x256x128_S1x256x128_7_0_0).toLoadRect x
def headB7 (x : Vec F S8x128 .f32) : Vec F S1x128 .f32 := cut (Rect.unit (s := S8x128) ![7, 0] S1x128.size inb_S8x128_S1x128_7_0).toLoadRect x

/-! ## The point's values -/

/-- The sequence branch through the first layer, kept in scratch. -/
def seqOf (x0 : Vec F S896x896 .f32) (x3 : Vec F S896x20 .f32) (x5 : Vec F S20x128 .f32) (x6 : Vec F S128x128 .f32) (x7 : Vec F S2816x256 .f32) (x8 : Vec F S1x256 .f32) :
    FVec F S896x256 .f32 := k1_pay8 (k1_pay7 x0 x3 x5 x6 (ownSeq x7) (nbrSeq x7) x8)

section
variable (an : Vec F S896x896 .f32) (cs : Vec F S896x256 .f32) (x1 x2 : Vec F S1x883x1280 .f32) (x4 : Vec F S1x1x896 .f32) (x7 : Vec F S2816x256 .f32)
  (x9 : Vec F S512x256 .f32) (x10 : Vec F S1x256 .f32) (x11 : Vec F S512x256 .f32) (x12 : Vec F S1x256 .f32)

/-- The encoding of the first embedding. -/
def encOf : FVec F S896x256 .f32 := k1_pay9 an cs x1 (ownEsm x7) (nbrEsm x7) (upper x9) (lower x9) x10
/-- The second embedding's encoding less the first's. -/
def diffOf : FVec F S896x256 .f32 := k1_pay11 an cs (encOf an cs x1 x7 x9 x10) x2 (ownEsm x7) (nbrEsm x7) (upper x9) (lower x9) x10
/-- The pooled row, and the same as a block. -/
def rowOf : FVec F S1x256 .f32 := k1_pay12 k1_pay10 (diffOf an cs x1 x2 x7 x9 x10) x4 (upper x11) (lower x11) x12
def rowBlk : FVec F S1x1x256 .f32 := k1_pay13 k1_pay10 (diffOf an cs x1 x2 x7 x9 x10) x4 (upper x11) (lower x11) x12
end

section
variable (z : FVec F S1x256 .f32) (x13 : Vec F S8x256x128 .f32) (x14 : Vec F S8x128 .f32)

/-- The eight heads' hidden rows. -/
def hidOf : FVec F S8x128 .f32 := k1_pay20 z (k1_pay15 z (k1_pay14 (headW0 x13)) (headB0 x14)) (k1_pay16 z (headW1 x13) (headB1 x14)) (k1_pay17 z (headW2 x13) (headB2 x14)) (k1_pay18 z (headW3 x13) (headB3 x14)) (k1_pay19 z (headW4 x13)) (headB4 x14) (headW5 x13) (headB5 x14) (headW6 x13) (headB6 x14) (headW7 x13) (headB7 x14)
/-- The outputs besides the row: the probabilities, the scores of the classes, the signed answers, the magnitudes, the best class. -/
def probBlk (x15 : Vec F S8x128 .f32) (x16 : Vec F S8x1 .f32) : FVec F S1x8x1 .f32 :=
  k1_pay24 (k1_pay22 z (k1_pay15 z (k1_pay14 (headW0 x13)) (headB0 x14)) (k1_pay16 z (headW1 x13) (headB1 x14)) (k1_pay17 z (headW2 x13) (headB2 x14)) (k1_pay18 z (headW3 x13) (headB3 x14)) (k1_pay19 z (headW4 x13)) (headB4 x14) (headW5 x13) (headB5 x14) (headW6 x13) (headB6 x14) (headW7 x13) (headB7 x14) x15) (k1_pay23 x16)
def signBlk (x17 : Vec F S8x128 .f32) (x18 : Vec F S8x1 .f32) : FVec F S1x8x1 .f32 := k1_pay25 (hidOf z x13 x14) k1_pay21 x17 x18
def magBlk (x19 : Vec F S8x128 .f32) (x20 : Vec F S8x1 .f32) : FVec F S1x8x1 .f32 := k1_pay1 (k1_pay26 (hidOf z x13 x14) k1_pay21 x19 x20)
end

end Cert.Proof.Adj

end
-- ==== Proof.TcFirst.lean ====
/- The TensorCore body run at the first point, which fills the scratch. -/
module

public import proofs.«01_k».proof.Proof.TcVals
public import Idealize.ShloMosaic.Lib.VecWindow
public import Idealize.ShloMosaic.Lib.Tactic

@[expose] public section

set_option maxRecDepth 16384

noncomputable section

namespace Cert.Proof.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

set_option maxHeartbeats 8000000 in
/-- The first point, which fills the scratch: every input block is kept, every output block is the point's value. -/
theorem point_first (c : Dev nD) (i : grid1.Coords) (arg1 : Memref sig .tc .vmem S896x896 .f32) (harg1 : arg1.IsWhole) (arg2 : Memref sig .tc .vmem S1x883x1280 .f32) (harg2 : arg2.IsWhole) (arg3 : Memref sig .tc .vmem S1x883x1280 .f32) (harg3 : arg3.IsWhole) (arg4 : Memref sig .tc .vmem S896x20 .f32) (harg4 : arg4.IsWhole) (arg5 : Memref sig .tc .vmem S1x1x896 .f32) (harg5 : arg5.IsWhole) (arg6 : Memref sig .tc .vmem S20x128 .f32) (harg6 : arg6.IsWhole) (arg7 : Memref sig .tc .vmem S128x128 .f32) (harg7 : arg7.IsWhole) (arg8 : Memref sig .tc .vmem S2816x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S8x256x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x1 .f32) (harg17 : arg17.IsWhole) (arg18 : Memref sig .tc .vmem S8x128 .f32) (harg18 : arg18.IsWhole) (arg19 : Memref sig .tc .vmem S8x1 .f32) (harg19 : arg19.IsWhole) (arg20 : Memref sig .tc .vmem S8x128 .f32) (harg20 : arg20.IsWhole) (arg21 : Memref sig .tc .vmem S8x1 .f32) (harg21 : arg21.IsWhole) (arg22 : Memref sig .tc .vmem S256x8 .f32) (harg22 : arg22.IsWhole) (arg23 : Memref sig .tc .vmem S1x8 .f32) (harg23 : arg23.IsWhole) (arg24 : Memref sig .tc .vmem S1x1x256 .f32) (harg24 : arg24.IsWhole) (arg25 : Memref sig .tc .vmem S1x8x1 .f32) (harg25 : arg25.IsWhole) (arg26 : Memref sig .tc .vmem S1x1x8 .f32) (harg26 : arg26.IsWhole) (arg27 : Memref sig .tc .vmem S1x8x1 .f32) (harg27 : arg27.IsWhole) (arg28 : Memref sig .tc .vmem S1x8x1 .f32) (harg28 : arg28.IsWhole) (arg29 : Memref sig .tc .vmem S1x1x1 .i32) (harg29 : arg29.IsWhole) (arg30 : Memref sig .tc .vmem S896x896 .f32) (harg30 : arg30.IsWhole) (arg31 : Memref sig .tc .vmem S896x256 .f32) (harg31 : arg31.IsWhole)
    (x0 : Vec F S896x896 .f32) (x1 : Vec F S1x883x1280 .f32) (x2 : Vec F S1x883x1280 .f32) (x3 : Vec F S896x20 .f32) (x4 : Vec F S1x1x896 .f32) (x5 : Vec F S20x128 .f32) (x6 : Vec F S128x128 .f32) (x7 : Vec F S2816x256 .f32) (x8 : Vec F S1x256 .f32) (x9 : Vec F S512x256 .f32) (x10 : Vec F S1x256 .f32) (x11 : Vec F S512x256 .f32) (x12 : Vec F S1x256 .f32) (x13 : Vec F S8x256x128 .f32) (x14 : Vec F S8x128 .f32) (x15 : Vec F S8x128 .f32) (x16 : Vec F S8x1 .f32) (x17 : Vec F S8x128 .f32) (x18 : Vec F S8x1 .f32) (x19 : Vec F S8x128 .f32) (x20 : Vec F S8x1 .f32) (x21 : Vec F S256x8 .f32) (x22 : Vec F S1x8 .f32)
    (hc0 : (Scalar.cmpi .ne (Scalar.extui (Scalar.cmpi .eq (BitVec.ofNat 32 (i 0).val) 0#32)) 0#32) = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (rowBlk (k1_pay6 x0) (seqOf x0 x3 x5 x6 x7 x8) x1 x2 x4 x7 x9 x10 x11 x12) ∗ owns (c : Thread nD τ) arg25 fullShare (probBlk (rowOf (k1_pay6 x0) (seqOf x0 x3 x5 x6 x7 x8) x1 x2 x4 x7 x9 x10 x11 x12) x13 x14 x15 x16) ∗ owns (c : Thread nD τ) arg26 fullShare (k1_pay3 (rowOf (k1_pay6 x0) (seqOf x0 x3 x5 x6 x7 x8) x1 x2 x4 x7 x9 x10 x11 x12) x21 x22) ∗ owns (c : Thread nD τ) arg27 fullShare (signBlk (rowOf (k1_pay6 x0) (seqOf x0 x3 x5 x6 x7 x8) x1 x2 x4 x7 x9 x10 x11 x12) x13 x14 x17 x18) ∗ owns (c : Thread nD τ) arg28 fullShare (magBlk (rowOf (k1_pay6 x0) (seqOf x0 x3 x5 x6 x7 x8) x1 x2 x4 x7 x9 x10 x11 x12) x13 x14 x19 x20) ∗ owns (c : Thread nD τ) arg29 fullShare (k1_pay4 (rowOf (k1_pay6 x0) (seqOf x0 x3 x5 x6 x7 x8) x1 x2 x4 x7 x9 x10 x11 x12) x21 x22) ∗ owns (c : Thread nD τ) arg30 fullShare (k1_pay6 x0) ∗ owns (c : Thread nD τ) arg31 fullShare (seqOf x0 x3 x5 x6 x7 x8)) -∗ K ⟨⟩))
    ⊢ wp frame (wpE (defs₀ (F := F)) Variants.none (c : Thread nD τ) none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  have covA : ∀ w : S896x896.Idx → Elt F .f32, arg30.view.readCov [⟨Rect.unit (s := S896x896) ![0, 0] S896x896.size inb_S896x896_S896x896_0_0, w⟩] (Rect.unit (s := S896x896) ![0, 0] S896x896.size inb_S896x896_S896x896_0_0).toLoadRect = w :=
    fun w => read_back (s := S896x896) arg30.view _ inb_S896x896_S896x896_0_0 w
  have covB : ∀ w : S896x256.Idx → Elt F .f32, arg31.view.readCov [⟨Rect.unit (s := S896x256) ![0, 0] S896x256.size inb_S896x256_S896x256_0_0, w⟩] (Rect.unit (s := S896x256) ![0, 0] S896x256.size inb_S896x256_S896x256_0_0).toLoadRect = w :=
    fun w => read_back (s := S896x256) arg31.view _ inb_S896x256_S896x256_0_0 w
  have e0 : View.readAt (Elt F) arg1.view (Rect.unit (s := S896x896) ![0, 0] S896x896.size inb_S896x896_S896x896_0_0).toLoadRect (harg1.unread x0) = x0 :=
    (readAt_cut harg1 x0 _).trans (cut_whole _ zero2 _ x0)
  have e1 : View.readAt (Elt F) arg4.view (Rect.unit (s := S896x20) ![0, 0] S896x20.size inb_S896x20_S896x20_0_0).toLoadRect (harg4.unread x3) = x3 :=
    (readAt_cut harg4 x3 _).trans (cut_whole _ zero2 _ x3)
  have e2 : View.readAt (Elt F) arg6.view (Rect.unit (s := S20x128) ![0, 0] S20x128.size inb_S20x128_S20x128_0_0).toLoadRect (harg6.unread x5) = x5 :=
    (readAt_cut harg6 x5 _).trans (cut_whole _ zero2 _ x5)
  have e3 : View.readAt (Elt F) arg7.view (Rect.unit (s := S128x128) ![0, 0] S128x128.size inb_S128x128_S128x128_0_0).toLoadRect (harg7.unread x6) = x6 :=
    (readAt_cut harg7 x6 _).trans (cut_whole _ zero2 _ x6)
  have e4 : View.readAt (Elt F) arg9.view (Rect.unit (s := S1x256) ![0, 0] S1x256.size inb_S1x256_S1x256_0_0).toLoadRect (harg9.unread x8) = x8 :=
    (readAt_cut harg9 x8 _).trans (cut_whole _ zero2 _ x8)
  have e5 : View.readAt (Elt F) arg2.view (Rect.unit (s := S1x883x1280) ![0, 0, 0] S1x883x1280.size inb_S1x883x1280_S1x883x1280_0_0_0).toLoadRect (harg2.unread x1) = x1 :=
    (readAt_cut harg2 x1 _).trans (cut_whole _ zero3 _ x1)
  have e6 : View.readAt (Elt F) arg3.view (Rect.unit (s := S1x883x1280) ![0, 0, 0] S1x883x1280.size inb_S1x883x1280_S1x883x1280_0_0_0).toLoadRect (harg3.unread x2) = x2 :=
    (readAt_cut harg3 x2 _).trans (cut_whole _ zero3 _ x2)
  have e7 : View.readAt (Elt F) arg5.view (Rect.unit (s := S1x1x896) ![0, 0, 0] S1x1x896.size inb_S1x1x896_S1x1x896_0_0_0).toLoadRect (harg5.unread x4) = x4 :=
    (readAt_cut harg5 x4 _).trans (cut_whole _ zero3 _ x4)
  have e8 : View.readAt (Elt F) arg11.view (Rect.unit (s := S1x256) ![0, 0] S1x256.size inb_S1x256_S1x256_0_0).toLoadRect (harg11.unread x10) = x10 :=
    (readAt_cut harg11 x10 _).trans (cut_whole _ zero2 _ x10)
  have e9 : View.readAt (Elt F) arg13.view (Rect.unit (s := S1x256) ![0, 0] S1x256.size inb_S1x256_S1x256_0_0).toLoadRect (harg13.unread x12) = x12 :=
    (readAt_cut harg13 x12 _).trans (cut_whole _ zero2 _ x12)
  have e10 : View.readAt (Elt F) arg16.view (Rect.unit (s := S8x128) ![0, 0] S8x128.size inb_S8x128_S8x128_0_0).toLoadRect (harg16.unread x15) = x15 :=
    (readAt_cut harg16 x15 _).trans (cut_whole _ zero2 _ x15)
  have e11 : View.readAt (Elt F) arg17.view (Rect.unit (s := S8x1) ![0, 0] S8x1.size inb_S8x1_S8x1_0_0).toLoadRect (harg17.unread x16) = x16 :=
    (readAt_cut harg17 x16 _).trans (cut_whole _ zero2 _ x16)
  have e12 : View.readAt (Elt F) arg18.view (Rect.unit (s := S8x128) ![0, 0] S8x128.size inb_S8x128_S8x128_0_0).toLoadRect (harg18.unread x17) = x17 :=
    (readAt_cut harg18 x17 _).trans (cut_whole _ zero2 _ x17)
  have e13 : View.readAt (Elt F) arg19.view (Rect.unit (s := S8x1) ![0, 0] S8x1.size inb_S8x1_S8x1_0_0).toLoadRect (harg19.unread x18) = x18 :=
    (readAt_cut harg19 x18 _).trans (cut_whole _ zero2 _ x18)
  have e14 : View.readAt (Elt F) arg20.view (Rect.unit (s := S8x128) ![0, 0] S8x128.size inb_S8x128_S8x128_0_0).toLoadRect (harg20.unread x19) = x19 :=
    (readAt_cut harg20 x19 _).trans (cut_whole _ zero2 _ x19)
  have e15 : View.readAt (Elt F) arg21.view (Rect.unit (s := S8x1) ![0, 0] S8x1.size inb_S8x1_S8x1_0_0).toLoadRect (harg21.unread x20) = x20 :=
    (readAt_cut harg21 x20 _).trans (cut_whole _ zero2 _ x20)
  have e16 : View.readAt (Elt F) arg22.view (Rect.unit (s := S256x8) ![0, 0] S256x8.size inb_S256x8_S256x8_0_0).toLoadRect (harg22.unread x21) = x21 :=
    (readAt_cut harg22 x21 _).trans (cut_whole _ zero2 _ x21)
  have e17 : View.readAt (Elt F) arg23.view (Rect.unit (s := S1x8) ![0, 0] S1x8.size inb_S1x8_S1x8_0_0).toLoadRect (harg23.unread x22) = x22 :=
    (readAt_cut harg23 x22 _).trans (cut_whole _ zero2 _ x22)
  have e18 : View.readAt (Elt F) arg8.view (Rect.unit (s := S2816x256) ![1280, 0] S128x256.size inb_S2816x256_S128x256_1280_0).toLoadRect (harg8.unread x7) = ownSeq x7 :=
    readAt_cut harg8 x7 _
  have e19 : View.readAt (Elt F) arg8.view (Rect.unit (s := S2816x256) ![2688, 0] S128x256.size inb_S2816x256_S128x256_2688_0).toLoadRect (harg8.unread x7) = nbrSeq x7 :=
    readAt_cut harg8 x7 _
  have e20 : View.readAt (Elt F) arg8.view (Rect.unit (s := S2816x256) ![0, 0] S1280x256.size inb_S2816x256_S1280x256_0_0).toLoadRect (harg8.unread x7) = ownEsm x7 :=
    readAt_cut harg8 x7 _
  have e21 : View.readAt (Elt F) arg8.view (Rect.unit (s := S2816x256) ![1408, 0] S1280x256.size inb_S2816x256_S1280x256_1408_0).toLoadRect (harg8.unread x7) = nbrEsm x7 :=
    readAt_cut harg8 x7 _
  have e22 : View.readAt (Elt F) arg10.view (Rect.unit (s := S512x256) ![0, 0] S256x256.size inb_S512x256_S256x256_0_0).toLoadRect (harg10.unread x9) = upper x9 :=
    readAt_cut harg10 x9 _
  have e23 : View.readAt (Elt F) arg10.view (Rect.unit (s := S512x256) ![256, 0] S256x256.size inb_S512x256_S256x256_256_0).toLoadRect (harg10.unread x9) = lower x9 :=
    readAt_cut harg10 x9 _
  have e24 : View.readAt (Elt F) arg12.view (Rect.unit (s := S512x256) ![0, 0] S256x256.size inb_S512x256_S256x256_0_0).toLoadRect (harg12.unread x11) = upper x11 :=
    readAt_cut harg12 x11 _
  have e25 : View.readAt (Elt F) arg12.view (Rect.unit (s := S512x256) ![256, 0] S256x256.size inb_S512x256_S256x256_256_0).toLoadRect (harg12.unread x11) = lower x11 :=
    readAt_cut harg12 x11 _
  have e26 : View.readAt (Elt F) arg14.view (Rect.unit (s := S8x256x128) ![0, 0, 0] S1x256x128.size inb_S8x256x128_S1x256x128_0_0_0).toLoadRect (harg14.unread x13) = headW0 x13 :=
    readAt_cut harg14 x13 _
  have e27 : View.readAt (Elt F) arg15.view (Rect.unit (s := S8x128) ![0, 0] S1x128.size inb_S8x128_S1x128_0_0).toLoadRect (harg15.unread x14) = headB0 x14 :=
    readAt_cut harg15 x14 _
  have e28 : View.readAt (Elt F) arg14.view (Rect.unit (s := S8x256x128) ![1, 0, 0] S1x256x128.size inb_S8x256x128_S1x256x128_1_0_0).toLoadRect (harg14.unread x13) = headW1 x13 :=
    readAt_cut harg14 x13 _
  have e29 : View.readAt (Elt F) arg15.view (Rect.unit (s := S8x128) ![1, 0] S1x128.size inb_S8x128_S1x128_1_0).toLoadRect (harg15.unread x14) = headB1 x14 :=
    readAt_cut harg15 x14 _
  have e30 : View.readAt (Elt F) arg14.view (Rect.unit (s := S8x256x128) ![2, 0, 0] S1x256x128.size inb_S8x256x128_S1x256x128_2_0_0).toLoadRect (harg14.unread x13) = headW2 x13 :=
    readAt_cut harg14 x13 _
  have e31 : View.readAt (Elt F) arg15.view (Rect.unit (s := S8x128) ![2, 0] S1x128.size inb_S8x128_S1x128_2_0).toLoadRect (harg15.unread x14) = headB2 x14 :=
    readAt_cut harg15 x14 _
  have e32 : View.readAt (Elt F) arg14.view (Rect.unit (s := S8x256x128) ![3, 0, 0] S1x256x128.size inb_S8x256x128_S1x256x128_3_0_0).toLoadRect (harg14.unread x13) = headW3 x13 :=
    readAt_cut harg14 x13 _
  have e33 : View.readAt (Elt F) arg15.view (Rect.unit (s := S8x128) ![3, 0] S1x128.size inb_S8x128_S1x128_3_0).toLoadRect (harg15.unread x14) = headB3 x14 :=
    readAt_cut harg15 x14 _
  have e34 : View.readAt (Elt F) arg14.view (Rect.unit (s := S8x256x128) ![4, 0, 0] S1x256x128.size inb_S8x256x128_S1x256x128_4_0_0).toLoadRect (harg14.unread x13) = headW4 x13 :=
    readAt_cut harg14 x13 _
  have e35 : View.readAt (Elt F) arg15.view (Rect.unit (s := S8x128) ![4, 0] S1x128.size inb_S8x128_S1x128_4_0).toLoadRect (harg15.unread x14) = headB4 x14 :=
    readAt_cut harg15 x14 _
  have e36 : View.readAt (Elt F) arg14.view (Rect.unit (s := S8x256x128) ![5, 0, 0] S1x256x128.size inb_S8x256x128_S1x256x128_5_0_0).toLoadRect (harg14.unread x13) = headW5 x13 :=
    readAt_cut harg14 x13 _
  have e37 : View.readAt (Elt F) arg15.view (Rect.unit (s := S8x128) ![5, 0] S1x128.size inb_S8x128_S1x128_5_0).toLoadRect (harg15.unread x14) = headB5 x14 :=
    readAt_cut harg15 x14 _
  have e38 : View.readAt (Elt F) arg14.view (Rect.unit (s := S8x256x128) ![6, 0, 0] S1x256x128.size inb_S8x256x128_S1x256x128_6_0_0).toLoadRect (harg14.unread x13) = headW6 x13 :=
    readAt_cut harg14 x13 _
  have e39 : View.readAt (Elt F) arg15.view (Rect.unit (s := S8x128) ![6, 0] S1x128.size inb_S8x128_S1x128_6_0).toLoadRect (harg15.unread x14) = headB6 x14 :=
    readAt_cut harg15 x14 _
  have e40 : View.readAt (Elt F) arg14.view (Rect.unit (s := S8x256x128) ![7, 0, 0] S1x256x128.size inb_S8x256x128_S1x256x128_7_0_0).toLoadRect (harg14.unread x13) = headW7 x13 :=
    readAt_cut harg14 x13 _
  have e41 : View.readAt (Elt F) arg15.view (Rect.unit (s := S8x128) ![7, 0] S1x128.size inb_S8x128_S1x128_7_0).toLoadRect (harg15.unread x14) = headB7 x14 :=
    readAt_cut harg15 x14 _
  simp only [cc1__tc_body_eq_skeleton]; unfold cc1__tc_body_skel
  simp only [k1_part2_eq_skeleton, k1_part1_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, H29⟩, ⟨%ds1, %fs1, -, H30⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; swap; · iexact H23
    ipureintro
    refine (read_store_whole (s := S1x1x256) _ _ _ zero3 _ _).trans ?_
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    rfl
  isplitl [H24]
  · iexists _; isplitr; swap; · iexact H24
    ipureintro
    refine (read_store_whole (s := S1x8x1) _ _ _ zero3 _ _).trans ?_
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    rfl
  isplitl [H25]
  · iexists _; isplitr; swap; · iexact H25
    ipureintro
    refine (read_store_whole (s := S1x1x8) _ _ _ zero3 _ _).trans ?_
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    rfl
  isplitl [H26]
  · iexists _; isplitr; swap; · iexact H26
    ipureintro
    refine (read_store_whole (s := S1x8x1) _ _ _ zero3 _ _).trans ?_
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    rfl
  isplitl [H27]
  · iexists _; isplitr; swap; · iexact H27
    ipureintro
    refine (read_store_whole (s := S1x8x1) _ _ _ zero3 _ _).trans ?_
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    rfl
  isplitl [H28]
  · iexists _; isplitr; swap; · iexact H28
    ipureintro
    refine (read_store_whole (s := S1x1x1) _ _ _ zero3 _ _).trans ?_
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    rfl
  isplitl [H29]
  · iexists _; isplitr; swap; · iexact H29
    ipureintro
    iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
    try simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
    exact read_store_whole (s := S896x896) _ _ _ zero2 _ _
  iexists _; isplitr; swap; · iexact H30
  ipureintro
  iterate 4 (try delta point_first.sl.r point_first.sl.r_1 point_first.sl.r_2 point_first.sl.r_3 point_first.sl.r_4 point_first.sl.r_5 point_first.sl.r_6 point_first.sl.r_7 point_first.sl.r_8 point_first.sl.r_9 point_first.sl.r_10 point_first.sl.r_11 point_first.sl.r_12 point_first.sl.r_13 point_first.sl.r_14 point_first.sl.v3 point_first.sl.v4 point_first.sl.H29_1 point_first.sl.H30_1)
  simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, covA, covB]
  exact read_store_whole (s := S896x256) _ _ _ zero2 _ _

end Cert.Proof.Adj

end
-- ==== Proof.TcNext.lean ====
/- The TensorCore body run at a later point, which reads the scratch as the first left it. -/
module

public import proofs.«01_k».proof.Proof.TcVals
public import Idealize.ShloMosaic.Lib.VecWindow
public import Idealize.ShloMosaic.Lib.Tactic
public import proofs.«01_k».proof.Proof.TcFirst
@[expose] public section

set_option maxRecDepth 16384

noncomputable section

namespace Cert.Proof.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

set_option maxHeartbeats 8000000 in
/-- A later point, which reads the scratch as the first left it: every input block is kept, every output block is the point's value. -/
theorem point_next (c : Dev nD) (i : grid1.Coords) (arg1 : Memref sig .tc .vmem S896x896 .f32) (harg1 : arg1.IsWhole) (arg2 : Memref sig .tc .vmem S1x883x1280 .f32) (harg2 : arg2.IsWhole) (arg3 : Memref sig .tc .vmem S1x883x1280 .f32) (harg3 : arg3.IsWhole) (arg4 : Memref sig .tc .vmem S896x20 .f32) (harg4 : arg4.IsWhole) (arg5 : Memref sig .tc .vmem S1x1x896 .f32) (harg5 : arg5.IsWhole) (arg6 : Memref sig .tc .vmem S20x128 .f32) (harg6 : arg6.IsWhole) (arg7 : Memref sig .tc .vmem S128x128 .f32) (harg7 : arg7.IsWhole) (arg8 : Memref sig .tc .vmem S2816x256 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S8x256x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x1 .f32) (harg17 : arg17.IsWhole) (arg18 : Memref sig .tc .vmem S8x128 .f32) (harg18 : arg18.IsWhole) (arg19 : Memref sig .tc .vmem S8x1 .f32) (harg19 : arg19.IsWhole) (arg20 : Memref sig .tc .vmem S8x128 .f32) (harg20 : arg20.IsWhole) (arg21 : Memref sig .tc .vmem S8x1 .f32) (harg21 : arg21.IsWhole) (arg22 : Memref sig .tc .vmem S256x8 .f32) (harg22 : arg22.IsWhole) (arg23 : Memref sig .tc .vmem S1x8 .f32) (harg23 : arg23.IsWhole) (arg24 : Memref sig .tc .vmem S1x1x256 .f32) (harg24 : arg24.IsWhole) (arg25 : Memref sig .tc .vmem S1x8x1 .f32) (harg25 : arg25.IsWhole) (arg26 : Memref sig .tc .vmem S1x1x8 .f32) (harg26 : arg26.IsWhole) (arg27 : Memref sig .tc .vmem S1x8x1 .f32) (harg27 : arg27.IsWhole) (arg28 : Memref sig .tc .vmem S1x8x1 .f32) (harg28 : arg28.IsWhole) (arg29 : Memref sig .tc .vmem S1x1x1 .i32) (harg29 : arg29.IsWhole) (arg30 : Memref sig .tc .vmem S896x896 .f32) (harg30 : arg30.IsWhole) (arg31 : Memref sig .tc .vmem S896x256 .f32) (harg31 : arg31.IsWhole)
    (x0 : Vec F S896x896 .f32) (x1 : Vec F S1x883x1280 .f32) (x2 : Vec F S1x883x1280 .f32) (x3 : Vec F S896x20 .f32) (x4 : Vec F S1x1x896 .f32) (x5 : Vec F S20x128 .f32) (x6 : Vec F S128x128 .f32) (x7 : Vec F S2816x256 .f32) (x8 : Vec F S1x256 .f32) (x9 : Vec F S512x256 .f32) (x10 : Vec F S1x256 .f32) (x11 : Vec F S512x256 .f32) (x12 : Vec F S1x256 .f32) (x13 : Vec F S8x256x128 .f32) (x14 : Vec F S8x128 .f32) (x15 : Vec F S8x128 .f32) (x16 : Vec F S8x1 .f32) (x17 : Vec F S8x128 .f32) (x18 : Vec F S8x1 .f32) (x19 : Vec F S8x128 .f32) (x20 : Vec F S8x1 .f32) (x21 : Vec F S256x8 .f32) (x22 : Vec F S1x8 .f32) (an : Vec F S896x896 .f32) (cs : Vec F S896x256 .f32)
    (hc0 : ¬ ((Scalar.cmpi .ne (Scalar.extui (Scalar.cmpi .eq (BitVec.ofNat 32 (i 0).val) 0#32)) 0#32) = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare an ∗ owns (c : Thread nD τ) arg31 fullShare cs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (rowBlk an cs x1 x2 x4 x7 x9 x10 x11 x12) ∗ owns (c : Thread nD τ) arg25 fullShare (probBlk (rowOf an cs x1 x2 x4 x7 x9 x10 x11 x12) x13 x14 x15 x16) ∗ owns (c : Thread nD τ) arg26 fullShare (k1_pay3 (rowOf an cs x1 x2 x4 x7 x9 x10 x11 x12) x21 x22) ∗ owns (c : Thread nD τ) arg27 fullShare (signBlk (rowOf an cs x1 x2 x4 x7 x9 x10 x11 x12) x13 x14 x17 x18) ∗ owns (c : Thread nD τ) arg28 fullShare (magBlk (rowOf an cs x1 x2 x4 x7 x9 x10 x11 x12) x13 x14 x19 x20) ∗ owns (c : Thread nD τ) arg29 fullShare (k1_pay4 (rowOf an cs x1 x2 x4 x7 x9 x10 x11 x12) x21 x22) ∗ owns (c : Thread nD τ) arg30 fullShare an ∗ owns (c : Thread nD τ) arg31 fullShare cs) -∗ K ⟨⟩))
    ⊢ wp frame (wpE (defs₀ (F := F)) Variants.none (c : Thread nD τ) none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  have e0 : View.readAt (Elt F) arg2.view (Rect.unit (s := S1x883x1280) ![0, 0, 0] S1x883x1280.size inb_S1x883x1280_S1x883x1280_0_0_0).toLoadRect (harg2.unread x1) = x1 :=
    (readAt_cut harg2 x1 _).trans (cut_whole _ zero3 _ x1)
  have e1 : View.readAt (Elt F) arg3.view (Rect.unit (s := S1x883x1280) ![0, 0, 0] S1x883x1280.size inb_S1x883x1280_S1x883x1280_0_0_0).toLoadRect (harg3.unread x2) = x2 :=
    (readAt_cut harg3 x2 _).trans (cut_whole _ zero3 _ x2)
  have e2 : View.readAt (Elt F) arg5.view (Rect.unit (s := S1x1x896) ![0, 0, 0] S1x1x896.size inb_S1x1x896_S1x1x896_0_0_0).toLoadRect (harg5.unread x4) = x4 :=
    (readAt_cut harg5 x4 _).trans (cut_whole _ zero3 _ x4)
  have e3 : View.readAt (Elt F) arg11.view (Rect.unit (s := S1x256) ![0, 0] S1x256.size inb_S1x256_S1x256_0_0).toLoadRect (harg11.unread x10) = x10 :=
    (readAt_cut harg11 x10 _).trans (cut_whole _ zero2 _ x10)
  have e4 : View.readAt (Elt F) arg13.view (Rect.unit (s := S1x256) ![0, 0] S1x256.size inb_S1x256_S1x256_0_0).toLoadRect (harg13.unread x12) = x12 :=
    (readAt_cut harg13 x12 _).trans (cut_whole _ zero2 _ x12)
  have e5 : View.readAt (Elt F) arg16.view (Rect.unit (s := S8x128) ![0, 0] S8x128.size inb_S8x128_S8x128_0_0).toLoadRect (harg16.unread x15) = x15 :=
    (readAt_cut harg16 x15 _).trans (cut_whole _ zero2 _ x15)
  have e6 : View.readAt (Elt F) arg17.view (Rect.unit (s := S8x1) ![0, 0] S8x1.size inb_S8x1_S8x1_0_0).toLoadRect (harg17.unread x16) = x16 :=
    (readAt_cut harg17 x16 _).trans (cut_whole _ zero2 _ x16)
  have e7 : View.readAt (Elt F) arg18.view (Rect.unit (s := S8x128) ![0, 0] S8x128.size inb_S8x128_S8x128_0_0).toLoadRect (harg18.unread x17) = x17 :=
    (readAt_cut harg18 x17 _).trans (cut_whole _ zero2 _ x17)
  have e8 : View.readAt (Elt F) arg19.view (Rect.unit (s := S8x1) ![0, 0] S8x1.size inb_S8x1_S8x1_0_0).toLoadRect (harg19.unread x18) = x18 :=
    (readAt_cut harg19 x18 _).trans (cut_whole _ zero2 _ x18)
  have e9 : View.readAt (Elt F) arg20.view (Rect.unit (s := S8x128) ![0, 0] S8x128.size inb_S8x128_S8x128_0_0).toLoadRect (harg20.unread x19) = x19 :=
    (readAt_cut harg20 x19 _).trans (cut_whole _ zero2 _ x19)
  have e10 : View.readAt (Elt F) arg21.view (Rect.unit (s := S8x1) ![0, 0] S8x1.size inb_S8x1_S8x1_0_0).toLoadRect (harg21.unread x20) = x20 :=
    (readAt_cut harg21 x20 _).trans (cut_whole _ zero2 _ x20)
  have e11 : View.readAt (Elt F) arg22.view (Rect.unit (s := S256x8) ![0, 0] S256x8.size inb_S256x8_S256x8_0_0).toLoadRect (harg22.unread x21) = x21 :=
    (readAt_cut harg22 x21 _).trans (cut_whole _ zero2 _ x21)
  have e12 : View.readAt (Elt F) arg23.view (Rect.unit (s := S1x8) ![0, 0] S1x8.size inb_S1x8_S1x8_0_0).toLoadRect (harg23.unread x22) = x22 :=
    (readAt_cut harg23 x22 _).trans (cut_whole _ zero2 _ x22)
  have e13 : View.readAt (Elt F) arg8.view (Rect.unit (s := S2816x256) ![0, 0] S1280x256.size inb_S2816x256_S1280x256_0_0).toLoadRect (harg8.unread x7) = ownEsm x7 :=
    readAt_cut harg8 x7 _
  have e14 : View.readAt (Elt F) arg8.view (Rect.unit (s := S2816x256) ![1408, 0] S1280x256.size inb_S2816x256_S1280x256_1408_0).toLoadRect (harg8.unread x7) = nbrEsm x7 :=
    readAt_cut harg8 x7 _
  have e15 : View.readAt (Elt F) arg10.view (Rect.unit (s := S512x256) ![0, 0] S256x256.size inb_S512x256_S256x256_0_0).toLoadRect (harg10.unread x9) = upper x9 :=
    readAt_cut harg10 x9 _
  have e16 : View.readAt (Elt F) arg10.view (Rect.unit (s := S512x256) ![256, 0] S256x256.size inb_S512x256_S256x256_256_0).toLoadRect (harg10.unread x9) = lower x9 :=
    readAt_cut harg10 x9 _
  have e17 : View.readAt (Elt F) arg12.view (Rect.unit (s := S512x256) ![0, 0] S256x256.size inb_S512x256_S256x256_0_0).toLoadRect (harg12.unread x11) = upper x11 :=
    readAt_cut harg12 x11 _
  have e18 : View.readAt (Elt F) arg12.view (Rect.unit (s := S512x256) ![256, 0] S256x256.size inb_S512x256_S256x256_256_0).toLoadRect (harg12.unread x11) = lower x11 :=
    readAt_cut harg12 x11 _
  have e19 : View.readAt (Elt F) arg14.view (Rect.unit (s := S8x256x128) ![0, 0, 0] S1x256x128.size inb_S8x256x128_S1x256x128_0_0_0).toLoadRect (harg14.unread x13) = headW0 x13 :=
    readAt_cut harg14 x13 _
  have e20 : View.readAt (Elt F) arg15.view (Rect.unit (s := S8x128) ![0, 0] S1x128.size inb_S8x128_S1x128_0_0).toLoadRect (harg15.unread x14) = headB0 x14 :=
    readAt_cut harg15 x14 _
  have e21 : View.readAt (Elt F) arg14.view (Rect.unit (s := S8x256x128) ![1, 0, 0] S1x256x128.size inb_S8x256x128_S1x256x128_1_0_0).toLoadRect (harg14.unread x13) = headW1 x13 :=
    readAt_cut harg14 x13 _
  have e22 : View.readAt (Elt F) arg15.view (Rect.unit (s := S8x128) ![1, 0] S1x128.size inb_S8x128_S1x128_1_0).toLoadRect (harg15.unread x14) = headB1 x14 :=
    readAt_cut harg15 x14 _
  have e23 : View.readAt (Elt F) arg14.view (Rect.unit (s := S8x256x128) ![2, 0, 0] S1x256x128.size inb_S8x256x128_S1x256x128_2_0_0).toLoadRect (harg14.unread x13) = headW2 x13 :=
    readAt_cut harg14 x13 _
  have e24 : View.readAt (Elt F) arg15.view (Rect.unit (s := S8x128) ![2, 0] S1x128.size inb_S8x128_S1x128_2_0).toLoadRect (harg15.unread x14) = headB2 x14 :=
    readAt_cut harg15 x14 _
  have e25 : View.readAt (Elt F) arg14.view (Rect.unit (s := S8x256x128) ![3, 0, 0] S1x256x128.size inb_S8x256x128_S1x256x128_3_0_0).toLoadRect (harg14.unread x13) = headW3 x13 :=
    readAt_cut harg14 x13 _
  have e26 : View.readAt (Elt F) arg15.view (Rect.unit (s := S8x128) ![3, 0] S1x128.size inb_S8x128_S1x128_3_0).toLoadRect (harg15.unread x14) = headB3 x14 :=
    readAt_cut harg15 x14 _
  have e27 : View.readAt (Elt F) arg14.view (Rect.unit (s := S8x256x128) ![4, 0, 0] S1x256x128.size inb_S8x256x128_S1x256x128_4_0_0).toLoadRect (harg14.unread x13) = headW4 x13 :=
    readAt_cut harg14 x13 _
  have e28 : View.readAt (Elt F) arg15.view (Rect.unit (s := S8x128) ![4, 0] S1x128.size inb_S8x128_S1x128_4_0).toLoadRect (harg15.unread x14) = headB4 x14 :=
    readAt_cut harg15 x14 _
  have e29 : View.readAt (Elt F) arg14.view (Rect.unit (s := S8x256x128) ![5, 0, 0] S1x256x128.size inb_S8x256x128_S1x256x128_5_0_0).toLoadRect (harg14.unread x13) = headW5 x13 :=
    readAt_cut harg14 x13 _
  have e30 : View.readAt (Elt F) arg15.view (Rect.unit (s := S8x128) ![5, 0] S1x128.size inb_S8x128_S1x128_5_0).toLoadRect (harg15.unread x14) = headB5 x14 :=
    readAt_cut harg15 x14 _
  have e31 : View.readAt (Elt F) arg14.view (Rect.unit (s := S8x256x128) ![6, 0, 0] S1x256x128.size inb_S8x256x128_S1x256x128_6_0_0).toLoadRect (harg14.unread x13) = headW6 x13 :=
    readAt_cut harg14 x13 _
  have e32 : View.readAt (Elt F) arg15.view (Rect.unit (s := S8x128) ![6, 0] S1x128.size inb_S8x128_S1x128_6_0).toLoadRect (harg15.unread x14) = headB6 x14 :=
    readAt_cut harg15 x14 _
  have e33 : View.readAt (Elt F) arg14.view (Rect.unit (s := S8x256x128) ![7, 0, 0] S1x256x128.size inb_S8x256x128_S1x256x128_7_0_0).toLoadRect (harg14.unread x13) = headW7 x13 :=
    readAt_cut harg14 x13 _
  have e34 : View.readAt (Elt F) arg15.view (Rect.unit (s := S8x128) ![7, 0] S1x128.size inb_S8x128_S1x128_7_0).toLoadRect (harg15.unread x14) = headB7 x14 :=
    readAt_cut harg15 x14 _
  have e35 : View.readAt (Elt F) arg30.view (Rect.unit (s := S896x896) ![0, 0] S896x896.size inb_S896x896_S896x896_0_0).toLoadRect (harg30.unread an) = an :=
    (readAt_cut harg30 an _).trans (cut_whole _ zero2 _ an)
  have e36 : View.readAt (Elt F) arg31.view (Rect.unit (s := S896x256) ![0, 0] S896x256.size inb_S896x256_S896x256_0_0).toLoadRect (harg31.unread cs) = cs :=
    (readAt_cut harg31 cs _).trans (cut_whole _ zero2 _ cs)
  simp only [cc1__tc_body_eq_skeleton]; unfold cc1__tc_body_skel
  simp only [k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%fs0, %hf29, H29⟩, ⟨%fs1, %hf30, H30⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
  obtain rfl := harg30.eq_unread hf29; obtain rfl := harg31.eq_unread hf30
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; swap; · iexact H23
    ipureintro
    refine (read_store_whole (s := S1x1x256) _ _ _ zero3 _ _).trans ?_
    iterate 4 (try delta point_next.sl.r point_next.sl.r_1 point_next.sl.r_2 point_next.sl.r_3 point_next.sl.r_4 point_next.sl.r_5 point_next.sl.r_6 point_next.sl.r_7 point_next.sl.r_8 point_next.sl.r_9 point_next.sl.r_10 point_next.sl.r_11)
    try simp only [e0, e1, e2, e3, e4, e5, e6, e7, e8, e9, e10, e11, e12, e13, e14, e15, e16, e17, e18, e19, e20, e21, e22, e23, e24, e25, e26, e27, e28, e29, e30, e31, e32, e33, e34, e35, e36]
    rfl
  isplitl [H24]
  · iexists _; isplitr; swap; · iexact H24
    ipureintro
    refine (read_store_whole (s := S1x8x1) _ _ _ zero3 _ _).trans ?_
    iterate 4 (try delta point_next.sl.r point_next.sl.r_1 point_next.sl.r_2 point_next.sl.r_3 point_next.sl.r_4 point_next.sl.r_5 point_next.sl.r_6 point_next.sl.r_7 point_next.sl.r_8 point_next.sl.r_9 point_next.sl.r_10 point_next.sl.r_11)
    try simp only [e0, e1, e2, e3, e4, e5, e6, e7, e8, e9, e10, e11, e12, e13, e14, e15, e16, e17, e18, e19, e20, e21, e22, e23, e24, e25, e26, e27, e28, e29, e30, e31, e32, e33, e34, e35, e36]
    rfl
  isplitl [H25]
  · iexists _; isplitr; swap; · iexact H25
    ipureintro
    refine (read_store_whole (s := S1x1x8) _ _ _ zero3 _ _).trans ?_
    iterate 4 (try delta point_next.sl.r point_next.sl.r_1 point_next.sl.r_2 point_next.sl.r_3 point_next.sl.r_4 point_next.sl.r_5 point_next.sl.r_6 point_next.sl.r_7 point_next.sl.r_8 point_next.sl.r_9 point_next.sl.r_10 point_next.sl.r_11)
    try simp only [e0, e1, e2, e3, e4, e5, e6, e7, e8, e9, e10, e11, e12, e13, e14, e15, e16, e17, e18, e19, e20, e21, e22, e23, e24, e25, e26, e27, e28, e29, e30, e31, e32, e33, e34, e35, e36]
    rfl
  isplitl [H26]
  · iexists _; isplitr; swap; · iexact H26
    ipureintro
    refine (read_store_whole (s := S1x8x1) _ _ _ zero3 _ _).trans ?_
    iterate 4 (try delta point_next.sl.r point_next.sl.r_1 point_next.sl.r_2 point_next.sl.r_3 point_next.sl.r_4 point_next.sl.r_5 point_next.sl.r_6 point_next.sl.r_7 point_next.sl.r_8 point_next.sl.r_9 point_next.sl.r_10 point_next.sl.r_11)
    try simp only [e0, e1, e2, e3, e4, e5, e6, e7, e8, e9, e10, e11, e12, e13, e14, e15, e16, e17, e18, e19, e20, e21, e22, e23, e24, e25, e26, e27, e28, e29, e30, e31, e32, e33, e34, e35, e36]
    rfl
  isplitl [H27]
  · iexists _; isplitr; swap; · iexact H27
    ipureintro
    refine (read_store_whole (s := S1x8x1) _ _ _ zero3 _ _).trans ?_
    iterate 4 (try delta point_next.sl.r point_next.sl.r_1 point_next.sl.r_2 point_next.sl.r_3 point_next.sl.r_4 point_next.sl.r_5 point_next.sl.r_6 point_next.sl.r_7 point_next.sl.r_8 point_next.sl.r_9 point_next.sl.r_10 point_next.sl.r_11)
    try simp only [e0, e1, e2, e3, e4, e5, e6, e7, e8, e9, e10, e11, e12, e13, e14, e15, e16, e17, e18, e19, e20, e21, e22, e23, e24, e25, e26, e27, e28, e29, e30, e31, e32, e33, e34, e35, e36]
    rfl
  isplitl [H28]
  · iexists _; isplitr; swap; · iexact H28
    ipureintro
    refine (read_store_whole (s := S1x1x1) _ _ _ zero3 _ _).trans ?_
    iterate 4 (try delta point_next.sl.r point_next.sl.r_1 point_next.sl.r_2 point_next.sl.r_3 point_next.sl.r_4 point_next.sl.r_5 point_next.sl.r_6 point_next.sl.r_7 point_next.sl.r_8 point_next.sl.r_9 point_next.sl.r_10 point_next.sl.r_11)
    try simp only [e0, e1, e2, e3, e4, e5, e6, e7, e8, e9, e10, e11, e12, e13, e14, e15, e16, e17, e18, e19, e20, e21, e22, e23, e24, e25, e26, e27, e28, e29, e30, e31, e32, e33, e34, e35, e36]
    rfl
  isplitl [H29]
  · iexists _; isplitr; · ipureintro; exact harg30.read_unread _
    iexact H29
  iexists _; isplitr; · ipureintro; exact harg31.read_unread _
  iexact H30

end Cert.Proof.Adj

end
-- ==== Proof.Tile.lean ====
/- One tile's task: both edge lists copied in, the accumulator zeroed, every edge scattered, the accumulator copied out to
   the tile's block. -/
module

public import proofs.«01_k».proof.Proof.Setup

@[expose] public section

noncomputable section

namespace Cert.Proof.Adj

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "srcV" => (Memref.whole Cert.KernelIdeal.main_v1_scv : Memref Cert.KernelIdeal.sig Kind.scVector Space.hbm Cert.KernelIdeal.S28256 EltTy.i32)
local notation "dstV" => (Memref.whole Cert.KernelIdeal.main_v3_scv : Memref Cert.KernelIdeal.sig Kind.scVector Space.hbm Cert.KernelIdeal.S28256 EltTy.i32)
local notation "outV" => (Memref.whole Cert.KernelIdeal.main_v4_scv : Memref Cert.KernelIdeal.sig Kind.scVector Space.hbm Cert.KernelIdeal.S802816 EltTy.f32)
local notation "sS" => (Memref.whole Cert.KernelIdeal.cc0_scratch0 : Memref Cert.KernelIdeal.sig Kind.scVector Space.vmem Cert.KernelIdeal.S28256 EltTy.i32)
local notation "sD" => (Memref.whole Cert.KernelIdeal.cc0_scratch1 : Memref Cert.KernelIdeal.sig Kind.scVector Space.vmem Cert.KernelIdeal.S28256 EltTy.i32)
local notation "sA" => (Memref.whole Cert.KernelIdeal.cc0_scratch2 : Memref Cert.KernelIdeal.sig Kind.scVector Space.vmem Cert.KernelIdeal.S50176 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)
/-- The tile's thread. -/
abbrev thr (d : Dev nD) (L : grid0.Coords) : Thread nD τ := V d (cV L) (jV L)

/-- The first row of the tile's block, as the body computes it. -/
abbrev r0L (L : grid0.Coords) : BitVec 32 := Scalar.muli (BitVec.ofNat 32 (L 1).val) 56#32

theorem r0L_eq : r0L L = row0 (L 1).val := by
  have h : (L 1).val < 16 := (L 1).isLt
  show BitVec.ofNat 32 (L 1).val * 56#32 = BitVec.ofNat 32 (56 * (L 1).val)
  apply BitVec.eq_of_toNat_eq
  simp only [BitVec.toNat_mul, BitVec.toNat_ofNat, Nat.reducePow, Nat.reduceMod]
  omega

/-- The three scratch buffers, as the body addresses them. -/
abbrev ptsS (v : S28256.Idx → BitVec 32) : sProp 𝕄 := (sS).view.loc (thr d L) ↦{fullShare} v
abbrev ptsD (v : S28256.Idx → BitVec 32) : sProp 𝕄 := (sD).view.loc (thr d L) ↦{fullShare} v
abbrev ptsA (g : FVec F S50176 .f32) : sProp 𝕄 := (sA).view.loc (thr d L) ↦{fullShare} g

/-- Sixteen lanes loaded from edge `n` on. -/
theorem read_lanes {off : Fin 1 → Nat} (inb : ∀ a, off a + S16.size a ≤ S28256.size a) (n : ℕ) (h : off = ![n]) (v : S28256.Idx → BitVec 32) :
    (sS).view.readAt (Elt F) (Rect.unit (s := S28256) off S16.size inb).toLoadRect v = lanes v n := by
  subst h
  funext x
  have hx : n + (x 0).val < 28256 := by
    have h1 := inb 0
    have h2 : (x 0).val < 16 := (x 0).isLt
    have : n + 16 ≤ 28256 := h1
    omega
  show v _ = at28 v (n + (x 0).val)
  rw [at28, dif_pos hx]
  congr 1
  funext a
  have : a = 0 := Subsingleton.elim (α := Fin 1) _ _
  subst this
  apply Fin.ext
  show n + 1 * (x 0).val = n + (x 0).val
  omega

/-- The scatter of sixteen edges on the accumulator. -/
theorem wp_bump16 {α : Type} {Q : α → sProp 𝕄} (sv dv : S28256.Idx → BitVec 32) (n : ℕ) {idx : IVec S16 32} {mask : IVec S16 1}
    (hi : idx = cell16 (r0L L) (lanes dv n) (lanes sv n)) (hm : mask = mask16 (r0L L) (lanes dv n))
    {h : ∀ a x, ((![idx] : Fin 1 → IVec S16 32) a x).toNat < S50176.size a} {hs : ((sA).access (.whole S50176)).Stores Finset.univ}
    {k : PUnit → Prog (TpuEff nD τ sig (Elt F) Λ₀ (thr d L).2) α} :
    (ptsA (F := F) d L (accN (r0L L) sv dv n))
      ⊢ iprop((ptsA (F := F) d L (accN (r0L L) sv dv (n + 16)) -∗ wp frame (wpE (defs₀ (F := F)) 𝒱₀ (thr d L) none) Set.univ (k ⟨⟩) Q)
        -∗ wp frame (wpE (defs₀ (F := F)) 𝒱₀ (thr d L) none) Set.univ
            (SparseCore.vectorStoreIdx (sA) ![idx] (k0_pay30 (F := F)) mask true h hs >>= k) Q) := by
  subst hi; subst hm
  have key := SparseCore.wp_vectorStoreIdx (defs := defs₀ (F := F)) (Name := ℕ) (U := UU) (Lvl := ℕ) (Ix := HIx 1) 𝒱₀ (thr d L) none Set.univ (Q := Q) (base := (sA)) (idxs := ![cell16 (r0L L) (lanes dv n) (lanes sv n)])
    (v := k0_pay30 (F := F)) (mask := mask16 (r0L L) (lanes dv n)) (add := true) (h := h) (hs := hs) (k := k) (f := accN (r0L L) sv dv n)
  rw [Memref.set_access_whole, Memref.read_access_whole, Memref.write_access_whole_univ, storeIdx_accN] at key
  exact key

/-- Two loads of sixteen edges, the check of their cells, and the scatter. -/
theorem wp_edges {α : Type} {Q : α → sProp 𝕄} (sv dv : S28256.Idx → BitVec 32) (hsv : SrcOK sv) (n : ℕ) {offD offS : Fin 1 → Nat}
    {inbD : ∀ a, offD a + S16.size a ≤ S28256.size a} {inbS : ∀ a, offS a + S16.size a ≤ S28256.size a} (hD : offD = ![n]) (hS : offS = ![n])
    {hlD : (sD).view.LoadsAt (Rect.unit (s := S28256) offD S16.size inbD).toLoadRect} {hlS : (sS).view.LoadsAt (Rect.unit (s := S28256) offS S16.size inbS).toLoadRect}
    {C : Vec F S16 .i32 → Vec F S16 .i32 → Prop} {dec : ∀ x y, Decidable (C x y)}
    {idx : Vec F S16 .i32 → Vec F S16 .i32 → IVec S16 32} {mask : Vec F S16 .i32 → Vec F S16 .i32 → IVec S16 1}
    {h : ∀ x y, PLift (C x y) → ∀ a z, ((![idx x y] : Fin 1 → IVec S16 32) a z).toNat < S50176.size a} {hs : ((sA).access (.whole S50176)).Stores Finset.univ}
    {k : Vec F S16 .i32 → Vec F S16 .i32 → PUnit → Prog (TpuEff nD τ sig (Elt F) Λ₀ (thr d L).2) α}
    (hC : (∀ a z, ((![cell16 (r0L L) (lanes dv n) (lanes sv n)] : Fin 1 → IVec S16 32) a z).toNat < S50176.size a) → C (lanes dv n) (lanes sv n))
    (hi : idx (lanes dv n) (lanes sv n) = cell16 (r0L L) (lanes dv n) (lanes sv n)) (hm : mask (lanes dv n) (lanes sv n) = mask16 (r0L L) (lanes dv n)) :
    iprop(ptsS (F := F) d L sv ∗ ptsD (F := F) d L dv ∗ ptsA (F := F) d L (accN (r0L L) sv dv n))
      ⊢ iprop((iprop(ptsS (F := F) d L sv ∗ ptsD (F := F) d L dv ∗ ptsA (F := F) d L (accN (r0L L) sv dv (n + 16)))
          -∗ wp frame (wpE (defs₀ (F := F)) 𝒱₀ (thr d L) none) Set.univ (k (lanes dv n) (lanes sv n) ⟨⟩) Q)
        -∗ wp frame (wpE (defs₀ (F := F)) 𝒱₀ (thr d L) none) Set.univ
            (.op (.load (sD) (Rect.unit (s := S28256) offD S16.size inbD).toLoadRect hlD) fun x =>
              .op (.load (sS) (Rect.unit (s := S28256) offS S16.size inbS).toLoadRect hlS) fun y =>
                .op (.assume (C x y) (dec x y)) fun hw =>
                  SparseCore.vectorStoreIdx (sA) ![idx x y] (k0_pay30 (F := F)) (mask x y) true (h x y hw) hs >>= k x y) Q) := by
  iintro ⟨HS, HD, HA⟩ Hk
  iapply (wp_load 𝒱₀ (thr d L) none Set.univ (m := (sD)) (S := Finset.univ) (Finset.subset_univ _)) $$ HD; iintro HD
  iapply (wp_load 𝒱₀ (thr d L) none Set.univ (m := (sS)) (S := Finset.univ) (Finset.subset_univ _)) $$ HS; iintro HS
  rw [show (sD).view.readAt (Elt F) (Rect.unit (s := S28256) offD S16.size inbD).toLoadRect dv = lanes dv n from read_lanes inbD n hD dv,
    read_lanes inbS n hS sv, wp_assume_of _ _ _ _ (hC (cell16_inb _ hsv n))]
  iapply (wp_bump16 d L sv dv n hi hm) $$ HA; iintro HA
  iapply Hk
  isplitl [HS]; · iexact HS
  isplitl [HD]; · iexact HD
  iexact HA

/-- Zero below `n`. -/
def ZeroTo (n : ℕ) (g : FVec F S50176 .f32) : Prop := ∀ j, (j 0).val < n → g j = zeroF

theorem zero_step {off : Fin 1 → Nat} {inb : ∀ a, off a + S16.size a ≤ S50176.size a} {n : ℕ} (ho : off = ![n]) {g : FVec F S50176 .f32} (hg : ZeroTo n g) :
    ZeroTo (n + 16) (((sA).access (Rect.unit (s := S50176) off S16.size inb)).write (Elt F) g (k0_pay29 (F := F)) Finset.univ) := by
  subst ho
  intro j hj
  by_cases hn : (j 0).val < n
  · rw [View.write_of_not_mem]
    · exact hg j hn
    · rw [View.setOn_univ]
      intro hm
      obtain ⟨x, -, hx⟩ := Finset.mem_map.mp hm
      have h1 : n + 1 * (x 0).val = (j 0).val := congrArg (fun i : S50176.Idx => (i 0).val) hx
      omega
  · have hlt : (j 0).val - n < 16 := by omega
    have e : ((sA).access (Rect.unit (s := S50176) ![n] S16.size inb)).emb (Shape.ofLane (d := ![16]) ⟨(j 0).val - n, hlt⟩) = j := by
      funext a
      have : a = 0 := Subsingleton.elim (α := Fin 1) _ _
      subst this
      apply Fin.ext
      show n + 1 * ((j 0).val - n) = (j 0).val
      omega
    have key := View.write_emb_of_mem (v := (sA).access (Rect.unit (s := S50176) ![n] S16.size inb)) (Val := Elt F) g (k0_pay29 (F := F)) (M := Finset.univ)
      (x := (Shape.ofLane (d := ![16]) ⟨(j 0).val - n, hlt⟩)) (Finset.mem_univ _)
    rw [e] at key
    exact key

/-- A load (of no consequence) and a store of sixteen zeros. -/
theorem wp_zero16 {α : Type} {Q : α → sProp 𝕄} (n : ℕ) {off : Fin 1 → Nat} {inb : ∀ a, off a + S16.size a ≤ S50176.size a} (ho : off = ![n])
    {hl : (sA).view.LoadsAt (Rect.unit (s := S50176) off S16.size inb).toLoadRect}
    {hx : ((sA).access (Rect.unit (s := S50176) off S16.size inb)).Stores Finset.univ} {hm : Finset.univ = Finset.univ ∨ ∀ a, (Rect.unit (s := S50176) off S16.size inb).stride a = 1}
    {k : PUnit → Prog (TpuEff nD τ sig (Elt F) Λ₀ (thr d L).2) α} :
    iprop(∃ g, ⌜ZeroTo n g⌝ ∗ ptsA (F := F) d L g)
      ⊢ iprop((iprop(∃ g, ⌜ZeroTo (n + 16) g⌝ ∗ ptsA (F := F) d L g) -∗ wp frame (wpE (defs₀ (F := F)) 𝒱₀ (thr d L) none) Set.univ (k ⟨⟩) Q)
        -∗ wp frame (wpE (defs₀ (F := F)) 𝒱₀ (thr d L) none) Set.univ
            (.op (.load (sA) (Rect.unit (s := S50176) off S16.size inb).toLoadRect hl) fun _ =>
              .op (.store (sA) (Rect.unit (s := S50176) off S16.size inb) (k0_pay29 (F := F)) Finset.univ hx hm) k) Q) := by
  iintro ⟨%g, %hg, HA⟩ Hk
  iapply (wp_load 𝒱₀ (thr d L) none Set.univ (m := (sA)) (S := Finset.univ) (Finset.subset_univ _)) $$ HA; iintro HA
  iapply (wp_store 𝒱₀ (thr d L) none Set.univ (m := (sA)) (r := Rect.unit (s := S50176) off S16.size inb) (w := k0_pay29 (F := F)) (Mk := Finset.univ) (f := g) (S := Finset.univ) (Finset.subset_univ _)) $$ HA; iintro HA
  iapply Hk
  iexists (((sA).access (Rect.unit (s := S50176) off S16.size inb)).write (Elt F) g (k0_pay29 (F := F)) Finset.univ); isplitr
  · ipureintro; exact zero_step ho hg
  iexact HA

/-- The accumulator zeroed up to the trip's start. -/
def inv1 (n : ℕ) (_ : Unit) : sProp 𝕄 := iprop(∃ g, ⌜ZeroTo (128 * n) g⌝ ∗ ptsA (F := F) d L g)

/-- One trip of the zeroing loop. -/
theorem trip1 (t : Fin k0_t1_loop.trips) (u : Unit) :
    inv1 (F := F) d L t.val u ⊢ wp frame (wpE (defs₀ (F := F)) 𝒱₀ (thr d L) none) Set.univ
          (k0_t1_body L srcV (Memref.isWhole_whole _) dstV (Memref.isWhole_whole _) outV (Memref.isWhole_whole _)
              sS (Memref.isWhole_whole _) sD (Memref.isWhole_whole _) sA (Memref.isWhole_whole _) cc0_scoped0 cc0_scoped1 cc0_scoped2 t u) (inv1 (F := F) d L (t.val + 1)) := by
  unfold k0_t1_body
  simp only [Prog.lift, Prog.bind_op, Prog.bind_ret, Prog.pure_eq_ret]
  unfold inv1
  iintro H
  iapply (wp_zero16 d L (128 * t.val + 16 * 0) (k0_off1_eq t ⟨0, by decide⟩)) $$ H; iintro H
  iapply (wp_zero16 d L (128 * t.val + 16 * 1) (k0_off1_eq t ⟨1, by decide⟩)) $$ H; iintro H
  iapply (wp_zero16 d L (128 * t.val + 16 * 2) (k0_off1_eq t ⟨2, by decide⟩)) $$ H; iintro H
  iapply (wp_zero16 d L (128 * t.val + 16 * 3) (k0_off1_eq t ⟨3, by decide⟩)) $$ H; iintro H
  iapply (wp_zero16 d L (128 * t.val + 16 * 4) (k0_off1_eq t ⟨4, by decide⟩)) $$ H; iintro H
  iapply (wp_zero16 d L (128 * t.val + 16 * 5) (k0_off1_eq t ⟨5, by decide⟩)) $$ H; iintro H
  iapply (wp_zero16 d L (128 * t.val + 16 * 6) (k0_off1_eq t ⟨6, by decide⟩)) $$ H; iintro H
  iapply (wp_zero16 d L (128 * t.val + 16 * 7) (k0_off1_eq t ⟨7, by decide⟩)) $$ H; iintro H
  sl_step
  iexact H

/-- All edges before the trip's start scattered. -/
def inv2 (sv dv : S28256.Idx → BitVec 32) (n : ℕ) (_ : Unit) : sProp 𝕄 :=
  iprop(ptsS (F := F) d L sv ∗ ptsD (F := F) d L dv ∗ ptsA (F := F) d L (accN (r0L L) sv dv (128 * n)))

/-- One trip of the scattering loop. -/
theorem trip2 (sv dv : S28256.Idx → BitVec 32) (hsv : SrcOK sv) (t : Fin k0_t2_loop.trips) (u : Unit) :
    inv2 (F := F) d L sv dv t.val u ⊢ wp frame (wpE (defs₀ (F := F)) 𝒱₀ (thr d L) none) Set.univ
          (k0_t2_body L srcV (Memref.isWhole_whole _) dstV (Memref.isWhole_whole _) outV (Memref.isWhole_whole _)
              sS (Memref.isWhole_whole _) sD (Memref.isWhole_whole _) sA (Memref.isWhole_whole _) cc0_scoped0 cc0_scoped1 cc0_scoped2 (r0L L) t u) (inv2 (F := F) d L sv dv (t.val + 1)) := by
  unfold k0_t2_body
  simp only [k0_part1_eq_skeleton, k0_part2_eq_skeleton, k0_part3_eq_skeleton]
  unfold k0_part1_skel k0_part2_skel k0_part3_skel
  simp only [Prog.lift, Prog.bind_op, Prog.bind_ret, Prog.pure_eq_ret, bind_assoc]
  unfold inv2
  iintro H
  iapply (wp_edges d L sv dv hsv (128 * t.val + 16 * 0) (k0_off2_eq t) (k0_off2_eq t) id rfl rfl) $$ H; iintro H
  iapply (wp_edges d L sv dv hsv (128 * t.val + 16 * 1) (k0_off3_eq t) (k0_off3_eq t) id rfl rfl) $$ H; iintro H
  iapply (wp_edges d L sv dv hsv (128 * t.val + 16 * 2) (k0_off4_eq t) (k0_off4_eq t) id rfl rfl) $$ H; iintro H
  iapply (wp_edges d L sv dv hsv (128 * t.val + 16 * 3) (k0_off5_eq t) (k0_off5_eq t) id rfl rfl) $$ H; iintro H
  iapply (wp_edges d L sv dv hsv (128 * t.val + 16 * 4) (k0_off6_eq t) (k0_off6_eq t) id rfl rfl) $$ H; iintro H
  iapply (wp_edges d L sv dv hsv (128 * t.val + 16 * 5) (k0_off7_eq t) (k0_off7_eq t) id rfl rfl) $$ H; iintro H
  iapply (wp_edges d L sv dv hsv (128 * t.val + 16 * 6) (k0_off8_eq t) (k0_off8_eq t) id rfl rfl) $$ H; iintro H
  iapply (wp_edges d L sv dv hsv (128 * t.val + 16 * 7) (k0_off9_eq t) (k0_off9_eq t) id rfl rfl) $$ H; iintro H
  sl_step
  iexact H

end Tile

end Cert.Proof.Adj

end
-- ==== Proof.Body.lean ====
/- The whole task of one tile, from the copies in to the copy out. -/
module

public import proofs.«01_k».proof.Proof.Tile

@[expose] public section

noncomputable section

namespace Cert.Proof.Adj

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "srcV" => (Memref.whole Cert.KernelIdeal.main_v1_scv : Memref Cert.KernelIdeal.sig Kind.scVector Space.hbm Cert.KernelIdeal.S28256 EltTy.i32)
local notation "dstV" => (Memref.whole Cert.KernelIdeal.main_v3_scv : Memref Cert.KernelIdeal.sig Kind.scVector Space.hbm Cert.KernelIdeal.S28256 EltTy.i32)
local notation "outV" => (Memref.whole Cert.KernelIdeal.main_v4_scv : Memref Cert.KernelIdeal.sig Kind.scVector Space.hbm Cert.KernelIdeal.S802816 EltTy.f32)
local notation "sS" => (Memref.whole Cert.KernelIdeal.cc0_scratch0 : Memref Cert.KernelIdeal.sig Kind.scVector Space.vmem Cert.KernelIdeal.S28256 EltTy.i32)
local notation "sD" => (Memref.whole Cert.KernelIdeal.cc0_scratch1 : Memref Cert.KernelIdeal.sig Kind.scVector Space.vmem Cert.KernelIdeal.S28256 EltTy.i32)
local notation "sA" => (Memref.whole Cert.KernelIdeal.cc0_scratch2 : Memref Cert.KernelIdeal.sig Kind.scVector Space.vmem Cert.KernelIdeal.S50176 EltTy.f32)

section Body

variable (d : Dev nD) (L : grid0.Coords)

/-- The tile's block of the result, as the body addresses it. -/
abbrev blkK (L : grid0.Coords) : Rect S802816 := Rect.unit (s := S802816) (k0_off10 L) S50176.size (k0_off10_inb L)
abbrev oBlkK (L : grid0.Coords) : Memref sig .scVector .hbm S50176 .f32 := (outV).slice (blkK L) (fun _ => rfl)

theorem blkK_eq : blkK L = blk (jL L) := by
  unfold blkK blk Rect.part Rect.block
  congr 1 <;> funext a
  · rw [k0_off10_eq]
    match a with
    | 0 =>
      show 50176 * (L 1).val = _
      simp [Shape.partIx, Shape.partSize]
      omega
  · match a with
    | 0 => simp [Shape.partSize]

theorem set_oBlkK : (oBlkK L).view.set = blkSet (jL L) := by
  show ((outV).view.slice (blkK L)).set = ((outV).view.slice (blk (jL L))).set
  exact blkK_eq L ▸ rfl

theorem pts_oBlkK (f : Buf (Elt F) (oLoc d)) :
    ((oBlkK L).view.loc (thr d L) ↦[(oBlkK L).view.set]{fullShare} f : sProp 𝕄) = oLoc d ↦[blkSet (jL L)]{fullShare} f := by
  rw [set_oBlkK]

theorem pts_src (q : PosShare TreeShare) (f : Buf (Elt F) (sLoc d)) :
    ((srcV).view.loc (thr d L) ↦{q} f : sProp 𝕄) = sLoc d ↦{q} f := rfl
theorem pts_dst (q : PosShare TreeShare) (f : Buf (Elt F) (dLoc d)) :
    ((dstV).view.loc (thr d L) ↦{q} f : sProp 𝕄) = dLoc d ↦{q} f := rfl

theorem pts_sS (f : Buf (Elt F) ((thr d L).loc cc0_scratch0)) :
    ((sS).view.loc (thr d L) ↦{fullShare} f : sProp 𝕄) = (thr d L).loc cc0_scratch0 ↦{fullShare} f := rfl
theorem pts_sD (f : Buf (Elt F) ((thr d L).loc cc0_scratch1)) :
    ((sD).view.loc (thr d L) ↦{fullShare} f : sProp 𝕄) = (thr d L).loc cc0_scratch1 ↦{fullShare} f := rfl
theorem pts_sA (f : Buf (Elt F) ((thr d L).loc cc0_scratch2)) :
    ((sA).view.loc (thr d L) ↦{fullShare} f : sProp 𝕄) = (thr d L).loc cc0_scratch2 ↦{fullShare} f := rfl

/-- A list copied in is the scratch's contents. -/
theorem fill_S {f w sv : S28256.Idx → BitVec 32} (h : w = sv) :
    ((sS).view.loc (thr d L) ↦{fullShare} (sS).view.write (Elt F) f w Finset.univ : sProp 𝕄) = ptsS (F := F) d L sv := by
  subst h
  rw [show (sS).view.write (Elt F) f w Finset.univ = w from View.write_whole_univ _ _ _]
theorem fill_D {f w dv : S28256.Idx → BitVec 32} (h : w = dv) :
    ((sD).view.loc (thr d L) ↦{fullShare} (sD).view.write (Elt F) f w Finset.univ : sProp 𝕄) = ptsD (F := F) d L dv := by
  subst h
  rw [show (sD).view.write (Elt F) f w Finset.univ = w from View.write_whole_univ _ _ _]

/-- The zeroed accumulator is the accumulation of no edge. -/
theorem zero_full {g : FVec F S50176 .f32} (h : ZeroTo 50176 g) (r0 : BitVec 32) (sv dv : S28256.Idx → BitVec 32) : g = accN r0 sv dv 0 :=
  funext fun j => h j (j 0).isLt

/-- The accumulator copied out to the tile's block is the block of the call's result. -/
theorem out_eq (sv dv : S28256.Idx → BitVec 32) {fo : FVec F S802816 .f32} {w : FVec F S50176 .f32} (hw : w = accN (r0L L) sv dv 28256) :
    ((oBlkK L).view.loc (thr d L) ↦[(oBlkK L).view.set]{fullShare} (oBlkK L).view.writes (Elt F) fo [⟨Rect.whole S50176, w⟩] : sProp 𝕄)
      = oBlk d (jL L) (adjFlat (F := F) sv dv) := by
  subst hw
  rw [pts_oBlkK]
  refine pointsTo_congr fun i hi => ?_
  rw [← set_oBlkK] at hi
  obtain ⟨x, -, rfl⟩ := Finset.mem_map.mp hi
  have key : (oBlkK L).view.read (Elt F) ((oBlkK L).view.writes (Elt F) fo [⟨Rect.whole S50176, accN (r0L L) sv dv 28256⟩]) x = accN (r0L L) sv dv 28256 x := by
    have k := View.read_writes_cons_emb (v := (oBlkK L).view) (Val := Elt F) (f := fo) (Rect.whole S50176) (accN (r0L L) sv dv 28256) [] x
    rwa [show (Rect.whole S50176).emb x = x from by
      funext a; apply Fin.ext; show 0 + 1 * (x a).val = (x a).val; omega] at k
  rw [View.read_apply, cast_eq] at key
  rw [key]
  have hx : (x 0).val < 50176 := (x 0).isLt
  have e : (((oBlkK L).view.emb x) 0).val = 50176 * (L 1).val + (x 0).val := by
    show (k0_off10 L) 0 + 1 * (x 0).val = _
    rw [k0_off10_eq]; show 50176 * (L 1).val + 1 * (x 0).val = _; omega
  show accN (r0L L) sv dv 28256 x = accN (row0 ((((oBlkK L).view.emb x) 0).val / 50176)) sv dv 28256 (Shape.ofLane (d := ![50176]) ⟨(((oBlkK L).view.emb x) 0).val % 50176, _⟩)
  have e1 : (((oBlkK L).view.emb x) 0).val / 50176 = (L 1).val := by omega
  have e2 : (((oBlkK L).view.emb x) 0).val % 50176 = (x 0).val := by omega
  rw [e1, r0L_eq]
  refine congrArg (accN (row0 (L 1).val) sv dv 28256) ?_
  funext a
  have : a = 0 := Subsingleton.elim (α := Fin 1) _ _
  subst this
  exact Fin.ext e2.symm

abbrev cScell : GSem nD τ sig := (thr d L, .dma cc0_scoped0.sem)
abbrev cDcell : GSem nD τ sig := (thr d L, .dma cc0_scoped1.sem)
abbrev cOcell : GSem nD τ sig := (thr d L, .dma cc0_scoped2.sem)

theorem ownSems0_V :
    (ownSems0 (thr d L) : sProp 𝕄)
      = iprop(semVal (cScell d L) 0 ∗ semVal (cDcell d L) 0 ∗ semVal (cOcell d L) 0
          ∗ bigSep ((((ownCells (thr d L)).erase (cScell d L)).erase (cDcell d L)).erase (cOcell d L)) fun g => semVal g 0) := by
  unfold SparseCore.Cfg.ownSems0
  rw [SparseCore.bigSep_erase' ((mem_ownCells (g := cScell d L)).mpr ⟨rfl, by
      show (SemLoc.dma cc0_scoped0.sem : SemLoc sig).isScoped .scVector = true; decide⟩),
    SparseCore.bigSep_erase' (Finset.mem_erase.mpr ⟨by simp [cScell, cDcell]; decide, (mem_ownCells (g := cDcell d L)).mpr ⟨rfl, by
      show (SemLoc.dma cc0_scoped1.sem : SemLoc sig).isScoped .scVector = true; decide⟩⟩),
    SparseCore.bigSep_erase' (Finset.mem_erase.mpr ⟨by simp [cDcell, cOcell]; decide, Finset.mem_erase.mpr ⟨by simp [cScell, cOcell]; decide,
      (mem_ownCells (g := cOcell d L)).mpr ⟨rfl, by show (SemLoc.dma cc0_scoped2.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

theorem tile_body (hF : (K (F := F)).Facts) (sv dv : S28256.Idx → BitVec 32) (hsv : SrcOK sv)
    (O : CellTallies nD τ sig (HIx 1)) (W : Waits sig (HIx 1)) (hO : ∀ g, O g none = 0) :
    iprop(levAts (K (F := F)).L (K (F := F)).lev ∗ emp ∗ (sSh sv d (jL L) ∗ dSh dv d (jL L) ∗ ∃ f, oBlk d (jL L) f)
        ∗ scopedBufs (thr d L) ∗ scopedSems0 (thr d L) ∗ owes (thr d L) O W)
      ⊢ wp frame (wpE (defs₀ (F := F)) 𝒱₀ (thr d L) none) Set.univ
          (cc0__sc_adj_body L srcV (Memref.isWhole_whole _) dstV (Memref.isWhole_whole _) outV (Memref.isWhole_whole _)
            sS (Memref.isWhole_whole _) sD (Memref.isWhole_whole _) sA (Memref.isWhole_whole _) cc0_scoped0 cc0_scoped1 cc0_scoped2)
          fun _ => iprop((sSh sv d (jL L) ∗ dSh dv d (jL L) ∗ oBlk d (jL L) (adjFlat (F := F) sv dv))
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__sc_adj_body_eq_skeleton]; unfold cc0__sc_adj_body_skel
  simp only [k0_part4_eq_skeleton, k0_part5_eq_skeleton]; unfold k0_part4_skel k0_part5_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, -, ⟨Hs, Hd, %fo, Ho⟩, ⟨⟨%f0, H0⟩, ⟨%f1, H1⟩, ⟨%f2, H2⟩, Hbufs⟩, ⟨HsemS, HsemD, HsemO, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (Entails.of_eq (pts_src (F := F) d L _ _).symm) $$ Hs
  ihave Hd' := (Entails.of_eq (pts_dst (F := F) d L _ _).symm) $$ Hd
  ihave Ho' := (Entails.of_eq (pts_oBlkK (F := F) d L _).symm) $$ Ho
  ihave H0' := (Entails.of_eq (pts_sS (F := F) d L _).symm) $$ H0
  ihave H1' := (Entails.of_eq (pts_sD (F := F) d L _).symm) $$ H1
  ihave H2' := (Entails.of_eq (pts_sA (F := F) d L _).symm) $$ H2
  sl_exec
  ihave HS := (Entails.of_eq (fill_S (F := F) d L (sv := sv) ?hs)) $$ H0'
  case hs => rfl
  ihave HD := (Entails.of_eq (fill_D (F := F) d L (dv := dv) ?hd)) $$ H1'
  case hd => rfl
  sl_for (inv1 (F := F) d L) $$ [H2']
  case region => exact trip1 (F := F) d L
  · unfold inv1
    iexists f2; isplitr
    · ipureintro; exact fun j hj => absurd hj (Nat.not_lt_zero _)
    iexact H2'
  iintro %_ HI
  ihave HA := (show inv1 (F := F) d L k0_t1_loop.trips _ ⊢ ptsA (F := F) d L (accN (r0L L) sv dv (128 * 0)) from by
    unfold inv1
    iintro ⟨%g, %hg, HA⟩
    rw [zero_full hg (r0L L) sv dv]
    iexact HA) $$ HI
  sl_for (inv2 (F := F) d L sv dv) $$ [HS HD HA]
  case region => exact trip2 (F := F) d L sv dv hsv
  · unfold inv2
    isplitl [HS]; · iexact HS
    isplitl [HD]; · iexact HD
    iexact HA
  iintro %_ H
  ihave H := (show inv2 (F := F) d L sv dv k0_t2_loop.trips _ ⊢ iprop(ptsS (F := F) d L sv ∗ ptsD (F := F) d L dv ∗ ptsA (F := F) d L (accN (r0L L) sv dv 28160)) from
    Entails.refl _) $$ H
  iapply (wp_edges d L sv dv hsv 28160 rfl rfl id rfl rfl) $$ H; iintro H
  iapply (wp_edges d L sv dv hsv 28176 rfl rfl id rfl rfl) $$ H; iintro H
  iapply (wp_edges d L sv dv hsv 28192 rfl rfl id rfl rfl) $$ H; iintro H
  iapply (wp_edges d L sv dv hsv 28208 rfl rfl id rfl rfl) $$ H; iintro H
  iapply (wp_edges d L sv dv hsv 28224 rfl rfl id rfl rfl) $$ H; iintro H
  iapply (wp_edges d L sv dv hsv 28240 rfl rfl id rfl rfl) $$ H; iintro H
  icases H with ⟨HS, HD, HA⟩
  sl_exec (disch := exact View.amount_pos _ _ (show 0 < S50176.numel by decide))
  sl_step
  isplitl [Hs' Hd' Ho']
  · isplitl [Hs']; · iapply (Entails.of_eq (pts_src (F := F) d L _ _)); iexact Hs'
    isplitl [Hd']; · iapply (Entails.of_eq (pts_dst (F := F) d L _ _)); iexact Hd'
    ihave Ho := (Entails.of_eq (out_eq (F := F) d L sv dv (fo := fo) ?ho)) $$ Ho'
    case ho => rfl
    iexact Ho
  isplitl [HS HD HA Hbufs]
  · isplitl [HS]; · iexists _; iexact HS
    isplitl [HD]; · iexists _; iexact HD
    isplitl [HA]; · iexists _; iexact HA
    iexact Hbufs
  isplitl [HsemS HsemD HsemO Hsems]
  · isplitl [HsemS]; · iexact HsemS
    isplitl [HsemD]; · iexact HsemD
    isplitl [HsemO]; · iexact HsemO
    iexact Hsems
  iexists _; isplitr
  swap; · iexact HO
  ipureintro; intro p _
  rcases p.2 with _ | q
  · exact .inr (.inl rfl)
  · exact .inr (.inr (congrArg some (Subsingleton.elim q 0)))

end Body

end Cert.Proof.Adj

end
-- ==== Proof.Launch.lean ====
/- The tiles' obligation, the deal of the call's arrays to the tiles, and the launch's ghost state. -/
module

public import proofs.«01_k».proof.Proof.Body
public import proofs.«01_k».proof.Proof.Gen.KernelIdeal.Launch

@[expose] public section

noncomputable section

namespace Cert.Proof.Adj

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "srcV" => (Memref.whole Cert.KernelIdeal.main_v1_scv : Memref Cert.KernelIdeal.sig Kind.scVector Space.hbm Cert.KernelIdeal.S28256 EltTy.i32)
local notation "dstV" => (Memref.whole Cert.KernelIdeal.main_v3_scv : Memref Cert.KernelIdeal.sig Kind.scVector Space.hbm Cert.KernelIdeal.S28256 EltTy.i32)
local notation "outV" => (Memref.whole Cert.KernelIdeal.main_v4_scv : Memref Cert.KernelIdeal.sig Kind.scVector Space.hbm Cert.KernelIdeal.S802816 EltTy.f32)
local notation "sS" => (Memref.whole Cert.KernelIdeal.cc0_scratch0 : Memref Cert.KernelIdeal.sig Kind.scVector Space.vmem Cert.KernelIdeal.S28256 EltTy.i32)
local notation "sD" => (Memref.whole Cert.KernelIdeal.cc0_scratch1 : Memref Cert.KernelIdeal.sig Kind.scVector Space.vmem Cert.KernelIdeal.S28256 EltTy.i32)
local notation "sA" => (Memref.whole Cert.KernelIdeal.cc0_scratch2 : Memref Cert.KernelIdeal.sig Kind.scVector Space.vmem Cert.KernelIdeal.S50176 EltTy.f32)

/-! ## The obligation -/

/-- The coordinates of tile `s` of SparseCore `c`. -/
def tileAt (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_adj_body (tileAt c s)
          srcV (Memref.isWhole_whole _) dstV (Memref.isWhole_whole _) outV (Memref.isWhole_whole _)
          sS (Memref.isWhole_whole _) sD (Memref.isWhole_whole _) sA (Memref.isWhole_whole _) cc0_scoped0 cc0_scoped1 cc0_scoped2) ⟨⟩ c s := rfl

variable (svd dvd : Dev nD → S28256.Idx → BitVec 32)

set_option maxRecDepth 16384 in
theorem tileObl (hF : (K (F := F)).Facts) (hsv : ∀ d, SrcOK (svd d)) : (K (F := F)).TileObl (D (F := F)) 𝒱 (P svd dvd) v₀ 0 := by
  intro d c i O W hO _ _
  simp only [show (P (F := F) svd dvd).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (tileAt ⟨_, hci.1⟩ ⟨_, hci.2⟩) hF (svd d) (dvd d) (hsv d) O W hO

/-! ## The blocks of the result and the shares of the lists -/

theorem blkSet_eq (i : Fin 16) : blkSet i = (blk i).set := by
  show ((View.whole (main_v4_scv : Ref sig .scVector)).slice (blk i)).set = _
  rw [View.set_slice]; exact Finset.map_refl
theorem blks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
theorem blks_cover : (Finset.univ : Finset (Fin 16)).biUnion blkSet = Finset.univ :=
  (Finset.biUnion_congr rfl fun i _ => blkSet_eq i).trans (Rect.biUnion_part hdiv)

theorem oPts_blks (d : Dev nD) (f : Buf (Elt F) (oLoc d)) :
    (oPts d f : sProp 𝕄) = bigSep Finset.univ fun i : Fin 16 => oBlk d i f := by
  unfold oPts oBlk
  rw [← pointsTo_biUnion Finset.univ (ℓ := oLoc d) blkSet blks_disjoint, blks_cover]
theorem sPts_shares (d : Dev nD) (f : Buf (Elt F) (sLoc d)) :
    (sLoc d ↦{fullShare} f : sProp 𝕄) = bigSep Finset.univ fun i : Fin 16 => sLoc d ↦{rq i} f :=
  ShareLeaves.pointsTo_leaves Finset.univ f 4 fullShare
theorem dPts_shares (d : Dev nD) (f : Buf (Elt F) (dLoc d)) :
    (dLoc d ↦{fullShare} f : sProp 𝕄) = bigSep Finset.univ fun i : Fin 16 => dLoc d ↦{rq i} f :=
  ShareLeaves.pointsTo_leaves Finset.univ f 4 fullShare

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem oBlks_some (d : Dev nD) : (iprop(∃ f, oPts (F := F) d f) : sProp 𝕄) ⊢ bigSep Finset.univ fun i : Fin 16 => iprop(∃ f, oBlk (F := F) d i f) := by
  iintro ⟨%f, H⟩
  iapply ((Entails.of_eq (oPts_blks (F := F) d f)).trans (bigSep_mono fun i _ => exists_intro (Φ := fun f => oBlk (F := F) d i f) f))
  iexact H

theorem vecSplit : (K (F := F)).VecSplit' (P svd dvd) 0 := by
  intro d c
  show iprop(sPts (svd d) d ∗ dPts (dvd d) d ∗ ∃ f, oPts d f) ⊢ |={Set.univ}=> iprop(
      (bigSep Finset.univ fun i : Fin ((K (F := F)).nSub 0) =>
        iprop(sSh (svd d) d (Fin.cast nSub_zero i) ∗ dSh (dvd d) d (Fin.cast nSub_zero i) ∗ ∃ f, oBlk d (Fin.cast nSub_zero i) f))
      ∗ ((bigSep Finset.univ fun i : Fin ((K (F := F)).nSub 0) =>
          iprop(sSh (svd d) d (Fin.cast nSub_zero i) ∗ dSh (dvd d) d (Fin.cast nSub_zero i) ∗ oBlk d (Fin.cast nSub_zero i) (adjFlat (svd d) (dvd d))))
          -∗ iprop(sPts (svd d) d ∗ dPts (dvd d) d ∗ oPts d (adjFlat (svd d) (dvd d)))))
  rw [bigSep_tasks (F := F) (fun i => iprop(sSh (svd d) d i ∗ dSh (dvd d) d i ∗ ∃ f, oBlk d i f)),
    bigSep_tasks (F := F) (fun i => iprop(sSh (svd d) d i ∗ dSh (dvd d) d i ∗ oBlk d i (adjFlat (svd d) (dvd d)))), bigSep_sep', bigSep_sep', bigSep_sep', bigSep_sep']
  unfold sPts dPts sSh dSh
  rw [sPts_shares, dPts_shares, oPts_blks]
  iintro ⟨Hs, Hd, Ho⟩; imodintro
  isplitl [Hs Hd Ho]
  · isplitl [Hs]; · iexact Hs
    isplitl [Hd]; · iexact Hd
    iapply (oBlks_some (F := F) d); iexact Ho
  iintro H; iexact H

/-! ## The launch's ghost state -/

/-- The one TensorCore pipeline has no admission to make. -/
abbrev adm : (p : Fin 1) → (pcfgs (F := F) p).Adm := fun p => (cfgs p).toPCfg_adm

def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

/-- What the launch deals the TensorCore of `d` for its call: the staging cells' rounds and the copies' tokens. -/
abbrev Gp (d : Dev nD) : sProp 𝕄 :=
  iprop(Pipeline.cellsGhost (nD := nD) (τ := τ) cfgs EP 0 d ∗ Pipeline.toksInit (nD := nD) (τ := τ) cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (P svd dvd).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  have h2 : (BI.own ((embR : Emb (UP × Counters) 𝕄) (initOf (Pipeline.cells (nD := nD) (τ := τ) cfgs cellOf_inj) (Pipeline.launchToks (nD := nD) (τ := τ) cfgs cellOf_inj), 1)) : sProp 𝕄)
      ⊢ iprop(BI.own ((EP (F := F)).toFun (initOf (Pipeline.cells (nD := nD) (τ := τ) cfgs cellOf_inj) (Pipeline.launchToks (nD := nD) (τ := τ) cfgs cellOf_inj))) ∗ emp) :=
    by
    iintro H
    ihave HP := (own_pair_emb (embR : Emb (UP × Counters) 𝕄) _ _) $$ H
    icases HP with ⟨HP, -⟩
    isplitl [HP]; · iexact HP
    iempintro
  ihave HP := h2 $$ HR
  icases HP with ⟨HP, -⟩
  imod (Pipeline.fund_ghost (cfgs) (EP (F := F)) cellOf_inj) $$ HP with ⟨Hg, Ht⟩
  imodintro
  isplitl [HH]; · iexact HH
  isplitl [Hg Ht]
  · unfold Gp
    rw [bigSep_sep']
    isplitl [Hg]
    · rw [show (bigSep Finset.univ fun d : Dev nD => Pipeline.cellsGhost (nD := nD) (τ := τ) cfgs (EP (F := F)) 0 d)
          = bigSep Finset.univ fun d : Dev nD => bigSep Finset.univ fun p : Fin 1 => Pipeline.cellsGhost (nD := nD) (τ := τ) cfgs (EP (F := F)) p d from
        bigSep_congr fun d _ => (bigSep_univ_of_subsingleton (Φ := fun p : Fin 1 => Pipeline.cellsGhost (nD := nD) (τ := τ) cfgs (EP (F := F)) p d) (0 : Fin 1)).symm]
      iexact Hg
    rw [show (bigSep Finset.univ fun d : Dev nD => Pipeline.toksInit (nD := nD) (τ := τ) cfgs (EP (F := F)) 0 d)
        = bigSep Finset.univ fun d : Dev nD => bigSep Finset.univ fun p : Fin 1 => Pipeline.toksInit (nD := nD) (τ := τ) cfgs (EP (F := F)) p d from
      bigSep_congr fun d _ => (bigSep_univ_of_subsingleton (Φ := fun p : Fin 1 => Pipeline.toksInit (nD := nD) (τ := τ) cfgs (EP (F := F)) p d) (0 : Fin 1)).symm]
    iexact Ht
  rw [show (bigSep Finset.univ fun thr : Thread nD τ => bigSep Finset.univ fun q : Fin 1 => (P (F := F) svd dvd).x q thr) = bigSep Finset.univ fun _ => iprop(emp) from
    bigSep_congr fun _ _ => bigSep_univ_of_subsingleton (0 : Fin 1), bigSep_emp']
  iempintro

theorem st0_eq (d : Dev nD) :
    (bigSep Finset.univ fun c : Fin ((K (F := F)).nCore 0) => (P svd dvd).st 0 d c) = (iprop(sPts (svd d) d ∗ dPts (dvd d) d ∗ ∃ f, oPts d f) : sProp 𝕄) :=
  bigSep_univ_of_subsingleton (0 : Fin 1)
theorem dn0_eq (d : Dev nD) :
    (bigSep Finset.univ fun c : Fin ((K (F := F)).nCore 0) => (P svd dvd).dn 0 d c)
      = (iprop(sPts (svd d) d ∗ dPts (dvd d) d ∗ oPts d (adjFlat (svd d) (dvd d))) : sProp 𝕄) :=
  bigSep_univ_of_subsingleton (0 : Fin 1)

end Cert.Proof.Adj

end
-- ==== Proof.TcRegion.lean ====
/- The TensorCore call as a region of @main: what its staging buffers hold point by point, the body's obligation, and the
   segment that takes every unscoped buffer from one valuation to the next. -/
module

public import proofs.«01_k».proof.Proof.TcNext
public import proofs.«01_k».proof.Proof.Launch
public import proofs.«01_k».proof.Proof.Gen.KernelIdeal.Points
public import Idealize.ShloMosaic.Lib.Pipeline.RegionsLoop
public import Idealize.ShloMosaic.Lib.WordCmp

@[expose] public section

set_option maxRecDepth 16384

noncomputable section

namespace Cert.Proof.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The blocks -/

/-- Input `w`'s block at point `t`, read off the array as the region finds it. -/
def iblk (c : Dev nD) (w : Fin 29) (t : Fin cfg1.N) : ((cfg1.win w).xblock (cfg1.grid.coords t)).Idx → Elt F (cfg1.win w).elt :=
  ((cfg1.win w).blk t).view.read (Elt F) (V c (Pipeline.arrRef spec1 w))

/-- What the first point leaves in scratch. -/
def anC (c : Dev nD) : FVec F S896x896 .f32 := k1_pay6 (iblk V c 0 t1_0)
def csC (c : Dev nD) : FVec F S896x256 .f32 :=
  seqOf (iblk V c 0 t1_0) (iblk V c 3 t1_0) (iblk V c 5 t1_0) (iblk V c 6 t1_0) (iblk V c 7 t1_0) (iblk V c 8 t1_0)
/-- The pooled row at point `t`. -/
def rowC (c : Dev nD) (t : Fin cfg1.N) : FVec F S1x256 .f32 :=
  rowOf (anC V c) (csC V c) (iblk V c 1 t) (iblk V c 2 t) (iblk V c 4 t) (iblk V c 7 t) (iblk V c 9 t) (iblk V c 10 t) (iblk V c 11 t) (iblk V c 12 t)
/-- The six blocks the point leaves. -/
def outC0 (c : Dev nD) (t : Fin cfg1.N) : FVec F S1x1x256 .f32 :=
  rowBlk (anC V c) (csC V c) (iblk V c 1 t) (iblk V c 2 t) (iblk V c 4 t) (iblk V c 7 t) (iblk V c 9 t) (iblk V c 10 t) (iblk V c 11 t) (iblk V c 12 t)
def outC1 (c : Dev nD) (t : Fin cfg1.N) : FVec F S1x8x1 .f32 := probBlk (rowC V c t) (iblk V c 13 t) (iblk V c 14 t) (iblk V c 15 t) (iblk V c 16 t)
def outC2 (c : Dev nD) (t : Fin cfg1.N) : FVec F S1x1x8 .f32 := k1_pay3 (rowC V c t) (iblk V c 21 t) (iblk V c 22 t)
def outC3 (c : Dev nD) (t : Fin cfg1.N) : FVec F S1x8x1 .f32 := signBlk (rowC V c t) (iblk V c 13 t) (iblk V c 14 t) (iblk V c 17 t) (iblk V c 18 t)
def outC4 (c : Dev nD) (t : Fin cfg1.N) : FVec F S1x8x1 .f32 := magBlk (rowC V c t) (iblk V c 13 t) (iblk V c 14 t) (iblk V c 19 t) (iblk V c 20 t)
def outC5 (c : Dev nD) (t : Fin cfg1.N) : IVec S1x1x1 32 := k1_pay4 (rowC V c t) (iblk V c 21 t) (iblk V c 22 t)

/-! ## The proof data -/

/-- The scratch between points: at anything before the first, at what the first leaves after it. -/
def scratch0 (c : Dev nD) : sProp 𝕄 :=
  iprop((∃ d, owns (c : Thread nD τ) (Memref.whole cc1_scratch0) fullShare d) ∗ (∃ d, owns (c : Thread nD τ) (Memref.whole cc1_scratch1) fullShare d))
def scratchN (c : Dev nD) : sProp 𝕄 :=
  iprop(owns (c : Thread nD τ) (Memref.whole cc1_scratch0) fullShare (anC V c) ∗ owns (c : Thread nD τ) (Memref.whole cc1_scratch1) fullShare (csC V c))
def scratchAt (c : Dev nD) (n : ℕ) : sProp 𝕄 := if n = 0 then scratch0 c else scratchN V c

theorem scopedRest_scratch (c : Dev nD) : (Pipeline.scopedRest spec1 c : sProp 𝕄) = scratch0 c := by
  unfold scratch0; rw [scopedRest1_eq]; simp only [owns_whole]; try rfl

/-- The waits recorded before the call are all at or below the SparseCore call's levels. -/
def waited (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => iblk V c 20 t
    | ⟨21, _⟩ => iblk V c 21 t
    | ⟨22, _⟩ => iblk V c 22 t
    | ⟨23, _⟩ => outC0 V c t
    | ⟨24, _⟩ => outC1 V c t
    | ⟨25, _⟩ => outC2 V c t
    | ⟨26, _⟩ => outC3 V c t
    | ⟨27, _⟩ => outC4 V c t
    | ⟨28, _⟩ => outC5 V c t
    | ⟨_ + 29, h⟩ => absurd h (Nat.not_lt.2 (Nat.le_add_left _ _))
  Φ t := scratchAt V c t.val
  q _ := fullShare
  owed _ := 0
  recorded _ := waited (F := F) c

def pdats : (p : Fin 1) → (c : Dev nD) → Dat τ (Elt F) (HIx 1) ℕ UU ℕ (Pipeline.pin (pcfgs (F := F)) adm p) c
  | ⟨0, _⟩ => fun c => dat V c
  | ⟨_ + 1, h⟩ => absurd h (Nat.not_lt.2 (Nat.le_add_left _ _))

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = iblk V c 14 t := by dsimp only [dat]
theorem after_15 (c : Dev nD) (t : Fin cfg1.N) : (dat V c).after 15 t = iblk V c 15 t := by dsimp only [dat]
theorem after_16 (c : Dev nD) (t : Fin cfg1.N) : (dat V c).after 16 t = iblk V c 16 t := by dsimp only [dat]
theorem after_17 (c : Dev nD) (t : Fin cfg1.N) : (dat V c).after 17 t = iblk V c 17 t := by dsimp only [dat]
theorem after_18 (c : Dev nD) (t : Fin cfg1.N) : (dat V c).after 18 t = iblk V c 18 t := by dsimp only [dat]
theorem after_19 (c : Dev nD) (t : Fin cfg1.N) : (dat V c).after 19 t = iblk V c 19 t := by dsimp only [dat]
theorem after_20 (c : Dev nD) (t : Fin cfg1.N) : (dat V c).after 20 t = iblk V c 20 t := by dsimp only [dat]
theorem after_21 (c : Dev nD) (t : Fin cfg1.N) : (dat V c).after 21 t = iblk V c 21 t := by dsimp only [dat]
theorem after_22 (c : Dev nD) (t : Fin cfg1.N) : (dat V c).after 22 t = iblk V c 22 t := by dsimp only [dat]
theorem after_23 (c : Dev nD) (t : Fin cfg1.N) : (dat V c).after 23 t = outC0 V c t := by dsimp only [dat]
theorem after_24 (c : Dev nD) (t : Fin cfg1.N) : (dat V c).after 24 t = outC1 V c t := by dsimp only [dat]
theorem after_25 (c : Dev nD) (t : Fin cfg1.N) : (dat V c).after 25 t = outC2 V c t := by dsimp only [dat]
theorem after_26 (c : Dev nD) (t : Fin cfg1.N) : (dat V c).after 26 t = outC3 V c t := by dsimp only [dat]
theorem after_27 (c : Dev nD) (t : Fin cfg1.N) : (dat V c).after 27 t = outC4 V c t := by dsimp only [dat]
theorem after_28 (c : Dev nD) (t : Fin cfg1.N) : (dat V c).after 28 t = outC5 V c t := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg1.N) (d) : (dat V c).before 11 t d = iblk V c 11 t :=
  ((dat V c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg1.N) (d) : (dat V c).before 12 t d = iblk V c 12 t :=
  ((dat V c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg1.N) (d) : (dat V c).before 13 t d = iblk V c 13 t :=
  ((dat V c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg1.N) (d) : (dat V c).before 14 t d = iblk V c 14 t :=
  ((dat V c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg1.N) (d) : (dat V c).before 15 t d = iblk V c 15 t :=
  ((dat V c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg1.N) (d) : (dat V c).before 16 t d = iblk V c 16 t :=
  ((dat V c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg1.N) (d) : (dat V c).before 17 t d = iblk V c 17 t :=
  ((dat V c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg1.N) (d) : (dat V c).before 18 t d = iblk V c 18 t :=
  ((dat V c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg1.N) (d) : (dat V c).before 19 t d = iblk V c 19 t :=
  ((dat V c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg1.N) (d) : (dat V c).before 20 t d = iblk V c 20 t :=
  ((dat V c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg1.N) (d) : (dat V c).before 21 t d = iblk V c 21 t :=
  ((dat V c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg1.N) (d) : (dat V c).before 22 t d = iblk V c 22 t :=
  ((dat V c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)

/-! ## The body's obligation -/

abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (fun t => by
    have ht : t.val < 4 := Nat.lt_of_lt_of_eq t.isLt N_1
    have e0 : (grid1.coords t 0).val = t.val / 1 % 4 := Pipeline.Grid.coords_val t 0 (by decide) rfl
    have h4 : t.val = 0 ↔ t.val % 4 = 0 := by omega
    rw [h4]
    simp only [isFirst, e0]
    word_cmp : ∀ t : Fin grid1.N, isFirst (grid1.coords t) ↔ t.val = 0)

def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d))
    ∗ (∃ d, owns (c : Thread nD τ) (st1_18 t) fullShare ((dat V c).before 18 t d))
    ∗ (∃ d, owns (c : Thread nD τ) (st1_19 t) fullShare ((dat V c).before 19 t d))
    ∗ (∃ d, owns (c : Thread nD τ) (st1_20 t) fullShare ((dat V c).before 20 t d))
    ∗ (∃ d, owns (c : Thread nD τ) (st1_21 t) fullShare ((dat V c).before 21 t d))
    ∗ (∃ d, owns (c : Thread nD τ) (st1_22 t) fullShare ((dat V c).before 22 t d))
    ∗ (∃ d, owns (c : Thread nD τ) (st1_23 t) fullShare ((dat V c).before 23 t d))
    ∗ (∃ d, owns (c : Thread nD τ) (st1_24 t) fullShare ((dat V c).before 24 t d))
    ∗ (∃ d, owns (c : Thread nD τ) (st1_25 t) fullShare ((dat V c).before 25 t d))
    ∗ (∃ d, owns (c : Thread nD τ) (st1_26 t) fullShare ((dat V c).before 26 t d))
    ∗ (∃ d, owns (c : Thread nD τ) (st1_27 t) fullShare ((dat V c).before 27 t d))
    ∗ (∃ d, owns (c : Thread nD τ) (st1_28 t) fullShare ((dat V c).before 28 t d)))
def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t)
    ∗ owns (c : Thread nD τ) (st1_18 t) fullShare ((dat V c).after 18 t)
    ∗ owns (c : Thread nD τ) (st1_19 t) fullShare ((dat V c).after 19 t)
    ∗ owns (c : Thread nD τ) (st1_20 t) fullShare ((dat V c).after 20 t)
    ∗ owns (c : Thread nD τ) (st1_21 t) fullShare ((dat V c).after 21 t)
    ∗ owns (c : Thread nD τ) (st1_22 t) fullShare ((dat V c).after 22 t)
    ∗ owns (c : Thread nD τ) (st1_23 t) fullShare ((dat V c).after 23 t)
    ∗ owns (c : Thread nD τ) (st1_24 t) fullShare ((dat V c).after 24 t)
    ∗ owns (c : Thread nD τ) (st1_25 t) fullShare ((dat V c).after 25 t)
    ∗ owns (c : Thread nD τ) (st1_26 t) fullShare ((dat V c).after 26 t)
    ∗ owns (c : Thread nD τ) (st1_27 t) fullShare ((dat V c).after 27 t)
    ∗ owns (c : Thread nD τ) (st1_28 t) fullShare ((dat V c).after 28 t))

set_option maxHeartbeats 22400000 in
theorem sound_body (c : Dev nD) (t : Fin cfg1.N) :
    bodyPre V c t ⊢ wp frame (wpE (defs₀ (F := F)) Variants.none (c : Thread nD τ) none) Set.univ (bodyAt1 t) (fun _ => bodyPost V c t) := by
  unfold bodyPre bodyPost bodyAt1
  simp only [before_0, before_1, before_2, before_3, before_4, before_5, before_6, before_7, before_8, before_9, before_10, before_11, before_12, before_13, before_14, before_15, before_16, before_17, before_18, before_19, before_20, before_21, before_22]
  rw [show (dat V c).owesAt none t.succ = (dat V c).owesAt none t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28]
  rw [show ((dat V c).Φ t.succ : sProp 𝕄) = scratchN V c from if_neg (Nat.succ_ne_zero t.val), show ((dat V c).Φ t.castSucc : sProp 𝕄) = scratchAt V c t.val from rfl]
  unfold scratchAt
  by_cases h0 : t.val = 0
  · obtain rfl : t = t1_0 := Fin.ext h0
    rw [if_pos (show (t1_0 : Fin cfg1.N).val = 0 from rfl)]
    unfold scratch0 scratchN
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (point_first c (grid1.coords t1_0) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk V c 0 t1_0) (iblk V c 1 t1_0) (iblk V c 2 t1_0) (iblk V c 3 t1_0) (iblk V c 4 t1_0) (iblk V c 5 t1_0) (iblk V c 6 t1_0) (iblk V c 7 t1_0) (iblk V c 8 t1_0) (iblk V c 9 t1_0) (iblk V c 10 t1_0) (iblk V c 11 t1_0) (iblk V c 12 t1_0) (iblk V c 13 t1_0) (iblk V c 14 t1_0) (iblk V c 15 t1_0) (iblk V c 16 t1_0) (iblk V c 17 t1_0) (iblk V c 18 t1_0) (iblk V c 19 t1_0) (iblk V c 20 t1_0) (iblk V c 21 t1_0) (iblk V c 22 t1_0) ((isFirst_iff t1_0).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexact HS0
    isplitl [HS1]; · iexact HS1
    iintro ⟨H0, H1, H2, H3, H4, H5, H6, H7, H8, H9, H10, H11, H12, H13, H14, H15, H16, H17, H18, H19, H20, H21, H22, H23, H24, H25, H26, H27, H28, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  · rw [if_neg h0]
    unfold scratchN
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (point_next c (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) (iblk V c 20 t) (iblk V c 21 t) (iblk V c 22 t) (anC V c) (csC V c) (fun h => h0 ((isFirst_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexact HS0
    isplitl [HS1]; · iexact HS1
    iintro ⟨H0, H1, H2, H3, H4, H5, H6, H7, H8, H9, H10, H11, H12, H13, H14, H15, H16, H17, H18, H19, H20, H21, H22, H23, H24, H25, H26, H27, H28, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  all_goals exact BI.emp

theorem defs₀_row (t : Fin cfg1.N) : defs₀ (F := F) .tc cfg1.body (cfg1.bodyArgs t (cfg1.slots t)) = bodyAt1 t := rfl

set_option maxHeartbeats 8000000 in
theorem body_obligation (c : Dev nD) : BodyObligation (dat V c) (defs₀ (F := F)) Variants.none none Set.univ := fun t => by
  rw [bigSep_W1, bigSep_W1, defs₀_row]
  exact triple_restated (sound_body V c t) rfl .rfl fun _ => .rfl

/-! ## The region -/

variable (Vp : (c : Dev nD) → (b : Ref sig .tc) → Buf (Elt F) ((c : Thread nD τ).loc b))

/-- What the core still owes beside: nothing, with every wait it has recorded at or below the SparseCore call's levels. -/
def owesLow (c : Dev nD) : sProp 𝕄 :=
  iprop(∃ W, ⌜(K (F := F)).WBelow (c : Thread nD τ) W 8⌝ ∗ owes (c : Thread nD τ) (0 : CellTallies nD τ sig (HIx 1)) W)

theorem owesAt_low (c : Dev nD) (t : Fin (cfg1.N + 1)) : owesLow (F := F) c ⊢ (dat V c).owesAt none t := by
  unfold owesLow Pipeline.Dat.owesAt Pipeline.owesWithin
  iintro ⟨%W, %hW, HO⟩
  iexists W; isplitr
  · ipureintro; exact fun p hp => Or.inl (hW p (Finset.mem_coe.mp hp))
  iexact HO

theorem owesAt_high (c : Dev nD) (t : Fin (cfg1.N + 1)) : (dat V c).owesAt none t ⊢ owesLow (F := F) c := by
  unfold owesLow Pipeline.Dat.owesAt Pipeline.owesWithin
  iintro ⟨%W, %hW, HO⟩
  iexists W; isplitr
  · ipureintro
    intro p hp
    rcases hW (Finset.mem_coe.mpr hp) with h | ⟨w, s, rfl⟩
    · exact h
    · rw [(K (F := F)).lev_none]; exact Nat.zero_le _
  iexact HO

set_option backward.isDefEq.respectTransparency.types false in
/-- From every unscoped buffer at `V`, to every unscoped buffer at any `Vp` that has each output's array at what its points
    wrote back and agrees with `V` elsewhere. -/
def reg (hout : ∀ c (w : Fin 29), 23 ≤ w.val → (dat V c).arrAt w cfg1.N = Vp c (Pipeline.arrRef spec1 w))
    (hne : ∀ c (b : Ref sig .tc), (∀ w : Fin 29, 23 ≤ w.val → b ≠ Pipeline.arrRef spec1 w) → Vp c b = V c b) :
    Pipeline.RegionSeg (pcfgs (F := F)) adm (pdats V) none defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesLow (F := F) c)
  post c := iprop(unscopedBufs c (Vp c) ∗ owesLow (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_low V c 0); iexact HO
    isplitr; · iempintro
    iexact Hrest
  hin c := by
    rw [show (pdats V 0 c).Φ 0 = scratchAt V c 0 from rfl, show scratchAt V c 0 = scratch0 c from if_pos rfl, ← scopedRest_scratch]
    iintro ⟨-, -, Hr⟩; iexact Hr
  hout c := by
    rw [Pipeline.ownSems0_none, show (pdats V 0 c).Φ (Fin.last _) = scratchAt V c (Fin.last cfg1.N).val from rfl,
      show scratchAt V c (Fin.last cfg1.N).val = scratchN V c from if_neg (by rw [Fin.val_last]; exact fun h => absurd (N_1.symm.trans h) (by decide))]
    iintro Hr
    isplitr; · iempintro
    isplitr; · iempintro
    iapply (show scratchN V c ⊢ (Pipeline.scopedRest spec1 c : sProp 𝕄) from by
      rw [scopedRest_scratch]; unfold scratchN scratch0
      iintro ⟨H0, H1⟩
      isplitl [H0]; · iexists _; iexact H0
      iexists _; iexact H1)
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        by_cases hw : 23 ≤ w.val
        · exact hout c w hw
        · have hin : (cfg1.win w).isOut = false := (show ∀ w : Fin 29, ¬ 23 ≤ w.val → (spec1 w).isOut = false by decide) w hw
          exact ((dat V c).arrAt_in w hin _).trans (hne c _ ((show ∀ w : Fin 29, ¬ 23 ≤ w.val → ∀ w' : Fin 29, 23 ≤ w'.val → Pipeline.arrRef spec1 w ≠ Pipeline.arrRef spec1 w' by decide) w hw)).symm)
      (fun b hb => hne c b fun w _ h => hb (h ▸ Finset.mem_image.mpr ⟨w, Finset.mem_univ _, rfl⟩))
    iintro ⟨Ha, HO, -, Hrest⟩
    imodintro
    isplitl [Ha Hrest]
    · iapply hjoin; isplitl [Ha] <;> iassumption
    iapply (owesAt_high V c _); iexact HO

end Cert.Proof.Adj

end
-- ==== Proof.Main.lean ====
/- @main on the TensorCore: the two lists cut out of the edge list, the SparseCore call, the arrays set up for the TensorCore
   call, that call, its six results reshaped; and the run. Every unscoped buffer is held throughout, at a valuation that each
   piece moves on. -/
module

public import proofs.«01_k».proof.Proof.TcRegion
public import Idealize.ShloMosaic.Lib.StableHlo.Run

@[expose] public section

noncomputable section

namespace Cert.Proof.Adj

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr tcRefs seq after wp_seq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Before the SparseCore call; -/
abbrev opsA : List (HloOp τ sig (Elt F)) :=
  [ StableHlo.unary main_arg3 main_v0 ((extractStridedSlice S1x28256 ![0, 0] · slices_S2x28256_S1x28256_0_0) : (⟨S2x28256, .i32⟩ : BufTy).Contents (Elt F) → (⟨S1x28256, .i32⟩ : BufTy).Contents (Elt F)),
    StableHlo.reshape main_v0 main_v1 (rfl : (.i32 : EltTy) = .i32) shapeCasts_S1x28256_S28256,
    StableHlo.unary main_arg3 main_v2 ((extractStridedSlice S1x28256 ![1, 0] · slices_S2x28256_S1x28256_1_0) : (⟨S2x28256, .i32⟩ : BufTy).Contents (Elt F) → (⟨S1x28256, .i32⟩ : BufTy).Contents (Elt F)),
    StableHlo.reshape main_v2 main_v3 (rfl : (.i32 : EltTy) = .i32) shapeCasts_S1x28256_S28256 ]
/-- between the two calls; -/
abbrev opsB : List (HloOp τ sig (Elt F)) :=
  [ StableHlo.reshape main_v4 main_v5 (rfl : (.f32 : EltTy) = .f32) shapeCasts_S802816_S896x896,
    StableHlo.nullary main_c (constantI S_ 32 0#32),
    StableHlo.TRef.unary (.of main_c : StableHlo.TRef sig ⟨S_, .i32⟩) main_call0.v0 (sitofp .f32),
    StableHlo.TRef.binary (.of main_arg2 : StableHlo.TRef sig ⟨S883x20, .f32⟩) main_call0.v0 main_call0.v1 (fun x v => pad S896x20 ![0, 0] ![13, 0] ![0, 0] x v pads_S883x20_S896x20_0130_000 h_S_),
    StableHlo.nullary main_c_0 (constantI S_ 32 0#32),
    StableHlo.TRef.unary (.of main_c_0 : StableHlo.TRef sig ⟨S_, .i32⟩) main_call1.v0 (sitofp .f32),
    StableHlo.TRef.binary (.of main_arg4 : StableHlo.TRef sig ⟨S4x883, .f32⟩) main_call1.v0 main_call1.v1 (fun x v => pad S4x896 ![0, 0] ![0, 13] ![0, 0] x v pads_S4x883_S4x896_000_0130 h_S_),
    StableHlo.reshape main_v7 main_v8 (rfl : (.f32 : EltTy) = .f32) shapeCasts_S4x896_S4x1x896,
    StableHlo.reshape main_arg10 main_v9 (rfl : (.f32 : EltTy) = .f32) shapeCasts_S256_S1x256,
    StableHlo.reshape main_arg12 main_v10 (rfl : (.f32 : EltTy) = .f32) shapeCasts_S256_S1x256,
    StableHlo.reshape main_arg14 main_v11 (rfl : (.f32 : EltTy) = .f32) shapeCasts_S256_S1x256,
    StableHlo.reshape main_arg18 main_v12 (rfl : (.f32 : EltTy) = .f32) shapeCasts_S8_S8x1,
    StableHlo.reshape main_arg20 main_v13 (rfl : (.f32 : EltTy) = .f32) shapeCasts_S8_S8x1,
    StableHlo.reshape main_arg22 main_v14 (rfl : (.f32 : EltTy) = .f32) shapeCasts_S8_S8x1,
    StableHlo.reshape main_arg24 main_v15 (rfl : (.f32 : EltTy) = .f32) shapeCasts_S8_S1x8 ]
/-- after the TensorCore call. -/
abbrev opsC : List (HloOp τ sig (Elt F)) :=
  [ StableHlo.reshape main_v16_0 main_v17 (rfl : (.f32 : EltTy) = .f32) shapeCasts_S4x1x256_S4x256,
    StableHlo.reshape main_v16_1 main_v18 (rfl : (.f32 : EltTy) = .f32) shapeCasts_S4x8x1_S4x8,
    StableHlo.reshape main_v16_2 main_v19 (rfl : (.f32 : EltTy) = .f32) shapeCasts_S4x1x8_S4x8,
    StableHlo.reshape main_v16_3 main_v20 (rfl : (.f32 : EltTy) = .f32) shapeCasts_S4x8x1_S4x8,
    StableHlo.reshape main_v16_4 main_v21 (rfl : (.f32 : EltTy) = .f32) shapeCasts_S4x8x1_S4x8,
    StableHlo.reshape main_v16_5 main_v22 (rfl : (.i32 : EltTy) = .i32) shapeCasts_S4x1x1_S4 ]

/-- The unscoped buffers. -/
abbrev held₀ : Finset (DevRef τ sig) := (tcRefs τ sig).filter (fun b => ¬ b.isScoped)

theorem unscoped_held (c : Dev nD) (W : Valuation τ sig (Elt F)) :
    (unscopedBufs c (fun b => W (Proc.devRef .tc b)) : sProp 𝕄) = held (c : Thread nD τ) held₀ W := by
  unfold unscopedBufs held held₀ tcRefs; rw [Finset.filter_map, bigSep_map]; rfl

theorem mem_held (b : Ref sig .tc) (h : b.isScoped = false) : (Proc.devRef .tc b : DevRef τ sig) ∈ held₀ :=
  Finset.mem_filter.mpr ⟨StableHlo.devRef_mem_tcRefs b, by
    rw [show (Proc.devRef .tc b : DevRef τ sig).isScoped = b.isScoped from rfl, h]; exact Bool.false_ne_true⟩
theorem sub1 (y : Ref sig .tc) (hy : y.isScoped = false) : ({Proc.devRef .tc y} : Finset (DevRef τ sig)) ⊆ held₀ :=
  Finset.singleton_subset_iff.mpr (mem_held y hy)
theorem sub2 (x y : Ref sig .tc) (hx : x.isScoped = false) (hy : y.isScoped = false) : ({Proc.devRef .tc x, Proc.devRef .tc y} : Finset (DevRef τ sig)) ⊆ held₀ :=
  Finset.insert_subset (mem_held x hx) (sub1 y hy)
theorem sub3 (x y z : Ref sig .tc) (hx : x.isScoped = false) (hy : y.isScoped = false) (hz : z.isScoped = false) :
    ({Proc.devRef .tc x, Proc.devRef .tc y, Proc.devRef .tc z} : Finset (DevRef τ sig)) ⊆ held₀ :=
  Finset.insert_subset (mem_held x hx) (sub2 y z hy hz)

theorem subA : ∀ op ∈ (opsA (F := F)), op.bufs ⊆ held₀ := List.forall_iff_forall_mem.1 ⟨sub2 main_arg3 main_v0 rfl rfl, sub2 main_v0 main_v1 rfl rfl, sub2 main_arg3 main_v2 rfl rfl, sub2 main_v2 main_v3 rfl rfl⟩
theorem subB : ∀ op ∈ (opsB (F := F)), op.bufs ⊆ held₀ := List.forall_iff_forall_mem.1 ⟨sub2 main_v4 main_v5 rfl rfl, sub1 main_c rfl, sub2 main_c main_call0_v0 rfl rfl, sub3 main_arg2 main_call0_v0 main_v6 rfl rfl rfl, sub1 main_c_0 rfl, sub2 main_c_0 main_call1_v0 rfl rfl, sub3 main_arg4 main_call1_v0 main_v7 rfl rfl rfl, sub2 main_v7 main_v8 rfl rfl, sub2 main_arg10 main_v9 rfl rfl, sub2 main_arg12 main_v10 rfl rfl, sub2 main_arg14 main_v11 rfl rfl, sub2 main_arg18 main_v12 rfl rfl, sub2 main_arg20 main_v13 rfl rfl, sub2 main_arg22 main_v14 rfl rfl, sub2 main_arg24 main_v15 rfl rfl⟩
theorem subC : ∀ op ∈ (opsC (F := F)), op.bufs ⊆ held₀ := List.forall_iff_forall_mem.1 ⟨sub2 main_v16_0 main_v17 rfl rfl, sub2 main_v16_1 main_v18 rfl rfl, sub2 main_v16_2 main_v19 rfl rfl, sub2 main_v16_3 main_v20 rfl rfl, sub2 main_v16_4 main_v21 rfl rfl, sub2 main_v16_5 main_v22 rfl rfl⟩
theorem freshA : ∀ op ∈ (opsA (F := F)), op.fresh = ∅ := by intro _ h; (repeat (cases h with | head => rfl | tail _ h => ?_)); exact nomatch h
theorem freshB : ∀ op ∈ (opsB (F := F)), op.fresh = ∅ := by intro _ h; (repeat (cases h with | head => rfl | tail _ h => ?_)); exact nomatch h
theorem freshC : ∀ op ∈ (opsC (F := F)), op.fresh = ∅ := by intro _ h; (repeat (cases h with | head => rfl | tail _ h => ?_)); exact nomatch h

/-! ## The valuations -/

abbrev b1 : DevRef τ sig := Proc.devRef .tc (main_v1 : Ref sig .tc)
abbrev b3 : DevRef τ sig := Proc.devRef .tc (main_v3 : Ref sig .tc)
abbrev b4 : DevRef τ sig := Proc.devRef .tc (main_v4 : Ref sig .tc)

/-- At the launch; -/
def V0 (d : Dev nD) : Valuation τ sig (Elt F) := fun b => m (d, b)
/-- before the SparseCore call; -/
def VA (d : Dev nD) : Valuation τ sig (Elt F) := after opsA (V0 m d)
/-- the source and target lists; -/
def svM (d : Dev nD) : S28256.Idx → BitVec 32 := VA m d b1
def dvM (d : Dev nD) : S28256.Idx → BitVec 32 := VA m d b3
/-- after the SparseCore call; -/
def VS (d : Dev nD) : Valuation τ sig (Elt F) := Function.update (VA m d) b4 (adjFlat (F := F) (svM m d) (dvM m d))
/-- before the TensorCore call, -/
def VB (d : Dev nD) : Valuation τ sig (Elt F) := after opsB (VS m d)
def VR (c : Dev nD) (b : Ref sig .tc) : Buf (Elt F) ((c : Thread nD τ).loc b) := VB m c (Proc.devRef .tc b)
/-- and after it: the six outputs at what the points wrote back; -/
def VT (c : Dev nD) : Valuation τ sig (Elt F) :=
  Function.update (Function.update (Function.update (Function.update (Function.update (Function.update (VB m c) (Proc.devRef .tc (main_v16_0 : Ref sig .tc)) ((dat (VR m) c).arrAt 23 cfg1.N)) (Proc.devRef .tc (main_v16_1 : Ref sig .tc)) ((dat (VR m) c).arrAt 24 cfg1.N)) (Proc.devRef .tc (main_v16_2 : Ref sig .tc)) ((dat (VR m) c).arrAt 25 cfg1.N)) (Proc.devRef .tc (main_v16_3 : Ref sig .tc)) ((dat (VR m) c).arrAt 26 cfg1.N)) (Proc.devRef .tc (main_v16_4 : Ref sig .tc)) ((dat (VR m) c).arrAt 27 cfg1.N)) (Proc.devRef .tc (main_v16_5 : Ref sig .tc)) ((dat (VR m) c).arrAt 28 cfg1.N)
/-- at the end. -/
def VE (d : Dev nD) : Valuation τ sig (Elt F) := after opsC (VT m d)

abbrev PM : (K (F := F)).Pay (nD := nD) (Val := Elt F) (Name := ℕ) (U := UU) := P (svM m) (dvM m)

abbrev S3 : Finset (DevRef τ sig) := {b1, b3, b4}
theorem held_S3 (d : Dev nD) (W : Valuation τ sig (Elt F)) :
    (held (d : Thread nD τ) S3 W : sProp 𝕄) = iprop((sLoc d ↦{fullShare} W b1) ∗ (dLoc d ↦{fullShare} W b3) ∗ (oLoc d ↦{fullShare} W b4)) := by
  unfold held S3
  rw [SparseCore.bigSep_insert' (by decide), SparseCore.bigSep_insert' (by decide), bigSep_singleton]
theorem S3_sub : S3 ⊆ held₀ := by decide

/-- The buffers before the SparseCore call, the three it takes beside the rest; -/
theorem held_VA (d : Dev nD) : (held (d : Thread nD τ) held₀ (VA m d) : sProp 𝕄)
    = iprop((sPts (svM m d) d ∗ dPts (dvM m d) d ∗ oLoc d ↦{fullShare} VA m d b4) ∗ held (d : Thread nD τ) (held₀ \ S3) (VA m d)) := by
  rw [held_sub_split _ S3_sub, held_S3]; rfl
/-- and after it. -/
theorem held_VS (d : Dev nD) : (held (d : Thread nD τ) held₀ (VS m d) : sProp 𝕄)
    = iprop((sPts (svM m d) d ∗ dPts (dvM m d) d ∗ oPts d (adjFlat (F := F) (svM m d) (dvM m d))) ∗ held (d : Thread nD τ) (held₀ \ S3) (VA m d)) := by
  rw [held_sub_split _ S3_sub, held_S3]
  rw [held_congr (S := held₀ \ S3) (V := VS m d) (V' := VA m d) _ fun b hb => Function.update_of_ne (by rintro rfl; exact (Finset.mem_sdiff.mp hb).2 (by decide)) _ _]
  unfold VS
  rw [Function.update_of_ne (show b1 ≠ b4 by decide), Function.update_of_ne (show b3 ≠ b4 by decide), Function.update_self]
  rfl

/-! ## The TensorCore call -/

theorem VT_ne (c : Dev nD) (b : Ref sig .tc) (hb : ∀ w : Fin 29, 23 ≤ w.val → b ≠ Pipeline.arrRef spec1 w) :
    VT m c (Proc.devRef .tc b) = VB m c (Proc.devRef .tc b) := by
  have hne : ∀ w : Fin 29, 23 ≤ w.val → (Proc.devRef .tc b : DevRef τ sig) ≠ Proc.devRef .tc (Pipeline.arrRef spec1 w) :=
    fun w hw e => hb w hw (Proc.devRef_injective .tc e)
  unfold VT
  rw [Function.update_of_ne (hne 28 (by decide)), Function.update_of_ne (hne 27 (by decide)), Function.update_of_ne (hne 26 (by decide)),
    Function.update_of_ne (hne 25 (by decide)), Function.update_of_ne (hne 24 (by decide)), Function.update_of_ne (hne 23 (by decide))]

theorem VT_23 (c : Dev nD) : VT m c (Proc.devRef .tc (main_v16_0 : Ref sig .tc)) = (dat (VR m) c).arrAt 23 cfg1.N := by
  unfold VT
  rw [Function.update_of_ne (by decide), Function.update_of_ne (by decide), Function.update_of_ne (by decide), Function.update_of_ne (by decide), Function.update_of_ne (by decide), Function.update_self]
theorem VT_24 (c : Dev nD) : VT m c (Proc.devRef .tc (main_v16_1 : Ref sig .tc)) = (dat (VR m) c).arrAt 24 cfg1.N := by
  unfold VT
  rw [Function.update_of_ne (by decide), Function.update_of_ne (by decide), Function.update_of_ne (by decide), Function.update_of_ne (by decide), Function.update_self]
theorem VT_25 (c : Dev nD) : VT m c (Proc.devRef .tc (main_v16_2 : Ref sig .tc)) = (dat (VR m) c).arrAt 25 cfg1.N := by
  unfold VT
  rw [Function.update_of_ne (by decide), Function.update_of_ne (by decide), Function.update_of_ne (by decide), Function.update_self]
theorem VT_26 (c : Dev nD) : VT m c (Proc.devRef .tc (main_v16_3 : Ref sig .tc)) = (dat (VR m) c).arrAt 26 cfg1.N := by
  unfold VT
  rw [Function.update_of_ne (by decide), Function.update_of_ne (by decide), Function.update_self]
theorem VT_27 (c : Dev nD) : VT m c (Proc.devRef .tc (main_v16_4 : Ref sig .tc)) = (dat (VR m) c).arrAt 27 cfg1.N := by
  unfold VT
  rw [Function.update_of_ne (by decide), Function.update_self]
theorem VT_28 (c : Dev nD) : VT m c (Proc.devRef .tc (main_v16_5 : Ref sig .tc)) = (dat (VR m) c).arrAt 28 cfg1.N := by
  unfold VT
  rw [Function.update_self]

theorem VT_out (c : Dev nD) (w : Fin 29) (hw : 23 ≤ w.val) : (dat (VR m) c).arrAt w cfg1.N = VT m c (Proc.devRef .tc (Pipeline.arrRef spec1 w)) := by
  obtain ⟨w, hlt⟩ := w
  have h : w = 23 ∨ w = 24 ∨ w = 25 ∨ w = 26 ∨ w = 27 ∨ w = 28 := by
    change 23 ≤ w at hw
    omega
  rcases h with rfl | rfl | rfl | rfl | rfl | rfl
  exacts [(VT_23 m c).symm, (VT_24 m c).symm, (VT_25 m c).symm, (VT_26 m c).symm, (VT_27 m c).symm, (VT_28 m c).symm]

/-- The call as a region, from the valuation before it to the one after. -/
abbrev regM : Pipeline.RegionSeg (pcfgs (F := F)) adm (pdats (VR m)) none defs₀ Variants.none (K (F := F)).L (K (F := F)).lev 0 :=
  reg (VR m) (fun c b => VT m c (Proc.devRef .tc b)) (VT_out m) (VT_ne m)

theorem wp_region (d : Dev nD) (Φ : PUnit → sProp 𝕄) :
    iprop((iprop(boundary (d : Thread nD τ) ∗ held (d : Thread nD τ) held₀ (VT m d) ∗ owesLow (F := F) d) -∗ Φ ⟨⟩)
        ∗ boundary (d : Thread nD τ) ∗ held (d : Thread nD τ) held₀ (VB m d) ∗ owesLow (F := F) d ∗ levAts (K (F := F)).L (K (F := F)).lev ∗ Gp (F := F) d)
      ⊢ wp frame (wpE ((K (F := F)).defs (D (F := F))) 𝒱 (d : Thread nD τ) none) Set.univ
          (Prog.lift (.customCall (SparseCore.inner (Pipeline.entry 0)) ()) : Prog (TpuEff nD τ sig (Elt F) (SparseCore.Sig (ΛP (F := F)) 1) .tc) PUnit) Φ := by
  have h := (K (F := F)).wp_liftProg (D (F := F)) 𝒱 (d : Thread nD τ) Set.univ none
    (.op (.customCall (Pipeline.entry 0) ()) fun _ => .ret ⟨⟩ : Prog (TpuEff nD τ sig (Elt F) (ΛP (F := F)) .tc) PUnit) Φ
  have hr := Pipeline.RegionSeg.wp (pcfgs (F := F)) adm (pdats (VR m)) none cellOf_inj EP defs₀ Variants.none (K (F := F)).L (K (F := F)).lev (regM m) d none
    (fun _ hu => nomatch hu) (fun _ => .ret ⟨⟩) Φ
  refine BIBase.Entails.trans ?_ (hr.trans h)
  show _ ⊢ iprop((iprop(boundary (d : Thread nD τ) ∗ unscopedBufs d (fun b => VT m d (Proc.devRef .tc b)) ∗ owesLow (F := F) d) -∗ _)
    ∗ boundary (d : Thread nD τ) ∗ (unscopedBufs d (fun b => VB m d (Proc.devRef .tc b)) ∗ owesLow (F := F) d) ∗ _)
  rw [unscoped_held, unscoped_held]
  iintro ⟨Hk, Hb, Hh, Ho, Hl, Hg⟩
  isplitl [Hk]
  · iintro H
    rw [wp_ret]; imodintro
    iapply Hk; iexact H
  isplitl [Hb]; · iexact Hb
  isplitl [Hh Ho]; · isplitl [Hh] <;> iassumption
  isplitl [Hl]; · iexact Hl
  iexact Hg

/-! ## @main -/

theorem main_eq (d : Dev nD) : main (F := F) d
    = (seq opsA >>= fun _ => (K (F := F)).run d 0 >>= fun _ => seq opsB >>= fun _ =>
        (Prog.lift (.customCall (SparseCore.inner (Pipeline.entry 0)) ()) : Prog (TpuEff nD τ sig (Elt F) (SparseCore.Sig (ΛP (F := F)) 1) .tc) PUnit) >>= fun _ =>
        seq opsC >>= fun _ => pure ⟨⟩) := rfl

/-- What @main leaves the claims: every unscoped buffer. -/
abbrev FIN (d : Dev nD) : sProp 𝕄 := held (d : Thread nD τ) held₀ (VE m d)

set_option backward.isDefEq.respectTransparency.types false in
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ Gp (F := F) d)
      ⊢ wp frame (wpE ((K (F := F)).defs (D (F := F))) 𝒱 (d : Thread nD τ) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) held₀ (V0 m d) from unscoped_held d (V0 m d), main_eq]
  iintro ⟨#Hctx, Hst, ⟨Hb, Hheld, Hts, -⟩, Hg⟩
  iapply (wp_seq 𝒱 none Set.univ d held₀ _ opsA subA freshA (V0 m d)) $$ [Hb Hheld]
  · isplitl [Hb] <;> iassumption
  iintro ⟨Hb, Hheld⟩
  rw [wp_bind]
  ihave Hh := (Entails.of_eq (show (held (d : Thread nD τ) held₀ (after opsA (V0 m d)) : sProp 𝕄) = _ from held_VA (F := F) m d)) $$ Hheld
  icases Hh with ⟨⟨Hs, Hd, Ho⟩, Hrest⟩
  iapply ((K (F := F)).wp_run (D (F := F)) 𝒱 (EH := EH) (P := PM m) κ d 0) $$ [Hst Hs Hd Ho Hb Hts Hrest Hg]
  isplitr; · iexact Hctx
  isplitl [Hst]; · iexact Hst
  isplitl [Hs Hd Ho]
  · rw [st0_eq]
    isplitl [Hs]; · iexact Hs
    isplitl [Hd]; · iexact Hd
    iexists _; iexact Ho
  iintro ⟨Hst, Hdn⟩
  ihave Hdn' := (Entails.of_eq (dn0_eq (F := F) (svM m) (dvM m) d)) $$ Hdn
  ihave Hheld := (Entails.of_eq (held_VS (F := F) m d).symm) $$ [Hdn' Hrest]
  · isplitl [Hdn'] <;> iassumption
  iapply (wp_seq 𝒱 none Set.univ d held₀ _ opsB subB freshB (VS m d)) $$ [Hb Hheld]
  · isplitl [Hb] <;> iassumption
  iintro ⟨Hb, Hheld⟩
  rw [wp_bind]
  unfold SparseCore.Cfg.tcSt
  icases Hst with ⟨⟨%W, %hW, HO⟩, Hst⟩
  ihave Hl := (SparseCore.Cfg.ctx_levAts κ) $$ Hctx
  iapply (wp_region m d _)
  isplitl [Hst Hts]
  · iintro ⟨Hb, Hheld, HO⟩
    iapply (wp_seq 𝒱 none Set.univ d held₀ _ opsC subC freshC (VT m d)) $$ [Hb Hheld]
    · isplitl [Hb] <;> iassumption
    iintro ⟨Hb, Hheld⟩
    rw [wp_pure]; imodintro
    isplitl [HO Hst]
    · isplitl [HO]
      · unfold owesLow
        icases HO with ⟨%W', %hW', HO⟩
        iexists W'; isplitr
        · ipureintro; exact hW'
        rw [(K (F := F)).Otc_end d (le_refl 1)]
        iexact HO
      iexact Hst
    isplitl [Hheld]; · iexact Hheld
    isplitl [Hb] <;> iassumption
  isplitl [Hb]; · iexact Hb
  isplitl [Hheld]; · iexact Hheld
  isplitl [HO]
  · unfold owesLow
    iexists W; isplitr
    · ipureintro; exact hW
    rw [show (K (F := F)).Otc d ((0 : Fin 1).val + 1) = 0 from (K (F := F)).Otc_end d (le_refl 1)]
    iexact HO
  isplitl [Hl]; · iexact Hl
  iexact Hg

/-- What the claims read of device `d`'s final state. -/
def fq (d : Dev nD) (s' : Phys nD τ sig (Elt F)) : Prop :=
  ∀ b : Ref sig .tc, b.isScoped = false → s'.mem.mem ((d : Thread nD τ).loc b) = VE m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) held₀) $$ [HSI H]
  · isplitl [HSI]; · iexact HSI
    iexact H
  ipureintro
  exact fun b hb => h _ (mem_held b hb)

/-! ## The run -/

def QC : PUnit × MemSt nD τ sig (Elt F) → Prop := fun r =>
  (∀ (c : Dev nD) (b : Ref sig .tc), b.isScoped = false → r.2.mem ((c : Thread nD τ).loc b) = VE m c (Proc.devRef .tc b)) ∧ r.2.sem = fun _ => 0

theorem run_main [∀ e, Nonempty (Elt F e)] (hsv : ∀ d, SrcOK (svM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (svM m) (dvM m) facts hsv)
    (fun q _ => match q with | 0 => SparseCore.Cfg.VecSplit.of_plain (vecSplit (svM m) (dvM m)))
    m ρ main (Gp (F := F)) (FIN m) (u₀ (F := F)) (sep_elim_left.trans (hu₀ (svM m) (dvM m))) (hmain m ρ) (fq m) (hfin m) (QC m) (fun _ h hz => ⟨h, hz⟩)

end Cert.Proof.Adj

end
-- ==== Proof.KerAt.lean ====
/- What a point of the TensorCore call computes, read at an index over the extended reals. -/
module

public import proofs.«01_k».proof.Proof.TcVals
public import proofs.«01_k».proof.Proof.Alg
public import Idealize.ShloMosaic.Lib.Pointwise

@[expose] public section

set_option maxRecDepth 16384

noncomputable section

namespace Cert.Proof.Adj

open Cert.KernelIdeal Cert.KernelIdeal.Gen
open Idealize.ShloMosaic

/-! ## The parts of the weights -/

section
variable (x : Vec Ideal S2816x256 .f32) (f : Fin 256)
theorem ownEsm_at (k : Fin 1280) : ownEsm x (ix2 k f) = x (ix2 (⟨k.val, by omega⟩ : Fin 2816) f) := by unfold ownEsm cut; pointwise
theorem nbrEsm_at (k : Fin 1280) : nbrEsm x (ix2 k f) = x (ix2 (⟨1408 + k.val, by omega⟩ : Fin 2816) f) := by unfold nbrEsm cut; pointwise
theorem ownSeq_at (k : Fin 128) : ownSeq x (ix2 k f) = x (ix2 (⟨1280 + k.val, by omega⟩ : Fin 2816) f) := by unfold ownSeq cut; pointwise
theorem nbrSeq_at (k : Fin 128) : nbrSeq x (ix2 k f) = x (ix2 (⟨2688 + k.val, by omega⟩ : Fin 2816) f) := by unfold nbrSeq cut; pointwise
theorem upper_at (x : Vec Ideal S512x256 .f32) (k : Fin 256) : upper x (ix2 k f) = x (ix2 (⟨k.val, by omega⟩ : Fin 512) f) := by unfold upper cut; pointwise
theorem lower_at (x : Vec Ideal S512x256 .f32) (k : Fin 256) : lower x (ix2 k f) = x (ix2 (⟨256 + k.val, by omega⟩ : Fin 512) f) := by unfold lower cut; pointwise
end

/-! ## The matrix and the structural branch -/

theorem an_at (x : Vec Ideal S896x896 .f32) (r c : Fin 896) :
    k1_pay5 x (ix2 r c) = Ideal.div (x (ix2 r c)) (max (∑ k : Fin 896, x (ix2 r k)) 1) := by
  unfold k1_pay5
  pointwise

theorem pay6_eq (x : Vec Ideal S896x896 .f32) : k1_pay6 x = k1_pay5 x := by
  funext j; idx_vars j; unfold k1_pay6; pointwise

theorem pay7_at (x0 : Vec Ideal S896x896 .f32) (x3 : Vec Ideal S896x20 .f32) (x5 : Vec Ideal S20x128 .f32) (x6 : Vec Ideal S128x128 .f32)
    (w u : Vec Ideal S128x256 .f32) (x8 : Vec Ideal S1x256 .f32) (r : Fin 896) (c : Fin 256) :
    k1_pay8 (k1_pay7 x0 x3 x5 x6 w u x8) (ix2 r c)
      = ∑ x, max (∑ x_1, max (∑ x, x3 (ix2 r x) * x5 (ix2 x x_1)) 0 * x6 (ix2 x_1 x)) 0 * w (ix2 x c)
        + ∑ x, k1_pay5 x0 (ix2 r x) * ∑ x_1, max (∑ x_2, max (∑ x_3, x3 (ix2 x x_3) * x5 (ix2 x_3 x_2)) 0 * x6 (ix2 x_2 x_1)) 0 * u (ix2 x_1 c)
        + x8 (ix2 0 c) := by
  unfold k1_pay8 k1_pay7
  pointwise

/-! ## The graph layers -/

section Layers
variable {F : FTy → Type} [FloatOps F]

/-- The first layer's rows. -/
def hidV (v3 : Vec F S896x896 .f32) (v4 : Vec F S896x256 .f32) (v5 : Vec F S1x883x1280 .f32) (v7 v11 : Vec F S1280x256 .f32) : FVec F S896x256 .f32 :=
  maximumf (addf (addf
    (concatenate S896x256 0 [⟨S883x256, matmul dot_S883x1280_S1280x256_S883x256_1_0_0_1_n_n none (shapeCast S883x1280 v5 shapeCasts_S1x883x1280_S883x1280) v7 (constant S883x256 .f32 0x00000000#32)⟩,
      ⟨S13x256, broadcast S13x256 (Scalar.ofBits .f32 0x00000000#32)⟩] concatenates_S883x256_S13x256_S896x256_d0)
    (matmul dot_S896x896_S896x256_S896x256_1_0_0_1_n_n none v3
      (concatenate S896x256 0 [⟨S883x256, matmul dot_S883x1280_S1280x256_S883x256_1_0_0_1_n_n none (shapeCast S883x1280 v5 shapeCasts_S1x883x1280_S883x1280) v11 (constant S883x256 .f32 0x00000000#32)⟩,
        ⟨S13x256, broadcast S13x256 (Scalar.ofBits .f32 0x00000000#32)⟩] concatenates_S883x256_S13x256_S896x256_d0)
      (constant S896x256 .f32 0x00000000#32))) v4) (broadcast S896x256 (Scalar.ofBits .f32 0x00000000#32))
/-- The second layer before its cut at zero. -/
def outV (v3 : Vec F S896x896 .f32) (h : FVec F S896x256 .f32) (v20 v22 : Vec F S256x256 .f32) (v26 : Vec F S1x256 .f32) : FVec F S896x256 .f32 :=
  addf (addf (matmul dot_S896x256_S256x256_S896x256_1_0_0_1_n_n none h v20 (constant S896x256 .f32 0x00000000#32))
    (matmul dot_S896x896_S896x256_S896x256_1_0_0_1_n_n none v3 (matmul dot_S896x256_S256x256_S896x256_1_0_0_1_n_n none h v22 (constant S896x256 .f32 0x00000000#32)) (constant S896x256 .f32 0x00000000#32)))
    (broadcastTo S896x256 (shapeCast S1x256 v26 shapeCasts_S1x256_S1x256) broadcasts_S1x256_S896x256)

theorem pay9_eq (v3 : Vec F S896x896 .f32) (v4 : Vec F S896x256 .f32) (v5 : Vec F S1x883x1280 .f32) (v7 v11 : Vec F S1280x256 .f32) (v20 v22 : Vec F S256x256 .f32) (v26 : Vec F S1x256 .f32) :
    k1_pay9 v3 v4 v5 v7 v11 v20 v22 v26 = outV v3 (hidV v3 v4 v5 v7 v11) v20 v22 v26 := rfl
theorem pay11_eq (v3 : Vec F S896x896 .f32) (v4 : Vec F S896x256 .f32) (v29 : FVec F S896x256 .f32) (v5 : Vec F S1x883x1280 .f32) (v7 v11 : Vec F S1280x256 .f32) (v20 v22 : Vec F S256x256 .f32) (v26 : Vec F S1x256 .f32) :
    k1_pay11 v3 v4 v29 v5 v7 v11 v20 v22 v26
      = subf (maximumf (outV v3 (hidV v3 v4 v5 v7 v11) v20 v22 v26) (broadcast S896x256 (Scalar.ofBits .f32 0x00000000#32)))
          (maximumf v29 (broadcast S896x256 (Scalar.ofBits .f32 0x00000000#32))) := rfl
end Layers

theorem hidV_at (v3 : Vec Ideal S896x896 .f32) (v4 : Vec Ideal S896x256 .f32) (v5 : Vec Ideal S1x883x1280 .f32) (v7 v11 : Vec Ideal S1280x256 .f32) (r : Fin 883) (f : Fin 256) :
    hidV v3 v4 v5 v7 v11 (ix2 (⟨r.val, by omega⟩ : Fin 896) f)
      = max ((∑ k : Fin 1280, v5 (ix3 0 r k) * v7 (ix2 k f))
        + (∑ j : Fin 883, v3 (ix2 (⟨r.val, by omega⟩ : Fin 896) (⟨j.val, by omega⟩ : Fin 896)) * ∑ k : Fin 1280, v5 (ix3 0 j k) * v11 (ix2 k f))
        + v4 (ix2 (⟨r.val, by omega⟩ : Fin 896) f)) 0 := by
  unfold hidV
  pointwise
  simp only [mul_zero, Finset.sum_const_zero, add_zero]

theorem outV_at (v3 : Vec Ideal S896x896 .f32) (h : FVec Ideal S896x256 .f32) (v20 v22 : Vec Ideal S256x256 .f32) (v26 : Vec Ideal S1x256 .f32) (r : Fin 896) (f : Fin 256) :
    outV v3 h v20 v22 v26 (ix2 r f)
      = (∑ k : Fin 256, h (ix2 r k) * v20 (ix2 k f)) + (∑ j : Fin 896, v3 (ix2 r j) * ∑ k : Fin 256, h (ix2 j k) * v22 (ix2 k f)) + v26 (ix2 0 f) := by
  unfold outV
  pointwise

/-- The mask of the nodes among the padded rows. -/
theorem node_mask (x : Fin 896) : FloatOps.sitofp (F := Ideal) FTy.f32 (BitVec.setWidth 32 (IntOp.cmpi CmpIPredicate.slt (BitVec.ofNat 32 x.val) 883#32)) = if x.val < 883 then (1 : EReal) else 0 := by
  have h : IntOp.cmpi CmpIPredicate.slt (BitVec.ofNat 32 x.val) 883#32 = if x.val < 883 then 1#1 else 0#1 := by
    have : ∀ x : Fin 896, IntOp.cmpi CmpIPredicate.slt (BitVec.ofNat 32 x.val) 883#32 = if x.val < 883 then 1#1 else 0#1 := by decide +kernel
    exact this x
  rw [h]
  show (((BitVec.setWidth 32 (if x.val < 883 then 1#1 else 0#1)).toInt : ℝ) : EReal) = _
  by_cases hx : x.val < 883
  · rw [if_pos hx, if_pos hx, show (BitVec.setWidth 32 1#1).toInt = 1 by decide]; simp
  · rw [if_neg hx, if_neg hx, show (BitVec.setWidth 32 0#1).toInt = 0 by decide]; simp

theorem pay12_at (v64 : FVec Ideal S896x256 .f32) (v67 : Vec Ideal S1x1x896 .f32) (hm : ∀ j : Fin 896, 883 ≤ j.val → v67 (ix3 0 0 j) = (0 : EReal))
    (v85 v87 : Vec Ideal S256x256 .f32) (v90 : Vec Ideal S1x256 .f32) (f : Fin 256) :
    k1_pay12 k1_pay10 v64 v67 v85 v87 v90 (ix2 0 f)
      = max ((∑ k : Fin 256, Alg.locS (fun r => v67 (ix3 0 0 (⟨r.val, by omega⟩ : Fin 896))) (fun r k => v64 (ix2 (⟨r.val, by omega⟩ : Fin 896) k)) k * v85 (ix2 k f))
        + (∑ k : Fin 256, Alg.globS (fun r k => v64 (ix2 (⟨r.val, by omega⟩ : Fin 896) k)) k * v87 (ix2 k f)) + v90 (ix2 0 f)) 0 := by
  unfold k1_pay12 k1_pay10
  pointwise
  simp only [node_mask]
  have e1 : ∀ k : Fin 256, (∑ x : Fin 896, v67 (ix3 0 0 x) * (v64 (ix2 x k) * if x.val < 883 then (1 : EReal) else 0))
      = ∑ r : Fin 883, v67 (ix3 0 0 (⟨r.val, by omega⟩ : Fin 896)) * v64 (ix2 (⟨r.val, by omega⟩ : Fin 896) k) := fun k => by
    rw [Alg.sum_trim _ fun j hj => by rw [hm j hj, zero_mul]]
    exact Finset.sum_congr rfl fun r _ => by rw [if_pos r.isLt, mul_one]
  have e2 : ∀ k : Fin 256, (∑ x : Fin 896, (if x.val < 883 then (1 : EReal) else 0) * (v64 (ix2 x k) * if x.val < 883 then (1 : EReal) else 0))
      = ∑ r : Fin 883, v64 (ix2 (⟨r.val, by omega⟩ : Fin 896) k) := fun k => by
    rw [Alg.sum_trim _ fun j hj => by rw [if_neg (by omega), zero_mul]]
    exact Finset.sum_congr rfl fun r _ => by rw [if_pos r.isLt, mul_one, one_mul]
  have e3 : (∑ x : Fin 1, ∑ y : Fin 896, v67 (ix3 0 x y)) = ∑ r : Fin 883, v67 (ix3 0 0 (⟨r.val, by omega⟩ : Fin 896)) := by
    rw [Fin.sum_univ_one]
    exact Alg.sum_trim _ hm
  unfold Alg.locS Alg.globS
  rw [e3, Finset.sum_congr rfl fun k _ => by rw [e1 k], Finset.sum_congr rfl (s₁ := Finset.univ) (f := fun k => Ideal.div _ (Ideal.ofBits FTy.f32 1146929152#32) * _) fun k _ => by rw [e2 k]]

theorem hid8_at (z : FVec Ideal S1x256 .f32) (x13 : Vec Ideal S8x256x128 .f32) (x14 : Vec Ideal S8x128 .f32) (a : Fin 8) (h : Fin 128) :
    hidOf z x13 x14 (ix2 a h) = max ((∑ k : Fin 256, z (ix2 0 k) * x13 (ix3 a k h)) + x14 (ix2 a h)) 0 := by
  unfold hidOf k1_pay20 k1_pay19 k1_pay18 k1_pay17 k1_pay16 k1_pay15 k1_pay14
  unfold headW0 headW1 headW2 headW3 headW4 headW5 headW6 headW7 headB0 headB1 headB2 headB3 headB4 headB5 headB6 headB7 cut
  pointwise
  fin_vals a with hk
  all_goals simp only [hk, Nat.reduceSub, Nat.reduceLT, ↓reduceDIte]
  · have e : a = (0 : Fin 8) := Fin.ext hk
    subst e; rfl
  · have e : a = (1 : Fin 8) := Fin.ext hk
    subst e; rfl
  · have e : a = (2 : Fin 8) := Fin.ext hk
    subst e; rfl
  · have e : a = (3 : Fin 8) := Fin.ext hk
    subst e; rfl
  · have e : a = (4 : Fin 8) := Fin.ext hk
    subst e; rfl
  · have e : a = (5 : Fin 8) := Fin.ext hk
    subst e; rfl
  · have e : a = (6 : Fin 8) := Fin.ext hk
    subst e; rfl
  · have e : a = (7 : Fin 8) := Fin.ext hk
    subst e; rfl

theorem prob_at (z : FVec Ideal S1x256 .f32) (x13 : Vec Ideal S8x256x128 .f32) (x14 x15 : Vec Ideal S8x128 .f32) (x16 : Vec Ideal S8x1 .f32) (a : Fin 8) :
    probBlk z x13 x14 x15 x16 (ix3 0 a 0) = Ideal.div 1 (1 + Ideal.exp (0 - ((∑ k : Fin 128, hidOf z x13 x14 (ix2 a k) * x15 (ix2 a k)) + x16 (ix2 a 0)))) := by
  unfold probBlk k1_pay24 k1_pay23 k1_pay22 k1_pay21
  pointwise
  rfl

theorem sign_at (z : FVec Ideal S1x256 .f32) (x13 : Vec Ideal S8x256x128 .f32) (x14 x15 : Vec Ideal S8x128 .f32) (x16 : Vec Ideal S8x1 .f32) (a : Fin 8) :
    signBlk z x13 x14 x15 x16 (ix3 0 a 0) = (∑ k : Fin 128, hidOf z x13 x14 (ix2 a k) * x15 (ix2 a k)) + x16 (ix2 a 0) := by
  unfold signBlk k1_pay25 k1_pay21
  pointwise

theorem mag_at (z : FVec Ideal S1x256 .f32) (x13 : Vec Ideal S8x256x128 .f32) (x14 x15 : Vec Ideal S8x128 .f32) (x16 : Vec Ideal S8x1 .f32) (a : Fin 8) :
    magBlk z x13 x14 x15 x16 (ix3 0 a 0) = (max ((∑ k : Fin 128, hidOf z x13 x14 (ix2 a k) * x15 (ix2 a k)) + x16 (ix2 a 0)) 0
      + Ideal.log1p (Ideal.exp (0 - FloatOps.absf (F := Ideal) (φ := .f32) ((∑ k : Fin 128, hidOf z x13 x14 (ix2 a k) * x15 (ix2 a k)) + x16 (ix2 a 0)))) : EReal) := by
  unfold magBlk k1_pay1 k1_pay26 k1_pay21
  pointwise

theorem cat_at (z : FVec Ideal S1x256 .f32) (w : Vec Ideal S256x8 .f32) (b : Vec Ideal S1x8 .f32) (a : Fin 8) :
    k1_pay2 z w b (ix2 0 a) = (∑ k : Fin 256, z (ix2 0 k) * w (ix2 k a)) + b (ix2 0 a) := by
  unfold k1_pay2
  pointwise
theorem cat3_at (z : FVec Ideal S1x256 .f32) (w : Vec Ideal S256x8 .f32) (b : Vec Ideal S1x8 .f32) (a : Fin 8) :
    k1_pay3 z w b (ix3 0 0 a) = k1_pay2 z w b (ix2 0 a) := by
  unfold k1_pay3
  pointwise
theorem dom_at (z : FVec Ideal S1x256 .f32) (w : Vec Ideal S256x8 .f32) (b : Vec Ideal S1x8 .f32) :
    k1_pay4 z w b (ix3 0 0 0) = Finset.fold IntOp.minsi (2147483647#32) (fun x : Fin 8 =>
        if Finset.fold max (Ideal.ofBits FTy.f32 4286578688#32) (fun x : Fin 8 => (k1_pay2 z w b (ix2 0 x) : EReal)) Finset.univ ≤ k1_pay2 z w b (ix2 0 x) then BitVec.ofNat 32 x.val else 1073741824#32)
      Finset.univ := by
  unfold k1_pay4
  generalize k1_pay2 z w b = v
  pointwise

end Cert.Proof.Adj

end
-- ==== Proof.KerArgs.lean ====
/- What the TensorCore call reads, and what the program returns, in terms of the arguments. -/
module

public import proofs.«01_k».proof.Proof.Main
public import proofs.«01_k».proof.Proof.KerAt
public import proofs.«01_k».proof.Proof.Count
public import Idealize.ShloMosaic.Lib.Pipeline.ValueKit
public import Idealize.ShloMosaic.Lib.StableHlo.Run

@[expose] public section

set_option maxRecDepth 16384

noncomputable section

namespace Cert.Proof.Adj

open Cert.KernelIdeal Cert.KernelIdeal.Gen
open Idealize.ShloMosaic Idealize.ShloMosaic.TcCoe Idealize.ShloMosaic.Tactic Idealize.SL.Sem
open Idealize.ShloMosaic.StableHlo (after after_of_writes_sub forall_writes_sub_of_map)

section Host
variable {F : FTy → Type} [FloatOps F]

/-! ## The host's operations -/

theorem outA1 (V : Valuation τ sig (Elt F)) : after opsA V (Proc.devRef .tc main_v1)
    = shapeCast S28256 (extractStridedSlice S1x28256 ![0, 0] (V (Proc.devRef .tc main_arg3) : S2x28256.Idx → BitVec 32) slices_S2x28256_S1x28256_0_0) shapeCasts_S1x28256_S28256 := by
  after_results <;> rfl
theorem outA3 (V : Valuation τ sig (Elt F)) : after opsA V (Proc.devRef .tc main_v3)
    = shapeCast S28256 (extractStridedSlice S1x28256 ![1, 0] (V (Proc.devRef .tc main_arg3) : S2x28256.Idx → BitVec 32) slices_S2x28256_S1x28256_1_0) shapeCasts_S1x28256_S28256 := by
  after_results <;> rfl
theorem keepA (V : Valuation τ sig (Elt F)) (r : Ref sig .tc) (hr : r ∉ [main_v0, main_v1, main_v2, main_v3]) :
    after opsA V (Proc.devRef .tc r) = V (Proc.devRef .tc r) :=
  after_of_writes_sub _ V (forall_writes_sub_of_map rfl) hr

theorem keepB (V : Valuation τ sig (Elt F)) (r : Ref sig .tc)
    (hr : r ∉ [main_v5, main_c, main_call0_v0, main_v6, main_c_0, main_call1_v0, main_v7, main_v8, main_v9, main_v10, main_v11, main_v12, main_v13, main_v14, main_v15]) :
    after opsB V (Proc.devRef .tc r) = V (Proc.devRef .tc r) :=
  after_of_writes_sub _ V (forall_writes_sub_of_map rfl) hr
theorem outB5 (V : Valuation τ sig (Elt F)) : after opsB V (Proc.devRef .tc main_v5)
    = shapeCast S896x896 (V (Proc.devRef .tc main_v4) : S802816.Idx → F .f32) shapeCasts_S802816_S896x896 := by
  after_results <;> rfl
theorem outB6 (V : Valuation τ sig (Elt F)) : after opsB V (Proc.devRef .tc main_v6)
    = pad S896x20 ![0, 0] ![13, 0] ![0, 0] (V (Proc.devRef .tc main_arg2) : S883x20.Idx → F .f32) (sitofp .f32 (constantI S_ 32 0#32)) pads_S883x20_S896x20_0130_000 h_S_ := by
  after_results <;> rfl
theorem outB8 (V : Valuation τ sig (Elt F)) : after opsB V (Proc.devRef .tc main_v8)
    = shapeCast S4x1x896 (pad S4x896 ![0, 0] ![0, 13] ![0, 0] (V (Proc.devRef .tc main_arg4) : S4x883.Idx → F .f32) (sitofp .f32 (constantI S_ 32 0#32)) pads_S4x883_S4x896_000_0130 h_S_) shapeCasts_S4x896_S4x1x896 := by
  after_results <;> rfl
theorem outB9 (V : Valuation τ sig (Elt F)) : after opsB V (Proc.devRef .tc main_v9) = shapeCast S1x256 (V (Proc.devRef .tc main_arg10) : S256.Idx → F .f32) shapeCasts_S256_S1x256 := by
  after_results <;> rfl
theorem outB10 (V : Valuation τ sig (Elt F)) : after opsB V (Proc.devRef .tc main_v10) = shapeCast S1x256 (V (Proc.devRef .tc main_arg12) : S256.Idx → F .f32) shapeCasts_S256_S1x256 := by
  after_results <;> rfl
theorem outB11 (V : Valuation τ sig (Elt F)) : after opsB V (Proc.devRef .tc main_v11) = shapeCast S1x256 (V (Proc.devRef .tc main_arg14) : S256.Idx → F .f32) shapeCasts_S256_S1x256 := by
  after_results <;> rfl
theorem outB12 (V : Valuation τ sig (Elt F)) : after opsB V (Proc.devRef .tc main_v12) = shapeCast S8x1 (V (Proc.devRef .tc main_arg18) : S8.Idx → F .f32) shapeCasts_S8_S8x1 := by
  after_results <;> rfl
theorem outB13 (V : Valuation τ sig (Elt F)) : after opsB V (Proc.devRef .tc main_v13) = shapeCast S8x1 (V (Proc.devRef .tc main_arg20) : S8.Idx → F .f32) shapeCasts_S8_S8x1 := by
  after_results <;> rfl
theorem outB14 (V : Valuation τ sig (Elt F)) : after opsB V (Proc.devRef .tc main_v14) = shapeCast S8x1 (V (Proc.devRef .tc main_arg22) : S8.Idx → F .f32) shapeCasts_S8_S8x1 := by
  after_results <;> rfl
theorem outB15 (V : Valuation τ sig (Elt F)) : after opsB V (Proc.devRef .tc main_v15) = shapeCast S1x8 (V (Proc.devRef .tc main_arg24) : S8.Idx → F .f32) shapeCasts_S8_S1x8 := by
  after_results <;> rfl

theorem keepC (V : Valuation τ sig (Elt F)) (r : Ref sig .tc) (hr : r ∉ [main_v17, main_v18, main_v19, main_v20, main_v21, main_v22]) :
    after opsC V (Proc.devRef .tc r) = V (Proc.devRef .tc r) :=
  after_of_writes_sub _ V (forall_writes_sub_of_map rfl) hr
theorem outC17 (V : Valuation τ sig (Elt F)) : after opsC V (Proc.devRef .tc main_v17) = shapeCast S4x256 (V (Proc.devRef .tc main_v16_0) : S4x1x256.Idx → F .f32) shapeCasts_S4x1x256_S4x256 := by
  after_results <;> rfl
theorem outC18 (V : Valuation τ sig (Elt F)) : after opsC V (Proc.devRef .tc main_v18) = shapeCast S4x8 (V (Proc.devRef .tc main_v16_1) : S4x8x1.Idx → F .f32) shapeCasts_S4x8x1_S4x8 := by
  after_results <;> rfl
theorem outC19 (V : Valuation τ sig (Elt F)) : after opsC V (Proc.devRef .tc main_v19) = shapeCast S4x8 (V (Proc.devRef .tc main_v16_2) : S4x1x8.Idx → F .f32) shapeCasts_S4x1x8_S4x8 := by
  after_results <;> rfl
theorem outC20 (V : Valuation τ sig (Elt F)) : after opsC V (Proc.devRef .tc main_v20) = shapeCast S4x8 (V (Proc.devRef .tc main_v16_3) : S4x8x1.Idx → F .f32) shapeCasts_S4x8x1_S4x8 := by
  after_results <;> rfl
theorem outC21 (V : Valuation τ sig (Elt F)) : after opsC V (Proc.devRef .tc main_v21) = shapeCast S4x8 (V (Proc.devRef .tc main_v16_4) : S4x8x1.Idx → F .f32) shapeCasts_S4x8x1_S4x8 := by
  after_results <;> rfl
theorem outC22 (V : Valuation τ sig (Elt F)) : after opsC V (Proc.devRef .tc main_v22) = shapeCast S4 (V (Proc.devRef .tc main_v16_5) : S4x1x1.Idx → BitVec 32) shapeCasts_S4x1x1_S4 := by
  after_results <;> rfl

variable (m : (ℓ : Loc nD τ sig) → Buf (Elt F) ℓ) (c : Dev nD)

/-- A buffer no operation before the TensorCore call writes is the program's own; -/
theorem VB_keep (r : Ref sig .tc)
    (h : r ∉ [main_v0, main_v1, main_v2, main_v3, main_v4, main_v5, main_c, main_call0_v0, main_v6, main_c_0, main_call1_v0, main_v7, main_v8, main_v9, main_v10, main_v11, main_v12, main_v13, main_v14, main_v15]) :
    VB m c (Proc.devRef .tc r) = m ((c : Thread nD τ).loc r) := by
  simp only [List.mem_cons, not_or, List.not_mem_nil, not_false_eq_true, and_true] at h
  unfold VB
  rw [keepB _ r (by simp only [List.mem_cons, not_or, List.not_mem_nil, not_false_eq_true, and_true]; tauto)]
  unfold VS
  rw [Function.update_of_ne (fun e => h.2.2.2.2.1 (Proc.devRef_injective .tc e))]
  unfold VA
  rw [keepA _ r (by simp only [List.mem_cons, not_or, List.not_mem_nil, not_false_eq_true, and_true]; tauto)]
  rfl
/-- nor one that nothing at all writes. -/
theorem VE_keep (r : Ref sig .tc)
    (h : r ∉ [main_v0, main_v1, main_v2, main_v3, main_v4, main_v5, main_c, main_call0_v0, main_v6, main_c_0, main_call1_v0, main_v7, main_v8, main_v9, main_v10, main_v11, main_v12, main_v13, main_v14, main_v15])
    (hC : r ∉ [main_v17, main_v18, main_v19, main_v20, main_v21, main_v22]) (hT : ∀ w : Fin 29, 23 ≤ w.val → r ≠ Pipeline.arrRef spec1 w) :
    VE m c (Proc.devRef .tc r) = m ((c : Thread nD τ).loc r) := by
  unfold VE
  rw [keepC _ r hC, VT_ne m c r hT, VB_keep m c r h]

/-- The two lists. -/
theorem svM_at (e : Fin 28256) : svM m c (ix1 e) = (m ((c : Thread nD τ).loc main_arg3) : S2x28256.Idx → BitVec 32) (ix2 0 e) := by
  refine (congrFun (outA1 (V0 m c)) (ix1 e)).trans ?_
  pointwise
  rfl
theorem dvM_at (e : Fin 28256) : dvM m c (ix1 e) = (m ((c : Thread nD τ).loc main_arg3) : S2x28256.Idx → BitVec 32) (ix2 1 e) := by
  refine (congrFun (outA3 (V0 m c)) (ix1 e)).trans ?_
  pointwise
  rfl

theorem srcOK (hE : ∀ j, ((m ((c : Thread nD τ).loc main_arg3) : S2x28256.Idx → BitVec 32) j).toNat < 883) : SrcOK (svM m c) := by
  intro j
  have e : svM m c j = _ := (congrArg (svM m c) (eq_ix1 (n0 := 28256) j)).trans (svM_at m c (j 0))
  rw [e]
  exact Nat.lt_trans (hE _) (by decide)

end Host

end Cert.Proof.Adj

end
-- ==== Proof.KerBlk.lean ====
/- The blocks of the TensorCore call, read at an index: what comes in, and what the six output arrays hold. -/
module

public import proofs.«01_k».proof.Proof.KerArgs

@[expose] public section

set_option maxRecDepth 16384

noncomputable section

namespace Cert.Proof.Adj

open Cert.KernelIdeal Cert.KernelIdeal.Gen
open Idealize.ShloMosaic Idealize.ShloMosaic.TcCoe Idealize.ShloMosaic.Tactic Idealize.SL.Sem
open Idealize.ShloMosaic.Pipeline (Dat Cfg Window)

section Blocks
variable {F : FTy → Type} [FloatOps F]
variable (V : (c : Dev nD) → (b : Ref sig .tc) → Buf (Elt F) ((c : Thread nD τ).loc b)) (c : Dev nD) (t : Fin cfg1.N)

/-! ## The inputs -/

theorem blk0 : (iblk V c 0 t : S896x896.Idx → F .f32) = V c main_v5 := by
  have e : (cfg1.win 0).index t = ![0, 0] := (by decide +kernel : ∀ t : Fin cfg1.N, (cfg1.win 0).index t = ![0, 0]) t
  funext y
  blk_ext [iblk, e]
theorem blk3 : (iblk V c 3 t : S896x20.Idx → F .f32) = V c main_v6 := by
  have e : (cfg1.win 3).index t = ![0, 0] := (by decide +kernel : ∀ t : Fin cfg1.N, (cfg1.win 3).index t = ![0, 0]) t
  funext y
  blk_ext [iblk, e]
theorem blk5 : (iblk V c 5 t : S20x128.Idx → F .f32) = V c main_arg5 := by
  have e : (cfg1.win 5).index t = ![0, 0] := (by decide +kernel : ∀ t : Fin cfg1.N, (cfg1.win 5).index t = ![0, 0]) t
  funext y
  blk_ext [iblk, e]
theorem blk6 : (iblk V c 6 t : S128x128.Idx → F .f32) = V c main_arg7 := by
  have e : (cfg1.win 6).index t = ![0, 0] := (by decide +kernel : ∀ t : Fin cfg1.N, (cfg1.win 6).index t = ![0, 0]) t
  funext y
  blk_ext [iblk, e]
theorem blk7 : (iblk V c 7 t : S2816x256.Idx → F .f32) = V c main_arg9 := by
  have e : (cfg1.win 7).index t = ![0, 0] := (by decide +kernel : ∀ t : Fin cfg1.N, (cfg1.win 7).index t = ![0, 0]) t
  funext y
  blk_ext [iblk, e]
theorem blk8 : (iblk V c 8 t : S1x256.Idx → F .f32) = V c main_v9 := by
  have e : (cfg1.win 8).index t = ![0, 0] := (by decide +kernel : ∀ t : Fin cfg1.N, (cfg1.win 8).index t = ![0, 0]) t
  funext y
  blk_ext [iblk, e]
theorem blk9 : (iblk V c 9 t : S512x256.Idx → F .f32) = V c main_arg11 := by
  have e : (cfg1.win 9).index t = ![0, 0] := (by decide +kernel : ∀ t : Fin cfg1.N, (cfg1.win 9).index t = ![0, 0]) t
  funext y
  blk_ext [iblk, e]
theorem blk10 : (iblk V c 10 t : S1x256.Idx → F .f32) = V c main_v10 := by
  have e : (cfg1.win 10).index t = ![0, 0] := (by decide +kernel : ∀ t : Fin cfg1.N, (cfg1.win 10).index t = ![0, 0]) t
  funext y
  blk_ext [iblk, e]
theorem blk11 : (iblk V c 11 t : S512x256.Idx → F .f32) = V c main_arg13 := by
  have e : (cfg1.win 11).index t = ![0, 0] := (by decide +kernel : ∀ t : Fin cfg1.N, (cfg1.win 11).index t = ![0, 0]) t
  funext y
  blk_ext [iblk, e]
theorem blk12 : (iblk V c 12 t : S1x256.Idx → F .f32) = V c main_v11 := by
  have e : (cfg1.win 12).index t = ![0, 0] := (by decide +kernel : ∀ t : Fin cfg1.N, (cfg1.win 12).index t = ![0, 0]) t
  funext y
  blk_ext [iblk, e]
theorem blk13 : (iblk V c 13 t : S8x256x128.Idx → F .f32) = V c main_arg15 := by
  have e : (cfg1.win 13).index t = ![0, 0, 0] := (by decide +kernel : ∀ t : Fin cfg1.N, (cfg1.win 13).index t = ![0, 0, 0]) t
  funext y
  blk_ext [iblk, e]
theorem blk14 : (iblk V c 14 t : S8x128.Idx → F .f32) = V c main_arg16 := by
  have e : (cfg1.win 14).index t = ![0, 0] := (by decide +kernel : ∀ t : Fin cfg1.N, (cfg1.win 14).index t = ![0, 0]) t
  funext y
  blk_ext [iblk, e]
theorem blk15 : (iblk V c 15 t : S8x128.Idx → F .f32) = V c main_arg17 := by
  have e : (cfg1.win 15).index t = ![0, 0] := (by decide +kernel : ∀ t : Fin cfg1.N, (cfg1.win 15).index t = ![0, 0]) t
  funext y
  blk_ext [iblk, e]
theorem blk16 : (iblk V c 16 t : S8x1.Idx → F .f32) = V c main_v12 := by
  have e : (cfg1.win 16).index t = ![0, 0] := (by decide +kernel : ∀ t : Fin cfg1.N, (cfg1.win 16).index t = ![0, 0]) t
  funext y
  blk_ext [iblk, e]
theorem blk17 : (iblk V c 17 t : S8x128.Idx → F .f32) = V c main_arg19 := by
  have e : (cfg1.win 17).index t = ![0, 0] := (by decide +kernel : ∀ t : Fin cfg1.N, (cfg1.win 17).index t = ![0, 0]) t
  funext y
  blk_ext [iblk, e]
theorem blk18 : (iblk V c 18 t : S8x1.Idx → F .f32) = V c main_v13 := by
  have e : (cfg1.win 18).index t = ![0, 0] := (by decide +kernel : ∀ t : Fin cfg1.N, (cfg1.win 18).index t = ![0, 0]) t
  funext y
  blk_ext [iblk, e]
theorem blk19 : (iblk V c 19 t : S8x128.Idx → F .f32) = V c main_arg21 := by
  have e : (cfg1.win 19).index t = ![0, 0] := (by decide +kernel : ∀ t : Fin cfg1.N, (cfg1.win 19).index t = ![0, 0]) t
  funext y
  blk_ext [iblk, e]
theorem blk20 : (iblk V c 20 t : S8x1.Idx → F .f32) = V c main_v14 := by
  have e : (cfg1.win 20).index t = ![0, 0] := (by decide +kernel : ∀ t : Fin cfg1.N, (cfg1.win 20).index t = ![0, 0]) t
  funext y
  blk_ext [iblk, e]
theorem blk21 : (iblk V c 21 t : S256x8.Idx → F .f32) = V c main_arg23 := by
  have e : (cfg1.win 21).index t = ![0, 0] := (by decide +kernel : ∀ t : Fin cfg1.N, (cfg1.win 21).index t = ![0, 0]) t
  funext y
  blk_ext [iblk, e]
theorem blk22 : (iblk V c 22 t : S1x8.Idx → F .f32) = V c main_v15 := by
  have e : (cfg1.win 22).index t = ![0, 0] := (by decide +kernel : ∀ t : Fin cfg1.N, (cfg1.win 22).index t = ![0, 0]) t
  funext y
  blk_ext [iblk, e]
theorem blk1 (r : Fin 883) (k : Fin 1280) : (iblk V c 1 t : S1x883x1280.Idx → F .f32) (ix3 0 r k) = (V c main_arg0 : S4x883x1280.Idx → F .f32) (ix3 t r k) := by
  have e : (cfg1.win 1).index t = ![t.val, 0, 0] := (by decide +kernel : ∀ t : Fin cfg1.N, (cfg1.win 1).index t = ![t.val, 0, 0]) t
  blk_ext [iblk, e]
theorem blk2 (r : Fin 883) (k : Fin 1280) : (iblk V c 2 t : S1x883x1280.Idx → F .f32) (ix3 0 r k) = (V c main_arg1 : S4x883x1280.Idx → F .f32) (ix3 t r k) := by
  have e : (cfg1.win 2).index t = ![t.val, 0, 0] := (by decide +kernel : ∀ t : Fin cfg1.N, (cfg1.win 2).index t = ![t.val, 0, 0]) t
  blk_ext [iblk, e]
theorem blk4 (r : Fin 896) : (iblk V c 4 t : S1x1x896.Idx → F .f32) (ix3 0 0 r) = (V c main_v8 : S4x1x896.Idx → F .f32) (ix3 t 0 r) := by
  have e : (cfg1.win 4).index t = ![t.val, 0, 0] := (by decide +kernel : ∀ t : Fin cfg1.N, (cfg1.win 4).index t = ![t.val, 0, 0]) t
  blk_ext [iblk, e]

/-! ## The outputs -/

theorem arr23 (p : Fin 4) (i : Fin 1) (j : Fin 256) : ((dat V c).arrAt 23 cfg1.N : S4x1x256.Idx → F .f32) (ix3 p i j) = (outC0 V c p : S1x1x256.Idx → F .f32) (ix3 0 i j) := by
  have h : (dat V c).arrAt 23 cfg1.N = fun x : S4x1x256.Idx => (outC0 V c (x 0) : S1x1x256.Idx → F .f32) (ix3 0 (x 1) (x 2)) := by
    refine (dat V c).arrAt_eq_of_covers 23 _ (by decide +kernel) fun t hf y => ?_
    have e : (cfg1.win 23).index t = ![t.val, 0, 0] := (by decide +kernel : ∀ t : Fin cfg1.N, (cfg1.win 23).index t = ![t.val, 0, 0]) t
    blk_simp
    rw [after_23]
    have e0 : t = ((win1_23.blk t).view.emb y 0 : Fin 4) := by
      refine Fin.ext ?_
      have hy : (y 0).val < 1 := (y 0).isLt
      blk_simp [e]
    have e1 : y = (ix3 0 ((win1_23.blk t).view.emb y 1) ((win1_23.blk t).view.emb y 2) : S1x1x256.Idx) := by blk_ext [e]
    exact congrArg₂ (fun (a : Fin 4) (b : S1x1x256.Idx) => (outC0 V c a : S1x1x256.Idx → F .f32) b) e0 e1
  exact congrFun h (ix3 p i j)
theorem arr24 (p : Fin 4) (i : Fin 8) (j : Fin 1) : ((dat V c).arrAt 24 cfg1.N : S4x8x1.Idx → F .f32) (ix3 p i j) = (outC1 V c p : S1x8x1.Idx → F .f32) (ix3 0 i j) := by
  have h : (dat V c).arrAt 24 cfg1.N = fun x : S4x8x1.Idx => (outC1 V c (x 0) : S1x8x1.Idx → F .f32) (ix3 0 (x 1) (x 2)) := by
    refine (dat V c).arrAt_eq_of_covers 24 _ (by decide +kernel) fun t hf y => ?_
    have e : (cfg1.win 24).index t = ![t.val, 0, 0] := (by decide +kernel : ∀ t : Fin cfg1.N, (cfg1.win 24).index t = ![t.val, 0, 0]) t
    blk_simp
    rw [after_24]
    have e0 : t = ((win1_24.blk t).view.emb y 0 : Fin 4) := by
      refine Fin.ext ?_
      have hy : (y 0).val < 1 := (y 0).isLt
      blk_simp [e]
    have e1 : y = (ix3 0 ((win1_24.blk t).view.emb y 1) ((win1_24.blk t).view.emb y 2) : S1x8x1.Idx) := by blk_ext [e]
    exact congrArg₂ (fun (a : Fin 4) (b : S1x8x1.Idx) => (outC1 V c a : S1x8x1.Idx → F .f32) b) e0 e1
  exact congrFun h (ix3 p i j)
theorem arr25 (p : Fin 4) (i : Fin 1) (j : Fin 8) : ((dat V c).arrAt 25 cfg1.N : S4x1x8.Idx → F .f32) (ix3 p i j) = (outC2 V c p : S1x1x8.Idx → F .f32) (ix3 0 i j) := by
  have h : (dat V c).arrAt 25 cfg1.N = fun x : S4x1x8.Idx => (outC2 V c (x 0) : S1x1x8.Idx → F .f32) (ix3 0 (x 1) (x 2)) := by
    refine (dat V c).arrAt_eq_of_covers 25 _ (by decide +kernel) fun t hf y => ?_
    have e : (cfg1.win 25).index t = ![t.val, 0, 0] := (by decide +kernel : ∀ t : Fin cfg1.N, (cfg1.win 25).index t = ![t.val, 0, 0]) t
    blk_simp
    rw [after_25]
    have e0 : t = ((win1_25.blk t).view.emb y 0 : Fin 4) := by
      refine Fin.ext ?_
      have hy : (y 0).val < 1 := (y 0).isLt
      blk_simp [e]
    have e1 : y = (ix3 0 ((win1_25.blk t).view.emb y 1) ((win1_25.blk t).view.emb y 2) : S1x1x8.Idx) := by blk_ext [e]
    exact congrArg₂ (fun (a : Fin 4) (b : S1x1x8.Idx) => (outC2 V c a : S1x1x8.Idx → F .f32) b) e0 e1
  exact congrFun h (ix3 p i j)
theorem arr26 (p : Fin 4) (i : Fin 8) (j : Fin 1) : ((dat V c).arrAt 26 cfg1.N : S4x8x1.Idx → F .f32) (ix3 p i j) = (outC3 V c p : S1x8x1.Idx → F .f32) (ix3 0 i j) := by
  have h : (dat V c).arrAt 26 cfg1.N = fun x : S4x8x1.Idx => (outC3 V c (x 0) : S1x8x1.Idx → F .f32) (ix3 0 (x 1) (x 2)) := by
    refine (dat V c).arrAt_eq_of_covers 26 _ (by decide +kernel) fun t hf y => ?_
    have e : (cfg1.win 26).index t = ![t.val, 0, 0] := (by decide +kernel : ∀ t : Fin cfg1.N, (cfg1.win 26).index t = ![t.val, 0, 0]) t
    blk_simp
    rw [after_26]
    have e0 : t = ((win1_26.blk t).view.emb y 0 : Fin 4) := by
      refine Fin.ext ?_
      have hy : (y 0).val < 1 := (y 0).isLt
      blk_simp [e]
    have e1 : y = (ix3 0 ((win1_26.blk t).view.emb y 1) ((win1_26.blk t).view.emb y 2) : S1x8x1.Idx) := by blk_ext [e]
    exact congrArg₂ (fun (a : Fin 4) (b : S1x8x1.Idx) => (outC3 V c a : S1x8x1.Idx → F .f32) b) e0 e1
  exact congrFun h (ix3 p i j)
theorem arr27 (p : Fin 4) (i : Fin 8) (j : Fin 1) : ((dat V c).arrAt 27 cfg1.N : S4x8x1.Idx → F .f32) (ix3 p i j) = (outC4 V c p : S1x8x1.Idx → F .f32) (ix3 0 i j) := by
  have h : (dat V c).arrAt 27 cfg1.N = fun x : S4x8x1.Idx => (outC4 V c (x 0) : S1x8x1.Idx → F .f32) (ix3 0 (x 1) (x 2)) := by
    refine (dat V c).arrAt_eq_of_covers 27 _ (by decide +kernel) fun t hf y => ?_
    have e : (cfg1.win 27).index t = ![t.val, 0, 0] := (by decide +kernel : ∀ t : Fin cfg1.N, (cfg1.win 27).index t = ![t.val, 0, 0]) t
    blk_simp
    rw [after_27]
    have e0 : t = ((win1_27.blk t).view.emb y 0 : Fin 4) := by
      refine Fin.ext ?_
      have hy : (y 0).val < 1 := (y 0).isLt
      blk_simp [e]
    have e1 : y = (ix3 0 ((win1_27.blk t).view.emb y 1) ((win1_27.blk t).view.emb y 2) : S1x8x1.Idx) := by blk_ext [e]
    exact congrArg₂ (fun (a : Fin 4) (b : S1x8x1.Idx) => (outC4 V c a : S1x8x1.Idx → F .f32) b) e0 e1
  exact congrFun h (ix3 p i j)
theorem arr28 (p : Fin 4) (i : Fin 1) (j : Fin 1) : ((dat V c).arrAt 28 cfg1.N : S4x1x1.Idx → BitVec 32) (ix3 p i j) = (outC5 V c p : S1x1x1.Idx → BitVec 32) (ix3 0 i j) := by
  have h : (dat V c).arrAt 28 cfg1.N = fun x : S4x1x1.Idx => (outC5 V c (x 0) : S1x1x1.Idx → BitVec 32) (ix3 0 (x 1) (x 2)) := by
    refine (dat V c).arrAt_eq_of_covers 28 _ (by decide +kernel) fun t hf y => ?_
    have e : (cfg1.win 28).index t = ![t.val, 0, 0] := (by decide +kernel : ∀ t : Fin cfg1.N, (cfg1.win 28).index t = ![t.val, 0, 0]) t
    blk_simp
    rw [after_28]
    have e0 : t = ((win1_28.blk t).view.emb y 0 : Fin 4) := by
      refine Fin.ext ?_
      have hy : (y 0).val < 1 := (y 0).isLt
      blk_simp [e]
    have e1 : y = (ix3 0 ((win1_28.blk t).view.emb y 1) ((win1_28.blk t).view.emb y 2) : S1x1x1.Idx) := by blk_ext [e]
    exact congrArg₂ (fun (a : Fin 4) (b : S1x1x1.Idx) => (outC5 V c a : S1x1x1.Idx → BitVec 32) b) e0 e1
  exact congrFun h (ix3 p i j)

end Blocks

end Cert.Proof.Adj

end
-- ==== Proof.Spec.lean ====
/- The values both sides end at, as functions of the arguments. -/
module

public import proofs.«01_k».proof.Proof.Alg

@[expose] public section

noncomputable section

namespace Cert.Proof.Alg

open Idealize.ShloMosaic

section
variable (E : Edges)

/-- The change of a node's encoding from the first embedding to the second. -/
def diffS (x y : Fin 883 → Fin 1280 → EReal) (s : Fin 883 → Fin 128 → EReal) (w : (⟨2, ![2816, 256]⟩ : Shape).Idx → EReal) (b : Fin 256 → EReal)
    (w2 : (⟨2, ![512, 256]⟩ : Shape).Idx → EReal) (b2 : Fin 256 → EReal) (r : Fin 883) (f : Fin 256) : EReal :=
  h2S E (h1S E y s w b) w2 b2 r f - h2S E (h1S E x s w b) w2 b2 r f
/-- The fused row. -/
def rowS (x y : Fin 883 → Fin 1280 → EReal) (s : Fin 883 → Fin 128 → EReal) (w : (⟨2, ![2816, 256]⟩ : Shape).Idx → EReal) (b : Fin 256 → EReal)
    (w2 : (⟨2, ![512, 256]⟩ : Shape).Idx → EReal) (b2 : Fin 256 → EReal) (mask : Fin 883 → EReal) (w3 : (⟨2, ![512, 256]⟩ : Shape).Idx → EReal) (b3 : Fin 256 → EReal) : Fin 256 → EReal :=
  fuseS (locS mask (diffS E x y s w b w2 b2)) (globS (diffS E x y s w b w2 b2)) w3 b3
end

/-- The heads: the hidden rows, a head's score, and what the two activations make of it. -/
def hidS (z : Fin 256 → EReal) (w : (⟨3, ![8, 256, 128]⟩ : Shape).Idx → EReal) (b : (⟨2, ![8, 128]⟩ : Shape).Idx → EReal) (a : Fin 8) (k : Fin 128) : EReal :=
  max ((∑ i : Fin 256, z i * w (ix3 a i k)) + b (ix2 a k)) 0
def scoreS (h : Fin 8 → Fin 128 → EReal) (w : (⟨2, ![8, 128]⟩ : Shape).Idx → EReal) (b : Fin 8 → EReal) (a : Fin 8) : EReal :=
  (∑ k : Fin 128, h a k * w (ix2 a k)) + b a
def logisticS (s : EReal) : EReal := Ideal.div 1 (1 + Ideal.exp (-s))
def softplusS (s : EReal) : EReal := (max s 0 + Ideal.log1p (Ideal.exp (-FloatOps.absf (F := Ideal) (φ := .f32) s)) : EReal)
/-- The classes' scores. -/
def catS (z : Fin 256 → EReal) (w : (⟨2, ![256, 8]⟩ : Shape).Idx → EReal) (b : Fin 8 → EReal) (a : Fin 8) : EReal :=
  (∑ k : Fin 256, z k * w (ix2 k a)) + b a

end Cert.Proof.Alg

end
-- ==== Proof.KerVal.lean ====
/- The TensorCore body's values in terms of the arguments, over the extended reals. -/
module

public import proofs.«01_k».proof.Proof.KerAt
public import proofs.«01_k».proof.Proof.Spec

@[expose] public section

set_option maxRecDepth 16384

noncomputable section

namespace Cert.Proof.Adj

open Cert.KernelIdeal Cert.KernelIdeal.Gen
open Idealize.ShloMosaic Idealize.ShloMosaic.TcCoe Idealize.ShloMosaic.Tactic Idealize.SL.Sem

section
variable (E : Alg.Edges) (hE : ∀ j, (E j).toNat < 883)
include hE

/-- The normalized matrix. -/
theorem an_eq (x0 : Vec Ideal S896x896 .f32) (h0 : ∀ r c : Fin 896, x0 (ix2 r c) = edgeCount E r.val c.val) (r j : Fin 896) :
    k1_pay5 x0 (ix2 r j) = Alg.adjS E r.val j.val := by
  rw [an_at, h0 r j]
  unfold Alg.adjS Alg.degS
  refine congrArg (fun s : EReal => Ideal.div (edgeCount E r.val j.val) (max s 1)) ?_
  rw [Finset.sum_congr rfl fun k _ => h0 r k]
  exact Alg.sum_trim (fun k : Fin 896 => edgeCount E r.val k.val) fun k hk => Alg.count_out E hE _ _ (.inr hk)

/-- The structural part of the first layer. -/
theorem seq_eq (x0 : Vec Ideal S896x896 .f32) (h0 : ∀ r c : Fin 896, x0 (ix2 r c) = edgeCount E r.val c.val)
    (x3 : Vec Ideal S896x20 .f32) (a2 : (⟨2, ![883, 20]⟩ : Shape).Idx → EReal) (h3 : ∀ (r : Fin 883) (k : Fin 20), x3 (ix2 (⟨r.val, by omega⟩ : Fin 896) k) = a2 (ix2 r k))
    (x5 : Vec Ideal S20x128 .f32) (x6 : Vec Ideal S128x128 .f32) (x7 : Vec Ideal S2816x256 .f32) (x8 : Vec Ideal S1x256 .f32) (r : Fin 883) (f : Fin 256) :
    seqOf x0 x3 x5 x6 x7 x8 (ix2 (⟨r.val, by omega⟩ : Fin 896) f) = Alg.seqS E (Alg.s2S a2 x5 x6) x7 (fun f => x8 (ix2 0 f)) r f := by
  unfold seqOf
  rw [pay7_at]
  unfold Alg.seqS
  refine congrArg₂ (· + ·) (congrArg₂ (· + ·) ?_ ?_) rfl
  · refine Finset.sum_congr rfl fun k _ => ?_
    rw [ownSeq_at]
    unfold Alg.s2S Alg.s1S
    simp only [h3]
  · rw [Alg.sum_trim _ fun j hj => by rw [an_eq E hE x0 h0, Alg.adj_out E hE _ _ hj, zero_mul]]
    refine Finset.sum_congr rfl fun j _ => ?_
    rw [an_eq E hE x0 h0]
    refine congrArg (Alg.adjS E r.val j.val * ·) (Finset.sum_congr rfl fun k _ => ?_)
    rw [nbrSeq_at]
    unfold Alg.s2S Alg.s1S
    simp only [h3]

section
variable (an : Vec Ideal S896x896 .f32) (hA : ∀ r j : Fin 896, an (ix2 r j) = Alg.adjS E r.val j.val)
include hA

/-- The first layer; -/
theorem hid_eq (cs : Vec Ideal S896x256 .f32) (s : Fin 883 → Fin 128 → EReal) (w : Vec Ideal S2816x256 .f32) (b : Fin 256 → EReal)
    (hS : ∀ (r : Fin 883) (f : Fin 256), cs (ix2 (⟨r.val, by omega⟩ : Fin 896) f) = Alg.seqS E s w b r f) (x : Vec Ideal S1x883x1280 .f32) (r : Fin 883) (f : Fin 256) :
    hidV an cs x (ownEsm w) (nbrEsm w) (ix2 (⟨r.val, by omega⟩ : Fin 896) f) = Alg.h1S E (fun r k => x (ix3 0 r k)) s w b r f := by
  rw [hidV_at]
  unfold Alg.h1S
  rw [hS]
  simp only [hA, ownEsm_at, nbrEsm_at]

/-- and the second. -/
theorem layer2_eq (h : FVec Ideal S896x256 .f32) (h' : Fin 883 → Fin 256 → EReal) (hh : ∀ (r : Fin 883) (f : Fin 256), h (ix2 (⟨r.val, by omega⟩ : Fin 896) f) = h' r f)
    (w : Vec Ideal S512x256 .f32) (b : Vec Ideal S1x256 .f32) (r : Fin 883) (f : Fin 256) :
    (max (outV an h (upper w) (lower w) b (ix2 (⟨r.val, by omega⟩ : Fin 896) f)) 0 : EReal) = Alg.h2S E h' w (fun f => b (ix2 0 f)) r f := by
  rw [outV_at]
  unfold Alg.h2S
  rw [Alg.sum_trim (fun j : Fin 896 => an (ix2 (⟨r.val, by omega⟩ : Fin 896) j) * ∑ k : Fin 256, h (ix2 j k) * lower w (ix2 k f)) fun j hj => by
    rw [hA, Alg.adj_out E hE _ _ hj, zero_mul]]
  simp only [hA, hh, upper_at, lower_at]

/-- The change; -/
theorem diff_eq (cs : Vec Ideal S896x256 .f32) (s : Fin 883 → Fin 128 → EReal) (w : Vec Ideal S2816x256 .f32) (b : Fin 256 → EReal)
    (hS : ∀ (r : Fin 883) (f : Fin 256), cs (ix2 (⟨r.val, by omega⟩ : Fin 896) f) = Alg.seqS E s w b r f) (x1 x2 : Vec Ideal S1x883x1280 .f32)
    (w2 : Vec Ideal S512x256 .f32) (b2 : Vec Ideal S1x256 .f32) (r : Fin 883) (f : Fin 256) :
    diffOf an cs x1 x2 w w2 b2 (ix2 (⟨r.val, by omega⟩ : Fin 896) f)
      = Alg.diffS E (fun r k => x1 (ix3 0 r k)) (fun r k => x2 (ix3 0 r k)) s w b w2 (fun f => b2 (ix2 0 f)) r f := by
  unfold diffOf encOf
  rw [pay11_eq, pay9_eq]
  have e1 := layer2_eq E hE an hA _ _ (hid_eq E hE an hA cs s w b hS x1) w2 b2 r f
  have e2 := layer2_eq E hE an hA _ _ (hid_eq E hE an hA cs s w b hS x2) w2 b2 r f
  unfold Alg.diffS
  rw [← e1, ← e2]
  generalize outV an (hidV an cs x1 (ownEsm w) (nbrEsm w)) (upper w2) (lower w2) b2 = u1
  generalize outV an (hidV an cs x2 (ownEsm w) (nbrEsm w)) (upper w2) (lower w2) b2 = u2
  pointwise

/-- and the row. -/
theorem row_eq (cs : Vec Ideal S896x256 .f32) (s : Fin 883 → Fin 128 → EReal) (w : Vec Ideal S2816x256 .f32) (b : Fin 256 → EReal)
    (hS : ∀ (r : Fin 883) (f : Fin 256), cs (ix2 (⟨r.val, by omega⟩ : Fin 896) f) = Alg.seqS E s w b r f) (x1 x2 : Vec Ideal S1x883x1280 .f32)
    (x4 : Vec Ideal S1x1x896 .f32) (hm : ∀ j : Fin 896, 883 ≤ j.val → x4 (ix3 0 0 j) = (0 : EReal))
    (w2 : Vec Ideal S512x256 .f32) (b2 : Vec Ideal S1x256 .f32) (w3 : Vec Ideal S512x256 .f32) (b3 : Vec Ideal S1x256 .f32) (f : Fin 256) :
    rowOf an cs x1 x2 x4 w w2 b2 w3 b3 (ix2 0 f)
      = Alg.rowS E (fun r k => x1 (ix3 0 r k)) (fun r k => x2 (ix3 0 r k)) s w b w2 (fun f => b2 (ix2 0 f)) (fun r => x4 (ix3 0 0 (⟨r.val, by omega⟩ : Fin 896))) w3 (fun f => b3 (ix2 0 f)) f := by
  unfold rowOf
  rw [pay12_at _ _ hm]
  simp only [diff_eq E hE an hA cs s w b hS x1 x2 w2 b2, upper_at, lower_at]
  rfl
end
end

/-! ## The heads -/

section
variable (z : FVec Ideal S1x256 .f32) (x13 : Vec Ideal S8x256x128 .f32) (x14 : Vec Ideal S8x128 .f32)

theorem hid8_eq (a : Fin 8) (k : Fin 128) : hidOf z x13 x14 (ix2 a k) = Alg.hidS (fun f => z (ix2 0 f)) x13 x14 a k := hid8_at z x13 x14 a k

theorem neg_eq (s : EReal) : 0 - s = -s := by rw [sub_eq_add_neg, zero_add]

theorem prob_eq (x15 : Vec Ideal S8x128 .f32) (x16 : Vec Ideal S8x1 .f32) (a : Fin 8) :
    probBlk z x13 x14 x15 x16 (ix3 0 a 0) = Alg.logisticS (Alg.scoreS (Alg.hidS (fun f => z (ix2 0 f)) x13 x14) x15 (fun a => x16 (ix2 a 0)) a) := by
  rw [prob_at, neg_eq]
  simp only [hid8_eq]
  rfl
theorem sign_eq (x15 : Vec Ideal S8x128 .f32) (x16 : Vec Ideal S8x1 .f32) (a : Fin 8) :
    signBlk z x13 x14 x15 x16 (ix3 0 a 0) = Alg.scoreS (Alg.hidS (fun f => z (ix2 0 f)) x13 x14) x15 (fun a => x16 (ix2 a 0)) a := by
  rw [sign_at]
  simp only [hid8_eq]
  rfl
theorem mag_eq (x15 : Vec Ideal S8x128 .f32) (x16 : Vec Ideal S8x1 .f32) (a : Fin 8) :
    magBlk z x13 x14 x15 x16 (ix3 0 a 0) = Alg.softplusS (Alg.scoreS (Alg.hidS (fun f => z (ix2 0 f)) x13 x14) x15 (fun a => x16 (ix2 a 0)) a) := by
  rw [mag_at, neg_eq]
  simp only [hid8_eq]
  rfl
theorem cat_eq (w : Vec Ideal S256x8 .f32) (b : Vec Ideal S1x8 .f32) (a : Fin 8) :
    k1_pay3 z w b (ix3 0 0 a) = Alg.catS (fun f => z (ix2 0 f)) w (fun a => b (ix2 0 a)) a := by
  rw [cat3_at, cat_at]
  rfl
theorem row0_eq (an : Vec Ideal S896x896 .f32) (cs : Vec Ideal S896x256 .f32) (x1 x2 : Vec Ideal S1x883x1280 .f32) (x4 : Vec Ideal S1x1x896 .f32) (x7 : Vec Ideal S2816x256 .f32)
    (x9 : Vec Ideal S512x256 .f32) (x10 : Vec Ideal S1x256 .f32) (x11 : Vec Ideal S512x256 .f32) (x12 : Vec Ideal S1x256 .f32) (f : Fin 256) :
    rowBlk an cs x1 x2 x4 x7 x9 x10 x11 x12 (ix3 0 0 f) = rowOf an cs x1 x2 x4 x7 x9 x10 x11 x12 (ix2 0 f) := by
  unfold rowBlk rowOf
  generalize diffOf an cs x1 x2 x7 x9 x10 = d
  unfold k1_pay13
  generalize k1_pay12 k1_pay10 d x4 (upper x11) (lower x11) x12 = v
  pointwise
end

end Cert.Proof.Adj

end
-- ==== Proof.RefVals.lean ====
/- What the reference computes, part by part: each part's result as a function of the arrays it reads. -/
module

public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- The edges' source nodes. -/
def srcL (arg3 : IVec S2x28256 32) : IVec S28256 32 :=
  let v0 : IVec S1x28256 32 := ((extractStridedSlice S1x28256 ![0, 0] · slices_S2x28256_S1x28256_0_0) : IVec S2x28256 32 → IVec S1x28256 32) arg3
  shapeCast S28256 v0 shapeCasts_S1x28256_S28256

/-- The edges' target nodes. -/
def dstL (arg3 : IVec S2x28256 32) : IVec S28256 32 :=
  let v2 : IVec S1x28256 32 := ((extractStridedSlice S1x28256 ![1, 0] · slices_S2x28256_S1x28256_1_0) : IVec S2x28256 32 → IVec S1x28256 32) arg3
  shapeCast S28256 v2 shapeCasts_S1x28256_S28256

/-- The number of edges into each node, at least one. -/
def degL (v3 : IVec S28256 32) : FVec F S883 .f32 :=
  let cst : FVec F S_ .f32 := (constant S_ .f32 0x3F800000#32)
  let v4 : FVec F S28256 .f32 := (broadcastInDim S28256 ![] bcast_S_S28256 : FVec F S_ .f32 → FVec F S28256 .f32) cst
  let cst_0 : FVec F S_ .f32 := (constant S_ .f32 0x00000000#32)
  let v5 : FVec F S883 .f32 := (broadcastInDim S883 ![] bcast_S_S883 : FVec F S_ .f32 → FVec F S883 .f32) cst_0
  let v6 : IVec S28256x1 32 := (broadcastInDim S28256x1 ![0] bcast_S28256_S28256x1_0 : IVec S28256 32 → IVec S28256x1 32) v3
  let v7 : FVec F S883 .f32 := ((fun x i u => Host.scatterAdd scatter_S883_S28256x1_S28256_n_0_0_1 x i u) : FVec F S883 .f32 → IVec S28256x1 32 → FVec F S28256 .f32 → FVec F S883 .f32) v5 v6 v4
  let cst_1 : FVec F S_ .f32 := (constant S_ .f32 0x3F800000#32)
  let call0_v0 : FVec F S_ .f32 := (id : FVec F S_ .f32 → FVec F S_ .f32) cst_1
  let call0_v1 : FVec F S883 .f32 := ((broadcastInDim S883 ![] bcast_S_S883) : FVec F S_ .f32 → FVec F S883 .f32) call0_v0
  (maximumf : FVec F S883 .f32 → FVec F S883 .f32 → FVec F S883 .f32) call0_v1 v7

/-- The structural encoder: two layers. -/
def encL (arg2 : FVec F S883x20 .f32) (arg5 : FVec F S20x128 .f32) (arg6 : FVec F S128 .f32) (arg7 : FVec F S128x128 .f32) (arg8 : FVec F S128 .f32) : FVec F S883x128 .f32 :=
  let v9 : FVec F S883x128 .f32 := ((fun l r => Host.dotGeneral dot_S883x20_S20x128_S883x128_1_0_0_1_n_n none l r) : FVec F S883x20 .f32 → FVec F S20x128 .f32 → FVec F S883x128 .f32) arg2 arg5
  let v10 : FVec F S1x128 .f32 := (broadcastInDim S1x128 ![1] bcast_S128_S1x128_1 : FVec F S128 .f32 → FVec F S1x128 .f32) arg6
  let v11 : FVec F S883x128 .f32 := (broadcastInDim S883x128 ![0, 1] bcast_S1x128_S883x128_0_1 : FVec F S1x128 .f32 → FVec F S883x128 .f32) v10
  let v12 : FVec F S883x128 .f32 := (addf : FVec F S883x128 .f32 → FVec F S883x128 .f32 → FVec F S883x128 .f32) v9 v11
  let call1_cst : FVec F S_ .f32 := (constant S_ .f32 0x00000000#32)
  let call1_v0 : FVec F S883x128 .f32 := ((broadcastInDim S883x128 ![] bcast_S_S883x128) : FVec F S_ .f32 → FVec F S883x128 .f32) call1_cst
  let v13 : FVec F S883x128 .f32 := (maximumf : FVec F S883x128 .f32 → FVec F S883x128 .f32 → FVec F S883x128 .f32) v12 call1_v0
  let v14 : FVec F S883x128 .f32 := ((fun l r => Host.dotGeneral dot_S883x128_S128x128_S883x128_1_0_0_1_n_n none l r) : FVec F S883x128 .f32 → FVec F S128x128 .f32 → FVec F S883x128 .f32) v13 arg7
  let v15 : FVec F S1x128 .f32 := (broadcastInDim S1x128 ![1] bcast_S128_S1x128_1 : FVec F S128 .f32 → FVec F S1x128 .f32) arg8
  let v16 : FVec F S883x128 .f32 := (broadcastInDim S883x128 ![0, 1] bcast_S1x128_S883x128_0_1 : FVec F S1x128 .f32 → FVec F S883x128 .f32) v15
  let v17 : FVec F S883x128 .f32 := (addf : FVec F S883x128 .f32 → FVec F S883x128 .f32 → FVec F S883x128 .f32) v14 v16
  let call2_cst : FVec F S_ .f32 := (constant S_ .f32 0x00000000#32)
  let call2_v0 : FVec F S883x128 .f32 := ((broadcastInDim S883x128 ![] bcast_S_S883x128) : FVec F S_ .f32 → FVec F S883x128 .f32) call2_cst
  (maximumf : FVec F S883x128 .f32 → FVec F S883x128 .f32 → FVec F S883x128 .f32) v17 call2_v0

/-- A sequence's features beside the structural ones. -/
def joinL (v18 : FVec F S883x128 .f32) (arg0 : FVec F S4x883x1280 .f32) : FVec F S4x883x1408 .f32 :=
  let v19 : FVec F S4x883x128 .f32 := (broadcastInDim S4x883x128 ![1, 2] bcast_S883x128_S4x883x128_1_2 : FVec F S883x128 .f32 → FVec F S4x883x128 .f32) v18
  ((fun a b => concatenate S4x883x1408 2 [⟨S4x883x1280, a⟩, ⟨S4x883x128, b⟩] concatenates_S4x883x1280_S4x883x128_S4x883x1408_d2) : FVec F S4x883x1280 .f32 → FVec F S4x883x128 .f32 → FVec F S4x883x1408 .f32) arg0 v19

/-- The features at each edge's source. -/
def takeA (v1 : IVec S28256 32) (v20 : FVec F S4x883x1408 .f32) : FVec F S4x28256x1408 .f32 :=
  let call3_c : IVec S_ 32 := (constantI S_ 32 0#32)
  let call3_v0 : IVec S28256 32 := ((broadcastInDim S28256 ![] bcast_S_S28256) : IVec S_ 32 → IVec S28256 32) call3_c
  let call3_v1 : IVec S28256 1 := ((cmpi .slt) : IVec S28256 32 → IVec S28256 32 → IVec S28256 1) v1 call3_v0
  let call3_c_0 : IVec S_ 32 := (constantI S_ 32 883#32)
  let call3_v2 : IVec S28256 32 := ((broadcastInDim S28256 ![] bcast_S_S28256) : IVec S_ 32 → IVec S28256 32) call3_c_0
  let call3_v3 : IVec S28256 32 := (addi : IVec S28256 32 → IVec S28256 32 → IVec S28256 32) v1 call3_v2
  let call3_v4 : IVec S28256 32 := (select : IVec S28256 1 → IVec S28256 32 → IVec S28256 32 → IVec S28256 32) call3_v1 call3_v3 v1
  let call3_v5 : IVec S28256x1 32 := ((broadcastInDim S28256x1 ![0] bcast_S28256_S28256x1_0) : IVec S28256 32 → IVec S28256x1 32) call3_v4
  let call3_c_1 : IVec S1 32 := (constantI S1 32 882#32)
  let call3_c_2 : IVec S_ 32 := (constantI S_ 32 0#32)
  let call3_v6 : IVec S28256x1 32 := ((broadcastInDim S28256x1 ![] bcast_S_S28256x1) : IVec S_ 32 → IVec S28256x1 32) call3_c_2
  let call3_v7 : IVec S28256x1 1 := ((cmpi .sge) : IVec S28256x1 32 → IVec S28256x1 32 → IVec S28256x1 1) call3_v5 call3_v6
  let call3_v8 : IVec S1x1 32 := ((broadcastInDim S1x1 ![1] bcast_S1_S1x1_1) : IVec S1 32 → IVec S1x1 32) call3_c_1
  let call3_v9 : IVec S28256x1 32 := ((broadcastInDim S28256x1 ![0, 1] bcast_S1x1_S28256x1_0_1) : IVec S1x1 32 → IVec S28256x1 32) call3_v8
  let call3_v10 : IVec S28256x1 1 := ((cmpi .sle) : IVec S28256x1 32 → IVec S28256x1 32 → IVec S28256x1 1) call3_v5 call3_v9
  let call3_v11 : IVec S28256x1 1 := (andi : IVec S28256x1 1 → IVec S28256x1 1 → IVec S28256x1 1) call3_v7 call3_v10
  let call3_c_3 : IVec S_ 1 := (constantI S_ 1 1#1)
  let call3_v12 : IVec S28256 1 := ((fun x v => Host.reduce IntOp.andi x v reducesTo_S28256x1_S28256_d1 h_S_) : IVec S28256x1 1 → IVec S_ 1 → IVec S28256 1) call3_v11 call3_c_3
  let call3_v13 : FVec F S4x28256x1408 .f32 := ((fun x i => Host.gather gather_S4x883x1408_S28256x1_S4x28256x1408_02_1_n_n_1_1_411408 x i) : FVec F S4x883x1408 .f32 → IVec S28256x1 32 → FVec F S4x28256x1408 .f32) v20 call3_v5
  let call3_v14 : IVec S4x28256x1408 1 := ((broadcastInDim S4x28256x1408 ![1] bcast_S28256_S4x28256x1408_1) : IVec S28256 1 → IVec S4x28256x1408 1) call3_v12
  let call3_cst : FVec F S_ .f32 := (constant S_ .f32 0x7FC00000#32)
  let call3_v15 : FVec F S4x28256x1408 .f32 := ((broadcastInDim S4x28256x1408 ![] bcast_S_S4x28256x1408) : FVec F S_ .f32 → FVec F S4x28256x1408 .f32) call3_cst
  (select : IVec S4x28256x1408 1 → FVec F S4x28256x1408 .f32 → FVec F S4x28256x1408 .f32 → FVec F S4x28256x1408 .f32) call3_v14 call3_v13 call3_v15

/-- The features' mean over each node's edges. -/
def aggA (v3 : IVec S28256 32) (v21 : FVec F S4x28256x1408 .f32) (v8 : FVec F S883 .f32) : FVec F S4x883x1408 .f32 :=
  let cst_2 : FVec F S_ .f32 := (constant S_ .f32 0x00000000#32)
  let v22 : FVec F S883x1408 .f32 := (broadcastInDim S883x1408 ![] bcast_S_S883x1408 : FVec F S_ .f32 → FVec F S883x1408 .f32) cst_2
  let v23 : IVec S28256x1 32 := (broadcastInDim S28256x1 ![0] bcast_S28256_S28256x1_0 : IVec S28256 32 → IVec S28256x1 32) v3
  let v24 : FVec F S4x883x1408 .f32 := (broadcastInDim S4x883x1408 ![1, 2] bcast_S883x1408_S4x883x1408_1_2 : FVec F S883x1408 .f32 → FVec F S4x883x1408 .f32) v22
  let v25 : FVec F S4x883x1408 .f32 := ((fun x i u => Host.scatterAdd scatter_S4x883x1408_S28256x1_S4x28256x1408_02_1_1_1 x i u) : FVec F S4x883x1408 .f32 → IVec S28256x1 32 → FVec F S4x28256x1408 .f32 → FVec F S4x883x1408 .f32) v24 v23 v21
  let v26 : FVec F S883x1 .f32 := (broadcastInDim S883x1 ![0] bcast_S883_S883x1_0 : FVec F S883 .f32 → FVec F S883x1 .f32) v8
  let v27 : FVec F S1x883x1 .f32 := (broadcastInDim S1x883x1 ![1, 2] bcast_S883x1_S1x883x1_1_2 : FVec F S883x1 .f32 → FVec F S1x883x1 .f32) v26
  let v28 : FVec F S4x883x1408 .f32 := (broadcastInDim S4x883x1408 ![0, 1, 2] bcast_S1x883x1_S4x883x1408_0_1_2 : FVec F S1x883x1 .f32 → FVec F S4x883x1408 .f32) v27
  (Host.divf : FVec F S4x883x1408 .f32 → FVec F S4x883x1408 .f32 → FVec F S4x883x1408 .f32) v25 v28

/-- The first graph layer. -/
def layA (v20 : FVec F S4x883x1408 .f32) (v29 : FVec F S4x883x1408 .f32) (arg9 : FVec F S2816x256 .f32) (arg10 : FVec F S256 .f32) : FVec F S4x883x256 .f32 :=
  let v30 : FVec F S4x883x2816 .f32 := ((fun a b => concatenate S4x883x2816 2 [⟨S4x883x1408, a⟩, ⟨S4x883x1408, b⟩] concatenates_S4x883x1408_S4x883x1408_S4x883x2816_d2) : FVec F S4x883x1408 .f32 → FVec F S4x883x1408 .f32 → FVec F S4x883x2816 .f32) v20 v29
  let v31 : FVec F S4x883x256 .f32 := ((fun l r => Host.dotGeneral dot_S4x883x2816_S2816x256_S4x883x256_2_0_01_1_n_n none l r) : FVec F S4x883x2816 .f32 → FVec F S2816x256 .f32 → FVec F S4x883x256 .f32) v30 arg9
  let v32 : FVec F S1x256 .f32 := (broadcastInDim S1x256 ![1] bcast_S256_S1x256_1 : FVec F S256 .f32 → FVec F S1x256 .f32) arg10
  let v33 : FVec F S1x1x256 .f32 := (broadcastInDim S1x1x256 ![1, 2] bcast_S1x256_S1x1x256_1_2 : FVec F S1x256 .f32 → FVec F S1x1x256 .f32) v32
  let v34 : FVec F S4x883x256 .f32 := (broadcastInDim S4x883x256 ![0, 1, 2] bcast_S1x1x256_S4x883x256_0_1_2 : FVec F S1x1x256 .f32 → FVec F S4x883x256 .f32) v33
  let v35 : FVec F S4x883x256 .f32 := (addf : FVec F S4x883x256 .f32 → FVec F S4x883x256 .f32 → FVec F S4x883x256 .f32) v31 v34
  let call4_cst : FVec F S_ .f32 := (constant S_ .f32 0x00000000#32)
  let call4_v0 : FVec F S4x883x256 .f32 := ((broadcastInDim S4x883x256 ![] bcast_S_S4x883x256) : FVec F S_ .f32 → FVec F S4x883x256 .f32) call4_cst
  (maximumf : FVec F S4x883x256 .f32 → FVec F S4x883x256 .f32 → FVec F S4x883x256 .f32) v35 call4_v0

/-- The hidden values at each edge's source. -/
def takeB (v1 : IVec S28256 32) (v36 : FVec F S4x883x256 .f32) : FVec F S4x28256x256 .f32 :=
  let call5_c : IVec S_ 32 := (constantI S_ 32 0#32)
  let call5_v0 : IVec S28256 32 := ((broadcastInDim S28256 ![] bcast_S_S28256) : IVec S_ 32 → IVec S28256 32) call5_c
  let call5_v1 : IVec S28256 1 := ((cmpi .slt) : IVec S28256 32 → IVec S28256 32 → IVec S28256 1) v1 call5_v0
  let call5_c_0 : IVec S_ 32 := (constantI S_ 32 883#32)
  let call5_v2 : IVec S28256 32 := ((broadcastInDim S28256 ![] bcast_S_S28256) : IVec S_ 32 → IVec S28256 32) call5_c_0
  let call5_v3 : IVec S28256 32 := (addi : IVec S28256 32 → IVec S28256 32 → IVec S28256 32) v1 call5_v2
  let call5_v4 : IVec S28256 32 := (select : IVec S28256 1 → IVec S28256 32 → IVec S28256 32 → IVec S28256 32) call5_v1 call5_v3 v1
  let call5_v5 : IVec S28256x1 32 := ((broadcastInDim S28256x1 ![0] bcast_S28256_S28256x1_0) : IVec S28256 32 → IVec S28256x1 32) call5_v4
  let call5_c_1 : IVec S1 32 := (constantI S1 32 882#32)
  let call5_c_2 : IVec S_ 32 := (constantI S_ 32 0#32)
  let call5_v6 : IVec S28256x1 32 := ((broadcastInDim S28256x1 ![] bcast_S_S28256x1) : IVec S_ 32 → IVec S28256x1 32) call5_c_2
  let call5_v7 : IVec S28256x1 1 := ((cmpi .sge) : IVec S28256x1 32 → IVec S28256x1 32 → IVec S28256x1 1) call5_v5 call5_v6
  let call5_v8 : IVec S1x1 32 := ((broadcastInDim S1x1 ![1] bcast_S1_S1x1_1) : IVec S1 32 → IVec S1x1 32) call5_c_1
  let call5_v9 : IVec S28256x1 32 := ((broadcastInDim S28256x1 ![0, 1] bcast_S1x1_S28256x1_0_1) : IVec S1x1 32 → IVec S28256x1 32) call5_v8
  let call5_v10 : IVec S28256x1 1 := ((cmpi .sle) : IVec S28256x1 32 → IVec S28256x1 32 → IVec S28256x1 1) call5_v5 call5_v9
  let call5_v11 : IVec S28256x1 1 := (andi : IVec S28256x1 1 → IVec S28256x1 1 → IVec S28256x1 1) call5_v7 call5_v10
  let call5_c_3 : IVec S_ 1 := (constantI S_ 1 1#1)
  let call5_v12 : IVec S28256 1 := ((fun x v => Host.reduce IntOp.andi x v reducesTo_S28256x1_S28256_d1 h_S_) : IVec S28256x1 1 → IVec S_ 1 → IVec S28256 1) call5_v11 call5_c_3
  let call5_v13 : FVec F S4x28256x256 .f32 := ((fun x i => Host.gather gather_S4x883x256_S28256x1_S4x28256x256_02_1_n_n_1_1_41256 x i) : FVec F S4x883x256 .f32 → IVec S28256x1 32 → FVec F S4x28256x256 .f32) v36 call5_v5
  let call5_v14 : IVec S4x28256x256 1 := ((broadcastInDim S4x28256x256 ![1] bcast_S28256_S4x28256x256_1) : IVec S28256 1 → IVec S4x28256x256 1) call5_v12
  let call5_cst : FVec F S_ .f32 := (constant S_ .f32 0x7FC00000#32)
  let call5_v15 : FVec F S4x28256x256 .f32 := ((broadcastInDim S4x28256x256 ![] bcast_S_S4x28256x256) : FVec F S_ .f32 → FVec F S4x28256x256 .f32) call5_cst
  (select : IVec S4x28256x256 1 → FVec F S4x28256x256 .f32 → FVec F S4x28256x256 .f32 → FVec F S4x28256x256 .f32) call5_v14 call5_v13 call5_v15

/-- The hidden values' mean over each node's edges. -/
def aggB (v3 : IVec S28256 32) (v37 : FVec F S4x28256x256 .f32) (v8 : FVec F S883 .f32) : FVec F S4x883x256 .f32 :=
  let cst_3 : FVec F S_ .f32 := (constant S_ .f32 0x00000000#32)
  let v38 : FVec F S883x256 .f32 := (broadcastInDim S883x256 ![] bcast_S_S883x256 : FVec F S_ .f32 → FVec F S883x256 .f32) cst_3
  let v39 : IVec S28256x1 32 := (broadcastInDim S28256x1 ![0] bcast_S28256_S28256x1_0 : IVec S28256 32 → IVec S28256x1 32) v3
  let v40 : FVec F S4x883x256 .f32 := (broadcastInDim S4x883x256 ![1, 2] bcast_S883x256_S4x883x256_1_2 : FVec F S883x256 .f32 → FVec F S4x883x256 .f32) v38
  let v41 : FVec F S4x883x256 .f32 := ((fun x i u => Host.scatterAdd scatter_S4x883x256_S28256x1_S4x28256x256_02_1_1_1 x i u) : FVec F S4x883x256 .f32 → IVec S28256x1 32 → FVec F S4x28256x256 .f32 → FVec F S4x883x256 .f32) v40 v39 v37
  let v42 : FVec F S883x1 .f32 := (broadcastInDim S883x1 ![0] bcast_S883_S883x1_0 : FVec F S883 .f32 → FVec F S883x1 .f32) v8
  let v43 : FVec F S1x883x1 .f32 := (broadcastInDim S1x883x1 ![1, 2] bcast_S883x1_S1x883x1_1_2 : FVec F S883x1 .f32 → FVec F S1x883x1 .f32) v42
  let v44 : FVec F S4x883x256 .f32 := (broadcastInDim S4x883x256 ![0, 1, 2] bcast_S1x883x1_S4x883x256_0_1_2 : FVec F S1x883x1 .f32 → FVec F S4x883x256 .f32) v43
  (Host.divf : FVec F S4x883x256 .f32 → FVec F S4x883x256 .f32 → FVec F S4x883x256 .f32) v41 v44

/-- The second graph layer. -/
def layB (v36 : FVec F S4x883x256 .f32) (v45 : FVec F S4x883x256 .f32) (arg11 : FVec F S512x256 .f32) (arg12 : FVec F S256 .f32) : FVec F S4x883x256 .f32 :=
  let v46 : FVec F S4x883x512 .f32 := ((fun a b => concatenate S4x883x512 2 [⟨S4x883x256, a⟩, ⟨S4x883x256, b⟩] concatenates_S4x883x256_S4x883x256_S4x883x512_d2) : FVec F S4x883x256 .f32 → FVec F S4x883x256 .f32 → FVec F S4x883x512 .f32) v36 v45
  let v47 : FVec F S4x883x256 .f32 := ((fun l r => Host.dotGeneral dot_S4x883x512_S512x256_S4x883x256_2_0_01_1_n_n none l r) : FVec F S4x883x512 .f32 → FVec F S512x256 .f32 → FVec F S4x883x256 .f32) v46 arg11
  let v48 : FVec F S1x256 .f32 := (broadcastInDim S1x256 ![1] bcast_S256_S1x256_1 : FVec F S256 .f32 → FVec F S1x256 .f32) arg12
  let v49 : FVec F S1x1x256 .f32 := (broadcastInDim S1x1x256 ![1, 2] bcast_S1x256_S1x1x256_1_2 : FVec F S1x256 .f32 → FVec F S1x1x256 .f32) v48
  let v50 : FVec F S4x883x256 .f32 := (broadcastInDim S4x883x256 ![0, 1, 2] bcast_S1x1x256_S4x883x256_0_1_2 : FVec F S1x1x256 .f32 → FVec F S4x883x256 .f32) v49
  let v51 : FVec F S4x883x256 .f32 := (addf : FVec F S4x883x256 .f32 → FVec F S4x883x256 .f32 → FVec F S4x883x256 .f32) v47 v50
  let call6_cst : FVec F S_ .f32 := (constant S_ .f32 0x00000000#32)
  let call6_v0 : FVec F S4x883x256 .f32 := ((broadcastInDim S4x883x256 ![] bcast_S_S4x883x256) : FVec F S_ .f32 → FVec F S4x883x256 .f32) call6_cst
  (maximumf : FVec F S4x883x256 .f32 → FVec F S4x883x256 .f32 → FVec F S4x883x256 .f32) v51 call6_v0

/-- What the mutation changes. -/
def diffL (v86 : FVec F S4x883x256 .f32) (v52 : FVec F S4x883x256 .f32) : FVec F S4x883x256 .f32 :=
  (subf : FVec F S4x883x256 .f32 → FVec F S4x883x256 .f32 → FVec F S4x883x256 .f32) v86 v52

/-- The change's mean over the mutated nodes. -/
def locL (arg4 : FVec F S4x883 .f32) (v87 : FVec F S4x883x256 .f32) : FVec F S4x256 .f32 :=
  let v88 : FVec F S4x883x1 .f32 := (broadcastInDim S4x883x1 ![0, 1] bcast_S4x883_S4x883x1_0_1 : FVec F S4x883 .f32 → FVec F S4x883x1 .f32) arg4
  let v89 : FVec F S4x883x256 .f32 := (broadcastInDim S4x883x256 ![0, 1, 2] bcast_S4x883x1_S4x883x256_0_1_2 : FVec F S4x883x1 .f32 → FVec F S4x883x256 .f32) v88
  let v90 : FVec F S4x883x256 .f32 := (mulf : FVec F S4x883x256 .f32 → FVec F S4x883x256 .f32 → FVec F S4x883x256 .f32) v87 v89
  let cst_6 : FVec F S_ .f32 := (constant S_ .f32 0x00000000#32)
  let v91 : FVec F S4x256 .f32 := ((fun x v => Host.reduceAdd x v reducesTo_S4x883x256_S4x256_d1 h_S_) : FVec F S4x883x256 .f32 → FVec F S_ .f32 → FVec F S4x256 .f32) v90 cst_6
  let cst_7 : FVec F S_ .f32 := (constant S_ .f32 0x00000000#32)
  let v92 : FVec F S4 .f32 := ((fun x v => Host.reduceAdd x v reducesTo_S4x883_S4_d1 h_S_) : FVec F S4x883 .f32 → FVec F S_ .f32 → FVec F S4 .f32) arg4 cst_7
  let cst_8 : FVec F S_ .f32 := (constant S_ .f32 0x3F800000#32)
  let call11_v0 : FVec F S_ .f32 := (id : FVec F S_ .f32 → FVec F S_ .f32) cst_8
  let call11_v1 : FVec F S4 .f32 := ((broadcastInDim S4 ![] bcast_S_S4) : FVec F S_ .f32 → FVec F S4 .f32) call11_v0
  let v93 : FVec F S4 .f32 := (maximumf : FVec F S4 .f32 → FVec F S4 .f32 → FVec F S4 .f32) call11_v1 v92
  let v94 : FVec F S4x1 .f32 := (broadcastInDim S4x1 ![0] bcast_S4_S4x1_0 : FVec F S4 .f32 → FVec F S4x1 .f32) v93
  let v95 : FVec F S4x256 .f32 := (broadcastInDim S4x256 ![0, 1] bcast_S4x1_S4x256_0_1 : FVec F S4x1 .f32 → FVec F S4x256 .f32) v94
  (Host.divf : FVec F S4x256 .f32 → FVec F S4x256 .f32 → FVec F S4x256 .f32) v91 v95

/-- The change's mean over all nodes. -/
def globL (v87 : FVec F S4x883x256 .f32) : FVec F S4x256 .f32 :=
  let cst_9 : FVec F S_ .f32 := (constant S_ .f32 0x00000000#32)
  let v97 : FVec F S4x256 .f32 := ((fun x v => Host.reduceAdd x v reducesTo_S4x883x256_S4x256_d1 h_S_) : FVec F S4x883x256 .f32 → FVec F S_ .f32 → FVec F S4x256 .f32) v87 cst_9
  let cst_10 : FVec F S_ .f32 := (constant S_ .f32 0x445CC000#32)
  let v98 : FVec F S4x256 .f32 := (broadcastInDim S4x256 ![] bcast_S_S4x256 : FVec F S_ .f32 → FVec F S4x256 .f32) cst_10
  (Host.divf : FVec F S4x256 .f32 → FVec F S4x256 .f32 → FVec F S4x256 .f32) v97 v98

/-- The fused vector. -/
def fuseL (v96 : FVec F S4x256 .f32) (v99 : FVec F S4x256 .f32) (arg13 : FVec F S512x256 .f32) (arg14 : FVec F S256 .f32) : FVec F S4x256 .f32 :=
  let v100 : FVec F S4x512 .f32 := ((fun a b => concatenate S4x512 1 [⟨S4x256, a⟩, ⟨S4x256, b⟩] concatenates_S4x256_S4x256_S4x512_d1) : FVec F S4x256 .f32 → FVec F S4x256 .f32 → FVec F S4x512 .f32) v96 v99
  let v101 : FVec F S4x256 .f32 := ((fun l r => Host.dotGeneral dot_S4x512_S512x256_S4x256_1_0_0_1_n_n none l r) : FVec F S4x512 .f32 → FVec F S512x256 .f32 → FVec F S4x256 .f32) v100 arg13
  let v102 : FVec F S1x256 .f32 := (broadcastInDim S1x256 ![1] bcast_S256_S1x256_1 : FVec F S256 .f32 → FVec F S1x256 .f32) arg14
  let v103 : FVec F S4x256 .f32 := (broadcastInDim S4x256 ![0, 1] bcast_S1x256_S4x256_0_1 : FVec F S1x256 .f32 → FVec F S4x256 .f32) v102
  let v104 : FVec F S4x256 .f32 := (addf : FVec F S4x256 .f32 → FVec F S4x256 .f32 → FVec F S4x256 .f32) v101 v103
  let call12_cst : FVec F S_ .f32 := (constant S_ .f32 0x00000000#32)
  let call12_v0 : FVec F S4x256 .f32 := ((broadcastInDim S4x256 ![] bcast_S_S4x256) : FVec F S_ .f32 → FVec F S4x256 .f32) call12_cst
  (maximumf : FVec F S4x256 .f32 → FVec F S4x256 .f32 → FVec F S4x256 .f32) v104 call12_v0

/-- The heads' hidden layer. -/
def hidL (v105 : FVec F S4x256 .f32) (arg15 : FVec F S8x256x128 .f32) (arg16 : FVec F S8x128 .f32) : FVec F S4x8x128 .f32 :=
  let v106 : FVec F S4x8x128 .f32 := ((fun l r => Host.dotGeneral dot_S4x256_S8x256x128_S4x8x128_1_1_0_02_n_n none l r) : FVec F S4x256 .f32 → FVec F S8x256x128 .f32 → FVec F S4x8x128 .f32) v105 arg15
  let v107 : FVec F S1x8x128 .f32 := (broadcastInDim S1x8x128 ![1, 2] bcast_S8x128_S1x8x128_1_2 : FVec F S8x128 .f32 → FVec F S1x8x128 .f32) arg16
  let v108 : FVec F S4x8x128 .f32 := (broadcastInDim S4x8x128 ![0, 1, 2] bcast_S1x8x128_S4x8x128_0_1_2 : FVec F S1x8x128 .f32 → FVec F S4x8x128 .f32) v107
  let v109 : FVec F S4x8x128 .f32 := (addf : FVec F S4x8x128 .f32 → FVec F S4x8x128 .f32 → FVec F S4x8x128 .f32) v106 v108
  let call13_cst : FVec F S_ .f32 := (constant S_ .f32 0x00000000#32)
  let call13_v0 : FVec F S4x8x128 .f32 := ((broadcastInDim S4x8x128 ![] bcast_S_S4x8x128) : FVec F S_ .f32 → FVec F S4x8x128 .f32) call13_cst
  (maximumf : FVec F S4x8x128 .f32 → FVec F S4x8x128 .f32 → FVec F S4x8x128 .f32) v109 call13_v0

/-- The probabilities. -/
def probL (arg17 : FVec F S8x128 .f32) (v110 : FVec F S4x8x128 .f32) (arg18 : FVec F S8 .f32) : FVec F S4x8 .f32 :=
  let v111 : FVec F S8x4 .f32 := ((fun l r => Host.dotGeneral dot_S8x128_S4x8x128_S8x4_1_2_n_0_0_1 none l r) : FVec F S8x128 .f32 → FVec F S4x8x128 .f32 → FVec F S8x4 .f32) arg17 v110
  let v112 : FVec F S4x8 .f32 := ((transpose S4x8 [1, 0] · transposes_S8x4_S4x8_1_0) : FVec F S8x4 .f32 → FVec F S4x8 .f32) v111
  let v113 : FVec F S1x8 .f32 := (broadcastInDim S1x8 ![1] bcast_S8_S1x8_1 : FVec F S8 .f32 → FVec F S1x8 .f32) arg18
  let v114 : FVec F S4x8 .f32 := (broadcastInDim S4x8 ![0, 1] bcast_S1x8_S4x8_0_1 : FVec F S1x8 .f32 → FVec F S4x8 .f32) v113
  let v115 : FVec F S4x8 .f32 := (addf : FVec F S4x8 .f32 → FVec F S4x8 .f32 → FVec F S4x8 .f32) v112 v114
  let v116 : FVec F S4x8 .f32 := (Host.negf : FVec F S4x8 .f32 → FVec F S4x8 .f32) v115
  let v117 : FVec F S4x8 .f32 := (Host.exp : FVec F S4x8 .f32 → FVec F S4x8 .f32) v116
  let cst_11 : FVec F S_ .f32 := (constant S_ .f32 0x3F800000#32)
  let v118 : FVec F S4x8 .f32 := (broadcastInDim S4x8 ![] bcast_S_S4x8 : FVec F S_ .f32 → FVec F S4x8 .f32) cst_11
  let v119 : FVec F S4x8 .f32 := (addf : FVec F S4x8 .f32 → FVec F S4x8 .f32 → FVec F S4x8 .f32) v118 v117
  let cst_12 : FVec F S_ .f32 := (constant S_ .f32 0x3F800000#32)
  let v120 : FVec F S4x8 .f32 := (broadcastInDim S4x8 ![] bcast_S_S4x8 : FVec F S_ .f32 → FVec F S4x8 .f32) cst_12
  (Host.divf : FVec F S4x8 .f32 → FVec F S4x8 .f32 → FVec F S4x8 .f32) v120 v119

/-- The directions. -/
def dirL (arg19 : FVec F S8x128 .f32) (v110 : FVec F S4x8x128 .f32) (arg20 : FVec F S8 .f32) : FVec F S4x8 .f32 :=
  let v122 : FVec F S8x4 .f32 := ((fun l r => Host.dotGeneral dot_S8x128_S4x8x128_S8x4_1_2_n_0_0_1 none l r) : FVec F S8x128 .f32 → FVec F S4x8x128 .f32 → FVec F S8x4 .f32) arg19 v110
  let v123 : FVec F S4x8 .f32 := ((transpose S4x8 [1, 0] · transposes_S8x4_S4x8_1_0) : FVec F S8x4 .f32 → FVec F S4x8 .f32) v122
  let v124 : FVec F S1x8 .f32 := (broadcastInDim S1x8 ![1] bcast_S8_S1x8_1 : FVec F S8 .f32 → FVec F S1x8 .f32) arg20
  let v125 : FVec F S4x8 .f32 := (broadcastInDim S4x8 ![0, 1] bcast_S1x8_S4x8_0_1 : FVec F S1x8 .f32 → FVec F S4x8 .f32) v124
  (addf : FVec F S4x8 .f32 → FVec F S4x8 .f32 → FVec F S4x8 .f32) v123 v125

/-- The magnitudes. -/
def magL (arg21 : FVec F S8x128 .f32) (v110 : FVec F S4x8x128 .f32) (arg22 : FVec F S8 .f32) : FVec F S4x8 .f32 :=
  let v127 : FVec F S8x4 .f32 := ((fun l r => Host.dotGeneral dot_S8x128_S4x8x128_S8x4_1_2_n_0_0_1 none l r) : FVec F S8x128 .f32 → FVec F S4x8x128 .f32 → FVec F S8x4 .f32) arg21 v110
  let v128 : FVec F S4x8 .f32 := ((transpose S4x8 [1, 0] · transposes_S8x4_S4x8_1_0) : FVec F S8x4 .f32 → FVec F S4x8 .f32) v127
  let v129 : FVec F S1x8 .f32 := (broadcastInDim S1x8 ![1] bcast_S8_S1x8_1 : FVec F S8 .f32 → FVec F S1x8 .f32) arg22
  let v130 : FVec F S4x8 .f32 := (broadcastInDim S4x8 ![0, 1] bcast_S1x8_S4x8_0_1 : FVec F S1x8 .f32 → FVec F S4x8 .f32) v129
  let v131 : FVec F S4x8 .f32 := (addf : FVec F S4x8 .f32 → FVec F S4x8 .f32 → FVec F S4x8 .f32) v128 v130
  let call14_cst : FVec F S_ .f32 := (constant S_ .f32 0x00000000#32)
  let call14_v0 : FVec F S4x8 .f32 := ((broadcastInDim S4x8 ![] bcast_S_S4x8) : FVec F S_ .f32 → FVec F S4x8 .f32) call14_cst
  let call14_v1 : FVec F S4x8 .f32 := (maximumf : FVec F S4x8 .f32 → FVec F S4x8 .f32 → FVec F S4x8 .f32) v131 call14_v0
  let call14_v2 : FVec F S4x8 .f32 := ((broadcastInDim S4x8 ![] bcast_S_S4x8) : FVec F S_ .f32 → FVec F S4x8 .f32) call14_cst
  let call14_v3 : FVec F S4x8 .f32 := (subf : FVec F S4x8 .f32 → FVec F S4x8 .f32 → FVec F S4x8 .f32) v131 call14_v2
  let call14_v4 : IVec S4x8 1 := ((cmpf .une) : FVec F S4x8 .f32 → FVec F S4x8 .f32 → IVec S4x8 1) call14_v3 call14_v3
  let call14_v5 : FVec F S4x8 .f32 := ((broadcastInDim S4x8 ![] bcast_S_S4x8) : FVec F S_ .f32 → FVec F S4x8 .f32) call14_cst
  let call14_v6 : FVec F S4x8 .f32 := (addf : FVec F S4x8 .f32 → FVec F S4x8 .f32 → FVec F S4x8 .f32) v131 call14_v5
  let call14_v7 : FVec F S4x8 .f32 := (Host.absf : FVec F S4x8 .f32 → FVec F S4x8 .f32) call14_v3
  let call14_v8 : FVec F S4x8 .f32 := (Host.negf : FVec F S4x8 .f32 → FVec F S4x8 .f32) call14_v7
  let call14_v9 : FVec F S4x8 .f32 := (Host.exp : FVec F S4x8 .f32 → FVec F S4x8 .f32) call14_v8
  let call14_v10 : FVec F S4x8 .f32 := (Host.log1p : FVec F S4x8 .f32 → FVec F S4x8 .f32) call14_v9
  let call14_v11 : FVec F S4x8 .f32 := (addf : FVec F S4x8 .f32 → FVec F S4x8 .f32 → FVec F S4x8 .f32) call14_v1 call14_v10
  (select : IVec S4x8 1 → FVec F S4x8 .f32 → FVec F S4x8 .f32 → FVec F S4x8 .f32) call14_v4 call14_v6 call14_v11

/-- The categories' scores. -/
def catL (v105 : FVec F S4x256 .f32) (arg23 : FVec F S256x8 .f32) (arg24 : FVec F S8 .f32) : FVec F S4x8 .f32 :=
  let v133 : FVec F S4x8 .f32 := ((fun l r => Host.dotGeneral dot_S4x256_S256x8_S4x8_1_0_0_1_n_n none l r) : FVec F S4x256 .f32 → FVec F S256x8 .f32 → FVec F S4x8 .f32) v105 arg23
  let v134 : FVec F S1x8 .f32 := (broadcastInDim S1x8 ![1] bcast_S8_S1x8_1 : FVec F S8 .f32 → FVec F S1x8 .f32) arg24
  let v135 : FVec F S4x8 .f32 := (broadcastInDim S4x8 ![0, 1] bcast_S1x8_S4x8_0_1 : FVec F S1x8 .f32 → FVec F S4x8 .f32) v134
  (addf : FVec F S4x8 .f32 → FVec F S4x8 .f32 → FVec F S4x8 .f32) v133 v135

/-- The category with the largest score. -/
def domL (v136 : FVec F S4x8 .f32) : IVec S4 32 :=
  let call15_v0 : IVec S4x8 32 := (iotaInDim S4x8 32 1)
  let call15_cst : FVec F S_ .f32 := (constant S_ .f32 0xFF800000#32)
  let call15_c : IVec S_ 32 := (constantI S_ 32 0#32)
  let call15_v1_0 : FVec F S4 .f32 := ((fun x y u v j => (Host.argReduce reducer_argmax_f32_i32 x y u v reducesTo_S4x8_S4_d1 h_S_ j).1) : FVec F S4x8 .f32 → IVec S4x8 32 → FVec F S_ .f32 → IVec S_ 32 → FVec F S4 .f32) v136 call15_v0 call15_cst call15_c
  ((fun x y u v j => (Host.argReduce reducer_argmax_f32_i32 x y u v reducesTo_S4x8_S4_d1 h_S_ j).2) : FVec F S4x8 .f32 → IVec S4x8 32 → FVec F S_ .f32 → IVec S_ 32 → IVec S4 32) v136 call15_v0 call15_cst call15_c

end Cert.Proof.Ref

end
-- ==== Proof.RefAt.lean ====
/- What the reference computes, read at an index over the extended reals. -/
module

public import proofs.«01_k».proof.Proof.RefVals
public import proofs.«01_k».proof.Proof.Alg
public import Idealize.ShloMosaic.Lib.Routing.OpsPair
public import Idealize.ShloMosaic.Lib.ReduceAll
public import Idealize.ShloMosaic.Lib.Pointwise

@[expose] public section

set_option maxRecDepth 16384

noncomputable section

namespace Cert.Proof.Ref

open Cert.ReferenceIdeal Gen
open Idealize.ShloMosaic Idealize.ShloMosaic.TcCoe Idealize.SL.Sem

theorem srcL_at (E : IVec S2x28256 32) (e : Fin 28256) : srcL E (ix1 e) = E (ix2 0 e) := by unfold srcL; pointwise
theorem dstL_at (E : IVec S2x28256 32) (e : Fin 28256) : dstL E (ix1 e) = E (ix2 1 e) := by unfold dstL; pointwise

/-! ## The dense parts -/

theorem encL_at (x : FVec Ideal S883x20 .f32) (w : FVec Ideal S20x128 .f32) (b : FVec Ideal S128 .f32) (w2 : FVec Ideal S128x128 .f32) (b2 : FVec Ideal S128 .f32)
    (r : Fin 883) (k : Fin 128) : encL x w b w2 b2 (ix2 r k) = max ((∑ i : Fin 128, max ((∑ i' : Fin 20, x (ix2 r i') * w (ix2 i' i)) + b (ix1 i)) 0 * w2 (ix2 i k)) + b2 (ix1 k)) 0 := by
  unfold encL
  pointwise

theorem joinL_lo (s : FVec Ideal S883x128 .f32) (x : FVec Ideal S4x883x1280 .f32) (p : Fin 4) (r : Fin 883) (k : Fin 1280) :
    joinL s x (ix3 p r (⟨k.val, by omega⟩ : Fin 1408)) = x (ix3 p r k) := by
  unfold joinL
  pointwise
theorem joinL_hi (s : FVec Ideal S883x128 .f32) (x : FVec Ideal S4x883x1280 .f32) (p : Fin 4) (r : Fin 883) (k : Fin 128) :
    joinL s x (ix3 p r (⟨1280 + k.val, by omega⟩ : Fin 1408)) = s (ix2 r k) := by
  unfold joinL
  pointwise

theorem layA_at (s : FVec Ideal S883x128 .f32) (x : FVec Ideal S4x883x1280 .f32) (g : FVec Ideal S4x883x1408 .f32) (w : FVec Ideal S2816x256 .f32) (b : FVec Ideal S256 .f32)
    (p : Fin 4) (r : Fin 883) (f : Fin 256) : layA (joinL s x) g w b (ix3 p r f)
      = max ((∑ k : Fin 1280, x (ix3 p r k) * w (ix2 (⟨k.val, by omega⟩ : Fin 2816) f)) + (∑ k : Fin 128, s (ix2 r k) * w (ix2 (⟨1280 + k.val, by omega⟩ : Fin 2816) f))
        + (∑ k : Fin 1408, g (ix3 p r k) * w (ix2 (⟨1408 + k.val, by omega⟩ : Fin 2816) f)) + b (ix1 f)) 0 := by
  unfold layA joinL
  pointwise

theorem layB_at (h : FVec Ideal S4x883x256 .f32) (g : FVec Ideal S4x883x256 .f32) (w : FVec Ideal S512x256 .f32) (b : FVec Ideal S256 .f32)
    (p : Fin 4) (r : Fin 883) (f : Fin 256) : layB h g w b (ix3 p r f)
      = max ((∑ k : Fin 256, h (ix3 p r k) * w (ix2 (⟨k.val, by omega⟩ : Fin 512) f)) + (∑ k : Fin 256, g (ix3 p r k) * w (ix2 (⟨256 + k.val, by omega⟩ : Fin 512) f)) + b (ix1 f)) 0 := by
  unfold layB
  pointwise

theorem diffL_at (a b : FVec Ideal S4x883x256 .f32) (p : Fin 4) (r : Fin 883) (f : Fin 256) : diffL a b (ix3 p r f) = (a (ix3 p r f) - b (ix3 p r f) : EReal) := rfl

theorem one_id : (id (constant (F := Ideal) S_ FTy.f32 1065353216#32) ix0 : EReal) = 1 := Ideal.ofBits_one_f32

theorem locL_at (mask : FVec Ideal S4x883 .f32) (d : FVec Ideal S4x883x256 .f32) (p : Fin 4) (k : Fin 256) :
    locL mask d (ix2 p k) = Alg.locS (fun r => mask (ix2 p r)) (fun r k => d (ix3 p r k)) k := by
  unfold locL Alg.locS
  pointwise
  rw [show (id (constant (F := Ideal) S_ FTy.f32 1065353216#32) ix0 : EReal) = 1 from one_id, max_comm]
  exact congrArg (Ideal.div · _) (Finset.sum_congr rfl fun r _ => mul_comm _ _)
theorem globL_at (d : FVec Ideal S4x883x256 .f32) (p : Fin 4) (k : Fin 256) : globL d (ix2 p k) = Alg.globS (fun r k => d (ix3 p r k)) k := by
  unfold globL Alg.globS
  pointwise
theorem fuseL_at (l g : FVec Ideal S4x256 .f32) (w : FVec Ideal S512x256 .f32) (b : FVec Ideal S256 .f32) (p : Fin 4) (f : Fin 256) :
    fuseL l g w b (ix2 p f) = Alg.fuseS (fun k => l (ix2 p k)) (fun k => g (ix2 p k)) w (fun f => b (ix1 f)) f := by
  unfold fuseL Alg.fuseS
  pointwise
theorem hidL_at (z : FVec Ideal S4x256 .f32) (w : FVec Ideal S8x256x128 .f32) (b : FVec Ideal S8x128 .f32) (p : Fin 4) (a : Fin 8) (k : Fin 128) :
    hidL z w b (ix3 p a k) = max ((∑ i : Fin 256, z (ix2 p i) * w (ix3 a i k)) + b (ix2 a k)) 0 := by
  unfold hidL
  pointwise
theorem dirL_at (w : FVec Ideal S8x128 .f32) (h : FVec Ideal S4x8x128 .f32) (b : FVec Ideal S8 .f32) (p : Fin 4) (a : Fin 8) :
    dirL w h b (ix2 p a) = (∑ k : Fin 128, h (ix3 p a k) * w (ix2 a k)) + b (ix1 a) := by
  unfold dirL
  pointwise
  exact congrArg (· + b (ix1 a)) (Finset.sum_congr rfl fun k _ => mul_comm _ _)
theorem probL_at (w : FVec Ideal S8x128 .f32) (h : FVec Ideal S4x8x128 .f32) (b : FVec Ideal S8 .f32) (p : Fin 4) (a : Fin 8) :
    probL w h b (ix2 p a) = Ideal.div 1 (1 + Ideal.exp (-((∑ k : Fin 128, h (ix3 p a k) * w (ix2 a k)) + b (ix1 a)))) := by
  rw [Finset.sum_congr rfl fun k _ => mul_comm (h (ix3 p a k)) (w (ix2 a k))]
  unfold probL
  pointwise
theorem magL_at (w : FVec Ideal S8x128 .f32) (h : FVec Ideal S4x8x128 .f32) (b : FVec Ideal S8 .f32) (p : Fin 4) (a : Fin 8) :
    magL w h b (ix2 p a) = (max ((∑ k : Fin 128, h (ix3 p a k) * w (ix2 a k)) + b (ix1 a)) 0
      + Ideal.log1p (Ideal.exp (-FloatOps.absf (F := Ideal) (φ := .f32) ((∑ k : Fin 128, h (ix3 p a k) * w (ix2 a k)) + b (ix1 a)))) : EReal) := by
  rw [Finset.sum_congr rfl fun k _ => mul_comm (h (ix3 p a k)) (w (ix2 a k))]
  unfold magL
  pointwise
  exact if_neg fun h => h rfl
theorem catL_at (z : FVec Ideal S4x256 .f32) (w : FVec Ideal S256x8 .f32) (b : FVec Ideal S8 .f32) (p : Fin 4) (a : Fin 8) :
    catL z w b (ix2 p a) = (∑ k : Fin 256, z (ix2 p k) * w (ix2 k a)) + b (ix1 a) := by
  unfold catL
  pointwise

/-! ## The degree -/

theorem landsD (idx : IVec S28256x1 32) (e : Fin 28256) (r : Fin 883) :
    scatter_S883_S28256x1_S28256_n_0_0_1.resultIdx? (ix1 e) idx = some (ix1 r) ↔ (idx (ix2 e (0 : Fin 1))).toInt = r.val := by
  have hs : scatter_S883_S28256x1_S28256_n_0_0_1.start (ix1 e) idx 0 = (idx (ix2 e (0 : Fin 1))).toInt := by
    unfold ScatterDims.start
    rw [dif_pos (by decide)]
    refine congrArg (fun i => (idx i).toInt) (funext fun b => ?_)
    fin_cases b <;> rfl
  have hw : scatter_S883_S28256x1_S28256_n_0_0_1.window (ix1 e) 0 = 0 := by
    unfold ScatterDims.window
    rw [dif_neg (by decide)]
  rw [Routing.resultIdx?_eq_some]
  constructor
  · intro h
    have h0 := h 0
    rw [hs, hw] at h0
    simpa using h0
  · intro h0 q
    obtain rfl : q = 0 := Subsingleton.elim (α := Fin 1) _ _
    rw [hs, hw]
    simpa using h0

/-- A node's word read signed. -/
theorem word_int (v : BitVec 32) (h : v.toNat < 883) (r : ℕ) : v.toInt = (r : ℤ) ↔ v.toNat = r := by
  rw [BitVec.toInt_eq_toNat_cond]
  split <;> omega

theorem degL_at (v3 : IVec S28256 32) (hv : ∀ e : Fin 28256, (v3 (ix1 e)).toNat < 883) (r : Fin 883) :
    degL (F := Ideal) v3 (ix1 r) = (max 1 (∑ e : Fin 28256, if (v3 (ix1 e)).toNat = r.val then (1 : EReal) else 0) : EReal) := by
  unfold degL
  pointwise
  refine congrArg₂ max one_id ?_
  unfold Host.scatterAdd
  rw [Ideal.hostScatterAdd_def]
  unfold Ideal.hostScatterAdd
  have h0 : (broadcastInDim S883 ![] bcast_S_S883 (constant (F := Ideal) S_ .f32 0#32)) (ix1 r) = (0 : EReal) := Ideal.ofBits_zero_f32
  have h1 : ∀ j, (broadcastInDim S28256 ![] bcast_S_S28256 (constant (F := Ideal) S_ .f32 1065353216#32)) j = (1 : EReal) := fun _ => Ideal.ofBits_one_f32
  rw [h0, zero_add, Finset.sum_filter, sum_idx1]
  refine Finset.sum_congr rfl fun e _ => ?_
  rw [h1]
  refine if_congr ((landsD _ e r).trans ?_) rfl rfl
  rw [← word_int _ (hv e)]
  have : broadcastInDim S28256x1 ![0] bcast_S28256_S28256x1_0 v3 (ix2 e 0) = v3 (ix1 e) := by pointwise
  rw [this]

/-- jnp's wrap of a node that needs none. -/
theorem wrap_node (v : BitVec 32) (h : v.toNat < 883) : Scalar.select (IntOp.cmpi .slt v 0#32) (IntOp.addi v 883#32) v = v :=
  Routing.wrap_of_lt _ _ (by show _ < 2147483648; omega)

theorem ge_zero (v : BitVec 32) (h : v.toNat < 883) : IntOp.cmpi .sge v 0#32 = 1#1 := by
  have hb : ∀ b : Bool, b = true → BitVec.ofBool b = 1#1 := by decide
  refine hb _ ?_
  simp only [BitVec.sle_eq_decide, decide_eq_true_eq, BitVec.toInt_eq_toNat_cond, BitVec.toNat_ofNat, Nat.reducePow, Nat.reduceMod]
  split <;> omega
theorem le_last (v : BitVec 32) (h : v.toNat < 883) : IntOp.cmpi .sle v 882#32 = 1#1 := by
  have hb : ∀ b : Bool, b = true → BitVec.ofBool b = 1#1 := by decide
  refine hb _ ?_
  simp only [BitVec.sle_eq_decide, decide_eq_true_eq, BitVec.toInt_eq_toNat_cond, BitVec.toNat_ofNat, Nat.reducePow, Nat.reduceMod]
  split <;> omega

/-! ## The 1408 values per node: taken along the edges and summed at their targets -/

theorem gatherA_at {α : Type} (x : S4x883x1408.Idx → α) (idx : IVec S28256x1 32) (p : Fin 4) (e : Fin 28256) (k : Fin 1408) :
    Host.gather gather_S4x883x1408_S28256x1_S4x28256x1408_02_1_n_n_1_1_411408 x idx (ix3 p e k)
      = x (ix3 p (⟨min (idx (ix2 e (0 : Fin 1))).toInt.toNat 882, by omega⟩ : Fin 883) k) := by
  unfold Host.gather
  refine congrArg x (funext fun a => Fin.ext ?_)
  show gather_S4x883x1408_S28256x1_S4x28256x1408_02_1_n_n_1_1_411408.start (ix3 p e k) idx a + gather_S4x883x1408_S28256x1_S4x28256x1408_02_1_n_n_1_1_411408.batchCoord (ix3 p e k) a
      + gather_S4x883x1408_S28256x1_S4x28256x1408_02_1_n_n_1_1_411408.offCoord (ix3 p e k) a = _
  rw [GatherDims.batchCoord_eq_zero _ _ _ (fun h => by simp [gather_S4x883x1408_S28256x1_S4x28256x1408_02_1_n_n_1_1_411408] at h), Nat.add_zero]
  have h3 : ∀ a : Fin 3, a = 0 ∨ a = 1 ∨ a = 2 := by decide
  rcases h3 a with rfl | rfl | rfl
  · unfold GatherDims.start GatherDims.offCoord
    rw [dif_neg (by decide), dif_pos (by decide), Nat.zero_add]
    rfl
  · unfold GatherDims.start GatherDims.offCoord
    rw [dif_pos (by decide), dif_neg (by decide), Nat.add_zero]
    have hi : gather_S4x883x1408_S28256x1_S4x28256x1408_02_1_n_n_1_1_411408.siIdx (ix3 p e k) ⟨gather_S4x883x1408_S28256x1_S4x28256x1408_02_1_n_n_1_1_411408.startIndexMap.idxOf (1 : Fin 3), by decide⟩ = ix2 e (0 : Fin 1) := by
      funext b
      fin_cases b <;> rfl
    exact congrArg (fun i => min (idx i).toInt.toNat 882) hi
  · unfold GatherDims.start GatherDims.offCoord
    rw [dif_neg (by decide), dif_pos (by decide), Nat.zero_add]
    rfl

theorem takeA_at (v1 : IVec S28256 32) (x : FVec Ideal S4x883x1408 .f32) (p : Fin 4) (e : Fin 28256) (k : Fin 1408) (h : (v1 (ix1 e)).toNat < 883) :
    takeA v1 x (ix3 p e k) = x (ix3 p ⟨(v1 (ix1 e)).toNat, h⟩ k) := by
  unfold takeA
  pointwise
  have hb : Finset.fold IntOp.andi (1#1) (fun _ : Fin 1 => IntOp.andi (1#1) (1#1)) Finset.univ = 1#1 := by decide
  rw [wrap_node _ h, ge_zero _ h, le_last _ h, hb, gatherA_at]
  have hi : (broadcastInDim S28256x1 ![0] bcast_S28256_S28256x1_0
          (select (cmpi CmpIPredicate.slt v1 (broadcastInDim S28256 ![] bcast_S_S28256 (constantI S_ 32 0#32)))
            (addi v1 (broadcastInDim S28256 ![] bcast_S_S28256 (constantI S_ 32 883#32))) v1)) (ix2 e (0 : Fin 1)) = v1 (ix1 e) := by
    pointwise
    exact wrap_node _ h
  have hn : min ((v1 (ix1 e)).toInt.toNat) 882 = (v1 (ix1 e)).toNat := by
    rw [BitVec.toInt_eq_toNat_cond]
    split <;> omega
  refine Eq.trans (b := x (ix3 p (⟨min _ 882, _⟩ : Fin 883) k)) rfl ?_
  refine congrArg (fun r => x (ix3 p r k)) (Fin.ext ?_)
  show min (BitVec.toInt (broadcastInDim S28256x1 _ _ _ _)).toNat 882 = _
  rw [hi, hn]

theorem landsA (idx : IVec S28256x1 32) (p' : Fin 4) (e : Fin 28256) (k' : Fin 1408) (p : Fin 4) (r : Fin 883) (k : Fin 1408) :
    scatter_S4x883x1408_S28256x1_S4x28256x1408_02_1_1_1.resultIdx? (ix3 p' e k') idx = some (ix3 p r k)
      ↔ (idx (ix2 e (0 : Fin 1))).toInt = r.val ∧ p' = p ∧ k' = k := by
  have s1 : scatter_S4x883x1408_S28256x1_S4x28256x1408_02_1_1_1.start (ix3 p' e k') idx 1 = (idx (ix2 e (0 : Fin 1))).toInt := by
    unfold ScatterDims.start
    rw [dif_pos (by decide)]
    refine congrArg (fun i => (idx i).toInt) (funext fun b => ?_)
    fin_cases b <;> rfl
  have s0 : scatter_S4x883x1408_S28256x1_S4x28256x1408_02_1_1_1.start (ix3 p' e k') idx 0 = 0 := by
    unfold ScatterDims.start
    rw [dif_neg (by decide)]
  have s2 : scatter_S4x883x1408_S28256x1_S4x28256x1408_02_1_1_1.start (ix3 p' e k') idx 2 = 0 := by
    unfold ScatterDims.start
    rw [dif_neg (by decide)]
  have w1 : scatter_S4x883x1408_S28256x1_S4x28256x1408_02_1_1_1.window (ix3 p' e k') 1 = 0 := by
    unfold ScatterDims.window
    rw [dif_neg (by decide)]
  have w0 : scatter_S4x883x1408_S28256x1_S4x28256x1408_02_1_1_1.window (ix3 p' e k') 0 = p'.val := by
    unfold ScatterDims.window
    rw [dif_pos (by decide)]
    rfl
  have w2 : scatter_S4x883x1408_S28256x1_S4x28256x1408_02_1_1_1.window (ix3 p' e k') 2 = k'.val := by
    unfold ScatterDims.window
    rw [dif_pos (by decide)]
    rfl
  rw [Routing.resultIdx?_eq_some]
  constructor
  · intro h
    have h0 := h 0; have h1 := h 1; have h2 := h 2
    rw [s0, w0] at h0
    rw [s1, w1] at h1
    rw [s2, w2] at h2
    refine ⟨by simpa using h1, Fin.ext ?_, Fin.ext ?_⟩
    · have : ((p'.val : ℕ) : ℤ) = p.val := by simpa using h0
      exact_mod_cast this
    · have : ((k'.val : ℕ) : ℤ) = k.val := by simpa using h2
      exact_mod_cast this
  · rintro ⟨h1, rfl, rfl⟩ q
    have h3 : ∀ a : Fin 3, a = 0 ∨ a = 1 ∨ a = 2 := by decide
    rcases h3 q with rfl | rfl | rfl
    · rw [s0, w0]; simp
    · rw [s1, w1]; simpa using h1
    · rw [s2, w2]; simp

theorem aggA_at (v3 : IVec S28256 32) (hv : ∀ e : Fin 28256, (v3 (ix1 e)).toNat < 883) (u : FVec Ideal S4x28256x1408 .f32) (d : FVec Ideal S883 .f32) (p : Fin 4) (r : Fin 883) (k : Fin 1408) :
    aggA v3 u d (ix3 p r k) = Ideal.div (∑ e : Fin 28256, if (v3 (ix1 e)).toNat = r.val then u (ix3 p e k) else 0) (d (ix1 r)) := by
  unfold aggA
  pointwise
  generalize hG : (∑ e : Fin 28256, if (v3 (ix1 e)).toNat = r.val then u (ix3 p e k) else (0 : EReal)) = G
  refine congrArg (Ideal.div · (d (ix1 r))) (Eq.trans ?_ hG)
  refine (congrFun (Ideal.hostScatterAdd_def scatter_S4x883x1408_S28256x1_S4x28256x1408_02_1_1_1 _ _ _ _) (ix3 p r k)).trans ?_
  show _ + _ = _
  have h0 : (broadcastInDim S4x883x1408 ![1, 2] bcast_S883x1408_S4x883x1408_1_2 (broadcastInDim S883x1408 ![] bcast_S_S883x1408 (constant (F := Ideal) S_ .f32 0#32))) (ix3 p r k) = (0 : EReal) := Ideal.ofBits_zero_f32
  rw [h0, zero_add, Finset.sum_filter, sum_idx3, Finset.sum_eq_single p]
  · refine Finset.sum_congr rfl fun e _ => ?_
    rw [Finset.sum_eq_single k]
    · refine if_congr ((landsA _ p e k p r k).trans ?_) rfl rfl
      rw [← word_int _ (hv e)]
      have : broadcastInDim S28256x1 ![0] bcast_S28256_S28256x1_0 v3 (ix2 e 0) = v3 (ix1 e) := by pointwise
      rw [this]
      exact ⟨fun h => h.1, fun h => ⟨h, rfl, rfl⟩⟩
    · intro k' _ hk
      exact if_neg fun h => hk ((landsA _ p e k' p r k).mp h).2.2
    · intro h; exact absurd (Finset.mem_univ _) h
  · intro p' _ hp
    refine Finset.sum_eq_zero fun e _ => Finset.sum_eq_zero fun k' _ => if_neg fun h => hp ((landsA _ p' e k' p r k).mp h).2.1
  · intro h; exact absurd (Finset.mem_univ _) h

/-! ## The 256 values per node: taken along the edges and summed at their targets -/

theorem gatherB_at {α : Type} (x : S4x883x256.Idx → α) (idx : IVec S28256x1 32) (p : Fin 4) (e : Fin 28256) (k : Fin 256) :
    Host.gather gather_S4x883x256_S28256x1_S4x28256x256_02_1_n_n_1_1_41256 x idx (ix3 p e k)
      = x (ix3 p (⟨min (idx (ix2 e (0 : Fin 1))).toInt.toNat 882, by omega⟩ : Fin 883) k) := by
  unfold Host.gather
  refine congrArg x (funext fun a => Fin.ext ?_)
  show gather_S4x883x256_S28256x1_S4x28256x256_02_1_n_n_1_1_41256.start (ix3 p e k) idx a + gather_S4x883x256_S28256x1_S4x28256x256_02_1_n_n_1_1_41256.batchCoord (ix3 p e k) a
      + gather_S4x883x256_S28256x1_S4x28256x256_02_1_n_n_1_1_41256.offCoord (ix3 p e k) a = _
  rw [GatherDims.batchCoord_eq_zero _ _ _ (fun h => by simp [gather_S4x883x256_S28256x1_S4x28256x256_02_1_n_n_1_1_41256] at h), Nat.add_zero]
  have h3 : ∀ a : Fin 3, a = 0 ∨ a = 1 ∨ a = 2 := by decide
  rcases h3 a with rfl | rfl | rfl
  · unfold GatherDims.start GatherDims.offCoord
    rw [dif_neg (by decide), dif_pos (by decide), Nat.zero_add]
    rfl
  · unfold GatherDims.start GatherDims.offCoord
    rw [dif_pos (by decide), dif_neg (by decide), Nat.add_zero]
    have hi : gather_S4x883x256_S28256x1_S4x28256x256_02_1_n_n_1_1_41256.siIdx (ix3 p e k) ⟨gather_S4x883x256_S28256x1_S4x28256x256_02_1_n_n_1_1_41256.startIndexMap.idxOf (1 : Fin 3), by decide⟩ = ix2 e (0 : Fin 1) := by
      funext b
      fin_cases b <;> rfl
    exact congrArg (fun i => min (idx i).toInt.toNat 882) hi
  · unfold GatherDims.start GatherDims.offCoord
    rw [dif_neg (by decide), dif_pos (by decide), Nat.zero_add]
    rfl

theorem takeB_at (v1 : IVec S28256 32) (x : FVec Ideal S4x883x256 .f32) (p : Fin 4) (e : Fin 28256) (k : Fin 256) (h : (v1 (ix1 e)).toNat < 883) :
    takeB v1 x (ix3 p e k) = x (ix3 p ⟨(v1 (ix1 e)).toNat, h⟩ k) := by
  unfold takeB
  pointwise
  have hb : Finset.fold IntOp.andi (1#1) (fun _ : Fin 1 => IntOp.andi (1#1) (1#1)) Finset.univ = 1#1 := by decide
  rw [wrap_node _ h, ge_zero _ h, le_last _ h, hb, gatherB_at]
  have hi : (broadcastInDim S28256x1 ![0] bcast_S28256_S28256x1_0
          (select (cmpi CmpIPredicate.slt v1 (broadcastInDim S28256 ![] bcast_S_S28256 (constantI S_ 32 0#32)))
            (addi v1 (broadcastInDim S28256 ![] bcast_S_S28256 (constantI S_ 32 883#32))) v1)) (ix2 e (0 : Fin 1)) = v1 (ix1 e) := by
    pointwise
    exact wrap_node _ h
  have hn : min ((v1 (ix1 e)).toInt.toNat) 882 = (v1 (ix1 e)).toNat := by
    rw [BitVec.toInt_eq_toNat_cond]
    split <;> omega
  refine Eq.trans (b := x (ix3 p (⟨min _ 882, _⟩ : Fin 883) k)) rfl ?_
  refine congrArg (fun r => x (ix3 p r k)) (Fin.ext ?_)
  show min (BitVec.toInt (broadcastInDim S28256x1 _ _ _ _)).toNat 882 = _
  rw [hi, hn]

theorem landsB (idx : IVec S28256x1 32) (p' : Fin 4) (e : Fin 28256) (k' : Fin 256) (p : Fin 4) (r : Fin 883) (k : Fin 256) :
    scatter_S4x883x256_S28256x1_S4x28256x256_02_1_1_1.resultIdx? (ix3 p' e k') idx = some (ix3 p r k)
      ↔ (idx (ix2 e (0 : Fin 1))).toInt = r.val ∧ p' = p ∧ k' = k := by
  have s1 : scatter_S4x883x256_S28256x1_S4x28256x256_02_1_1_1.start (ix3 p' e k') idx 1 = (idx (ix2 e (0 : Fin 1))).toInt := by
    unfold ScatterDims.start
    rw [dif_pos (by decide)]
    refine congrArg (fun i => (idx i).toInt) (funext fun b => ?_)
    fin_cases b <;> rfl
  have s0 : scatter_S4x883x256_S28256x1_S4x28256x256_02_1_1_1.start (ix3 p' e k') idx 0 = 0 := by
    unfold ScatterDims.start
    rw [dif_neg (by decide)]
  have s2 : scatter_S4x883x256_S28256x1_S4x28256x256_02_1_1_1.start (ix3 p' e k') idx 2 = 0 := by
    unfold ScatterDims.start
    rw [dif_neg (by decide)]
  have w1 : scatter_S4x883x256_S28256x1_S4x28256x256_02_1_1_1.window (ix3 p' e k') 1 = 0 := by
    unfold ScatterDims.window
    rw [dif_neg (by decide)]
  have w0 : scatter_S4x883x256_S28256x1_S4x28256x256_02_1_1_1.window (ix3 p' e k') 0 = p'.val := by
    unfold ScatterDims.window
    rw [dif_pos (by decide)]
    rfl
  have w2 : scatter_S4x883x256_S28256x1_S4x28256x256_02_1_1_1.window (ix3 p' e k') 2 = k'.val := by
    unfold ScatterDims.window
    rw [dif_pos (by decide)]
    rfl
  rw [Routing.resultIdx?_eq_some]
  constructor
  · intro h
    have h0 := h 0; have h1 := h 1; have h2 := h 2
    rw [s0, w0] at h0
    rw [s1, w1] at h1
    rw [s2, w2] at h2
    refine ⟨by simpa using h1, Fin.ext ?_, Fin.ext ?_⟩
    · have : ((p'.val : ℕ) : ℤ) = p.val := by simpa using h0
      exact_mod_cast this
    · have : ((k'.val : ℕ) : ℤ) = k.val := by simpa using h2
      exact_mod_cast this
  · rintro ⟨h1, rfl, rfl⟩ q
    have h3 : ∀ a : Fin 3, a = 0 ∨ a = 1 ∨ a = 2 := by decide
    rcases h3 q with rfl | rfl | rfl
    · rw [s0, w0]; simp
    · rw [s1, w1]; simpa using h1
    · rw [s2, w2]; simp

theorem aggB_at (v3 : IVec S28256 32) (hv : ∀ e : Fin 28256, (v3 (ix1 e)).toNat < 883) (u : FVec Ideal S4x28256x256 .f32) (d : FVec Ideal S883 .f32) (p : Fin 4) (r : Fin 883) (k : Fin 256) :
    aggB v3 u d (ix3 p r k) = Ideal.div (∑ e : Fin 28256, if (v3 (ix1 e)).toNat = r.val then u (ix3 p e k) else 0) (d (ix1 r)) := by
  unfold aggB
  pointwise
  generalize hG : (∑ e : Fin 28256, if (v3 (ix1 e)).toNat = r.val then u (ix3 p e k) else (0 : EReal)) = G
  refine congrArg (Ideal.div · (d (ix1 r))) (Eq.trans ?_ hG)
  refine (congrFun (Ideal.hostScatterAdd_def scatter_S4x883x256_S28256x1_S4x28256x256_02_1_1_1 _ _ _ _) (ix3 p r k)).trans ?_
  show _ + _ = _
  have h0 : (broadcastInDim S4x883x256 ![1, 2] bcast_S883x256_S4x883x256_1_2 (broadcastInDim S883x256 ![] bcast_S_S883x256 (constant (F := Ideal) S_ .f32 0#32))) (ix3 p r k) = (0 : EReal) := Ideal.ofBits_zero_f32
  rw [h0, zero_add, Finset.sum_filter, sum_idx3, Finset.sum_eq_single p]
  · refine Finset.sum_congr rfl fun e _ => ?_
    rw [Finset.sum_eq_single k]
    · refine if_congr ((landsB _ p e k p r k).trans ?_) rfl rfl
      rw [← word_int _ (hv e)]
      have : broadcastInDim S28256x1 ![0] bcast_S28256_S28256x1_0 v3 (ix2 e 0) = v3 (ix1 e) := by pointwise
      rw [this]
      exact ⟨fun h => h.1, fun h => ⟨h, rfl, rfl⟩⟩
    · intro k' _ hk
      exact if_neg fun h => hk ((landsB _ p e k' p r k).mp h).2.2
    · intro h; exact absurd (Finset.mem_univ _) h
  · intro p' _ hp
    refine Finset.sum_eq_zero fun e _ => Finset.sum_eq_zero fun k' _ => if_neg fun h => hp ((landsB _ p' e k' p r k).mp h).2.1
  · intro h; exact absurd (Finset.mem_univ _) h

end Cert.Proof.Ref

end
-- ==== Proof.RefRun.lean ====
/- The reference's run: its operations as lists, part by part, and what every array holds at the end. -/
module

public import proofs.«01_k».proof.Proof.RefVals
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

abbrev opsSrc : List (HloOp τ sig (Elt F)) :=
  [unary main_arg3 main_v0 ((extractStridedSlice S1x28256 ![0, 0] · slices_S2x28256_S1x28256_0_0) : (⟨S2x28256, .i32⟩ : BufTy).Contents (Elt F) → (⟨S1x28256, .i32⟩ : BufTy).Contents (Elt F)),
    reshape main_v0 main_v1 (rfl : (.i32 : EltTy) = .i32) shapeCasts_S1x28256_S28256]
theorem keepSrc (V : Valuation τ sig (Elt F)) (r : Ref sig .tc) (hr : r ∉ [main_v0, main_v1]) :
    after opsSrc V (Proc.devRef .tc r) = V (Proc.devRef .tc r) :=
  after_of_writes_sub _ V (forall_writes_sub_of_map rfl) hr
theorem subSrc : (opsSrc : List (HloOp τ sig (Elt F))).Forall fun op => op.bufs ⊆ tcRefs τ sig :=
  ⟨unary_bufs_sub .., reshape_bufs_sub ..⟩
theorem freshSrc : (opsSrc : List (HloOp τ sig (Elt F))).Forall fun op => op.fresh = ∅ := forall_fresh_of_map rfl
theorem outSrc (V : Valuation τ sig (Elt F)) : after opsSrc V (Proc.devRef .tc main_v1) = srcL (V (Proc.devRef .tc main_arg3)) := by
  after_results <;> rfl

abbrev opsDst : List (HloOp τ sig (Elt F)) :=
  [unary main_arg3 main_v2 ((extractStridedSlice S1x28256 ![1, 0] · slices_S2x28256_S1x28256_1_0) : (⟨S2x28256, .i32⟩ : BufTy).Contents (Elt F) → (⟨S1x28256, .i32⟩ : BufTy).Contents (Elt F)),
    reshape main_v2 main_v3 (rfl : (.i32 : EltTy) = .i32) shapeCasts_S1x28256_S28256]
theorem keepDst (V : Valuation τ sig (Elt F)) (r : Ref sig .tc) (hr : r ∉ [main_v2, main_v3]) :
    after opsDst V (Proc.devRef .tc r) = V (Proc.devRef .tc r) :=
  after_of_writes_sub _ V (forall_writes_sub_of_map rfl) hr
theorem subDst : (opsDst : List (HloOp τ sig (Elt F))).Forall fun op => op.bufs ⊆ tcRefs τ sig :=
  ⟨unary_bufs_sub .., reshape_bufs_sub ..⟩
theorem freshDst : (opsDst : List (HloOp τ sig (Elt F))).Forall fun op => op.fresh = ∅ := forall_fresh_of_map rfl
theorem outDst (V : Valuation τ sig (Elt F)) : after opsDst V (Proc.devRef .tc main_v3) = dstL (V (Proc.devRef .tc main_arg3)) := by
  after_results <;> rfl

abbrev opsDeg : List (HloOp τ sig (Elt F)) :=
  [nullary main_cst (constant S_ .f32 0x3F800000#32),
    unary main_cst main_v4 (broadcastInDim S28256 ![] bcast_S_S28256 : (⟨S_, .f32⟩ : BufTy).Contents (Elt F) → (⟨S28256, .f32⟩ : BufTy).Contents (Elt F)),
    nullary main_cst_0 (constant S_ .f32 0x00000000#32),
    unary main_cst_0 main_v5 (broadcastInDim S883 ![] bcast_S_S883 : (⟨S_, .f32⟩ : BufTy).Contents (Elt F) → (⟨S883, .f32⟩ : BufTy).Contents (Elt F)),
    unary main_v3 main_v6 (broadcastInDim S28256x1 ![0] bcast_S28256_S28256x1_0 : (⟨S28256, .i32⟩ : BufTy).Contents (Elt F) → (⟨S28256x1, .i32⟩ : BufTy).Contents (Elt F)),
    ternary main_v5 main_v6 main_v4 main_v7 ((fun x i u => Host.scatterAdd scatter_S883_S28256x1_S28256_n_0_0_1 x i u) : (⟨S883, .f32⟩ : BufTy).Contents (Elt F) → (⟨S28256x1, .i32⟩ : BufTy).Contents (Elt F) → (⟨S28256, .f32⟩ : BufTy).Contents (Elt F) → (⟨S883, .f32⟩ : BufTy).Contents (Elt F)),
    nullary main_cst_1 (constant S_ .f32 0x3F800000#32),
    unary main_cst_1 main_call0_v0 (id : (⟨S_, .f32⟩ : BufTy).Contents (Elt F) → (⟨S_, .f32⟩ : BufTy).Contents (Elt F)),
    unary main_call0_v0 main_call0_v1 ((broadcastInDim S883 ![] bcast_S_S883) : (⟨S_, .f32⟩ : BufTy).Contents (Elt F) → (⟨S883, .f32⟩ : BufTy).Contents (Elt F)),
    binary main_call0_v1 main_v7 main_v8 (maximumf : (⟨S883, .f32⟩ : BufTy).Contents (Elt F) → (⟨S883, .f32⟩ : BufTy).Contents (Elt F) → (⟨S883, .f32⟩ : BufTy).Contents (Elt F))]
theorem keepDeg (V : Valuation τ sig (Elt F)) (r : Ref sig .tc) (hr : r ∉ [main_cst, main_v4, main_cst_0, main_v5, main_v6, main_v7, main_cst_1, main_call0_v0, main_call0_v1, main_v8]) :
    after opsDeg V (Proc.devRef .tc r) = V (Proc.devRef .tc r) :=
  after_of_writes_sub _ V (forall_writes_sub_of_map rfl) hr
theorem subDeg : (opsDeg : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub ..⟩
theorem freshDeg : (opsDeg : List (HloOp τ sig (Elt F))).Forall fun op => op.fresh = ∅ := forall_fresh_of_map rfl
theorem outDeg (V : Valuation τ sig (Elt F)) : after opsDeg V (Proc.devRef .tc main_v8) = degL (V (Proc.devRef .tc main_v3)) := by
  after_results <;> rfl

abbrev opsEnc : List (HloOp τ sig (Elt F)) :=
  [binary main_arg2 main_arg5 main_v9 ((fun l r => Host.dotGeneral dot_S883x20_S20x128_S883x128_1_0_0_1_n_n none l r) : (⟨S883x20, .f32⟩ : BufTy).Contents (Elt F) → (⟨S20x128, .f32⟩ : BufTy).Contents (Elt F) → (⟨S883x128, .f32⟩ : BufTy).Contents (Elt F)),
    unary main_arg6 main_v10 (broadcastInDim S1x128 ![1] bcast_S128_S1x128_1 : (⟨S128, .f32⟩ : BufTy).Contents (Elt F) → (⟨S1x128, .f32⟩ : BufTy).Contents (Elt F)),
    unary main_v10 main_v11 (broadcastInDim S883x128 ![0, 1] bcast_S1x128_S883x128_0_1 : (⟨S1x128, .f32⟩ : BufTy).Contents (Elt F) → (⟨S883x128, .f32⟩ : BufTy).Contents (Elt F)),
    binary main_v9 main_v11 main_v12 (addf : (⟨S883x128, .f32⟩ : BufTy).Contents (Elt F) → (⟨S883x128, .f32⟩ : BufTy).Contents (Elt F) → (⟨S883x128, .f32⟩ : BufTy).Contents (Elt F)),
    nullary main_call1_cst (constant S_ .f32 0x00000000#32),
    unary main_call1_cst main_call1_v0 ((broadcastInDim S883x128 ![] bcast_S_S883x128) : (⟨S_, .f32⟩ : BufTy).Contents (Elt F) → (⟨S883x128, .f32⟩ : BufTy).Contents (Elt F)),
    binary main_v12 main_call1_v0 main_v13 (maximumf : (⟨S883x128, .f32⟩ : BufTy).Contents (Elt F) → (⟨S883x128, .f32⟩ : BufTy).Contents (Elt F) → (⟨S883x128, .f32⟩ : BufTy).Contents (Elt F)),
    binary main_v13 main_arg7 main_v14 ((fun l r => Host.dotGeneral dot_S883x128_S128x128_S883x128_1_0_0_1_n_n none l r) : (⟨S883x128, .f32⟩ : BufTy).Contents (Elt F) → (⟨S128x128, .f32⟩ : BufTy).Contents (Elt F) → (⟨S883x128, .f32⟩ : BufTy).Contents (Elt F)),
    unary main_arg8 main_v15 (broadcastInDim S1x128 ![1] bcast_S128_S1x128_1 : (⟨S128, .f32⟩ : BufTy).Contents (Elt F) → (⟨S1x128, .f32⟩ : BufTy).Contents (Elt F)),
    unary main_v15 main_v16 (broadcastInDim S883x128 ![0, 1] bcast_S1x128_S883x128_0_1 : (⟨S1x128, .f32⟩ : BufTy).Contents (Elt F) → (⟨S883x128, .f32⟩ : BufTy).Contents (Elt F)),
    binary main_v14 main_v16 main_v17 (addf : (⟨S883x128, .f32⟩ : BufTy).Contents (Elt F) → (⟨S883x128, .f32⟩ : BufTy).Contents (Elt F) → (⟨S883x128, .f32⟩ : BufTy).Contents (Elt F)),
    nullary main_call2_cst (constant S_ .f32 0x00000000#32),
    unary main_call2_cst main_call2_v0 ((broadcastInDim S883x128 ![] bcast_S_S883x128) : (⟨S_, .f32⟩ : BufTy).Contents (Elt F) → (⟨S883x128, .f32⟩ : BufTy).Contents (Elt F)),
    binary main_v17 main_call2_v0 main_v18 (maximumf : (⟨S883x128, .f32⟩ : BufTy).Contents (Elt F) → (⟨S883x128, .f32⟩ : BufTy).Contents (Elt F) → (⟨S883x128, .f32⟩ : BufTy).Contents (Elt F))]
theorem keepEnc (V : Valuation τ sig (Elt F)) (r : Ref sig .tc) (hr : r ∉ [main_v9, main_v10, main_v11, main_v12, main_call1_cst, main_call1_v0, main_v13, main_v14, main_v15, main_v16, main_v17, main_call2_cst, main_call2_v0, main_v18]) :
    after opsEnc V (Proc.devRef .tc r) = V (Proc.devRef .tc r) :=
  after_of_writes_sub _ V (forall_writes_sub_of_map rfl) hr
theorem subEnc : (opsEnc : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem freshEnc : (opsEnc : List (HloOp τ sig (Elt F))).Forall fun op => op.fresh = ∅ := forall_fresh_of_map rfl
theorem outEnc (V : Valuation τ sig (Elt F)) : after opsEnc V (Proc.devRef .tc main_v18) = encL (V (Proc.devRef .tc main_arg2)) (V (Proc.devRef .tc main_arg5)) (V (Proc.devRef .tc main_arg6)) (V (Proc.devRef .tc main_arg7)) (V (Proc.devRef .tc main_arg8)) := by
  after_results <;> rfl

abbrev opsJoinW : List (HloOp τ sig (Elt F)) :=
  [unary main_v18 main_v19 (broadcastInDim S4x883x128 ![1, 2] bcast_S883x128_S4x883x128_1_2 : (⟨S883x128, .f32⟩ : BufTy).Contents (Elt F) → (⟨S4x883x128, .f32⟩ : BufTy).Contents (Elt F)),
    binary main_arg0 main_v19 main_v20 ((fun a b => concatenate S4x883x1408 2 [⟨S4x883x1280, a⟩, ⟨S4x883x128, b⟩] concatenates_S4x883x1280_S4x883x128_S4x883x1408_d2) : (⟨S4x883x1280, .f32⟩ : BufTy).Contents (Elt F) → (⟨S4x883x128, .f32⟩ : BufTy).Contents (Elt F) → (⟨S4x883x1408, .f32⟩ : BufTy).Contents (Elt F))]
theorem keepJoinW (V : Valuation τ sig (Elt F)) (r : Ref sig .tc) (hr : r ∉ [main_v19, main_v20]) :
    after opsJoinW V (Proc.devRef .tc r) = V (Proc.devRef .tc r) :=
  after_of_writes_sub _ V (forall_writes_sub_of_map rfl) hr
theorem subJoinW : (opsJoinW : List (HloOp τ sig (Elt F))).Forall fun op => op.bufs ⊆ tcRefs τ sig :=
  ⟨unary_bufs_sub .., binary_bufs_sub ..⟩
theorem freshJoinW : (opsJoinW : List (HloOp τ sig (Elt F))).Forall fun op => op.fresh = ∅ := forall_fresh_of_map rfl
theorem outJoinW (V : Valuation τ sig (Elt F)) : after opsJoinW V (Proc.devRef .tc main_v20) = joinL (V (Proc.devRef .tc main_v18)) (V (Proc.devRef .tc main_arg0)) := by
  after_results <;> rfl

abbrev opsTakeAW : List (HloOp τ sig (Elt F)) :=
  [nullary main_call3_c (constantI S_ 32 0#32),
    unary main_call3_c main_call3_v0 ((broadcastInDim S28256 ![] bcast_S_S28256) : (⟨S_, .i32⟩ : BufTy).Contents (Elt F) → (⟨S28256, .i32⟩ : BufTy).Contents (Elt F)),
    binary main_v1 main_call3_v0 main_call3_v1 ((cmpi .slt) : (⟨S28256, .i32⟩ : BufTy).Contents (Elt F) → (⟨S28256, .i32⟩ : BufTy).Contents (Elt F) → (⟨S28256, .i1⟩ : BufTy).Contents (Elt F)),
    nullary main_call3_c_0 (constantI S_ 32 883#32),
    unary main_call3_c_0 main_call3_v2 ((broadcastInDim S28256 ![] bcast_S_S28256) : (⟨S_, .i32⟩ : BufTy).Contents (Elt F) → (⟨S28256, .i32⟩ : BufTy).Contents (Elt F)),
    binary main_v1 main_call3_v2 main_call3_v3 (addi : (⟨S28256, .i32⟩ : BufTy).Contents (Elt F) → (⟨S28256, .i32⟩ : BufTy).Contents (Elt F) → (⟨S28256, .i32⟩ : BufTy).Contents (Elt F)),
    ternary main_call3_v1 main_call3_v3 main_v1 main_call3_v4 (select : (⟨S28256, .i1⟩ : BufTy).Contents (Elt F) → (⟨S28256, .i32⟩ : BufTy).Contents (Elt F) → (⟨S28256, .i32⟩ : BufTy).Contents (Elt F) → (⟨S28256, .i32⟩ : BufTy).Contents (Elt F)),
    unary main_call3_v4 main_call3_v5 ((broadcastInDim S28256x1 ![0] bcast_S28256_S28256x1_0) : (⟨S28256, .i32⟩ : BufTy).Contents (Elt F) → (⟨S28256x1, .i32⟩ : BufTy).Contents (Elt F)),
    nullary main_call3_c_1 (constantI S1 32 882#32),
    nullary main_call3_c_2 (constantI S_ 32 0#32),
    unary main_call3_c_2 main_call3_v6 ((broadcastInDim S28256x1 ![] bcast_S_S28256x1) : (⟨S_, .i32⟩ : BufTy).Contents (Elt F) → (⟨S28256x1, .i32⟩ : BufTy).Contents (Elt F)),
    binary main_call3_v5 main_call3_v6 main_call3_v7 ((cmpi .sge) : (⟨S28256x1, .i32⟩ : BufTy).Contents (Elt F) → (⟨S28256x1, .i32⟩ : BufTy).Contents (Elt F) → (⟨S28256x1, .i1⟩ : BufTy).Contents (Elt F)),
    unary main_call3_c_1 main_call3_v8 ((broadcastInDim S1x1 ![1] bcast_S1_S1x1_1) : (⟨S1, .i32⟩ : BufTy).Contents (Elt F) → (⟨S1x1, .i32⟩ : BufTy).Contents (Elt F)),
    unary main_call3_v8 main_call3_v9 ((broadcastInDim S28256x1 ![0, 1] bcast_S1x1_S28256x1_0_1) : (⟨S1x1, .i32⟩ : BufTy).Contents (Elt F) → (⟨S28256x1, .i32⟩ : BufTy).Contents (Elt F)),
    binary main_call3_v5 main_call3_v9 main_call3_v10 ((cmpi .sle) : (⟨S28256x1, .i32⟩ : BufTy).Contents (Elt F) → (⟨S28256x1, .i32⟩ : BufTy).Contents (Elt F) → (⟨S28256x1, .i1⟩ : BufTy).Contents (Elt F)),
    binary main_call3_v7 main_call3_v10 main_call3_v11 (andi : (⟨S28256x1, .i1⟩ : BufTy).Contents (Elt F) → (⟨S28256x1, .i1⟩ : BufTy).Contents (Elt F) → (⟨S28256x1, .i1⟩ : BufTy).Contents (Elt F)),
    nullary main_call3_c_3 (constantI S_ 1 1#1),
    binary main_call3_v11 main_call3_c_3 main_call3_v12 ((fun x v => Host.reduce IntOp.andi x v reducesTo_S28256x1_S28256_d1 h_S_) : (⟨S28256x1, .i1⟩ : BufTy).Contents (Elt F) → (⟨S_, .i1⟩ : BufTy).Contents (Elt F) → (⟨S28256, .i1⟩ : BufTy).Contents (Elt F)),
    binary main_v20 main_call3_v5 main_call3_v13 ((fun x i => Host.gather gather_S4x883x1408_S28256x1_S4x28256x1408_02_1_n_n_1_1_411408 x i) : (⟨S4x883x1408, .f32⟩ : BufTy).Contents (Elt F) → (⟨S28256x1, .i32⟩ : BufTy).Contents (Elt F) → (⟨S4x28256x1408, .f32⟩ : BufTy).Contents (Elt F)),
    unary main_call3_v12 main_call3_v14 ((broadcastInDim S4x28256x1408 ![1] bcast_S28256_S4x28256x1408_1) : (⟨S28256, .i1⟩ : BufTy).Contents (Elt F) → (⟨S4x28256x1408, .i1⟩ : BufTy).Contents (Elt F)),
    nullary main_call3_cst (constant S_ .f32 0x7FC00000#32),
    unary main_call3_cst main_call3_v15 ((broadcastInDim S4x28256x1408 ![] bcast_S_S4x28256x1408) : (⟨S_, .f32⟩ : BufTy).Contents (Elt F) → (⟨S4x28256x1408, .f32⟩ : BufTy).Contents (Elt F)),
    ternary main_call3_v14 main_call3_v13 main_call3_v15 main_v21 (select : (⟨S4x28256x1408, .i1⟩ : BufTy).Contents (Elt F) → (⟨S4x28256x1408, .f32⟩ : BufTy).Contents (Elt F) → (⟨S4x28256x1408, .f32⟩ : BufTy).Contents (Elt F) → (⟨S4x28256x1408, .f32⟩ : BufTy).Contents (Elt F))]
theorem keepTakeAW (V : Valuation τ sig (Elt F)) (r : Ref sig .tc) (hr : r ∉ [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v21]) :
    after opsTakeAW V (Proc.devRef .tc r) = V (Proc.devRef .tc r) :=
  after_of_writes_sub _ V (forall_writes_sub_of_map rfl) hr
theorem subTakeAW : (opsTakeAW : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshTakeAW : (opsTakeAW : List (HloOp τ sig (Elt F))).Forall fun op => op.fresh = ∅ := forall_fresh_of_map rfl
theorem outTakeAW (V : Valuation τ sig (Elt F)) : after opsTakeAW V (Proc.devRef .tc main_v21) = takeA (V (Proc.devRef .tc main_v1)) (V (Proc.devRef .tc main_v20)) := by
  after_results <;> rfl

abbrev opsAggAW : List (HloOp τ sig (Elt F)) :=
  [nullary main_cst_2 (constant S_ .f32 0x00000000#32),
    unary main_cst_2 main_v22 (broadcastInDim S883x1408 ![] bcast_S_S883x1408 : (⟨S_, .f32⟩ : BufTy).Contents (Elt F) → (⟨S883x1408, .f32⟩ : BufTy).Contents (Elt F)),
    unary main_v3 main_v23 (broadcastInDim S28256x1 ![0] bcast_S28256_S28256x1_0 : (⟨S28256, .i32⟩ : BufTy).Contents (Elt F) → (⟨S28256x1, .i32⟩ : BufTy).Contents (Elt F)),
    unary main_v22 main_v24 (broadcastInDim S4x883x1408 ![1, 2] bcast_S883x1408_S4x883x1408_1_2 : (⟨S883x1408, .f32⟩ : BufTy).Contents (Elt F) → (⟨S4x883x1408, .f32⟩ : BufTy).Contents (Elt F)),
    ternary main_v24 main_v23 main_v21 main_v25 ((fun x i u => Host.scatterAdd scatter_S4x883x1408_S28256x1_S4x28256x1408_02_1_1_1 x i u) : (⟨S4x883x1408, .f32⟩ : BufTy).Contents (Elt F) → (⟨S28256x1, .i32⟩ : BufTy).Contents (Elt F) → (⟨S4x28256x1408, .f32⟩ : BufTy).Contents (Elt F) → (⟨S4x883x1408, .f32⟩ : BufTy).Contents (Elt F)),
    unary main_v8 main_v26 (broadcastInDim S883x1 ![0] bcast_S883_S883x1_0 : (⟨S883, .f32⟩ : BufTy).Contents (Elt F) → (⟨S883x1, .f32⟩ : BufTy).Contents (Elt F)),
    unary main_v26 main_v27 (broadcastInDim S1x883x1 ![1, 2] bcast_S883x1_S1x883x1_1_2 : (⟨S883x1, .f32⟩ : BufTy).Contents (Elt F) → (⟨S1x883x1, .f32⟩ : BufTy).Contents (Elt F)),
    unary main_v27 main_v28 (broadcastInDim S4x883x1408 ![0, 1, 2] bcast_S1x883x1_S4x883x1408_0_1_2 : (⟨S1x883x1, .f32⟩ : BufTy).Contents (Elt F) → (⟨S4x883x1408, .f32⟩ : BufTy).Contents (Elt F)),
    binary main_v25 main_v28 main_v29 (Host.divf : (⟨S4x883x1408, .f32⟩ : BufTy).Contents (Elt F) → (⟨S4x883x1408, .f32⟩ : BufTy).Contents (Elt F) → (⟨S4x883x1408, .f32⟩ : BufTy).Contents (Elt F))]
theorem keepAggAW (V : Valuation τ sig (Elt F)) (r : Ref sig .tc) (hr : r ∉ [main_cst_2, main_v22, main_v23, main_v24, main_v25, main_v26, main_v27, main_v28, main_v29]) :
    after opsAggAW V (Proc.devRef .tc r) = V (Proc.devRef .tc r) :=
  after_of_writes_sub _ V (forall_writes_sub_of_map rfl) hr
theorem subAggAW : (opsAggAW : List (HloOp τ sig (Elt F))).Forall fun op => op.bufs ⊆ tcRefs τ sig :=
  ⟨nullary_bufs_sub .., unary_bufs_sub .., unary_bufs_sub .., unary_bufs_sub .., ternary_bufs_sub .., unary_bufs_sub .., unary_bufs_sub .., unary_bufs_sub .., binary_bufs_sub ..⟩
theorem freshAggAW : (opsAggAW : List (HloOp τ sig (Elt F))).Forall fun op => op.fresh = ∅ := forall_fresh_of_map rfl
theorem outAggAW (V : Valuation τ sig (Elt F)) : after opsAggAW V (Proc.devRef .tc main_v29) = aggA (V (Proc.devRef .tc main_v3)) (V (Proc.devRef .tc main_v21)) (V (Proc.devRef .tc main_v8)) := by
  after_results <;> rfl

abbrev opsLayAW : List (HloOp τ sig (Elt F)) :=
  [binary main_v20 main_v29 main_v30 ((fun a b => concatenate S4x883x2816 2 [⟨S4x883x1408, a⟩, ⟨S4x883x1408, b⟩] concatenates_S4x883x1408_S4x883x1408_S4x883x2816_d2) : (⟨S4x883x1408, .f32⟩ : BufTy).Contents (Elt F) → (⟨S4x883x1408, .f32⟩ : BufTy).Contents (Elt F) → (⟨S4x883x2816, .f32⟩ : BufTy).Contents (Elt F)),
    binary main_v30 main_arg9 main_v31 ((fun l r => Host.dotGeneral dot_S4x883x2816_S2816x256_S4x883x256_2_0_01_1_n_n none l r) : (⟨S4x883x2816, .f32⟩ : BufTy).Contents (Elt F) → (⟨S2816x256, .f32⟩ : BufTy).Contents (Elt F) → (⟨S4x883x256, .f32⟩ : BufTy).Contents (Elt F)),
    unary main_arg10 main_v32 (broadcastInDim S1x256 ![1] bcast_S256_S1x256_1 : (⟨S256, .f32⟩ : BufTy).Contents (Elt F) → (⟨S1x256, .f32⟩ : BufTy).Contents (Elt F)),
    unary main_v32 main_v33 (broadcastInDim S1x1x256 ![1, 2] bcast_S1x256_S1x1x256_1_2 : (⟨S1x256, .f32⟩ : BufTy).Contents (Elt F) → (⟨S1x1x256, .f32⟩ : BufTy).Contents (Elt F)),
    unary main_v33 main_v34 (broadcastInDim S4x883x256 ![0, 1, 2] bcast_S1x1x256_S4x883x256_0_1_2 : (⟨S1x1x256, .f32⟩ : BufTy).Contents (Elt F) → (⟨S4x883x256, .f32⟩ : BufTy).Contents (Elt F)),
    binary main_v31 main_v34 main_v35 (addf : (⟨S4x883x256, .f32⟩ : BufTy).Contents (Elt F) → (⟨S4x883x256, .f32⟩ : BufTy).Contents (Elt F) → (⟨S4x883x256, .f32⟩ : BufTy).Contents (Elt F)),
    nullary main_call4_cst (constant S_ .f32 0x00000000#32),
    unary main_call4_cst main_call4_v0 ((broadcastInDim S4x883x256 ![] bcast_S_S4x883x256) : (⟨S_, .f32⟩ : BufTy).Contents (Elt F) → (⟨S4x883x256, .f32⟩ : BufTy).Contents (Elt F)),
    binary main_v35 main_call4_v0 main_v36 (maximumf : (⟨S4x883x256, .f32⟩ : BufTy).Contents (Elt F) → (⟨S4x883x256, .f32⟩ : BufTy).Contents (Elt F) → (⟨S4x883x256, .f32⟩ : BufTy).Contents (Elt F))]
theorem keepLayAW (V : Valuation τ sig (Elt F)) (r : Ref sig .tc) (hr : r ∉ [main_v30, main_v31, main_v32, main_v33, main_v34, main_v35, main_call4_cst, main_call4_v0, main_v36]) :
    after opsLayAW V (Proc.devRef .tc r) = V (Proc.devRef .tc r) :=
  after_of_writes_sub _ V (forall_writes_sub_of_map rfl) hr
theorem subLayAW : (opsLayAW : List (HloOp τ sig (Elt F))).Forall fun op => op.bufs ⊆ tcRefs τ sig :=
  ⟨binary_bufs_sub .., binary_bufs_sub .., unary_bufs_sub .., unary_bufs_sub .., unary_bufs_sub .., binary_bufs_sub .., nullary_bufs_sub .., unary_bufs_sub .., binary_bufs_sub ..⟩
theorem freshLayAW : (opsLayAW : List (HloOp τ sig (Elt F))).Forall fun op => op.fresh = ∅ := forall_fresh_of_map rfl
theorem outLayAW (V : Valuation τ sig (Elt F)) : after opsLayAW V (Proc.devRef .tc main_v36) = layA (V (Proc.devRef .tc main_v20)) (V (Proc.devRef .tc main_v29)) (V (Proc.devRef .tc main_arg9)) (V (Proc.devRef .tc main_arg10)) := by
  after_results <;> rfl

abbrev opsTakeBW : List (HloOp τ sig (Elt F)) :=
  [nullary main_call5_c (constantI S_ 32 0#32),
    unary main_call5_c main_call5_v0 ((broadcastInDim S28256 ![] bcast_S_S28256) : (⟨S_, .i32⟩ : BufTy).Contents (Elt F) → (⟨S28256, .i32⟩ : BufTy).Contents (Elt F)),
    binary main_v1 main_call5_v0 main_call5_v1 ((cmpi .slt) : (⟨S28256, .i32⟩ : BufTy).Contents (Elt F) → (⟨S28256, .i32⟩ : BufTy).Contents (Elt F) → (⟨S28256, .i1⟩ : BufTy).Contents (Elt F)),
    nullary main_call5_c_0 (constantI S_ 32 883#32),
    unary main_call5_c_0 main_call5_v2 ((broadcastInDim S28256 ![] bcast_S_S28256) : (⟨S_, .i32⟩ : BufTy).Contents (Elt F) → (⟨S28256, .i32⟩ : BufTy).Contents (Elt F)),
    binary main_v1 main_call5_v2 main_call5_v3 (addi : (⟨S28256, .i32⟩ : BufTy).Contents (Elt F) → (⟨S28256, .i32⟩ : BufTy).Contents (Elt F) → (⟨S28256, .i32⟩ : BufTy).Contents (Elt F)),
    ternary main_call5_v1 main_call5_v3 main_v1 main_call5_v4 (select : (⟨S28256, .i1⟩ : BufTy).Contents (Elt F) → (⟨S28256, .i32⟩ : BufTy).Contents (Elt F) → (⟨S28256, .i32⟩ : BufTy).Contents (Elt F) → (⟨S28256, .i32⟩ : BufTy).Contents (Elt F)),
    unary main_call5_v4 main_call5_v5 ((broadcastInDim S28256x1 ![0] bcast_S28256_S28256x1_0) : (⟨S28256, .i32⟩ : BufTy).Contents (Elt F) → (⟨S28256x1, .i32⟩ : BufTy).Contents (Elt F)),
    nullary main_call5_c_1 (constantI S1 32 882#32),
    nullary main_call5_c_2 (constantI S_ 32 0#32),
    unary main_call5_c_2 main_call5_v6 ((broadcastInDim S28256x1 ![] bcast_S_S28256x1) : (⟨S_, .i32⟩ : BufTy).Contents (Elt F) → (⟨S28256x1, .i32⟩ : BufTy).Contents (Elt F)),
    binary main_call5_v5 main_call5_v6 main_call5_v7 ((cmpi .sge) : (⟨S28256x1, .i32⟩ : BufTy).Contents (Elt F) → (⟨S28256x1, .i32⟩ : BufTy).Contents (Elt F) → (⟨S28256x1, .i1⟩ : BufTy).Contents (Elt F)),
    unary main_call5_c_1 main_call5_v8 ((broadcastInDim S1x1 ![1] bcast_S1_S1x1_1) : (⟨S1, .i32⟩ : BufTy).Contents (Elt F) → (⟨S1x1, .i32⟩ : BufTy).Contents (Elt F)),
    unary main_call5_v8 main_call5_v9 ((broadcastInDim S28256x1 ![0, 1] bcast_S1x1_S28256x1_0_1) : (⟨S1x1, .i32⟩ : BufTy).Contents (Elt F) → (⟨S28256x1, .i32⟩ : BufTy).Contents (Elt F)),
    binary main_call5_v5 main_call5_v9 main_call5_v10 ((cmpi .sle) : (⟨S28256x1, .i32⟩ : BufTy).Contents (Elt F) → (⟨S28256x1, .i32⟩ : BufTy).Contents (Elt F) → (⟨S28256x1, .i1⟩ : BufTy).Contents (Elt F)),
    binary main_call5_v7 main_call5_v10 main_call5_v11 (andi : (⟨S28256x1, .i1⟩ : BufTy).Contents (Elt F) → (⟨S28256x1, .i1⟩ : BufTy).Contents (Elt F) → (⟨S28256x1, .i1⟩ : BufTy).Contents (Elt F)),
    nullary main_call5_c_3 (constantI S_ 1 1#1),
    binary main_call5_v11 main_call5_c_3 main_call5_v12 ((fun x v => Host.reduce IntOp.andi x v reducesTo_S28256x1_S28256_d1 h_S_) : (⟨S28256x1, .i1⟩ : BufTy).Contents (Elt F) → (⟨S_, .i1⟩ : BufTy).Contents (Elt F) → (⟨S28256, .i1⟩ : BufTy).Contents (Elt F)),
    binary main_v36 main_call5_v5 main_call5_v13 ((fun x i => Host.gather gather_S4x883x256_S28256x1_S4x28256x256_02_1_n_n_1_1_41256 x i) : (⟨S4x883x256, .f32⟩ : BufTy).Contents (Elt F) → (⟨S28256x1, .i32⟩ : BufTy).Contents (Elt F) → (⟨S4x28256x256, .f32⟩ : BufTy).Contents (Elt F)),
    unary main_call5_v12 main_call5_v14 ((broadcastInDim S4x28256x256 ![1] bcast_S28256_S4x28256x256_1) : (⟨S28256, .i1⟩ : BufTy).Contents (Elt F) → (⟨S4x28256x256, .i1⟩ : BufTy).Contents (Elt F)),
    nullary main_call5_cst (constant S_ .f32 0x7FC00000#32),
    unary main_call5_cst main_call5_v15 ((broadcastInDim S4x28256x256 ![] bcast_S_S4x28256x256) : (⟨S_, .f32⟩ : BufTy).Contents (Elt F) → (⟨S4x28256x256, .f32⟩ : BufTy).Contents (Elt F)),
    ternary main_call5_v14 main_call5_v13 main_call5_v15 main_v37 (select : (⟨S4x28256x256, .i1⟩ : BufTy).Contents (Elt F) → (⟨S4x28256x256, .f32⟩ : BufTy).Contents (Elt F) → (⟨S4x28256x256, .f32⟩ : BufTy).Contents (Elt F) → (⟨S4x28256x256, .f32⟩ : BufTy).Contents (Elt F))]
theorem keepTakeBW (V : Valuation τ sig (Elt F)) (r : Ref sig .tc) (hr : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v37]) :
    after opsTakeBW V (Proc.devRef .tc r) = V (Proc.devRef .tc r) :=
  after_of_writes_sub _ V (forall_writes_sub_of_map rfl) hr
theorem subTakeBW : (opsTakeBW : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshTakeBW : (opsTakeBW : List (HloOp τ sig (Elt F))).Forall fun op => op.fresh = ∅ := forall_fresh_of_map rfl
theorem outTakeBW (V : Valuation τ sig (Elt F)) : after opsTakeBW V (Proc.devRef .tc main_v37) = takeB (V (Proc.devRef .tc main_v1)) (V (Proc.devRef .tc main_v36)) := by
  after_results <;> rfl

abbrev opsAggBW : List (HloOp τ sig (Elt F)) :=
  [nullary main_cst_3 (constant S_ .f32 0x00000000#32),
    unary main_cst_3 main_v38 (broadcastInDim S883x256 ![] bcast_S_S883x256 : (⟨S_, .f32⟩ : BufTy).Contents (Elt F) → (⟨S883x256, .f32⟩ : BufTy).Contents (Elt F)),
    unary main_v3 main_v39 (broadcastInDim S28256x1 ![0] bcast_S28256_S28256x1_0 : (⟨S28256, .i32⟩ : BufTy).Contents (Elt F) → (⟨S28256x1, .i32⟩ : BufTy).Contents (Elt F)),
    unary main_v38 main_v40 (broadcastInDim S4x883x256 ![1, 2] bcast_S883x256_S4x883x256_1_2 : (⟨S883x256, .f32⟩ : BufTy).Contents (Elt F) → (⟨S4x883x256, .f32⟩ : BufTy).Contents (Elt F)),
    ternary main_v40 main_v39 main_v37 main_v41 ((fun x i u => Host.scatterAdd scatter_S4x883x256_S28256x1_S4x28256x256_02_1_1_1 x i u) : (⟨S4x883x256, .f32⟩ : BufTy).Contents (Elt F) → (⟨S28256x1, .i32⟩ : BufTy).Contents (Elt F) → (⟨S4x28256x256, .f32⟩ : BufTy).Contents (Elt F) → (⟨S4x883x256, .f32⟩ : BufTy).Contents (Elt F)),
    unary main_v8 main_v42 (broadcastInDim S883x1 ![0] bcast_S883_S883x1_0 : (⟨S883, .f32⟩ : BufTy).Contents (Elt F) → (⟨S883x1, .f32⟩ : BufTy).Contents (Elt F)),
    unary main_v42 main_v43 (broadcastInDim S1x883x1 ![1, 2] bcast_S883x1_S1x883x1_1_2 : (⟨S883x1, .f32⟩ : BufTy).Contents (Elt F) → (⟨S1x883x1, .f32⟩ : BufTy).Contents (Elt F)),
    unary main_v43 main_v44 (broadcastInDim S4x883x256 ![0, 1, 2] bcast_S1x883x1_S4x883x256_0_1_2 : (⟨S1x883x1, .f32⟩ : BufTy).Contents (Elt F) → (⟨S4x883x256, .f32⟩ : BufTy).Contents (Elt F)),
    binary main_v41 main_v44 main_v45 (Host.divf : (⟨S4x883x256, .f32⟩ : BufTy).Contents (Elt F) → (⟨S4x883x256, .f32⟩ : BufTy).Contents (Elt F) → (⟨S4x883x256, .f32⟩ : BufTy).Contents (Elt F))]
theorem keepAggBW (V : Valuation τ sig (Elt F)) (r : Ref sig .tc) (hr : r ∉ [main_cst_3, main_v38, main_v39, main_v40, main_v41, main_v42, main_v43, main_v44, main_v45]) :
    after opsAggBW V (Proc.devRef .tc r) = V (Proc.devRef .tc r) :=
  after_of_writes_sub _ V (forall_writes_sub_of_map rfl) hr
theorem subAggBW : (opsAggBW : List (HloOp τ sig (Elt F))).Forall fun op => op.bufs ⊆ tcRefs τ sig :=
  ⟨nullary_bufs_sub .., unary_bufs_sub .., unary_bufs_sub .., unary_bufs_sub .., ternary_bufs_sub .., unary_bufs_sub .., unary_bufs_sub .., unary_bufs_sub .., binary_bufs_sub ..⟩
theorem freshAggBW : (opsAggBW : List (HloOp τ sig (Elt F))).Forall fun op => op.fresh = ∅ := forall_fresh_of_map rfl
theorem outAggBW (V : Valuation τ sig (Elt F)) : after opsAggBW V (Proc.devRef .tc main_v45) = aggB (V (Proc.devRef .tc main_v3)) (V (Proc.devRef .tc main_v37)) (V (Proc.devRef .tc main_v8)) := by
  after_results <;> rfl

abbrev opsLayBW : List (HloOp τ sig (Elt F)) :=
  [binary main_v36 main_v45 main_v46 ((fun a b => concatenate S4x883x512 2 [⟨S4x883x256, a⟩, ⟨S4x883x256, b⟩] concatenates_S4x883x256_S4x883x256_S4x883x512_d2) : (⟨S4x883x256, .f32⟩ : BufTy).Contents (Elt F) → (⟨S4x883x256, .f32⟩ : BufTy).Contents (Elt F) → (⟨S4x883x512, .f32⟩ : BufTy).Contents (Elt F)),
    binary main_v46 main_arg11 main_v47 ((fun l r => Host.dotGeneral dot_S4x883x512_S512x256_S4x883x256_2_0_01_1_n_n none l r) : (⟨S4x883x512, .f32⟩ : BufTy).Contents (Elt F) → (⟨S512x256, .f32⟩ : BufTy).Contents (Elt F) → (⟨S4x883x256, .f32⟩ : BufTy).Contents (Elt F)),
    unary main_arg12 main_v48 (broadcastInDim S1x256 ![1] bcast_S256_S1x256_1 : (⟨S256, .f32⟩ : BufTy).Contents (Elt F) → (⟨S1x256, .f32⟩ : BufTy).Contents (Elt F)),
    unary main_v48 main_v49 (broadcastInDim S1x1x256 ![1, 2] bcast_S1x256_S1x1x256_1_2 : (⟨S1x256, .f32⟩ : BufTy).Contents (Elt F) → (⟨S1x1x256, .f32⟩ : BufTy).Contents (Elt F)),
    unary main_v49 main_v50 (broadcastInDim S4x883x256 ![0, 1, 2] bcast_S1x1x256_S4x883x256_0_1_2 : (⟨S1x1x256, .f32⟩ : BufTy).Contents (Elt F) → (⟨S4x883x256, .f32⟩ : BufTy).Contents (Elt F)),
    binary main_v47 main_v50 main_v51 (addf : (⟨S4x883x256, .f32⟩ : BufTy).Contents (Elt F) → (⟨S4x883x256, .f32⟩ : BufTy).Contents (Elt F) → (⟨S4x883x256, .f32⟩ : BufTy).Contents (Elt F)),
    nullary main_call6_cst (constant S_ .f32 0x00000000#32),
    unary main_call6_cst main_call6_v0 ((broadcastInDim S4x883x256 ![] bcast_S_S4x883x256) : (⟨S_, .f32⟩ : BufTy).Contents (Elt F) → (⟨S4x883x256, .f32⟩ : BufTy).Contents (Elt F)),
    binary main_v51 main_call6_v0 main_v52 (maximumf : (⟨S4x883x256, .f32⟩ : BufTy).Contents (Elt F) → (⟨S4x883x256, .f32⟩ : BufTy).Contents (Elt F) → (⟨S4x883x256, .f32⟩ : BufTy).Contents (Elt F))]
theorem keepLayBW (V : Valuation τ sig (Elt F)) (r : Ref sig .tc) (hr : r ∉ [main_v46, main_v47, main_v48, main_v49, main_v50, main_v51, main_call6_cst, main_call6_v0, main_v52]) :
    after opsLayBW V (Proc.devRef .tc r) = V (Proc.devRef .tc r) :=
  after_of_writes_sub _ V (forall_writes_sub_of_map rfl) hr
theorem subLayBW : (opsLayBW : List (HloOp τ sig (Elt F))).Forall fun op => op.bufs ⊆ tcRefs τ sig :=
  ⟨binary_bufs_sub .., binary_bufs_sub .., unary_bufs_sub .., unary_bufs_sub .., unary_bufs_sub .., binary_bufs_sub .., nullary_bufs_sub .., unary_bufs_sub .., binary_bufs_sub ..⟩
theorem freshLayBW : (opsLayBW : List (HloOp τ sig (Elt F))).Forall fun op => op.fresh = ∅ := forall_fresh_of_map rfl
theorem outLayBW (V : Valuation τ sig (Elt F)) : after opsLayBW V (Proc.devRef .tc main_v52) = layB (V (Proc.devRef .tc main_v36)) (V (Proc.devRef .tc main_v45)) (V (Proc.devRef .tc main_arg11)) (V (Proc.devRef .tc main_arg12)) := by
  after_results <;> rfl

abbrev opsJoinM : List (HloOp τ sig (Elt F)) :=
  [unary main_v18 main_v53 (broadcastInDim S4x883x128 ![1, 2] bcast_S883x128_S4x883x128_1_2 : (⟨S883x128, .f32⟩ : BufTy).Contents (Elt F) → (⟨S4x883x128, .f32⟩ : BufTy).Contents (Elt F)),
    binary main_arg1 main_v53 main_v54 ((fun a b => concatenate S4x883x1408 2 [⟨S4x883x1280, a⟩, ⟨S4x883x128, b⟩] concatenates_S4x883x1280_S4x883x128_S4x883x1408_d2) : (⟨S4x883x1280, .f32⟩ : BufTy).Contents (Elt F) → (⟨S4x883x128, .f32⟩ : BufTy).Contents (Elt F) → (⟨S4x883x1408, .f32⟩ : BufTy).Contents (Elt F))]
theorem keepJoinM (V : Valuation τ sig (Elt F)) (r : Ref sig .tc) (hr : r ∉ [main_v53, main_v54]) :
    after opsJoinM V (Proc.devRef .tc r) = V (Proc.devRef .tc r) :=
  after_of_writes_sub _ V (forall_writes_sub_of_map rfl) hr
theorem subJoinM : (opsJoinM : List (HloOp τ sig (Elt F))).Forall fun op => op.bufs ⊆ tcRefs τ sig :=
  ⟨unary_bufs_sub .., binary_bufs_sub ..⟩
theorem freshJoinM : (opsJoinM : List (HloOp τ sig (Elt F))).Forall fun op => op.fresh = ∅ := forall_fresh_of_map rfl
theorem outJoinM (V : Valuation τ sig (Elt F)) : after opsJoinM V (Proc.devRef .tc main_v54) = joinL (V (Proc.devRef .tc main_v18)) (V (Proc.devRef .tc main_arg1)) := by
  after_results <;> rfl

abbrev opsTakeAM : List (HloOp τ sig (Elt F)) :=
  [nullary main_call7_c (constantI S_ 32 0#32),
    unary main_call7_c main_call7_v0 ((broadcastInDim S28256 ![] bcast_S_S28256) : (⟨S_, .i32⟩ : BufTy).Contents (Elt F) → (⟨S28256, .i32⟩ : BufTy).Contents (Elt F)),
    binary main_v1 main_call7_v0 main_call7_v1 ((cmpi .slt) : (⟨S28256, .i32⟩ : BufTy).Contents (Elt F) → (⟨S28256, .i32⟩ : BufTy).Contents (Elt F) → (⟨S28256, .i1⟩ : BufTy).Contents (Elt F)),
    nullary main_call7_c_0 (constantI S_ 32 883#32),
    unary main_call7_c_0 main_call7_v2 ((broadcastInDim S28256 ![] bcast_S_S28256) : (⟨S_, .i32⟩ : BufTy).Contents (Elt F) → (⟨S28256, .i32⟩ : BufTy).Contents (Elt F)),
    binary main_v1 main_call7_v2 main_call7_v3 (addi : (⟨S28256, .i32⟩ : BufTy).Contents (Elt F) → (⟨S28256, .i32⟩ : BufTy).Contents (Elt F) → (⟨S28256, .i32⟩ : BufTy).Contents (Elt F)),
    ternary main_call7_v1 main_call7_v3 main_v1 main_call7_v4 (select : (⟨S28256, .i1⟩ : BufTy).Contents (Elt F) → (⟨S28256, .i32⟩ : BufTy).Contents (Elt F) → (⟨S28256, .i32⟩ : BufTy).Contents (Elt F) → (⟨S28256, .i32⟩ : BufTy).Contents (Elt F)),
    unary main_call7_v4 main_call7_v5 ((broadcastInDim S28256x1 ![0] bcast_S28256_S28256x1_0) : (⟨S28256, .i32⟩ : BufTy).Contents (Elt F) → (⟨S28256x1, .i32⟩ : BufTy).Contents (Elt F)),
    nullary main_call7_c_1 (constantI S1 32 882#32),
    nullary main_call7_c_2 (constantI S_ 32 0#32),
    unary main_call7_c_2 main_call7_v6 ((broadcastInDim S28256x1 ![] bcast_S_S28256x1) : (⟨S_, .i32⟩ : BufTy).Contents (Elt F) → (⟨S28256x1, .i32⟩ : BufTy).Contents (Elt F)),
    binary main_call7_v5 main_call7_v6 main_call7_v7 ((cmpi .sge) : (⟨S28256x1, .i32⟩ : BufTy).Contents (Elt F) → (⟨S28256x1, .i32⟩ : BufTy).Contents (Elt F) → (⟨S28256x1, .i1⟩ : BufTy).Contents (Elt F)),
    unary main_call7_c_1 main_call7_v8 ((broadcastInDim S1x1 ![1] bcast_S1_S1x1_1) : (⟨S1, .i32⟩ : BufTy).Contents (Elt F) → (⟨S1x1, .i32⟩ : BufTy).Contents (Elt F)),
    unary main_call7_v8 main_call7_v9 ((broadcastInDim S28256x1 ![0, 1] bcast_S1x1_S28256x1_0_1) : (⟨S1x1, .i32⟩ : BufTy).Contents (Elt F) → (⟨S28256x1, .i32⟩ : BufTy).Contents (Elt F)),
    binary main_call7_v5 main_call7_v9 main_call7_v10 ((cmpi .sle) : (⟨S28256x1, .i32⟩ : BufTy).Contents (Elt F) → (⟨S28256x1, .i32⟩ : BufTy).Contents (Elt F) → (⟨S28256x1, .i1⟩ : BufTy).Contents (Elt F)),
    binary main_call7_v7 main_call7_v10 main_call7_v11 (andi : (⟨S28256x1, .i1⟩ : BufTy).Contents (Elt F) → (⟨S28256x1, .i1⟩ : BufTy).Contents (Elt F) → (⟨S28256x1, .i1⟩ : BufTy).Contents (Elt F)),
    nullary main_call7_c_3 (constantI S_ 1 1#1),
    binary main_call7_v11 main_call7_c_3 main_call7_v12 ((fun x v => Host.reduce IntOp.andi x v reducesTo_S28256x1_S28256_d1 h_S_) : (⟨S28256x1, .i1⟩ : BufTy).Contents (Elt F) → (⟨S_, .i1⟩ : BufTy).Contents (Elt F) → (⟨S28256, .i1⟩ : BufTy).Contents (Elt F)),
    binary main_v54 main_call7_v5 main_call7_v13 ((fun x i => Host.gather gather_S4x883x1408_S28256x1_S4x28256x1408_02_1_n_n_1_1_411408 x i) : (⟨S4x883x1408, .f32⟩ : BufTy).Contents (Elt F) → (⟨S28256x1, .i32⟩ : BufTy).Contents (Elt F) → (⟨S4x28256x1408, .f32⟩ : BufTy).Contents (Elt F)),
    unary main_call7_v12 main_call7_v14 ((broadcastInDim S4x28256x1408 ![1] bcast_S28256_S4x28256x1408_1) : (⟨S28256, .i1⟩ : BufTy).Contents (Elt F) → (⟨S4x28256x1408, .i1⟩ : BufTy).Contents (Elt F)),
    nullary main_call7_cst (constant S_ .f32 0x7FC00000#32),
    unary main_call7_cst main_call7_v15 ((broadcastInDim S4x28256x1408 ![] bcast_S_S4x28256x1408) : (⟨S_, .f32⟩ : BufTy).Contents (Elt F) → (⟨S4x28256x1408, .f32⟩ : BufTy).Contents (Elt F)),
    ternary main_call7_v14 main_call7_v13 main_call7_v15 main_v55 (select : (⟨S4x28256x1408, .i1⟩ : BufTy).Contents (Elt F) → (⟨S4x28256x1408, .f32⟩ : BufTy).Contents (Elt F) → (⟨S4x28256x1408, .f32⟩ : BufTy).Contents (Elt F) → (⟨S4x28256x1408, .f32⟩ : BufTy).Contents (Elt F))]
theorem keepTakeAM (V : Valuation τ sig (Elt F)) (r : Ref sig .tc) (hr : r ∉ [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v55]) :
    after opsTakeAM V (Proc.devRef .tc r) = V (Proc.devRef .tc r) :=
  after_of_writes_sub _ V (forall_writes_sub_of_map rfl) hr
theorem subTakeAM : (opsTakeAM : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshTakeAM : (opsTakeAM : List (HloOp τ sig (Elt F))).Forall fun op => op.fresh = ∅ := forall_fresh_of_map rfl
theorem outTakeAM (V : Valuation τ sig (Elt F)) : after opsTakeAM V (Proc.devRef .tc main_v55) = takeA (V (Proc.devRef .tc main_v1)) (V (Proc.devRef .tc main_v54)) := by
  after_results <;> rfl

abbrev opsAggAM : List (HloOp τ sig (Elt F)) :=
  [nullary main_cst_4 (constant S_ .f32 0x00000000#32),
    unary main_cst_4 main_v56 (broadcastInDim S883x1408 ![] bcast_S_S883x1408 : (⟨S_, .f32⟩ : BufTy).Contents (Elt F) → (⟨S883x1408, .f32⟩ : BufTy).Contents (Elt F)),
    unary main_v3 main_v57 (broadcastInDim S28256x1 ![0] bcast_S28256_S28256x1_0 : (⟨S28256, .i32⟩ : BufTy).Contents (Elt F) → (⟨S28256x1, .i32⟩ : BufTy).Contents (Elt F)),
    unary main_v56 main_v58 (broadcastInDim S4x883x1408 ![1, 2] bcast_S883x1408_S4x883x1408_1_2 : (⟨S883x1408, .f32⟩ : BufTy).Contents (Elt F) → (⟨S4x883x1408, .f32⟩ : BufTy).Contents (Elt F)),
    ternary main_v58 main_v57 main_v55 main_v59 ((fun x i u => Host.scatterAdd scatter_S4x883x1408_S28256x1_S4x28256x1408_02_1_1_1 x i u) : (⟨S4x883x1408, .f32⟩ : BufTy).Contents (Elt F) → (⟨S28256x1, .i32⟩ : BufTy).Contents (Elt F) → (⟨S4x28256x1408, .f32⟩ : BufTy).Contents (Elt F) → (⟨S4x883x1408, .f32⟩ : BufTy).Contents (Elt F)),
    unary main_v8 main_v60 (broadcastInDim S883x1 ![0] bcast_S883_S883x1_0 : (⟨S883, .f32⟩ : BufTy).Contents (Elt F) → (⟨S883x1, .f32⟩ : BufTy).Contents (Elt F)),
    unary main_v60 main_v61 (broadcastInDim S1x883x1 ![1, 2] bcast_S883x1_S1x883x1_1_2 : (⟨S883x1, .f32⟩ : BufTy).Contents (Elt F) → (⟨S1x883x1, .f32⟩ : BufTy).Contents (Elt F)),
    unary main_v61 main_v62 (broadcastInDim S4x883x1408 ![0, 1, 2] bcast_S1x883x1_S4x883x1408_0_1_2 : (⟨S1x883x1, .f32⟩ : BufTy).Contents (Elt F) → (⟨S4x883x1408, .f32⟩ : BufTy).Contents (Elt F)),
    binary main_v59 main_v62 main_v63 (Host.divf : (⟨S4x883x1408, .f32⟩ : BufTy).Contents (Elt F) → (⟨S4x883x1408, .f32⟩ : BufTy).Contents (Elt F) → (⟨S4x883x1408, .f32⟩ : BufTy).Contents (Elt F))]
theorem keepAggAM (V : Valuation τ sig (Elt F)) (r : Ref sig .tc) (hr : r ∉ [main_cst_4, main_v56, main_v57, main_v58, main_v59, main_v60, main_v61, main_v62, main_v63]) :
    after opsAggAM V (Proc.devRef .tc r) = V (Proc.devRef .tc r) :=
  after_of_writes_sub _ V (forall_writes_sub_of_map rfl) hr
theorem subAggAM : (opsAggAM : List (HloOp τ sig (Elt F))).Forall fun op => op.bufs ⊆ tcRefs τ sig :=
  ⟨nullary_bufs_sub .., unary_bufs_sub .., unary_bufs_sub .., unary_bufs_sub .., ternary_bufs_sub .., unary_bufs_sub .., unary_bufs_sub .., unary_bufs_sub .., binary_bufs_sub ..⟩
theorem freshAggAM : (opsAggAM : List (HloOp τ sig (Elt F))).Forall fun op => op.fresh = ∅ := forall_fresh_of_map rfl
theorem outAggAM (V : Valuation τ sig (Elt F)) : after opsAggAM V (Proc.devRef .tc main_v63) = aggA (V (Proc.devRef .tc main_v3)) (V (Proc.devRef .tc main_v55)) (V (Proc.devRef .tc main_v8)) := by
  after_results <;> rfl

abbrev opsLayAM : List (HloOp τ sig (Elt F)) :=
  [binary main_v54 main_v63 main_v64 ((fun a b => concatenate S4x883x2816 2 [⟨S4x883x1408, a⟩, ⟨S4x883x1408, b⟩] concatenates_S4x883x1408_S4x883x1408_S4x883x2816_d2) : (⟨S4x883x1408, .f32⟩ : BufTy).Contents (Elt F) → (⟨S4x883x1408, .f32⟩ : BufTy).Contents (Elt F) → (⟨S4x883x2816, .f32⟩ : BufTy).Contents (Elt F)),
    binary main_v64 main_arg9 main_v65 ((fun l r => Host.dotGeneral dot_S4x883x2816_S2816x256_S4x883x256_2_0_01_1_n_n none l r) : (⟨S4x883x2816, .f32⟩ : BufTy).Contents (Elt F) → (⟨S2816x256, .f32⟩ : BufTy).Contents (Elt F) → (⟨S4x883x256, .f32⟩ : BufTy).Contents (Elt F)),
    unary main_arg10 main_v66 (broadcastInDim S1x256 ![1] bcast_S256_S1x256_1 : (⟨S256, .f32⟩ : BufTy).Contents (Elt F) → (⟨S1x256, .f32⟩ : BufTy).Contents (Elt F)),
    unary main_v66 main_v67 (broadcastInDim S1x1x256 ![1, 2] bcast_S1x256_S1x1x256_1_2 : (⟨S1x256, .f32⟩ : BufTy).Contents (Elt F) → (⟨S1x1x256, .f32⟩ : BufTy).Contents (Elt F)),
    unary main_v67 main_v68 (broadcastInDim S4x883x256 ![0, 1, 2] bcast_S1x1x256_S4x883x256_0_1_2 : (⟨S1x1x256, .f32⟩ : BufTy).Contents (Elt F) → (⟨S4x883x256, .f32⟩ : BufTy).Contents (Elt F)),
    binary main_v65 main_v68 main_v69 (addf : (⟨S4x883x256, .f32⟩ : BufTy).Contents (Elt F) → (⟨S4x883x256, .f32⟩ : BufTy).Contents (Elt F) → (⟨S4x883x256, .f32⟩ : BufTy).Contents (Elt F)),
    nullary main_call8_cst (constant S_ .f32 0x00000000#32),
    unary main_call8_cst main_call8_v0 ((broadcastInDim S4x883x256 ![] bcast_S_S4x883x256) : (⟨S_, .f32⟩ : BufTy).Contents (Elt F) → (⟨S4x883x256, .f32⟩ : BufTy).Contents (Elt F)),
    binary main_v69 main_call8_v0 main_v70 (maximumf : (⟨S4x883x256, .f32⟩ : BufTy).Contents (Elt F) → (⟨S4x883x256, .f32⟩ : BufTy).Contents (Elt F) → (⟨S4x883x256, .f32⟩ : BufTy).Contents (Elt F))]
theorem keepLayAM (V : Valuation τ sig (Elt F)) (r : Ref sig .tc) (hr : r ∉ [main_v64, main_v65, main_v66, main_v67, main_v68, main_v69, main_call8_cst, main_call8_v0, main_v70]) :
    after opsLayAM V (Proc.devRef .tc r) = V (Proc.devRef .tc r) :=
  after_of_writes_sub _ V (forall_writes_sub_of_map rfl) hr
theorem subLayAM : (opsLayAM : List (HloOp τ sig (Elt F))).Forall fun op => op.bufs ⊆ tcRefs τ sig :=
  ⟨binary_bufs_sub .., binary_bufs_sub .., unary_bufs_sub .., unary_bufs_sub .., unary_bufs_sub .., binary_bufs_sub .., nullary_bufs_sub .., unary_bufs_sub .., binary_bufs_sub ..⟩
theorem freshLayAM : (opsLayAM : List (HloOp τ sig (Elt F))).Forall fun op => op.fresh = ∅ := forall_fresh_of_map rfl
theorem outLayAM (V : Valuation τ sig (Elt F)) : after opsLayAM V (Proc.devRef .tc main_v70) = layA (V (Proc.devRef .tc main_v54)) (V (Proc.devRef .tc main_v63)) (V (Proc.devRef .tc main_arg9)) (V (Proc.devRef .tc main_arg10)) := by
  after_results <;> rfl

abbrev opsTakeBM : List (HloOp τ sig (Elt F)) :=
  [nullary main_call9_c (constantI S_ 32 0#32),
    unary main_call9_c main_call9_v0 ((broadcastInDim S28256 ![] bcast_S_S28256) : (⟨S_, .i32⟩ : BufTy).Contents (Elt F) → (⟨S28256, .i32⟩ : BufTy).Contents (Elt F)),
    binary main_v1 main_call9_v0 main_call9_v1 ((cmpi .slt) : (⟨S28256, .i32⟩ : BufTy).Contents (Elt F) → (⟨S28256, .i32⟩ : BufTy).Contents (Elt F) → (⟨S28256, .i1⟩ : BufTy).Contents (Elt F)),
    nullary main_call9_c_0 (constantI S_ 32 883#32),
    unary main_call9_c_0 main_call9_v2 ((broadcastInDim S28256 ![] bcast_S_S28256) : (⟨S_, .i32⟩ : BufTy).Contents (Elt F) → (⟨S28256, .i32⟩ : BufTy).Contents (Elt F)),
    binary main_v1 main_call9_v2 main_call9_v3 (addi : (⟨S28256, .i32⟩ : BufTy).Contents (Elt F) → (⟨S28256, .i32⟩ : BufTy).Contents (Elt F) → (⟨S28256, .i32⟩ : BufTy).Contents (Elt F)),
    ternary main_call9_v1 main_call9_v3 main_v1 main_call9_v4 (select : (⟨S28256, .i1⟩ : BufTy).Contents (Elt F) → (⟨S28256, .i32⟩ : BufTy).Contents (Elt F) → (⟨S28256, .i32⟩ : BufTy).Contents (Elt F) → (⟨S28256, .i32⟩ : BufTy).Contents (Elt F)),
    unary main_call9_v4 main_call9_v5 ((broadcastInDim S28256x1 ![0] bcast_S28256_S28256x1_0) : (⟨S28256, .i32⟩ : BufTy).Contents (Elt F) → (⟨S28256x1, .i32⟩ : BufTy).Contents (Elt F)),
    nullary main_call9_c_1 (constantI S1 32 882#32),
    nullary main_call9_c_2 (constantI S_ 32 0#32),
    unary main_call9_c_2 main_call9_v6 ((broadcastInDim S28256x1 ![] bcast_S_S28256x1) : (⟨S_, .i32⟩ : BufTy).Contents (Elt F) → (⟨S28256x1, .i32⟩ : BufTy).Contents (Elt F)),
    binary main_call9_v5 main_call9_v6 main_call9_v7 ((cmpi .sge) : (⟨S28256x1, .i32⟩ : BufTy).Contents (Elt F) → (⟨S28256x1, .i32⟩ : BufTy).Contents (Elt F) → (⟨S28256x1, .i1⟩ : BufTy).Contents (Elt F)),
    unary main_call9_c_1 main_call9_v8 ((broadcastInDim S1x1 ![1] bcast_S1_S1x1_1) : (⟨S1, .i32⟩ : BufTy).Contents (Elt F) → (⟨S1x1, .i32⟩ : BufTy).Contents (Elt F)),
    unary main_call9_v8 main_call9_v9 ((broadcastInDim S28256x1 ![0, 1] bcast_S1x1_S28256x1_0_1) : (⟨S1x1, .i32⟩ : BufTy).Contents (Elt F) → (⟨S28256x1, .i32⟩ : BufTy).Contents (Elt F)),
    binary main_call9_v5 main_call9_v9 main_call9_v10 ((cmpi .sle) : (⟨S28256x1, .i32⟩ : BufTy).Contents (Elt F) → (⟨S28256x1, .i32⟩ : BufTy).Contents (Elt F) → (⟨S28256x1, .i1⟩ : BufTy).Contents (Elt F)),
    binary main_call9_v7 main_call9_v10 main_call9_v11 (andi : (⟨S28256x1, .i1⟩ : BufTy).Contents (Elt F) → (⟨S28256x1, .i1⟩ : BufTy).Contents (Elt F) → (⟨S28256x1, .i1⟩ : BufTy).Contents (Elt F)),
    nullary main_call9_c_3 (constantI S_ 1 1#1),
    binary main_call9_v11 main_call9_c_3 main_call9_v12 ((fun x v => Host.reduce IntOp.andi x v reducesTo_S28256x1_S28256_d1 h_S_) : (⟨S28256x1, .i1⟩ : BufTy).Contents (Elt F) → (⟨S_, .i1⟩ : BufTy).Contents (Elt F) → (⟨S28256, .i1⟩ : BufTy).Contents (Elt F)),
    binary main_v70 main_call9_v5 main_call9_v13 ((fun x i => Host.gather gather_S4x883x256_S28256x1_S4x28256x256_02_1_n_n_1_1_41256 x i) : (⟨S4x883x256, .f32⟩ : BufTy).Contents (Elt F) → (⟨S28256x1, .i32⟩ : BufTy).Contents (Elt F) → (⟨S4x28256x256, .f32⟩ : BufTy).Contents (Elt F)),
    unary main_call9_v12 main_call9_v14 ((broadcastInDim S4x28256x256 ![1] bcast_S28256_S4x28256x256_1) : (⟨S28256, .i1⟩ : BufTy).Contents (Elt F) → (⟨S4x28256x256, .i1⟩ : BufTy).Contents (Elt F)),
    nullary main_call9_cst (constant S_ .f32 0x7FC00000#32),
    unary main_call9_cst main_call9_v15 ((broadcastInDim S4x28256x256 ![] bcast_S_S4x28256x256) : (⟨S_, .f32⟩ : BufTy).Contents (Elt F) → (⟨S4x28256x256, .f32⟩ : BufTy).Contents (Elt F)),
    ternary main_call9_v14 main_call9_v13 main_call9_v15 main_v71 (select : (⟨S4x28256x256, .i1⟩ : BufTy).Contents (Elt F) → (⟨S4x28256x256, .f32⟩ : BufTy).Contents (Elt F) → (⟨S4x28256x256, .f32⟩ : BufTy).Contents (Elt F) → (⟨S4x28256x256, .f32⟩ : BufTy).Contents (Elt F))]
theorem keepTakeBM (V : Valuation τ sig (Elt F)) (r : Ref sig .tc) (hr : r ∉ [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v71]) :
    after opsTakeBM V (Proc.devRef .tc r) = V (Proc.devRef .tc r) :=
  after_of_writes_sub _ V (forall_writes_sub_of_map rfl) hr
theorem subTakeBM : (opsTakeBM : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshTakeBM : (opsTakeBM : List (HloOp τ sig (Elt F))).Forall fun op => op.fresh = ∅ := forall_fresh_of_map rfl
theorem outTakeBM (V : Valuation τ sig (Elt F)) : after opsTakeBM V (Proc.devRef .tc main_v71) = takeB (V (Proc.devRef .tc main_v1)) (V (Proc.devRef .tc main_v70)) := by
  after_results <;> rfl

abbrev opsAggBM : List (HloOp τ sig (Elt F)) :=
  [nullary main_cst_5 (constant S_ .f32 0x00000000#32),
    unary main_cst_5 main_v72 (broadcastInDim S883x256 ![] bcast_S_S883x256 : (⟨S_, .f32⟩ : BufTy).Contents (Elt F) → (⟨S883x256, .f32⟩ : BufTy).Contents (Elt F)),
    unary main_v3 main_v73 (broadcastInDim S28256x1 ![0] bcast_S28256_S28256x1_0 : (⟨S28256, .i32⟩ : BufTy).Contents (Elt F) → (⟨S28256x1, .i32⟩ : BufTy).Contents (Elt F)),
    unary main_v72 main_v74 (broadcastInDim S4x883x256 ![1, 2] bcast_S883x256_S4x883x256_1_2 : (⟨S883x256, .f32⟩ : BufTy).Contents (Elt F) → (⟨S4x883x256, .f32⟩ : BufTy).Contents (Elt F)),
    ternary main_v74 main_v73 main_v71 main_v75 ((fun x i u => Host.scatterAdd scatter_S4x883x256_S28256x1_S4x28256x256_02_1_1_1 x i u) : (⟨S4x883x256, .f32⟩ : BufTy).Contents (Elt F) → (⟨S28256x1, .i32⟩ : BufTy).Contents (Elt F) → (⟨S4x28256x256, .f32⟩ : BufTy).Contents (Elt F) → (⟨S4x883x256, .f32⟩ : BufTy).Contents (Elt F)),
    unary main_v8 main_v76 (broadcastInDim S883x1 ![0] bcast_S883_S883x1_0 : (⟨S883, .f32⟩ : BufTy).Contents (Elt F) → (⟨S883x1, .f32⟩ : BufTy).Contents (Elt F)),
    unary main_v76 main_v77 (broadcastInDim S1x883x1 ![1, 2] bcast_S883x1_S1x883x1_1_2 : (⟨S883x1, .f32⟩ : BufTy).Contents (Elt F) → (⟨S1x883x1, .f32⟩ : BufTy).Contents (Elt F)),
    unary main_v77 main_v78 (broadcastInDim S4x883x256 ![0, 1, 2] bcast_S1x883x1_S4x883x256_0_1_2 : (⟨S1x883x1, .f32⟩ : BufTy).Contents (Elt F) → (⟨S4x883x256, .f32⟩ : BufTy).Contents (Elt F)),
    binary main_v75 main_v78 main_v79 (Host.divf : (⟨S4x883x256, .f32⟩ : BufTy).Contents (Elt F) → (⟨S4x883x256, .f32⟩ : BufTy).Contents (Elt F) → (⟨S4x883x256, .f32⟩ : BufTy).Contents (Elt F))]
theorem keepAggBM (V : Valuation τ sig (Elt F)) (r : Ref sig .tc) (hr : r ∉ [main_cst_5, main_v72, main_v73, main_v74, main_v75, main_v76, main_v77, main_v78, main_v79]) :
    after opsAggBM V (Proc.devRef .tc r) = V (Proc.devRef .tc r) :=
  after_of_writes_sub _ V (forall_writes_sub_of_map rfl) hr
theorem subAggBM : (opsAggBM : List (HloOp τ sig (Elt F))).Forall fun op => op.bufs ⊆ tcRefs τ sig :=
  ⟨nullary_bufs_sub .., unary_bufs_sub .., unary_bufs_sub .., unary_bufs_sub .., ternary_bufs_sub .., unary_bufs_sub .., unary_bufs_sub .., unary_bufs_sub .., binary_bufs_sub ..⟩
theorem freshAggBM : (opsAggBM : List (HloOp τ sig (Elt F))).Forall fun op => op.fresh = ∅ := forall_fresh_of_map rfl
theorem outAggBM (V : Valuation τ sig (Elt F)) : after opsAggBM V (Proc.devRef .tc main_v79) = aggB (V (Proc.devRef .tc main_v3)) (V (Proc.devRef .tc main_v71)) (V (Proc.devRef .tc main_v8)) := by
  after_results <;> rfl

abbrev opsLayBM : List (HloOp τ sig (Elt F)) :=
  [binary main_v70 main_v79 main_v80 ((fun a b => concatenate S4x883x512 2 [⟨S4x883x256, a⟩, ⟨S4x883x256, b⟩] concatenates_S4x883x256_S4x883x256_S4x883x512_d2) : (⟨S4x883x256, .f32⟩ : BufTy).Contents (Elt F) → (⟨S4x883x256, .f32⟩ : BufTy).Contents (Elt F) → (⟨S4x883x512, .f32⟩ : BufTy).Contents (Elt F)),
    binary main_v80 main_arg11 main_v81 ((fun l r => Host.dotGeneral dot_S4x883x512_S512x256_S4x883x256_2_0_01_1_n_n none l r) : (⟨S4x883x512, .f32⟩ : BufTy).Contents (Elt F) → (⟨S512x256, .f32⟩ : BufTy).Contents (Elt F) → (⟨S4x883x256, .f32⟩ : BufTy).Contents (Elt F)),
    unary main_arg12 main_v82 (broadcastInDim S1x256 ![1] bcast_S256_S1x256_1 : (⟨S256, .f32⟩ : BufTy).Contents (Elt F) → (⟨S1x256, .f32⟩ : BufTy).Contents (Elt F)),
    unary main_v82 main_v83 (broadcastInDim S1x1x256 ![1, 2] bcast_S1x256_S1x1x256_1_2 : (⟨S1x256, .f32⟩ : BufTy).Contents (Elt F) → (⟨S1x1x256, .f32⟩ : BufTy).Contents (Elt F)),
    unary main_v83 main_v84 (broadcastInDim S4x883x256 ![0, 1, 2] bcast_S1x1x256_S4x883x256_0_1_2 : (⟨S1x1x256, .f32⟩ : BufTy).Contents (Elt F) → (⟨S4x883x256, .f32⟩ : BufTy).Contents (Elt F)),
    binary main_v81 main_v84 main_v85 (addf : (⟨S4x883x256, .f32⟩ : BufTy).Contents (Elt F) → (⟨S4x883x256, .f32⟩ : BufTy).Contents (Elt F) → (⟨S4x883x256, .f32⟩ : BufTy).Contents (Elt F)),
    nullary main_call10_cst (constant S_ .f32 0x00000000#32),
    unary main_call10_cst main_call10_v0 ((broadcastInDim S4x883x256 ![] bcast_S_S4x883x256) : (⟨S_, .f32⟩ : BufTy).Contents (Elt F) → (⟨S4x883x256, .f32⟩ : BufTy).Contents (Elt F)),
    binary main_v85 main_call10_v0 main_v86 (maximumf : (⟨S4x883x256, .f32⟩ : BufTy).Contents (Elt F) → (⟨S4x883x256, .f32⟩ : BufTy).Contents (Elt F) → (⟨S4x883x256, .f32⟩ : BufTy).Contents (Elt F))]
theorem keepLayBM (V : Valuation τ sig (Elt F)) (r : Ref sig .tc) (hr : r ∉ [main_v80, main_v81, main_v82, main_v83, main_v84, main_v85, main_call10_cst, main_call10_v0, main_v86]) :
    after opsLayBM V (Proc.devRef .tc r) = V (Proc.devRef .tc r) :=
  after_of_writes_sub _ V (forall_writes_sub_of_map rfl) hr
theorem subLayBM : (opsLayBM : List (HloOp τ sig (Elt F))).Forall fun op => op.bufs ⊆ tcRefs τ sig :=
  ⟨binary_bufs_sub .., binary_bufs_sub .., unary_bufs_sub .., unary_bufs_sub .., unary_bufs_sub .., binary_bufs_sub .., nullary_bufs_sub .., unary_bufs_sub .., binary_bufs_sub ..⟩
theorem freshLayBM : (opsLayBM : List (HloOp τ sig (Elt F))).Forall fun op => op.fresh = ∅ := forall_fresh_of_map rfl
theorem outLayBM (V : Valuation τ sig (Elt F)) : after opsLayBM V (Proc.devRef .tc main_v86) = layB (V (Proc.devRef .tc main_v70)) (V (Proc.devRef .tc main_v79)) (V (Proc.devRef .tc main_arg11)) (V (Proc.devRef .tc main_arg12)) := by
  after_results <;> rfl

abbrev opsDiff : List (HloOp τ sig (Elt F)) :=
  [binary main_v86 main_v52 main_v87 (subf : (⟨S4x883x256, .f32⟩ : BufTy).Contents (Elt F) → (⟨S4x883x256, .f32⟩ : BufTy).Contents (Elt F) → (⟨S4x883x256, .f32⟩ : BufTy).Contents (Elt F))]
theorem keepDiff (V : Valuation τ sig (Elt F)) (r : Ref sig .tc) (hr : r ∉ [main_v87]) :
    after opsDiff V (Proc.devRef .tc r) = V (Proc.devRef .tc r) :=
  after_of_writes_sub _ V (forall_writes_sub_of_map rfl) hr
theorem subDiff : (opsDiff : List (HloOp τ sig (Elt F))).Forall fun op => op.bufs ⊆ tcRefs τ sig :=
  binary_bufs_sub ..
theorem freshDiff : (opsDiff : List (HloOp τ sig (Elt F))).Forall fun op => op.fresh = ∅ := forall_fresh_of_map rfl
theorem outDiff (V : Valuation τ sig (Elt F)) : after opsDiff V (Proc.devRef .tc main_v87) = diffL (V (Proc.devRef .tc main_v86)) (V (Proc.devRef .tc main_v52)) := by
  after_results <;> rfl

abbrev opsLoc : List (HloOp τ sig (Elt F)) :=
  [unary main_arg4 main_v88 (broadcastInDim S4x883x1 ![0, 1] bcast_S4x883_S4x883x1_0_1 : (⟨S4x883, .f32⟩ : BufTy).Contents (Elt F) → (⟨S4x883x1, .f32⟩ : BufTy).Contents (Elt F)),
    unary main_v88 main_v89 (broadcastInDim S4x883x256 ![0, 1, 2] bcast_S4x883x1_S4x883x256_0_1_2 : (⟨S4x883x1, .f32⟩ : BufTy).Contents (Elt F) → (⟨S4x883x256, .f32⟩ : BufTy).Contents (Elt F)),
    binary main_v87 main_v89 main_v90 (mulf : (⟨S4x883x256, .f32⟩ : BufTy).Contents (Elt F) → (⟨S4x883x256, .f32⟩ : BufTy).Contents (Elt F) → (⟨S4x883x256, .f32⟩ : BufTy).Contents (Elt F)),
    nullary main_cst_6 (constant S_ .f32 0x00000000#32),
    binary main_v90 main_cst_6 main_v91 ((fun x v => Host.reduceAdd x v reducesTo_S4x883x256_S4x256_d1 h_S_) : (⟨S4x883x256, .f32⟩ : BufTy).Contents (Elt F) → (⟨S_, .f32⟩ : BufTy).Contents (Elt F) → (⟨S4x256, .f32⟩ : BufTy).Contents (Elt F)),
    nullary main_cst_7 (constant S_ .f32 0x00000000#32),
    binary main_arg4 main_cst_7 main_v92 ((fun x v => Host.reduceAdd x v reducesTo_S4x883_S4_d1 h_S_) : (⟨S4x883, .f32⟩ : BufTy).Contents (Elt F) → (⟨S_, .f32⟩ : BufTy).Contents (Elt F) → (⟨S4, .f32⟩ : BufTy).Contents (Elt F)),
    nullary main_cst_8 (constant S_ .f32 0x3F800000#32),
    unary main_cst_8 main_call11_v0 (id : (⟨S_, .f32⟩ : BufTy).Contents (Elt F) → (⟨S_, .f32⟩ : BufTy).Contents (Elt F)),
    unary main_call11_v0 main_call11_v1 ((broadcastInDim S4 ![] bcast_S_S4) : (⟨S_, .f32⟩ : BufTy).Contents (Elt F) → (⟨S4, .f32⟩ : BufTy).Contents (Elt F)),
    binary main_call11_v1 main_v92 main_v93 (maximumf : (⟨S4, .f32⟩ : BufTy).Contents (Elt F) → (⟨S4, .f32⟩ : BufTy).Contents (Elt F) → (⟨S4, .f32⟩ : BufTy).Contents (Elt F)),
    unary main_v93 main_v94 (broadcastInDim S4x1 ![0] bcast_S4_S4x1_0 : (⟨S4, .f32⟩ : BufTy).Contents (Elt F) → (⟨S4x1, .f32⟩ : BufTy).Contents (Elt F)),
    unary main_v94 main_v95 (broadcastInDim S4x256 ![0, 1] bcast_S4x1_S4x256_0_1 : (⟨S4x1, .f32⟩ : BufTy).Contents (Elt F) → (⟨S4x256, .f32⟩ : BufTy).Contents (Elt F)),
    binary main_v91 main_v95 main_v96 (Host.divf : (⟨S4x256, .f32⟩ : BufTy).Contents (Elt F) → (⟨S4x256, .f32⟩ : BufTy).Contents (Elt F) → (⟨S4x256, .f32⟩ : BufTy).Contents (Elt F))]
theorem keepLoc (V : Valuation τ sig (Elt F)) (r : Ref sig .tc) (hr : r ∉ [main_v88, main_v89, main_v90, main_cst_6, main_v91, main_cst_7, main_v92, main_cst_8, main_call11_v0, main_call11_v1, main_v93, main_v94, main_v95, main_v96]) :
    after opsLoc V (Proc.devRef .tc r) = V (Proc.devRef .tc r) :=
  after_of_writes_sub _ V (forall_writes_sub_of_map rfl) hr
theorem subLoc : (opsLoc : List (HloOp τ sig (Elt F))).Forall fun op => op.bufs ⊆ tcRefs τ sig :=
  ⟨unary_bufs_sub .., unary_bufs_sub .., binary_bufs_sub .., nullary_bufs_sub .., binary_bufs_sub .., nullary_bufs_sub .., binary_bufs_sub .., nullary_bufs_sub .., unary_bufs_sub .., unary_bufs_sub .., binary_bufs_sub .., unary_bufs_sub .., unary_bufs_sub .., binary_bufs_sub ..⟩
theorem freshLoc : (opsLoc : List (HloOp τ sig (Elt F))).Forall fun op => op.fresh = ∅ := forall_fresh_of_map rfl
theorem outLoc (V : Valuation τ sig (Elt F)) : after opsLoc V (Proc.devRef .tc main_v96) = locL (V (Proc.devRef .tc main_arg4)) (V (Proc.devRef .tc main_v87)) := by
  after_results <;> rfl

abbrev opsGlob : List (HloOp τ sig (Elt F)) :=
  [nullary main_cst_9 (constant S_ .f32 0x00000000#32),
    binary main_v87 main_cst_9 main_v97 ((fun x v => Host.reduceAdd x v reducesTo_S4x883x256_S4x256_d1 h_S_) : (⟨S4x883x256, .f32⟩ : BufTy).Contents (Elt F) → (⟨S_, .f32⟩ : BufTy).Contents (Elt F) → (⟨S4x256, .f32⟩ : BufTy).Contents (Elt F)),
    nullary main_cst_10 (constant S_ .f32 0x445CC000#32),
    unary main_cst_10 main_v98 (broadcastInDim S4x256 ![] bcast_S_S4x256 : (⟨S_, .f32⟩ : BufTy).Contents (Elt F) → (⟨S4x256, .f32⟩ : BufTy).Contents (Elt F)),
    binary main_v97 main_v98 main_v99 (Host.divf : (⟨S4x256, .f32⟩ : BufTy).Contents (Elt F) → (⟨S4x256, .f32⟩ : BufTy).Contents (Elt F) → (⟨S4x256, .f32⟩ : BufTy).Contents (Elt F))]
theorem keepGlob (V : Valuation τ sig (Elt F)) (r : Ref sig .tc) (hr : r ∉ [main_cst_9, main_v97, main_cst_10, main_v98, main_v99]) :
    after opsGlob V (Proc.devRef .tc r) = V (Proc.devRef .tc r) :=
  after_of_writes_sub _ V (forall_writes_sub_of_map rfl) hr
theorem subGlob : (opsGlob : List (HloOp τ sig (Elt F))).Forall fun op => op.bufs ⊆ tcRefs τ sig :=
  ⟨nullary_bufs_sub .., binary_bufs_sub .., nullary_bufs_sub .., unary_bufs_sub .., binary_bufs_sub ..⟩
theorem freshGlob : (opsGlob : List (HloOp τ sig (Elt F))).Forall fun op => op.fresh = ∅ := forall_fresh_of_map rfl
theorem outGlob (V : Valuation τ sig (Elt F)) : after opsGlob V (Proc.devRef .tc main_v99) = globL (V (Proc.devRef .tc main_v87)) := by
  after_results <;> rfl

abbrev opsFuse : List (HloOp τ sig (Elt F)) :=
  [binary main_v96 main_v99 main_v100 ((fun a b => concatenate S4x512 1 [⟨S4x256, a⟩, ⟨S4x256, b⟩] concatenates_S4x256_S4x256_S4x512_d1) : (⟨S4x256, .f32⟩ : BufTy).Contents (Elt F) → (⟨S4x256, .f32⟩ : BufTy).Contents (Elt F) → (⟨S4x512, .f32⟩ : BufTy).Contents (Elt F)),
    binary main_v100 main_arg13 main_v101 ((fun l r => Host.dotGeneral dot_S4x512_S512x256_S4x256_1_0_0_1_n_n none l r) : (⟨S4x512, .f32⟩ : BufTy).Contents (Elt F) → (⟨S512x256, .f32⟩ : BufTy).Contents (Elt F) → (⟨S4x256, .f32⟩ : BufTy).Contents (Elt F)),
    unary main_arg14 main_v102 (broadcastInDim S1x256 ![1] bcast_S256_S1x256_1 : (⟨S256, .f32⟩ : BufTy).Contents (Elt F) → (⟨S1x256, .f32⟩ : BufTy).Contents (Elt F)),
    unary main_v102 main_v103 (broadcastInDim S4x256 ![0, 1] bcast_S1x256_S4x256_0_1 : (⟨S1x256, .f32⟩ : BufTy).Contents (Elt F) → (⟨S4x256, .f32⟩ : BufTy).Contents (Elt F)),
    binary main_v101 main_v103 main_v104 (addf : (⟨S4x256, .f32⟩ : BufTy).Contents (Elt F) → (⟨S4x256, .f32⟩ : BufTy).Contents (Elt F) → (⟨S4x256, .f32⟩ : BufTy).Contents (Elt F)),
    nullary main_call12_cst (constant S_ .f32 0x00000000#32),
    unary main_call12_cst main_call12_v0 ((broadcastInDim S4x256 ![] bcast_S_S4x256) : (⟨S_, .f32⟩ : BufTy).Contents (Elt F) → (⟨S4x256, .f32⟩ : BufTy).Contents (Elt F)),
    binary main_v104 main_call12_v0 main_v105 (maximumf : (⟨S4x256, .f32⟩ : BufTy).Contents (Elt F) → (⟨S4x256, .f32⟩ : BufTy).Contents (Elt F) → (⟨S4x256, .f32⟩ : BufTy).Contents (Elt F))]
theorem keepFuse (V : Valuation τ sig (Elt F)) (r : Ref sig .tc) (hr : r ∉ [main_v100, main_v101, main_v102, main_v103, main_v104, main_call12_cst, main_call12_v0, main_v105]) :
    after opsFuse V (Proc.devRef .tc r) = V (Proc.devRef .tc r) :=
  after_of_writes_sub _ V (forall_writes_sub_of_map rfl) hr
theorem subFuse : (opsFuse : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem freshFuse : (opsFuse : List (HloOp τ sig (Elt F))).Forall fun op => op.fresh = ∅ := forall_fresh_of_map rfl
theorem outFuse (V : Valuation τ sig (Elt F)) : after opsFuse V (Proc.devRef .tc main_v105) = fuseL (V (Proc.devRef .tc main_v96)) (V (Proc.devRef .tc main_v99)) (V (Proc.devRef .tc main_arg13)) (V (Proc.devRef .tc main_arg14)) := by
  after_results <;> rfl

abbrev opsHid : List (HloOp τ sig (Elt F)) :=
  [binary main_v105 main_arg15 main_v106 ((fun l r => Host.dotGeneral dot_S4x256_S8x256x128_S4x8x128_1_1_0_02_n_n none l r) : (⟨S4x256, .f32⟩ : BufTy).Contents (Elt F) → (⟨S8x256x128, .f32⟩ : BufTy).Contents (Elt F) → (⟨S4x8x128, .f32⟩ : BufTy).Contents (Elt F)),
    unary main_arg16 main_v107 (broadcastInDim S1x8x128 ![1, 2] bcast_S8x128_S1x8x128_1_2 : (⟨S8x128, .f32⟩ : BufTy).Contents (Elt F) → (⟨S1x8x128, .f32⟩ : BufTy).Contents (Elt F)),
    unary main_v107 main_v108 (broadcastInDim S4x8x128 ![0, 1, 2] bcast_S1x8x128_S4x8x128_0_1_2 : (⟨S1x8x128, .f32⟩ : BufTy).Contents (Elt F) → (⟨S4x8x128, .f32⟩ : BufTy).Contents (Elt F)),
    binary main_v106 main_v108 main_v109 (addf : (⟨S4x8x128, .f32⟩ : BufTy).Contents (Elt F) → (⟨S4x8x128, .f32⟩ : BufTy).Contents (Elt F) → (⟨S4x8x128, .f32⟩ : BufTy).Contents (Elt F)),
    nullary main_call13_cst (constant S_ .f32 0x00000000#32),
    unary main_call13_cst main_call13_v0 ((broadcastInDim S4x8x128 ![] bcast_S_S4x8x128) : (⟨S_, .f32⟩ : BufTy).Contents (Elt F) → (⟨S4x8x128, .f32⟩ : BufTy).Contents (Elt F)),
    binary main_v109 main_call13_v0 main_v110 (maximumf : (⟨S4x8x128, .f32⟩ : BufTy).Contents (Elt F) → (⟨S4x8x128, .f32⟩ : BufTy).Contents (Elt F) → (⟨S4x8x128, .f32⟩ : BufTy).Contents (Elt F))]
theorem keepHid (V : Valuation τ sig (Elt F)) (r : Ref sig .tc) (hr : r ∉ [main_v106, main_v107, main_v108, main_v109, main_call13_cst, main_call13_v0, main_v110]) :
    after opsHid V (Proc.devRef .tc r) = V (Proc.devRef .tc r) :=
  after_of_writes_sub _ V (forall_writes_sub_of_map rfl) hr
theorem subHid : (opsHid : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem freshHid : (opsHid : List (HloOp τ sig (Elt F))).Forall fun op => op.fresh = ∅ := forall_fresh_of_map rfl
theorem outHid (V : Valuation τ sig (Elt F)) : after opsHid V (Proc.devRef .tc main_v110) = hidL (V (Proc.devRef .tc main_v105)) (V (Proc.devRef .tc main_arg15)) (V (Proc.devRef .tc main_arg16)) := by
  after_results <;> rfl

abbrev opsProb : List (HloOp τ sig (Elt F)) :=
  [binary main_arg17 main_v110 main_v111 ((fun l r => Host.dotGeneral dot_S8x128_S4x8x128_S8x4_1_2_n_0_0_1 none l r) : (⟨S8x128, .f32⟩ : BufTy).Contents (Elt F) → (⟨S4x8x128, .f32⟩ : BufTy).Contents (Elt F) → (⟨S8x4, .f32⟩ : BufTy).Contents (Elt F)),
    unary main_v111 main_v112 ((transpose S4x8 [1, 0] · transposes_S8x4_S4x8_1_0) : (⟨S8x4, .f32⟩ : BufTy).Contents (Elt F) → (⟨S4x8, .f32⟩ : BufTy).Contents (Elt F)),
    unary main_arg18 main_v113 (broadcastInDim S1x8 ![1] bcast_S8_S1x8_1 : (⟨S8, .f32⟩ : BufTy).Contents (Elt F) → (⟨S1x8, .f32⟩ : BufTy).Contents (Elt F)),
    unary main_v113 main_v114 (broadcastInDim S4x8 ![0, 1] bcast_S1x8_S4x8_0_1 : (⟨S1x8, .f32⟩ : BufTy).Contents (Elt F) → (⟨S4x8, .f32⟩ : BufTy).Contents (Elt F)),
    binary main_v112 main_v114 main_v115 (addf : (⟨S4x8, .f32⟩ : BufTy).Contents (Elt F) → (⟨S4x8, .f32⟩ : BufTy).Contents (Elt F) → (⟨S4x8, .f32⟩ : BufTy).Contents (Elt F)),
    unary main_v115 main_v116 (Host.negf : (⟨S4x8, .f32⟩ : BufTy).Contents (Elt F) → (⟨S4x8, .f32⟩ : BufTy).Contents (Elt F)),
    unary main_v116 main_v117 (Host.exp : (⟨S4x8, .f32⟩ : BufTy).Contents (Elt F) → (⟨S4x8, .f32⟩ : BufTy).Contents (Elt F)),
    nullary main_cst_11 (constant S_ .f32 0x3F800000#32),
    unary main_cst_11 main_v118 (broadcastInDim S4x8 ![] bcast_S_S4x8 : (⟨S_, .f32⟩ : BufTy).Contents (Elt F) → (⟨S4x8, .f32⟩ : BufTy).Contents (Elt F)),
    binary main_v118 main_v117 main_v119 (addf : (⟨S4x8, .f32⟩ : BufTy).Contents (Elt F) → (⟨S4x8, .f32⟩ : BufTy).Contents (Elt F) → (⟨S4x8, .f32⟩ : BufTy).Contents (Elt F)),
    nullary main_cst_12 (constant S_ .f32 0x3F800000#32),
    unary main_cst_12 main_v120 (broadcastInDim S4x8 ![] bcast_S_S4x8 : (⟨S_, .f32⟩ : BufTy).Contents (Elt F) → (⟨S4x8, .f32⟩ : BufTy).Contents (Elt F)),
    binary main_v120 main_v119 main_v121 (Host.divf : (⟨S4x8, .f32⟩ : BufTy).Contents (Elt F) → (⟨S4x8, .f32⟩ : BufTy).Contents (Elt F) → (⟨S4x8, .f32⟩ : BufTy).Contents (Elt F))]
theorem keepProb (V : Valuation τ sig (Elt F)) (r : Ref sig .tc) (hr : r ∉ [main_v111, main_v112, main_v113, main_v114, main_v115, main_v116, main_v117, main_cst_11, main_v118, main_v119, main_cst_12, main_v120, main_v121]) :
    after opsProb V (Proc.devRef .tc r) = V (Proc.devRef .tc r) :=
  after_of_writes_sub _ V (forall_writes_sub_of_map rfl) hr
theorem subProb : (opsProb : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem freshProb : (opsProb : List (HloOp τ sig (Elt F))).Forall fun op => op.fresh = ∅ := forall_fresh_of_map rfl
theorem outProb (V : Valuation τ sig (Elt F)) : after opsProb V (Proc.devRef .tc main_v121) = probL (V (Proc.devRef .tc main_arg17)) (V (Proc.devRef .tc main_v110)) (V (Proc.devRef .tc main_arg18)) := by
  after_results <;> rfl

abbrev opsDir : List (HloOp τ sig (Elt F)) :=
  [binary main_arg19 main_v110 main_v122 ((fun l r => Host.dotGeneral dot_S8x128_S4x8x128_S8x4_1_2_n_0_0_1 none l r) : (⟨S8x128, .f32⟩ : BufTy).Contents (Elt F) → (⟨S4x8x128, .f32⟩ : BufTy).Contents (Elt F) → (⟨S8x4, .f32⟩ : BufTy).Contents (Elt F)),
    unary main_v122 main_v123 ((transpose S4x8 [1, 0] · transposes_S8x4_S4x8_1_0) : (⟨S8x4, .f32⟩ : BufTy).Contents (Elt F) → (⟨S4x8, .f32⟩ : BufTy).Contents (Elt F)),
    unary main_arg20 main_v124 (broadcastInDim S1x8 ![1] bcast_S8_S1x8_1 : (⟨S8, .f32⟩ : BufTy).Contents (Elt F) → (⟨S1x8, .f32⟩ : BufTy).Contents (Elt F)),
    unary main_v124 main_v125 (broadcastInDim S4x8 ![0, 1] bcast_S1x8_S4x8_0_1 : (⟨S1x8, .f32⟩ : BufTy).Contents (Elt F) → (⟨S4x8, .f32⟩ : BufTy).Contents (Elt F)),
    binary main_v123 main_v125 main_v126 (addf : (⟨S4x8, .f32⟩ : BufTy).Contents (Elt F) → (⟨S4x8, .f32⟩ : BufTy).Contents (Elt F) → (⟨S4x8, .f32⟩ : BufTy).Contents (Elt F))]
theorem keepDir (V : Valuation τ sig (Elt F)) (r : Ref sig .tc) (hr : r ∉ [main_v122, main_v123, main_v124, main_v125, main_v126]) :
    after opsDir V (Proc.devRef .tc r) = V (Proc.devRef .tc r) :=
  after_of_writes_sub _ V (forall_writes_sub_of_map rfl) hr
theorem subDir : (opsDir : List (HloOp τ sig (Elt F))).Forall fun op => op.bufs ⊆ tcRefs τ sig :=
  ⟨binary_bufs_sub .., unary_bufs_sub .., unary_bufs_sub .., unary_bufs_sub .., binary_bufs_sub ..⟩
theorem freshDir : (opsDir : List (HloOp τ sig (Elt F))).Forall fun op => op.fresh = ∅ := forall_fresh_of_map rfl
theorem outDir (V : Valuation τ sig (Elt F)) : after opsDir V (Proc.devRef .tc main_v126) = dirL (V (Proc.devRef .tc main_arg19)) (V (Proc.devRef .tc main_v110)) (V (Proc.devRef .tc main_arg20)) := by
  after_results <;> rfl

abbrev opsMag : List (HloOp τ sig (Elt F)) :=
  [binary main_arg21 main_v110 main_v127 ((fun l r => Host.dotGeneral dot_S8x128_S4x8x128_S8x4_1_2_n_0_0_1 none l r) : (⟨S8x128, .f32⟩ : BufTy).Contents (Elt F) → (⟨S4x8x128, .f32⟩ : BufTy).Contents (Elt F) → (⟨S8x4, .f32⟩ : BufTy).Contents (Elt F)),
    unary main_v127 main_v128 ((transpose S4x8 [1, 0] · transposes_S8x4_S4x8_1_0) : (⟨S8x4, .f32⟩ : BufTy).Contents (Elt F) → (⟨S4x8, .f32⟩ : BufTy).Contents (Elt F)),
    unary main_arg22 main_v129 (broadcastInDim S1x8 ![1] bcast_S8_S1x8_1 : (⟨S8, .f32⟩ : BufTy).Contents (Elt F) → (⟨S1x8, .f32⟩ : BufTy).Contents (Elt F)),
    unary main_v129 main_v130 (broadcastInDim S4x8 ![0, 1] bcast_S1x8_S4x8_0_1 : (⟨S1x8, .f32⟩ : BufTy).Contents (Elt F) → (⟨S4x8, .f32⟩ : BufTy).Contents (Elt F)),
    binary main_v128 main_v130 main_v131 (addf : (⟨S4x8, .f32⟩ : BufTy).Contents (Elt F) → (⟨S4x8, .f32⟩ : BufTy).Contents (Elt F) → (⟨S4x8, .f32⟩ : BufTy).Contents (Elt F)),
    nullary main_call14_cst (constant S_ .f32 0x00000000#32),
    unary main_call14_cst main_call14_v0 ((broadcastInDim S4x8 ![] bcast_S_S4x8) : (⟨S_, .f32⟩ : BufTy).Contents (Elt F) → (⟨S4x8, .f32⟩ : BufTy).Contents (Elt F)),
    binary main_v131 main_call14_v0 main_call14_v1 (maximumf : (⟨S4x8, .f32⟩ : BufTy).Contents (Elt F) → (⟨S4x8, .f32⟩ : BufTy).Contents (Elt F) → (⟨S4x8, .f32⟩ : BufTy).Contents (Elt F)),
    unary main_call14_cst main_call14_v2 ((broadcastInDim S4x8 ![] bcast_S_S4x8) : (⟨S_, .f32⟩ : BufTy).Contents (Elt F) → (⟨S4x8, .f32⟩ : BufTy).Contents (Elt F)),
    binary main_v131 main_call14_v2 main_call14_v3 (subf : (⟨S4x8, .f32⟩ : BufTy).Contents (Elt F) → (⟨S4x8, .f32⟩ : BufTy).Contents (Elt F) → (⟨S4x8, .f32⟩ : BufTy).Contents (Elt F)),
    binary main_call14_v3 main_call14_v3 main_call14_v4 ((cmpf .une) : (⟨S4x8, .f32⟩ : BufTy).Contents (Elt F) → (⟨S4x8, .f32⟩ : BufTy).Contents (Elt F) → (⟨S4x8, .i1⟩ : BufTy).Contents (Elt F)),
    unary main_call14_cst main_call14_v5 ((broadcastInDim S4x8 ![] bcast_S_S4x8) : (⟨S_, .f32⟩ : BufTy).Contents (Elt F) → (⟨S4x8, .f32⟩ : BufTy).Contents (Elt F)),
    binary main_v131 main_call14_v5 main_call14_v6 (addf : (⟨S4x8, .f32⟩ : BufTy).Contents (Elt F) → (⟨S4x8, .f32⟩ : BufTy).Contents (Elt F) → (⟨S4x8, .f32⟩ : BufTy).Contents (Elt F)),
    unary main_call14_v3 main_call14_v7 (Host.absf : (⟨S4x8, .f32⟩ : BufTy).Contents (Elt F) → (⟨S4x8, .f32⟩ : BufTy).Contents (Elt F)),
    unary main_call14_v7 main_call14_v8 (Host.negf : (⟨S4x8, .f32⟩ : BufTy).Contents (Elt F) → (⟨S4x8, .f32⟩ : BufTy).Contents (Elt F)),
    unary main_call14_v8 main_call14_v9 (Host.exp : (⟨S4x8, .f32⟩ : BufTy).Contents (Elt F) → (⟨S4x8, .f32⟩ : BufTy).Contents (Elt F)),
    unary main_call14_v9 main_call14_v10 (Host.log1p : (⟨S4x8, .f32⟩ : BufTy).Contents (Elt F) → (⟨S4x8, .f32⟩ : BufTy).Contents (Elt F)),
    binary main_call14_v1 main_call14_v10 main_call14_v11 (addf : (⟨S4x8, .f32⟩ : BufTy).Contents (Elt F) → (⟨S4x8, .f32⟩ : BufTy).Contents (Elt F) → (⟨S4x8, .f32⟩ : BufTy).Contents (Elt F)),
    ternary main_call14_v4 main_call14_v6 main_call14_v11 main_v132 (select : (⟨S4x8, .i1⟩ : BufTy).Contents (Elt F) → (⟨S4x8, .f32⟩ : BufTy).Contents (Elt F) → (⟨S4x8, .f32⟩ : BufTy).Contents (Elt F) → (⟨S4x8, .f32⟩ : BufTy).Contents (Elt F))]
theorem keepMag (V : Valuation τ sig (Elt F)) (r : Ref sig .tc) (hr : r ∉ [main_v127, main_v128, main_v129, main_v130, main_v131, main_call14_cst, main_call14_v0, main_call14_v1, main_call14_v2, main_call14_v3, main_call14_v4, main_call14_v5, main_call14_v6, main_call14_v7, main_call14_v8, main_call14_v9, main_call14_v10, main_call14_v11, main_v132]) :
    after opsMag V (Proc.devRef .tc r) = V (Proc.devRef .tc r) :=
  after_of_writes_sub _ V (forall_writes_sub_of_map rfl) hr
theorem subMag : (opsMag : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem freshMag : (opsMag : List (HloOp τ sig (Elt F))).Forall fun op => op.fresh = ∅ := forall_fresh_of_map rfl
theorem outMag (V : Valuation τ sig (Elt F)) : after opsMag V (Proc.devRef .tc main_v132) = magL (V (Proc.devRef .tc main_arg21)) (V (Proc.devRef .tc main_v110)) (V (Proc.devRef .tc main_arg22)) := by
  after_results <;> rfl

abbrev opsCat : List (HloOp τ sig (Elt F)) :=
  [binary main_v105 main_arg23 main_v133 ((fun l r => Host.dotGeneral dot_S4x256_S256x8_S4x8_1_0_0_1_n_n none l r) : (⟨S4x256, .f32⟩ : BufTy).Contents (Elt F) → (⟨S256x8, .f32⟩ : BufTy).Contents (Elt F) → (⟨S4x8, .f32⟩ : BufTy).Contents (Elt F)),
    unary main_arg24 main_v134 (broadcastInDim S1x8 ![1] bcast_S8_S1x8_1 : (⟨S8, .f32⟩ : BufTy).Contents (Elt F) → (⟨S1x8, .f32⟩ : BufTy).Contents (Elt F)),
    unary main_v134 main_v135 (broadcastInDim S4x8 ![0, 1] bcast_S1x8_S4x8_0_1 : (⟨S1x8, .f32⟩ : BufTy).Contents (Elt F) → (⟨S4x8, .f32⟩ : BufTy).Contents (Elt F)),
    binary main_v133 main_v135 main_v136 (addf : (⟨S4x8, .f32⟩ : BufTy).Contents (Elt F) → (⟨S4x8, .f32⟩ : BufTy).Contents (Elt F) → (⟨S4x8, .f32⟩ : BufTy).Contents (Elt F))]
theorem keepCat (V : Valuation τ sig (Elt F)) (r : Ref sig .tc) (hr : r ∉ [main_v133, main_v134, main_v135, main_v136]) :
    after opsCat V (Proc.devRef .tc r) = V (Proc.devRef .tc r) :=
  after_of_writes_sub _ V (forall_writes_sub_of_map rfl) hr
theorem subCat : (opsCat : List (HloOp τ sig (Elt F))).Forall fun op => op.bufs ⊆ tcRefs τ sig :=
  ⟨binary_bufs_sub .., unary_bufs_sub .., unary_bufs_sub .., binary_bufs_sub ..⟩
theorem freshCat : (opsCat : List (HloOp τ sig (Elt F))).Forall fun op => op.fresh = ∅ := forall_fresh_of_map rfl
theorem outCat (V : Valuation τ sig (Elt F)) : after opsCat V (Proc.devRef .tc main_v136) = catL (V (Proc.devRef .tc main_v105)) (V (Proc.devRef .tc main_arg23)) (V (Proc.devRef .tc main_arg24)) := by
  after_results <;> rfl

abbrev opsDom : List (HloOp τ sig (Elt F)) :=
  [nullary main_call15_v0 (iotaInDim S4x8 32 1),
    nullary main_call15_cst (constant S_ .f32 0xFF800000#32),
    nullary main_call15_c (constantI S_ 32 0#32),
    quaternary main_v136 main_call15_v0 main_call15_cst main_call15_c main_call15_v1_0 ((fun x y u v j => (Host.argReduce reducer_argmax_f32_i32 x y u v reducesTo_S4x8_S4_d1 h_S_ j).1) : (⟨S4x8, .f32⟩ : BufTy).Contents (Elt F) → (⟨S4x8, .i32⟩ : BufTy).Contents (Elt F) → (⟨S_, .f32⟩ : BufTy).Contents (Elt F) → (⟨S_, .i32⟩ : BufTy).Contents (Elt F) → (⟨S4, .f32⟩ : BufTy).Contents (Elt F)),
    quaternary main_v136 main_call15_v0 main_call15_cst main_call15_c main_v137 ((fun x y u v j => (Host.argReduce reducer_argmax_f32_i32 x y u v reducesTo_S4x8_S4_d1 h_S_ j).2) : (⟨S4x8, .f32⟩ : BufTy).Contents (Elt F) → (⟨S4x8, .i32⟩ : BufTy).Contents (Elt F) → (⟨S_, .f32⟩ : BufTy).Contents (Elt F) → (⟨S_, .i32⟩ : BufTy).Contents (Elt F) → (⟨S4, .i32⟩ : BufTy).Contents (Elt F))]
theorem keepDom (V : Valuation τ sig (Elt F)) (r : Ref sig .tc) (hr : r ∉ [main_call15_v0, main_call15_cst, main_call15_c, main_call15_v1_0, main_v137]) :
    after opsDom V (Proc.devRef .tc r) = V (Proc.devRef .tc r) :=
  after_of_writes_sub _ V (forall_writes_sub_of_map rfl) hr
theorem subDom : (opsDom : List (HloOp τ sig (Elt F))).Forall fun op => op.bufs ⊆ tcRefs τ sig :=
  ⟨nullary_bufs_sub .., nullary_bufs_sub .., nullary_bufs_sub .., quaternary_bufs_sub .., quaternary_bufs_sub ..⟩
theorem freshDom : (opsDom : List (HloOp τ sig (Elt F))).Forall fun op => op.fresh = ∅ := forall_fresh_of_map rfl
theorem outDom (V : Valuation τ sig (Elt F)) : after opsDom V (Proc.devRef .tc main_v137) = domL (V (Proc.devRef .tc main_v136)) := by
  after_results <;> rfl

abbrev ops : List (HloOp τ sig (Elt F)) :=
  opsSrc ++ (opsDst ++ (opsDeg ++ (opsEnc ++ (opsJoinW ++ (opsTakeAW ++ (opsAggAW ++ (opsLayAW ++ (opsTakeBW ++ (opsAggBW ++ (opsLayBW ++ (opsJoinM ++ (opsTakeAM ++ (opsAggAM ++ (opsLayAM ++ (opsTakeBM ++ (opsAggBM ++ (opsLayBM ++ (opsDiff ++ (opsLoc ++ (opsGlob ++ (opsFuse ++ (opsHid ++ (opsProb ++ (opsDir ++ (opsMag ++ (opsCat ++ (opsDom)))))))))))))))))))))))))))

set_option maxRecDepth 100000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr (List.forall_mem_append.mpr ⟨List.forall_iff_forall_mem.mp subSrc,
    List.forall_mem_append.mpr ⟨List.forall_iff_forall_mem.mp subDst,
    List.forall_mem_append.mpr ⟨List.forall_iff_forall_mem.mp subDeg,
    List.forall_mem_append.mpr ⟨List.forall_iff_forall_mem.mp subEnc,
    List.forall_mem_append.mpr ⟨List.forall_iff_forall_mem.mp subJoinW,
    List.forall_mem_append.mpr ⟨List.forall_iff_forall_mem.mp subTakeAW,
    List.forall_mem_append.mpr ⟨List.forall_iff_forall_mem.mp subAggAW,
    List.forall_mem_append.mpr ⟨List.forall_iff_forall_mem.mp subLayAW,
    List.forall_mem_append.mpr ⟨List.forall_iff_forall_mem.mp subTakeBW,
    List.forall_mem_append.mpr ⟨List.forall_iff_forall_mem.mp subAggBW,
    List.forall_mem_append.mpr ⟨List.forall_iff_forall_mem.mp subLayBW,
    List.forall_mem_append.mpr ⟨List.forall_iff_forall_mem.mp subJoinM,
    List.forall_mem_append.mpr ⟨List.forall_iff_forall_mem.mp subTakeAM,
    List.forall_mem_append.mpr ⟨List.forall_iff_forall_mem.mp subAggAM,
    List.forall_mem_append.mpr ⟨List.forall_iff_forall_mem.mp subLayAM,
    List.forall_mem_append.mpr ⟨List.forall_iff_forall_mem.mp subTakeBM,
    List.forall_mem_append.mpr ⟨List.forall_iff_forall_mem.mp subAggBM,
    List.forall_mem_append.mpr ⟨List.forall_iff_forall_mem.mp subLayBM,
    List.forall_mem_append.mpr ⟨List.forall_iff_forall_mem.mp subDiff,
    List.forall_mem_append.mpr ⟨List.forall_iff_forall_mem.mp subLoc,
    List.forall_mem_append.mpr ⟨List.forall_iff_forall_mem.mp subGlob,
    List.forall_mem_append.mpr ⟨List.forall_iff_forall_mem.mp subFuse,
    List.forall_mem_append.mpr ⟨List.forall_iff_forall_mem.mp subHid,
    List.forall_mem_append.mpr ⟨List.forall_iff_forall_mem.mp subProb,
    List.forall_mem_append.mpr ⟨List.forall_iff_forall_mem.mp subDir,
    List.forall_mem_append.mpr ⟨List.forall_iff_forall_mem.mp subMag,
    List.forall_mem_append.mpr ⟨List.forall_iff_forall_mem.mp subCat,
    List.forall_iff_forall_mem.mp subDom⟩⟩⟩⟩⟩⟩⟩⟩⟩⟩⟩⟩⟩⟩⟩⟩⟩⟩⟩⟩⟩⟩⟩⟩⟩⟩⟩)
theorem ops_fresh : ∀ op ∈ (ops : List (HloOp τ sig (Elt F))), op.fresh = ∅ :=
  List.forall_mem_append.mpr ⟨List.forall_iff_forall_mem.mp freshSrc,
    List.forall_mem_append.mpr ⟨List.forall_iff_forall_mem.mp freshDst,
    List.forall_mem_append.mpr ⟨List.forall_iff_forall_mem.mp freshDeg,
    List.forall_mem_append.mpr ⟨List.forall_iff_forall_mem.mp freshEnc,
    List.forall_mem_append.mpr ⟨List.forall_iff_forall_mem.mp freshJoinW,
    List.forall_mem_append.mpr ⟨List.forall_iff_forall_mem.mp freshTakeAW,
    List.forall_mem_append.mpr ⟨List.forall_iff_forall_mem.mp freshAggAW,
    List.forall_mem_append.mpr ⟨List.forall_iff_forall_mem.mp freshLayAW,
    List.forall_mem_append.mpr ⟨List.forall_iff_forall_mem.mp freshTakeBW,
    List.forall_mem_append.mpr ⟨List.forall_iff_forall_mem.mp freshAggBW,
    List.forall_mem_append.mpr ⟨List.forall_iff_forall_mem.mp freshLayBW,
    List.forall_mem_append.mpr ⟨List.forall_iff_forall_mem.mp freshJoinM,
    List.forall_mem_append.mpr ⟨List.forall_iff_forall_mem.mp freshTakeAM,
    List.forall_mem_append.mpr ⟨List.forall_iff_forall_mem.mp freshAggAM,
    List.forall_mem_append.mpr ⟨List.forall_iff_forall_mem.mp freshLayAM,
    List.forall_mem_append.mpr ⟨List.forall_iff_forall_mem.mp freshTakeBM,
    List.forall_mem_append.mpr ⟨List.forall_iff_forall_mem.mp freshAggBM,
    List.forall_mem_append.mpr ⟨List.forall_iff_forall_mem.mp freshLayBM,
    List.forall_mem_append.mpr ⟨List.forall_iff_forall_mem.mp freshDiff,
    List.forall_mem_append.mpr ⟨List.forall_iff_forall_mem.mp freshLoc,
    List.forall_mem_append.mpr ⟨List.forall_iff_forall_mem.mp freshGlob,
    List.forall_mem_append.mpr ⟨List.forall_iff_forall_mem.mp freshFuse,
    List.forall_mem_append.mpr ⟨List.forall_iff_forall_mem.mp freshHid,
    List.forall_mem_append.mpr ⟨List.forall_iff_forall_mem.mp freshProb,
    List.forall_mem_append.mpr ⟨List.forall_iff_forall_mem.mp freshDir,
    List.forall_mem_append.mpr ⟨List.forall_iff_forall_mem.mp freshMag,
    List.forall_mem_append.mpr ⟨List.forall_iff_forall_mem.mp freshCat,
    List.forall_iff_forall_mem.mp freshDom⟩⟩⟩⟩⟩⟩⟩⟩⟩⟩⟩⟩⟩⟩⟩⟩⟩⟩⟩⟩⟩⟩⟩⟩⟩⟩⟩

variable (m : (ℓ : Loc nD τ sig) → Buf (Elt F) ℓ) (d : Dev nD)

/-! ## The arrays after each part -/

def W1 : Valuation τ sig (Elt F) := after opsSrc (launchContents m d)
def W2 : Valuation τ sig (Elt F) := after opsDst (W1 m d)
def W3 : Valuation τ sig (Elt F) := after opsDeg (W2 m d)
def W4 : Valuation τ sig (Elt F) := after opsEnc (W3 m d)
def W5 : Valuation τ sig (Elt F) := after opsJoinW (W4 m d)
def W6 : Valuation τ sig (Elt F) := after opsTakeAW (W5 m d)
def W7 : Valuation τ sig (Elt F) := after opsAggAW (W6 m d)
def W8 : Valuation τ sig (Elt F) := after opsLayAW (W7 m d)
def W9 : Valuation τ sig (Elt F) := after opsTakeBW (W8 m d)
def W10 : Valuation τ sig (Elt F) := after opsAggBW (W9 m d)
def W11 : Valuation τ sig (Elt F) := after opsLayBW (W10 m d)
def W12 : Valuation τ sig (Elt F) := after opsJoinM (W11 m d)
def W13 : Valuation τ sig (Elt F) := after opsTakeAM (W12 m d)
def W14 : Valuation τ sig (Elt F) := after opsAggAM (W13 m d)
def W15 : Valuation τ sig (Elt F) := after opsLayAM (W14 m d)
def W16 : Valuation τ sig (Elt F) := after opsTakeBM (W15 m d)
def W17 : Valuation τ sig (Elt F) := after opsAggBM (W16 m d)
def W18 : Valuation τ sig (Elt F) := after opsLayBM (W17 m d)
def W19 : Valuation τ sig (Elt F) := after opsDiff (W18 m d)
def W20 : Valuation τ sig (Elt F) := after opsLoc (W19 m d)
def W21 : Valuation τ sig (Elt F) := after opsGlob (W20 m d)
def W22 : Valuation τ sig (Elt F) := after opsFuse (W21 m d)
def W23 : Valuation τ sig (Elt F) := after opsHid (W22 m d)
def W24 : Valuation τ sig (Elt F) := after opsProb (W23 m d)
def W25 : Valuation τ sig (Elt F) := after opsDir (W24 m d)
def W26 : Valuation τ sig (Elt F) := after opsMag (W25 m d)
def W27 : Valuation τ sig (Elt F) := after opsCat (W26 m d)
def W28 : Valuation τ sig (Elt F) := after opsDom (W27 m d)
theorem after_ops : after ops (launchContents m d) = W28 m d := rfl

def v1R : IVec S28256 32 := srcL (m ((d.tc : Thread nD τ).loc main_arg3))
theorem v1_eq : W1 m d (Proc.devRef .tc main_v1) = v1R m d := by
  have h0 : launchContents m d (Proc.devRef .tc main_arg3) = (m ((d.tc : Thread nD τ).loc main_arg3)) := rfl
  refine (outSrc _).trans ?_
  unfold v1R
  rw [h0]
def v3R : IVec S28256 32 := dstL (m ((d.tc : Thread nD τ).loc main_arg3))
theorem v3_eq : W2 m d (Proc.devRef .tc main_v3) = v3R m d := by
  have h0 : W1 m d (Proc.devRef .tc main_arg3) = (m ((d.tc : Thread nD τ).loc main_arg3)) := (keepSrc _ _ (by decide)).trans (rfl)
  refine (outDst _).trans ?_
  unfold v3R
  rw [h0]
def v8R : FVec F S883 .f32 := degL (v3R m d)
theorem v8_eq : W3 m d (Proc.devRef .tc main_v8) = v8R m d := by
  have h0 : W2 m d (Proc.devRef .tc main_v3) = (v3R m d) := v3_eq m d
  refine (outDeg _).trans ?_
  unfold v8R
  rw [h0]
def v18R : FVec F S883x128 .f32 := encL (m ((d.tc : Thread nD τ).loc main_arg2)) (m ((d.tc : Thread nD τ).loc main_arg5)) (m ((d.tc : Thread nD τ).loc main_arg6)) (m ((d.tc : Thread nD τ).loc main_arg7)) (m ((d.tc : Thread nD τ).loc main_arg8))
theorem v18_eq : W4 m d (Proc.devRef .tc main_v18) = v18R m d := by
  have h0 : W3 m d (Proc.devRef .tc main_arg2) = (m ((d.tc : Thread nD τ).loc main_arg2)) := (keepDeg _ _ (by decide)).trans ((keepDst _ _ (by decide)).trans ((keepSrc _ _ (by decide)).trans (rfl)))
  have h1 : W3 m d (Proc.devRef .tc main_arg5) = (m ((d.tc : Thread nD τ).loc main_arg5)) := (keepDeg _ _ (by decide)).trans ((keepDst _ _ (by decide)).trans ((keepSrc _ _ (by decide)).trans (rfl)))
  have h2 : W3 m d (Proc.devRef .tc main_arg6) = (m ((d.tc : Thread nD τ).loc main_arg6)) := (keepDeg _ _ (by decide)).trans ((keepDst _ _ (by decide)).trans ((keepSrc _ _ (by decide)).trans (rfl)))
  have h3 : W3 m d (Proc.devRef .tc main_arg7) = (m ((d.tc : Thread nD τ).loc main_arg7)) := (keepDeg _ _ (by decide)).trans ((keepDst _ _ (by decide)).trans ((keepSrc _ _ (by decide)).trans (rfl)))
  have h4 : W3 m d (Proc.devRef .tc main_arg8) = (m ((d.tc : Thread nD τ).loc main_arg8)) := (keepDeg _ _ (by decide)).trans ((keepDst _ _ (by decide)).trans ((keepSrc _ _ (by decide)).trans (rfl)))
  refine (outEnc _).trans ?_
  unfold v18R
  rw [h0, h1, h2, h3, h4]
def v20R : FVec F S4x883x1408 .f32 := joinL (v18R m d) (m ((d.tc : Thread nD τ).loc main_arg0))
theorem v20_eq : W5 m d (Proc.devRef .tc main_v20) = v20R m d := by
  have h0 : W4 m d (Proc.devRef .tc main_v18) = (v18R m d) := v18_eq m d
  have h1 : W4 m d (Proc.devRef .tc main_arg0) = (m ((d.tc : Thread nD τ).loc main_arg0)) := (keepEnc _ _ (by decide)).trans ((keepDeg _ _ (by decide)).trans ((keepDst _ _ (by decide)).trans ((keepSrc _ _ (by decide)).trans (rfl))))
  refine (outJoinW _).trans ?_
  unfold v20R
  rw [h0, h1]
def v21R : FVec F S4x28256x1408 .f32 := takeA (v1R m d) (v20R m d)
theorem v21_eq : W6 m d (Proc.devRef .tc main_v21) = v21R m d := by
  have h0 : W5 m d (Proc.devRef .tc main_v1) = (v1R m d) := (keepJoinW _ _ (by decide)).trans ((keepEnc _ _ (by decide)).trans ((keepDeg _ _ (by decide)).trans ((keepDst _ _ (by decide)).trans (v1_eq m d))))
  have h1 : W5 m d (Proc.devRef .tc main_v20) = (v20R m d) := v20_eq m d
  refine (outTakeAW _).trans ?_
  unfold v21R
  rw [h0, h1]
def v29R : FVec F S4x883x1408 .f32 := aggA (v3R m d) (v21R m d) (v8R m d)
theorem v29_eq : W7 m d (Proc.devRef .tc main_v29) = v29R m d := by
  have h0 : W6 m d (Proc.devRef .tc main_v3) = (v3R m d) := (keepTakeAW _ _ (by decide)).trans ((keepJoinW _ _ (by decide)).trans ((keepEnc _ _ (by decide)).trans ((keepDeg _ _ (by decide)).trans (v3_eq m d))))
  have h1 : W6 m d (Proc.devRef .tc main_v21) = (v21R m d) := v21_eq m d
  have h2 : W6 m d (Proc.devRef .tc main_v8) = (v8R m d) := (keepTakeAW _ _ (by decide)).trans ((keepJoinW _ _ (by decide)).trans ((keepEnc _ _ (by decide)).trans (v8_eq m d)))
  refine (outAggAW _).trans ?_
  unfold v29R
  rw [h0, h1, h2]
def v36R : FVec F S4x883x256 .f32 := layA (v20R m d) (v29R m d) (m ((d.tc : Thread nD τ).loc main_arg9)) (m ((d.tc : Thread nD τ).loc main_arg10))
theorem v36_eq : W8 m d (Proc.devRef .tc main_v36) = v36R m d := by
  have h0 : W7 m d (Proc.devRef .tc main_v20) = (v20R m d) := (keepAggAW _ _ (by decide)).trans ((keepTakeAW _ _ (by decide)).trans (v20_eq m d))
  have h1 : W7 m d (Proc.devRef .tc main_v29) = (v29R m d) := v29_eq m d
  have h2 : W7 m d (Proc.devRef .tc main_arg9) = (m ((d.tc : Thread nD τ).loc main_arg9)) := (keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))
  have h3 : W7 m d (Proc.devRef .tc main_arg10) = (m ((d.tc : Thread nD τ).loc main_arg10)) := (keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))
  refine (outLayAW _).trans ?_
  unfold v36R
  rw [h0, h1, h2, h3]
def v37R : FVec F S4x28256x256 .f32 := takeB (v1R m d) (v36R m d)
theorem v37_eq : W9 m d (Proc.devRef .tc main_v37) = v37R m d := by
  have h0 : W8 m d (Proc.devRef .tc main_v1) = (v1R m d) := (keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans (v1_eq m d)))))))
  have h1 : W8 m d (Proc.devRef .tc main_v36) = (v36R m d) := v36_eq m d
  refine (outTakeBW _).trans ?_
  unfold v37R
  rw [h0, h1]
def v45R : FVec F S4x883x256 .f32 := aggB (v3R m d) (v37R m d) (v8R m d)
theorem v45_eq : W10 m d (Proc.devRef .tc main_v45) = v45R m d := by
  have h0 : W9 m d (Proc.devRef .tc main_v3) = (v3R m d) := (keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans (v3_eq m d)))))))
  have h1 : W9 m d (Proc.devRef .tc main_v37) = (v37R m d) := v37_eq m d
  have h2 : W9 m d (Proc.devRef .tc main_v8) = (v8R m d) := (keepTakeBW _ _ (by decide)).trans ((keepLayAW _ _ (by decide)).trans ((keepAggAW _ _ (by decide)).trans ((keepTakeAW _ _ (by decide)).trans ((keepJoinW _ _ (by decide)).trans ((keepEnc _ _ (by decide)).trans (v8_eq m d))))))
  refine (outAggBW _).trans ?_
  unfold v45R
  rw [h0, h1, h2]
def v52R : FVec F S4x883x256 .f32 := layB (v36R m d) (v45R m d) (m ((d.tc : Thread nD τ).loc main_arg11)) (m ((d.tc : Thread nD τ).loc main_arg12))
theorem v52_eq : W11 m d (Proc.devRef .tc main_v52) = v52R m d := by
  have h0 : W10 m d (Proc.devRef .tc main_v36) = (v36R m d) := (keepAggBW _ _ (by decide)).trans ((keepTakeBW _ _ (by decide)).trans (v36_eq m d))
  have h1 : W10 m d (Proc.devRef .tc main_v45) = (v45R m d) := v45_eq m d
  have h2 : W10 m d (Proc.devRef .tc main_arg11) = (m ((d.tc : Thread nD τ).loc main_arg11)) := (keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))
  have h3 : W10 m d (Proc.devRef .tc main_arg12) = (m ((d.tc : Thread nD τ).loc main_arg12)) := (keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))
  refine (outLayBW _).trans ?_
  unfold v52R
  rw [h0, h1, h2, h3]
def v54R : FVec F S4x883x1408 .f32 := joinL (v18R m d) (m ((d.tc : Thread nD τ).loc main_arg1))
theorem v54_eq : W12 m d (Proc.devRef .tc main_v54) = v54R m d := by
  have h0 : W11 m d (Proc.devRef .tc main_v18) = (v18R m d) := (keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans (v18_eq m d)))))))
  have h1 : W11 m d (Proc.devRef .tc main_arg1) = (m ((d.tc : Thread nD τ).loc main_arg1)) := (keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))
  refine (outJoinM _).trans ?_
  unfold v54R
  rw [h0, h1]
def v55R : FVec F S4x28256x1408 .f32 := takeA (v1R m d) (v54R m d)
theorem v55_eq : W13 m d (Proc.devRef .tc main_v55) = v55R m d := by
  have h0 : W12 m d (Proc.devRef .tc main_v1) = (v1R m d) := (keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans (v1_eq m d)))))))))))
  have h1 : W12 m d (Proc.devRef .tc main_v54) = (v54R m d) := v54_eq m d
  refine (outTakeAM _).trans ?_
  unfold v55R
  rw [h0, h1]
def v63R : FVec F S4x883x1408 .f32 := aggA (v3R m d) (v55R m d) (v8R m d)
theorem v63_eq : W14 m d (Proc.devRef .tc main_v63) = v63R m d := by
  have h0 : W13 m d (Proc.devRef .tc main_v3) = (v3R m d) := (keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans (v3_eq m d)))))))))))
  have h1 : W13 m d (Proc.devRef .tc main_v55) = (v55R m d) := v55_eq m d
  have h2 : W13 m d (Proc.devRef .tc main_v8) = (v8R m d) := (keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans (v8_eq m d))))))))))
  refine (outAggAM _).trans ?_
  unfold v63R
  rw [h0, h1, h2]
def v70R : FVec F S4x883x256 .f32 := layA (v54R m d) (v63R m d) (m ((d.tc : Thread nD τ).loc main_arg9)) (m ((d.tc : Thread nD τ).loc main_arg10))
theorem v70_eq : W15 m d (Proc.devRef .tc main_v70) = v70R m d := by
  have h0 : W14 m d (Proc.devRef .tc main_v54) = (v54R m d) := (keepAggAM _ _ (by decide)).trans ((keepTakeAM _ _ (by decide)).trans (v54_eq m d))
  have h1 : W14 m d (Proc.devRef .tc main_v63) = (v63R m d) := v63_eq m d
  have h2 : W14 m d (Proc.devRef .tc main_arg9) = (m ((d.tc : Thread nD τ).loc main_arg9)) := (keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))
  have h3 : W14 m d (Proc.devRef .tc main_arg10) = (m ((d.tc : Thread nD τ).loc main_arg10)) := (keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))
  refine (outLayAM _).trans ?_
  unfold v70R
  rw [h0, h1, h2, h3]
def v71R : FVec F S4x28256x256 .f32 := takeB (v1R m d) (v70R m d)
theorem v71_eq : W16 m d (Proc.devRef .tc main_v71) = v71R m d := by
  have h0 : W15 m d (Proc.devRef .tc main_v1) = (v1R m d) := (keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans (v1_eq m d))))))))))))))
  have h1 : W15 m d (Proc.devRef .tc main_v70) = (v70R m d) := v70_eq m d
  refine (outTakeBM _).trans ?_
  unfold v71R
  rw [h0, h1]
def v79R : FVec F S4x883x256 .f32 := aggB (v3R m d) (v71R m d) (v8R m d)
theorem v79_eq : W17 m d (Proc.devRef .tc main_v79) = v79R m d := by
  have h0 : W16 m d (Proc.devRef .tc main_v3) = (v3R m d) := (keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans (v3_eq m d))))))))))))))
  have h1 : W16 m d (Proc.devRef .tc main_v71) = (v71R m d) := v71_eq m d
  have h2 : W16 m d (Proc.devRef .tc main_v8) = (v8R m d) := (keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans (v8_eq m d)))))))))))))
  refine (outAggBM _).trans ?_
  unfold v79R
  rw [h0, h1, h2]
def v86R : FVec F S4x883x256 .f32 := layB (v70R m d) (v79R m d) (m ((d.tc : Thread nD τ).loc main_arg11)) (m ((d.tc : Thread nD τ).loc main_arg12))
theorem v86_eq : W18 m d (Proc.devRef .tc main_v86) = v86R m d := by
  have h0 : W17 m d (Proc.devRef .tc main_v70) = (v70R m d) := (keepAggBM _ _ (by decide)).trans ((keepTakeBM _ _ (by decide)).trans (v70_eq m d))
  have h1 : W17 m d (Proc.devRef .tc main_v79) = (v79R m d) := v79_eq m d
  have h2 : W17 m d (Proc.devRef .tc main_arg11) = (m ((d.tc : Thread nD τ).loc main_arg11)) := (keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))
  have h3 : W17 m d (Proc.devRef .tc main_arg12) = (m ((d.tc : Thread nD τ).loc main_arg12)) := (keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))
  refine (outLayBM _).trans ?_
  unfold v86R
  rw [h0, h1, h2, h3]
def v87R : FVec F S4x883x256 .f32 := diffL (v86R m d) (v52R m d)
theorem v87_eq : W19 m d (Proc.devRef .tc main_v87) = v87R m d := by
  have h0 : W18 m d (Proc.devRef .tc main_v86) = (v86R m d) := v86_eq m d
  have h1 : W18 m d (Proc.devRef .tc main_v52) = (v52R m d) := (keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans (v52_eq m d)))))))
  refine (outDiff _).trans ?_
  unfold v87R
  rw [h0, h1]
def v96R : FVec F S4x256 .f32 := locL (m ((d.tc : Thread nD τ).loc main_arg4)) (v87R m d)
theorem v96_eq : W20 m d (Proc.devRef .tc main_v96) = v96R m d := by
  have h0 : W19 m d (Proc.devRef .tc main_arg4) = (m ((d.tc : Thread nD τ).loc main_arg4)) := (keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))
  have h1 : W19 m d (Proc.devRef .tc main_v87) = (v87R m d) := v87_eq m d
  refine (outLoc _).trans ?_
  unfold v96R
  rw [h0, h1]
def v99R : FVec F S4x256 .f32 := globL (v87R m d)
theorem v99_eq : W21 m d (Proc.devRef .tc main_v99) = v99R m d := by
  have h0 : W20 m d (Proc.devRef .tc main_v87) = (v87R m d) := (keepLoc _ _ (by decide)).trans (v87_eq m d)
  refine (outGlob _).trans ?_
  unfold v99R
  rw [h0]
def v105R : FVec F S4x256 .f32 := fuseL (v96R m d) (v99R m d) (m ((d.tc : Thread nD τ).loc main_arg13)) (m ((d.tc : Thread nD τ).loc main_arg14))
theorem v105_eq : W22 m d (Proc.devRef .tc main_v105) = v105R m d := by
  have h0 : W21 m d (Proc.devRef .tc main_v96) = (v96R m d) := (keepGlob _ _ (by decide)).trans (v96_eq m d)
  have h1 : W21 m d (Proc.devRef .tc main_v99) = (v99R m d) := v99_eq m d
  have h2 : W21 m d (Proc.devRef .tc main_arg13) = (m ((d.tc : Thread nD τ).loc main_arg13)) := (keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))))
  have h3 : W21 m d (Proc.devRef .tc main_arg14) = (m ((d.tc : Thread nD τ).loc main_arg14)) := (keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))))
  refine (outFuse _).trans ?_
  unfold v105R
  rw [h0, h1, h2, h3]
def v110R : FVec F S4x8x128 .f32 := hidL (v105R m d) (m ((d.tc : Thread nD τ).loc main_arg15)) (m ((d.tc : Thread nD τ).loc main_arg16))
theorem v110_eq : W23 m d (Proc.devRef .tc main_v110) = v110R m d := by
  have h0 : W22 m d (Proc.devRef .tc main_v105) = (v105R m d) := v105_eq m d
  have h1 : W22 m d (Proc.devRef .tc main_arg15) = (m ((d.tc : Thread nD τ).loc main_arg15)) := (keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))
  have h2 : W22 m d (Proc.devRef .tc main_arg16) = (m ((d.tc : Thread nD τ).loc main_arg16)) := (keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))
  refine (outHid _).trans ?_
  unfold v110R
  rw [h0, h1, h2]
def v121R : FVec F S4x8 .f32 := probL (m ((d.tc : Thread nD τ).loc main_arg17)) (v110R m d) (m ((d.tc : Thread nD τ).loc main_arg18))
theorem v121_eq : W24 m d (Proc.devRef .tc main_v121) = v121R m d := by
  have h0 : W23 m d (Proc.devRef .tc main_arg17) = (m ((d.tc : Thread nD τ).loc main_arg17)) := (keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))))))
  have h1 : W23 m d (Proc.devRef .tc main_v110) = (v110R m d) := v110_eq m d
  have h2 : W23 m d (Proc.devRef .tc main_arg18) = (m ((d.tc : Thread nD τ).loc main_arg18)) := (keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))))))
  refine (outProb _).trans ?_
  unfold v121R
  rw [h0, h1, h2]
def v126R : FVec F S4x8 .f32 := dirL (m ((d.tc : Thread nD τ).loc main_arg19)) (v110R m d) (m ((d.tc : Thread nD τ).loc main_arg20))
theorem v126_eq : W25 m d (Proc.devRef .tc main_v126) = v126R m d := by
  have h0 : W24 m d (Proc.devRef .tc main_arg19) = (m ((d.tc : Thread nD τ).loc main_arg19)) := (keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))
  have h1 : W24 m d (Proc.devRef .tc main_v110) = (v110R m d) := (keepProb _ _ (by decide)).trans (v110_eq m d)
  have h2 : W24 m d (Proc.devRef .tc main_arg20) = (m ((d.tc : Thread nD τ).loc main_arg20)) := (keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))
  refine (outDir _).trans ?_
  unfold v126R
  rw [h0, h1, h2]
def v132R : FVec F S4x8 .f32 := magL (m ((d.tc : Thread nD τ).loc main_arg21)) (v110R m d) (m ((d.tc : Thread nD τ).loc main_arg22))
theorem v132_eq : W26 m d (Proc.devRef .tc main_v132) = v132R m d := by
  have h0 : W25 m d (Proc.devRef .tc main_arg21) = (m ((d.tc : Thread nD τ).loc main_arg21)) := (keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))))))))
  have h1 : W25 m d (Proc.devRef .tc main_v110) = (v110R m d) := (keepDir _ _ (by decide)).trans ((keepProb _ _ (by decide)).trans (v110_eq m d))
  have h2 : W25 m d (Proc.devRef .tc main_arg22) = (m ((d.tc : Thread nD τ).loc main_arg22)) := (keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl)))))))))))))))))))))))))
  refine (outMag _).trans ?_
  unfold v132R
  rw [h0, h1, h2]
def v136R : FVec F S4x8 .f32 := catL (v105R m d) (m ((d.tc : Thread nD τ).loc main_arg23)) (m ((d.tc : Thread nD τ).loc main_arg24))
theorem v136_eq : W27 m d (Proc.devRef .tc main_v136) = v136R m d := by
  have h0 : W26 m d (Proc.devRef .tc main_v105) = (v105R m d) := (keepMag _ _ (by decide)).trans ((keepDir _ _ (by decide)).trans ((keepProb _ _ (by decide)).trans ((keepHid _ _ (by decide)).trans (v105_eq m d))))
  have h1 : W26 m d (Proc.devRef .tc main_arg23) = (m ((d.tc : Thread nD τ).loc main_arg23)) := (keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))
  have h2 : W26 m d (Proc.devRef .tc main_arg24) = (m ((d.tc : Thread nD τ).loc main_arg24)) := (keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))
  refine (outCat _).trans ?_
  unfold v136R
  rw [h0, h1, h2]
def v137R : IVec S4 32 := domL (v136R m d)
theorem v137_eq : W28 m d (Proc.devRef .tc main_v137) = v137R m d := by
  have h0 : W27 m d (Proc.devRef .tc main_v136) = (v136R m d) := v136_eq m d
  refine (outDom _).trans ?_
  unfold v137R
  rw [h0]

/-! ## The end -/

theorem end_v105 : W28 m d (Proc.devRef .tc main_v105) = v105R m d := (keepDom _ _ (by decide)).trans ((keepCat _ _ (by decide)).trans ((keepMag _ _ (by decide)).trans ((keepDir _ _ (by decide)).trans ((keepProb _ _ (by decide)).trans ((keepHid _ _ (by decide)).trans (v105_eq m d))))))
theorem end_v121 : W28 m d (Proc.devRef .tc main_v121) = v121R m d := (keepDom _ _ (by decide)).trans ((keepCat _ _ (by decide)).trans ((keepMag _ _ (by decide)).trans ((keepDir _ _ (by decide)).trans (v121_eq m d))))
theorem end_v136 : W28 m d (Proc.devRef .tc main_v136) = v136R m d := (keepDom _ _ (by decide)).trans (v136_eq m d)
theorem end_v126 : W28 m d (Proc.devRef .tc main_v126) = v126R m d := (keepDom _ _ (by decide)).trans ((keepCat _ _ (by decide)).trans ((keepMag _ _ (by decide)).trans (v126_eq m d)))
theorem end_v132 : W28 m d (Proc.devRef .tc main_v132) = v132R m d := (keepDom _ _ (by decide)).trans ((keepCat _ _ (by decide)).trans (v132_eq m d))
theorem end_v137 : W28 m d (Proc.devRef .tc main_v137) = v137R m d := v137_eq m d
theorem end_arg0 : W28 m d (Proc.devRef .tc main_arg0) = (m ((d.tc : Thread nD τ).loc main_arg0)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg1 : W28 m d (Proc.devRef .tc main_arg1) = (m ((d.tc : Thread nD τ).loc main_arg1)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg2 : W28 m d (Proc.devRef .tc main_arg2) = (m ((d.tc : Thread nD τ).loc main_arg2)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg3 : W28 m d (Proc.devRef .tc main_arg3) = (m ((d.tc : Thread nD τ).loc main_arg3)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg4 : W28 m d (Proc.devRef .tc main_arg4) = (m ((d.tc : Thread nD τ).loc main_arg4)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg5 : W28 m d (Proc.devRef .tc main_arg5) = (m ((d.tc : Thread nD τ).loc main_arg5)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg6 : W28 m d (Proc.devRef .tc main_arg6) = (m ((d.tc : Thread nD τ).loc main_arg6)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg7 : W28 m d (Proc.devRef .tc main_arg7) = (m ((d.tc : Thread nD τ).loc main_arg7)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg8 : W28 m d (Proc.devRef .tc main_arg8) = (m ((d.tc : Thread nD τ).loc main_arg8)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg9 : W28 m d (Proc.devRef .tc main_arg9) = (m ((d.tc : Thread nD τ).loc main_arg9)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg10 : W28 m d (Proc.devRef .tc main_arg10) = (m ((d.tc : Thread nD τ).loc main_arg10)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg11 : W28 m d (Proc.devRef .tc main_arg11) = (m ((d.tc : Thread nD τ).loc main_arg11)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg12 : W28 m d (Proc.devRef .tc main_arg12) = (m ((d.tc : Thread nD τ).loc main_arg12)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg13 : W28 m d (Proc.devRef .tc main_arg13) = (m ((d.tc : Thread nD τ).loc main_arg13)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg14 : W28 m d (Proc.devRef .tc main_arg14) = (m ((d.tc : Thread nD τ).loc main_arg14)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg15 : W28 m d (Proc.devRef .tc main_arg15) = (m ((d.tc : Thread nD τ).loc main_arg15)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg16 : W28 m d (Proc.devRef .tc main_arg16) = (m ((d.tc : Thread nD τ).loc main_arg16)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg17 : W28 m d (Proc.devRef .tc main_arg17) = (m ((d.tc : Thread nD τ).loc main_arg17)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg18 : W28 m d (Proc.devRef .tc main_arg18) = (m ((d.tc : Thread nD τ).loc main_arg18)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg19 : W28 m d (Proc.devRef .tc main_arg19) = (m ((d.tc : Thread nD τ).loc main_arg19)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg20 : W28 m d (Proc.devRef .tc main_arg20) = (m ((d.tc : Thread nD τ).loc main_arg20)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg21 : W28 m d (Proc.devRef .tc main_arg21) = (m ((d.tc : Thread nD τ).loc main_arg21)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg22 : W28 m d (Proc.devRef .tc main_arg22) = (m ((d.tc : Thread nD τ).loc main_arg22)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg23 : W28 m d (Proc.devRef .tc main_arg23) = (m ((d.tc : Thread nD τ).loc main_arg23)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))
theorem end_arg24 : W28 m d (Proc.devRef .tc main_arg24) = (m ((d.tc : Thread nD τ).loc main_arg24)) := (keepDom _ _ (by decide)).trans ((keepCat _ _ (by decide)).trans ((keepMag _ _ (by decide)).trans ((keepDir _ _ (by decide)).trans ((keepProb _ _ (by decide)).trans ((keepHid _ _ (by decide)).trans ((keepFuse _ _ (by decide)).trans ((keepGlob _ _ (by decide)).trans ((keepLoc _ _ (by decide)).trans ((keepDiff _ _ (by decide)).trans ((keepLayBM _ _ (by decide)).trans ((keepAggBM _ _ (by decide)).trans ((keepTakeBM _ _ (by decide)).trans ((keepLayAM _ _ (by decide)).trans ((keepAggAM _ _ (by decide)).trans ((keepTakeAM _ _ (by decide)).trans ((keepJoinM _ _ (by decide)).trans ((keepLayBW _ _ (by decide)).trans ((keepAggBW _ _ (by decide)).trans ((keepTakeBW _ _ (by decide)).trans ((keepLayAW _ _ (by decide)).trans ((keepAggAW _ _ (by decide)).trans ((keepTakeAW _ _ (by decide)).trans ((keepJoinW _ _ (by decide)).trans ((keepEnc _ _ (by decide)).trans ((keepDeg _ _ (by decide)).trans ((keepDst _ _ (by decide)).trans ((keepSrc _ _ (by decide)).trans (rfl))))))))))))))))))))))))))))

theorem run (ρ : Dev nD → PrngReg) :
    θ_run defs (onTc (τ := τ) (main (F := F))) ⟨m, fun _ => 0, ρ⟩ fun r =>
      ∀ (d : Dev nD) (b : Ref sig .tc), r.2.mem ((d.tc : Thread nD τ).loc b) = W28 m d (Proc.devRef .tc b) :=
  run_seq scopedRefs_eq scopedSems_eq defs main (fun _ => ops) main_eq (fun _ => ops_sub) m ρ (fun _ => ops_fresh)

end Cert.Proof.Ref

end
-- ==== Proof.RefVal.lean ====
/- The reference's values in terms of the arguments, over the extended reals. -/
module

public import proofs.«01_k».proof.Proof.RefAt
public import proofs.«01_k».proof.Proof.RefRun
public import proofs.«01_k».proof.Proof.Spec

@[expose] public section

set_option maxRecDepth 16384

noncomputable section

namespace Cert.Proof.Ref

open Cert.ReferenceIdeal Gen
open Idealize.ShloMosaic Idealize.ShloMosaic.TcCoe Idealize.SL.Sem

/-! ## The graph layers -/

section
variable (E : Alg.Edges) (hE : ∀ j, (E j).toNat < 883)
variable (v1 v3 : IVec S28256 32) (h1 : ∀ e : Fin 28256, v1 (ix1 e) = E (ix2 0 e)) (h3 : ∀ e : Fin 28256, v3 (ix1 e) = E (ix2 1 e))
variable (d : FVec Ideal S883 .f32) (hd : ∀ r : Fin 883, d (ix1 r) = Alg.degS E r.val)

include hE h3 in
theorem deg_eq (r : Fin 883) : degL (F := Ideal) v3 (ix1 r) = Alg.degS E r.val := by
  rw [degL_at v3 (fun e => by rw [h3]; exact hE _), ← Alg.deg_edges E hE]
  refine congrArg (max (1 : EReal)) (Finset.sum_congr rfl fun e _ => ?_)
  rw [h3]
  rfl

include hE h1 h3 hd in
theorem meanA (x : FVec Ideal S4x883x1408 .f32) (p : Fin 4) (r : Fin 883) (k : Fin 1408) :
    aggA v3 (takeA v1 x) d (ix3 p r k) = ∑ j : Fin 883, Alg.adjS E r.val j.val * x (ix3 p j k) := by
  rw [aggA_at v3 (fun e => by rw [h3]; exact hE _), hd, ← Alg.mean_edges E hE r.val fun j => x (ix3 p j k)]
  refine congrArg (Ideal.div · (Alg.degS E r.val)) (Finset.sum_congr rfl fun e _ => ?_)
  rw [takeA_at v1 x p e k (by rw [h1]; exact hE _), h3]
  simp only [h1]
  rfl
include hE h1 h3 hd in
theorem meanB (x : FVec Ideal S4x883x256 .f32) (p : Fin 4) (r : Fin 883) (k : Fin 256) :
    aggB v3 (takeB v1 x) d (ix3 p r k) = ∑ j : Fin 883, Alg.adjS E r.val j.val * x (ix3 p j k) := by
  rw [aggB_at v3 (fun e => by rw [h3]; exact hE _), hd, ← Alg.mean_edges E hE r.val fun j => x (ix3 p j k)]
  refine congrArg (Ideal.div · (Alg.degS E r.val)) (Finset.sum_congr rfl fun e _ => ?_)
  rw [takeB_at v1 x p e k (by rw [h1]; exact hE _), h3]
  simp only [h1]
  rfl

include hE h1 h3 hd in
/-- The first layer: the mean of the joined features times the weights is the embedding's part and the structural part,
    each weighted first and averaged then. -/
theorem lay1 (s : FVec Ideal S883x128 .f32) (hs : ∀ (r : Fin 883) (k : Fin 128), 0 ≤ (s (ix2 r k) : EReal)) (x : FVec Ideal S4x883x1280 .f32)
    (hx : ∀ i, ∃ q : ℝ, x i = (q : EReal)) (w : FVec Ideal S2816x256 .f32) (hw : ∀ i, ∃ q : ℝ, w i = (q : EReal)) (b : FVec Ideal S256 .f32) (p : Fin 4) (r : Fin 883) (f : Fin 256) :
    layA (joinL s x) (aggA v3 (takeA v1 (joinL s x)) d) w b (ix3 p r f)
      = Alg.h1S E (fun r k => x (ix3 p r k)) (fun r k => s (ix2 r k)) w (fun f => b (ix1 f)) r f := by
  rw [layA_at]
  choose a ha ea using fun j : Fin 883 => Alg.adj_real E r.val j.val
  have e : (∑ k : Fin 1408, aggA v3 (takeA v1 (joinL s x)) d (ix3 p r k) * w (ix2 (⟨1408 + k.val, by omega⟩ : Fin 2816) f) : EReal)
      = (∑ j : Fin 883, Alg.adjS E r.val j.val * ∑ k : Fin 1280, x (ix3 p j k) * w (ix2 (⟨1408 + k.val, by omega⟩ : Fin 2816) f))
        + ∑ j : Fin 883, Alg.adjS E r.val j.val * ∑ k : Fin 128, s (ix2 j k) * w (ix2 (⟨2688 + k.val, by omega⟩ : Fin 2816) f) := by
    simp only [meanA E hE v1 v3 h1 h3 d hd (joinL s x)]
    refine (Fin.sum_univ_add (a := 1280) (b := 128) fun k : Fin 1408 => (∑ j : Fin 883, Alg.adjS E r.val j.val * joinL s x (ix3 p j k) : EReal) * w (ix2 (⟨1408 + k.val, by omega⟩ : Fin 2816) f)).trans ?_
    refine congrArg₂ (· + ·) ?_ ?_
    · simp only [ea]
      rw [← Alg.agg_real a ha (fun j k => x (ix3 p j k)) (fun j k => hx _) (fun k : Fin 1280 => w (ix2 (⟨1408 + k.val, by omega⟩ : Fin 2816) f)) (fun k => hw _)]
      refine Finset.sum_congr rfl fun k _ => congrArg₂ (· * ·) (Finset.sum_congr rfl fun j _ => congrArg ((a j : EReal) * ·) ?_) rfl
      exact joinL_lo s x p j k
    · simp only [ea]
      rw [← Alg.agg_nonneg a ha (fun j k => s (ix2 j k)) (fun j k => hs j k) (fun k : Fin 128 => w (ix2 (⟨2688 + k.val, by omega⟩ : Fin 2816) f))]
      refine Finset.sum_congr rfl fun k _ => congrArg₂ (· * ·) (Finset.sum_congr rfl fun j _ => congrArg ((a j : EReal) * ·) ?_) ?_
      · exact joinL_hi s x p j k
      · exact congrArg (fun i : Fin 2816 => w (ix2 i f)) (Fin.ext (by show 1408 + (1280 + k.val) = 2688 + k.val; omega))
  rw [e]
  unfold Alg.h1S Alg.seqS
  refine congrArg (max · (0 : EReal)) ?_
  generalize (∑ k : Fin 1280, x (ix3 p r k) * w (ix2 (⟨k.val, by omega⟩ : Fin 2816) f) : EReal) = A
  generalize (∑ k : Fin 128, s (ix2 r k) * w (ix2 (⟨1280 + k.val, by omega⟩ : Fin 2816) f) : EReal) = B
  generalize (∑ j : Fin 883, Alg.adjS E r.val j.val * ∑ k : Fin 1280, x (ix3 p j k) * w (ix2 (⟨1408 + k.val, by omega⟩ : Fin 2816) f) : EReal) = C
  generalize (∑ j : Fin 883, Alg.adjS E r.val j.val * ∑ k : Fin 128, s (ix2 j k) * w (ix2 (⟨2688 + k.val, by omega⟩ : Fin 2816) f) : EReal) = D
  show (A + B + (C + D) + b (ix1 f) : EReal) = A + C + (B + D + b (ix1 f))
  rw [add_add_add_comm A B C D, add_assoc]

include hE h1 h3 hd in
/-- The second layer. -/
theorem lay2 (h : FVec Ideal S4x883x256 .f32) (h' : Fin 4 → Fin 883 → Fin 256 → EReal) (hh : ∀ p r k, h (ix3 p r k) = h' p r k) (hn : ∀ p r k, 0 ≤ h' p r k)
    (w : FVec Ideal S512x256 .f32) (b : FVec Ideal S256 .f32) (p : Fin 4) (r : Fin 883) (f : Fin 256) :
    layB h (aggB v3 (takeB v1 h) d) w b (ix3 p r f) = Alg.h2S E (h' p) w (fun f => b (ix1 f)) r f := by
  rw [layB_at]
  choose a ha ea using fun j : Fin 883 => Alg.adj_real E r.val j.val
  unfold Alg.h2S
  refine congrArg (fun y : EReal => max (y + b (ix1 f)) 0) (congrArg₂ (· + ·) ?_ ?_)
  · simp only [hh]
  · simp only [meanB E hE v1 v3 h1 h3 d hd, hh, ea]
    exact Alg.agg_nonneg a ha (h' p) (hn p) _

include hE h1 h3 hd in
/-- The change. -/
theorem diff_ref (s : FVec Ideal S883x128 .f32) (hs : ∀ (r : Fin 883) (k : Fin 128), 0 ≤ (s (ix2 r k) : EReal)) (x y : FVec Ideal S4x883x1280 .f32)
    (hx : ∀ i, ∃ q : ℝ, x i = (q : EReal)) (hy : ∀ i, ∃ q : ℝ, y i = (q : EReal)) (w : FVec Ideal S2816x256 .f32) (hw : ∀ i, ∃ q : ℝ, w i = (q : EReal)) (b : FVec Ideal S256 .f32)
    (w2 : FVec Ideal S512x256 .f32) (b2 : FVec Ideal S256 .f32) (p : Fin 4) (r : Fin 883) (f : Fin 256) :
    diffL (layB (layA (joinL s y) (aggA v3 (takeA v1 (joinL s y)) d) w b) (aggB v3 (takeB v1 (layA (joinL s y) (aggA v3 (takeA v1 (joinL s y)) d) w b)) d) w2 b2)
        (layB (layA (joinL s x) (aggA v3 (takeA v1 (joinL s x)) d) w b) (aggB v3 (takeB v1 (layA (joinL s x) (aggA v3 (takeA v1 (joinL s x)) d) w b)) d) w2 b2) (ix3 p r f)
      = Alg.diffS E (fun r k => x (ix3 p r k)) (fun r k => y (ix3 p r k)) (fun r k => s (ix2 r k)) w (fun f => b (ix1 f)) w2 (fun f => b2 (ix1 f)) r f := by
  rw [diffL_at, lay2 E hE v1 v3 h1 h3 d hd _ _ (lay1 E hE v1 v3 h1 h3 d hd s hs x hx w hw b) (fun _ _ _ => Alg.h1S_nonneg E _ _),
    lay2 E hE v1 v3 h1 h3 d hd _ _ (lay1 E hE v1 v3 h1 h3 d hd s hs y hy w hw b) (fun _ _ _ => Alg.h1S_nonneg E _ _)]
  rfl
end

/-- The structural encoder where its biases are zero. -/
theorem enc_eq (x : FVec Ideal S883x20 .f32) (w : FVec Ideal S20x128 .f32) (b : FVec Ideal S128 .f32) (w2 : FVec Ideal S128x128 .f32) (b2 : FVec Ideal S128 .f32)
    (hb : ∀ i, b i = (0 : EReal)) (hb2 : ∀ i, b2 i = (0 : EReal)) (r : Fin 883) (k : Fin 128) : encL x w b w2 b2 (ix2 r k) = Alg.s2S x w w2 r k := by
  rw [encL_at]
  simp only [hb, hb2, add_zero]
  rfl

theorem fuse_eq (mask : FVec Ideal S4x883 .f32) (d : FVec Ideal S4x883x256 .f32) (d' : Fin 4 → Fin 883 → Fin 256 → EReal) (hd : ∀ p r k, d (ix3 p r k) = d' p r k)
    (w : FVec Ideal S512x256 .f32) (b : FVec Ideal S256 .f32) (p : Fin 4) (f : Fin 256) :
    fuseL (locL mask d) (globL d) w b (ix2 p f) = Alg.fuseS (Alg.locS (fun r => mask (ix2 p r)) (d' p)) (Alg.globS (d' p)) w (fun f => b (ix1 f)) f := by
  rw [fuseL_at]
  simp only [locL_at, globL_at, hd]

/-! ## The heads -/

section
variable (z : FVec Ideal S4x256 .f32) (w : FVec Ideal S8x256x128 .f32) (b : FVec Ideal S8x128 .f32) (w2 : FVec Ideal S8x128 .f32) (b2 : FVec Ideal S8 .f32) (p : Fin 4) (a : Fin 8)

theorem prob_ref : probL w2 (hidL z w b) b2 (ix2 p a) = Alg.logisticS (Alg.scoreS (Alg.hidS (fun f => z (ix2 p f)) w b) w2 (fun a => b2 (ix1 a)) a) := by
  rw [probL_at]
  simp only [hidL_at]
  rfl
theorem dir_ref : dirL w2 (hidL z w b) b2 (ix2 p a) = Alg.scoreS (Alg.hidS (fun f => z (ix2 p f)) w b) w2 (fun a => b2 (ix1 a)) a := by
  rw [dirL_at]
  simp only [hidL_at]
  rfl
theorem mag_ref : magL w2 (hidL z w b) b2 (ix2 p a) = Alg.softplusS (Alg.scoreS (Alg.hidS (fun f => z (ix2 p f)) w b) w2 (fun a => b2 (ix1 a)) a) := by
  rw [magL_at]
  simp only [hidL_at]
  rfl
theorem cat_ref (w : FVec Ideal S256x8 .f32) (b : FVec Ideal S8 .f32) : catL z w b (ix2 p a) = Alg.catS (fun f => z (ix2 p f)) w (fun a => b (ix1 a)) a := catL_at z w b p a
end

end Cert.Proof.Ref

end
-- ==== Proof.Argmax.lean ====
/- The best class, both ways round: the reference's reduction over (score, index) pairs and the kernel's least index at
   the greatest score are the first class whose score is greatest. -/
module

public import proofs.«01_k».proof.Proof.RefAt
public import proofs.«01_k».proof.Proof.KerAt

@[expose] public section

set_option maxRecDepth 16384

noncomputable section

namespace Cert.Proof.Alg

open Idealize.ShloMosaic

/-- `a` is the first place where `c` is greatest. -/
def First (c : Fin 8 → EReal) (a : Fin 8) : Prop := ∀ b, c b ≤ c a ∧ (c b = c a → a ≤ b)

theorem First.unique {c : Fin 8 → EReal} {a b : Fin 8} (ha : First c a) (hb : First c b) : a = b := by
  have e : c a = c b := le_antisymm (hb a).1 (ha b).1
  exact le_antisymm ((ha b).2 e.symm) ((hb a).2 e)

theorem negInf : Ideal.ofBits .f32 0xFF800000#32 = (⊥ : EReal) := by simp [Ideal.ofBits, Ideal.ieee]

theorem slt_iff : ∀ a b : Fin 8, (BitVec.ofNat 32 a.val).slt (BitVec.ofNat 32 b.val) = true ↔ a < b := by decide +kernel

/-! ## The least index -/

theorem minFold : ∀ a : Fin 8, ∀ s : Fin 8 → Bool, s a = true → (∀ b, s b = true → a ≤ b) →
    Finset.fold IntOp.minsi (2147483647#32) (fun x : Fin 8 => if s x = true then BitVec.ofNat 32 x.val else 1073741824#32) Finset.univ = BitVec.ofNat 32 a.val := by
  decide +kernel

theorem exists_first (c : Fin 8 → EReal) : ∃ a, First c a := by
  obtain ⟨m, -, hm⟩ := Finset.exists_max_image Finset.univ c ⟨0, Finset.mem_univ _⟩
  obtain ⟨a, ha, hmin⟩ := Finset.exists_min_image (Finset.univ.filter fun b => c b = c m) id ⟨m, by simp⟩
  have e : c a = c m := (Finset.mem_filter.mp ha).2
  exact ⟨a, fun b => ⟨e ▸ hm b (Finset.mem_univ _), fun h => hmin b (by simp [h, e])⟩⟩

theorem foldMax (c : Fin 8 → EReal) (a : Fin 8) (h : First c a) : Finset.fold max (⊥ : EReal) c Finset.univ = c a :=
  le_antisymm ((Finset.fold_max_le (c a)).mpr ⟨bot_le, fun b _ => (h b).1⟩) ((Finset.le_fold_max (c a)).mpr (.inr ⟨a, Finset.mem_univ _, le_rfl⟩))

theorem minFirst (c : Fin 8 → EReal) (a : Fin 8) (h : First c a) :
    Finset.fold IntOp.minsi (2147483647#32) (fun x : Fin 8 =>
        if Finset.fold max (Ideal.ofBits FTy.f32 4286578688#32) c Finset.univ ≤ c x then BitVec.ofNat 32 x.val else 1073741824#32) Finset.univ = BitVec.ofNat 32 a.val := by
  have hm : Finset.fold max (Ideal.ofBits FTy.f32 4286578688#32 : EReal) c Finset.univ = c a := by
    rw [show (Ideal.ofBits FTy.f32 4286578688#32 : EReal) = ⊥ from negInf]; exact foldMax c a h
  rw [hm]
  have := minFold a (fun x => decide (c a ≤ c x)) (by simp) (fun b hb => (h b).2 (le_antisymm (h b).1 (by simpa using hb)))
  simpa only [decide_eq_true_eq] using this

end Cert.Proof.Alg

namespace Cert.Proof.Ref

open Cert.ReferenceIdeal Gen
open Idealize.ShloMosaic

theorem fiber : ∀ p : Fin 4, ((List.finRange S4x8.numel).filter fun n => reducesTo_S4x8_S4_d1.drop (S4x8.rowMajor.symm n) = ix1 p)
    = (List.finRange 8).map fun a => S4x8.rowMajor (ix2 p a) := by decide +kernel

/-- One step of the reduction. -/
theorem red_eq (v w : EReal) (i j : BitVec 32) :
    reducer_argmax_f32_i32 (F := Ideal) (v, i) (w, j) = (if w < v then v else w, if w < v ∨ v = w ∧ i.slt j = true then i else j) := by
  unfold reducer_argmax_f32_i32
  have h1 : FloatOps.cmpf (F := Ideal) (φ := .f32) .ogt v w = if w < v then 1#1 else 0#1 := by
    show BitVec.ofBool (decide (w < v)) = _
    by_cases h : w < v <;> simp [h]
  have h2 : FloatOps.cmpf (F := Ideal) (φ := .f32) .une v v = 0#1 := by
    show BitVec.ofBool (decide (v ≠ v)) = _
    simp
  have h3 : FloatOps.cmpf (F := Ideal) (φ := .f32) .oeq v w = if v = w then 1#1 else 0#1 := by
    show BitVec.ofBool (decide (v = w)) = _
    by_cases h : v = w <;> simp [h]
  have h4 : IntOp.cmpi .slt i j = if i.slt j = true then 1#1 else 0#1 := by
    show BitVec.ofBool (i.slt j) = _
    cases i.slt j <;> rfl
  simp only [h1, h2, h3, h4]
  by_cases a : w < v <;> by_cases b : v = w <;> by_cases d : i.slt j = true <;> simp [a, b, d, IntOp.ori, IntOp.andi, Scalar.select]

theorem fold_first (c : Fin 8 → EReal) (l : List (Fin 8)) : ∀ (S : Fin 8 → Prop) (v : EReal) (a : Fin 8), v ≤ c a → (∀ b, S b → c b ≤ v ∧ (c b = v → a ≤ b)) →
    ∃ (v' : EReal) (a' : Fin 8), (l.map fun b => (c b, BitVec.ofNat 32 b.val)).foldl (reducer_argmax_f32_i32 (F := Ideal)) (v, BitVec.ofNat 32 a.val) = (v', BitVec.ofNat 32 a'.val)
      ∧ v' ≤ c a' ∧ ∀ b, (S b ∨ b ∈ l) → c b ≤ v' ∧ (c b = v' → a' ≤ b) := by
  induction l with
  | nil => intro S v a hv hS; exact ⟨v, a, rfl, hv, fun b hb => hS b (by simpa using hb)⟩
  | cons x l ih =>
    intro S v a hv hS
    simp only [List.map_cons, List.foldl_cons]
    rw [red_eq]
    simp only [Alg.slt_iff]
    have step : ∀ (v₁ : EReal) (a₁ : Fin 8), v₁ ≤ c a₁ → (∀ b, (S b ∨ b = x) → c b ≤ v₁ ∧ (c b = v₁ → a₁ ≤ b)) →
        ∃ (v' : EReal) (a' : Fin 8), (l.map fun b => (c b, BitVec.ofNat 32 b.val)).foldl (reducer_argmax_f32_i32 (F := Ideal)) (v₁, BitVec.ofNat 32 a₁.val) = (v', BitVec.ofNat 32 a'.val)
          ∧ v' ≤ c a' ∧ ∀ b, (S b ∨ b ∈ x :: l) → c b ≤ v' ∧ (c b = v' → a' ≤ b) := by
      intro v₁ a₁ h1 h2
      obtain ⟨v', a', e, h3, h4⟩ := ih (fun b => S b ∨ b = x) v₁ a₁ h1 h2
      exact ⟨v', a', e, h3, fun b hb => h4 b (by rw [List.mem_cons] at hb; tauto)⟩
    rcases lt_trichotomy (c x) v with h | h | h
    · rw [if_pos h, if_pos (.inl h)]
      exact step v a hv fun b hb => hb.elim (hS b) (by rintro rfl; exact ⟨h.le, fun e => absurd e h.ne⟩)
    · rw [if_neg h.not_lt]
      by_cases ha : a < x
      · rw [if_pos (.inr ⟨h.symm, ha⟩), h]
        exact step v a hv fun b hb => hb.elim (hS b) (by rintro rfl; exact ⟨h.le, fun _ => ha.le⟩)
      · rw [if_neg (by rintro (h' | h'); exacts [h.not_lt h', ha h'.2])]
        exact step (c x) x le_rfl fun b hb => hb.elim (fun hb => ⟨h ▸ (hS b hb).1, fun e => (not_lt.mp ha).trans ((hS b hb).2 (e.trans h))⟩) (by rintro rfl; exact ⟨le_rfl, fun _ => le_rfl⟩)
    · rw [if_neg h.not_gt, if_neg (by rintro (h' | h'); exacts [h.not_gt h', h.ne h'.1])]
      exact step (c x) x le_rfl fun b hb => hb.elim (fun hb => ⟨(hS b hb).1.trans h.le, fun e => absurd ((e ▸ (hS b hb).1 : c x ≤ v)) h.not_ge⟩) (by rintro rfl; exact ⟨le_rfl, fun _ => le_rfl⟩)

theorem domL_at (z : FVec Ideal S4x8 .f32) (p : Fin 4) (a : Fin 8) (h : Alg.First (fun a => z (ix2 p a)) a) : domL z (ix1 p) = BitVec.ofNat 32 a.val := by
  unfold domL
  show (Host.argReduce (reducer_argmax_f32_i32 (F := Ideal)) z (iotaInDim S4x8 32 1) (constant S_ .f32 0xFF800000#32) (constantI S_ 32 0#32) reducesTo_S4x8_S4_d1 h_S_ (ix1 p)).2 = _
  rw [Ideal.argReduce_eq_reduce2, Host.reduce2_eq_foldl_fiber]
  unfold Host.argReduceFiber
  rw [fiber p, List.map_map]
  have e : ((List.finRange 8).map ((fun n => (z (S4x8.rowMajor.symm n), iotaInDim S4x8 32 1 (S4x8.rowMajor.symm n))) ∘ fun a => S4x8.rowMajor (ix2 p a)))
      = (List.finRange 8).map fun b : Fin 8 => ((fun a => z (ix2 p a) : Fin 8 → EReal) b, BitVec.ofNat 32 b.val) := by
    refine List.map_congr_left fun b _ => ?_
    simp only [Function.comp_apply, Equiv.symm_apply_apply]
    rfl
  obtain ⟨v', a', e', h1, h2⟩ := fold_first (fun a => z (ix2 p a)) (List.finRange 8) (fun _ => False) ⊥ 0 bot_le (fun _ h => h.elim)
  have hf : Alg.First (fun a => z (ix2 p a)) a' := by
    have hv : v' = z (ix2 p a') := le_antisymm h1 (h2 a' (.inr (List.mem_finRange _))).1
    exact fun b => ⟨(h2 b (.inr (List.mem_finRange _))).1.trans hv.le, fun e => (h2 b (.inr (List.mem_finRange _))).2 (e.trans hv.symm)⟩
  rw [h.unique hf]
  refine Eq.trans ?_ (congrArg Prod.snd e')
  refine congrArg Prod.snd ?_
  refine congrArg₂ (fun i l => List.foldl (reducer_argmax_f32_i32 (F := Ideal)) i l) ?_ e
  exact Prod.ext Alg.negInf rfl

end Cert.Proof.Ref

namespace Cert.Proof.Adj

open Cert.KernelIdeal Cert.KernelIdeal.Gen
open Idealize.ShloMosaic

theorem dom_eq (z : FVec Ideal S1x256 .f32) (w : Vec Ideal S256x8 .f32) (b : Vec Ideal S1x8 .f32) (a : Fin 8) (h : Alg.First (fun x : Fin 8 => k1_pay2 z w b (ix2 0 x)) a) :
    k1_pay4 z w b (ix3 0 0 0) = BitVec.ofNat 32 a.val := by
  rw [dom_at]
  exact Alg.minFirst (fun x : Fin 8 => k1_pay2 z w b (ix2 0 x)) a h

end Cert.Proof.Adj

end
-- ==== Proof.RefEnd.lean ====
/- The reference's returned arrays in terms of its arguments. -/
module

public import proofs.«01_k».proof.Proof.RefVal
public import proofs.«01_k».proof.Proof.Argmax

@[expose] public section

set_option maxRecDepth 16384

noncomputable section

namespace Cert.Proof.Alg

open Idealize.ShloMosaic

/-- The fused row of one protein, read off the argument arrays. -/
def rowF (E : Edges) (x y : (⟨3, ![4, 883, 1280]⟩ : Shape).Idx → EReal) (sf : (⟨2, ![883, 20]⟩ : Shape).Idx → EReal) (mask : (⟨2, ![4, 883]⟩ : Shape).Idx → EReal)
    (w1 : (⟨2, ![20, 128]⟩ : Shape).Idx → EReal) (w2 : (⟨2, ![128, 128]⟩ : Shape).Idx → EReal) (w3 : (⟨2, ![2816, 256]⟩ : Shape).Idx → EReal) (b3 : (⟨1, ![256]⟩ : Shape).Idx → EReal)
    (w4 : (⟨2, ![512, 256]⟩ : Shape).Idx → EReal) (b4 : (⟨1, ![256]⟩ : Shape).Idx → EReal) (w5 : (⟨2, ![512, 256]⟩ : Shape).Idx → EReal) (b5 : (⟨1, ![256]⟩ : Shape).Idx → EReal) (p : Fin 4) : Fin 256 → EReal :=
  rowS E (fun r k => x (ix3 p r k)) (fun r k => y (ix3 p r k)) (s2S sf w1 w2) w3 (fun f => b3 (ix1 f)) w4 (fun f => b4 (ix1 f)) (fun r => mask (ix2 p r)) w5 (fun f => b5 (ix1 f))

end Cert.Proof.Alg

namespace Cert.Proof.Ref

open Cert.ReferenceIdeal Gen
open Idealize.ShloMosaic Idealize.ShloMosaic.TcCoe Idealize.SL.Sem

section
variable (m : (ℓ : Loc nD τ sig) → Buf (Elt Ideal) ℓ) (d : Dev nD)

/-- The fused row of protein `p`. -/
def rowM (p : Fin 4) : Fin 256 → EReal :=
  Alg.rowF (m ((d.tc : Thread nD τ).loc main_arg3)) (m ((d.tc : Thread nD τ).loc main_arg0)) (m ((d.tc : Thread nD τ).loc main_arg1)) (m ((d.tc : Thread nD τ).loc main_arg2))
    (m ((d.tc : Thread nD τ).loc main_arg4)) (m ((d.tc : Thread nD τ).loc main_arg5)) (m ((d.tc : Thread nD τ).loc main_arg7)) (m ((d.tc : Thread nD τ).loc main_arg9)) (m ((d.tc : Thread nD τ).loc main_arg10))
    (m ((d.tc : Thread nD τ).loc main_arg11)) (m ((d.tc : Thread nD τ).loc main_arg12)) (m ((d.tc : Thread nD τ).loc main_arg13)) (m ((d.tc : Thread nD τ).loc main_arg14)) p

variable (hE : ∀ j, ((m ((d.tc : Thread nD τ).loc main_arg3) : S2x28256.Idx → BitVec 32) j).toNat < 883)
  (hx : ∀ j, ∃ q : ℝ, ((m ((d.tc : Thread nD τ).loc main_arg0) : S4x883x1280.Idx → EReal) j) = (q : EReal)) (hy : ∀ j, ∃ q : ℝ, ((m ((d.tc : Thread nD τ).loc main_arg1) : S4x883x1280.Idx → EReal) j) = (q : EReal))
  (hw : ∀ j, ∃ q : ℝ, ((m ((d.tc : Thread nD τ).loc main_arg9) : S2816x256.Idx → EReal) j) = (q : EReal))
  (h6 : ∀ j, ((m ((d.tc : Thread nD τ).loc main_arg6) : S128.Idx → EReal) j) = (0 : EReal)) (h8 : ∀ j, ((m ((d.tc : Thread nD τ).loc main_arg8) : S128.Idx → EReal) j) = (0 : EReal))

include hE hx hy hw h6 h8
theorem row_at (p : Fin 4) (f : Fin 256) : (v105R m d : FVec Ideal S4x256 .f32) (ix2 p f) = rowM m d p f := by
  have hs : ∀ (r : Fin 883) (k : Fin 128), (v18R m d : FVec Ideal S883x128 .f32) (ix2 r k) = Alg.s2S (m ((d.tc : Thread nD τ).loc main_arg2)) (m ((d.tc : Thread nD τ).loc main_arg5)) (m ((d.tc : Thread nD τ).loc main_arg7)) r k := by
    unfold v18R
    exact enc_eq _ _ _ _ _ h6 h8
  have h1 : ∀ e : Fin 28256, v1R m d (ix1 e) = (m ((d.tc : Thread nD τ).loc main_arg3) : S2x28256.Idx → BitVec 32) (ix2 0 e) := fun e => srcL_at _ e
  have h3 : ∀ e : Fin 28256, v3R m d (ix1 e) = (m ((d.tc : Thread nD τ).loc main_arg3) : S2x28256.Idx → BitVec 32) (ix2 1 e) := fun e => dstL_at _ e
  have hd := deg_eq _ hE _ h3
  have hn : ∀ (r : Fin 883) (k : Fin 128), 0 ≤ ((v18R m d : FVec Ideal S883x128 .f32) (ix2 r k) : EReal) := fun r k => by rw [hs]; exact Alg.s2S_nonneg _ _
  have hD := diff_ref _ hE _ _ h1 h3 _ hd (v18R m d) hn _ _ hx hy _ hw (m ((d.tc : Thread nD τ).loc main_arg10)) (m ((d.tc : Thread nD τ).loc main_arg11)) (m ((d.tc : Thread nD τ).loc main_arg12))
  refine (fuse_eq (m ((d.tc : Thread nD τ).loc main_arg4)) (v87R m d) _ hD (m ((d.tc : Thread nD τ).loc main_arg13)) (m ((d.tc : Thread nD τ).loc main_arg14)) p f).trans ?_
  unfold rowM Alg.rowF Alg.rowS
  simp only [hs]

theorem prob_at (p : Fin 4) (a : Fin 8) : (v121R m d : FVec Ideal S4x8 .f32) (ix2 p a)
    = Alg.logisticS (Alg.scoreS (Alg.hidS (rowM m d p) (m ((d.tc : Thread nD τ).loc main_arg15)) (m ((d.tc : Thread nD τ).loc main_arg16))) (m ((d.tc : Thread nD τ).loc main_arg17)) (fun a => (m ((d.tc : Thread nD τ).loc main_arg18) : S8.Idx → EReal) (ix1 a)) a) := by
  refine (prob_ref (v105R m d) _ _ _ _ p a).trans ?_
  simp only [row_at m d hE hx hy hw h6 h8]
theorem dir_at (p : Fin 4) (a : Fin 8) : (v126R m d : FVec Ideal S4x8 .f32) (ix2 p a)
    = Alg.scoreS (Alg.hidS (rowM m d p) (m ((d.tc : Thread nD τ).loc main_arg15)) (m ((d.tc : Thread nD τ).loc main_arg16))) (m ((d.tc : Thread nD τ).loc main_arg19)) (fun a => (m ((d.tc : Thread nD τ).loc main_arg20) : S8.Idx → EReal) (ix1 a)) a := by
  refine (dir_ref (v105R m d) _ _ _ _ p a).trans ?_
  simp only [row_at m d hE hx hy hw h6 h8]
theorem mag_at (p : Fin 4) (a : Fin 8) : (v132R m d : FVec Ideal S4x8 .f32) (ix2 p a)
    = Alg.softplusS (Alg.scoreS (Alg.hidS (rowM m d p) (m ((d.tc : Thread nD τ).loc main_arg15)) (m ((d.tc : Thread nD τ).loc main_arg16))) (m ((d.tc : Thread nD τ).loc main_arg21)) (fun a => (m ((d.tc : Thread nD τ).loc main_arg22) : S8.Idx → EReal) (ix1 a)) a) := by
  refine (mag_ref (v105R m d) _ _ _ _ p a).trans ?_
  simp only [row_at m d hE hx hy hw h6 h8]
theorem cat_at (p : Fin 4) (a : Fin 8) : (v136R m d : FVec Ideal S4x8 .f32) (ix2 p a)
    = Alg.catS (rowM m d p) (m ((d.tc : Thread nD τ).loc main_arg23)) (fun a => (m ((d.tc : Thread nD τ).loc main_arg24) : S8.Idx → EReal) (ix1 a)) a := by
  refine (cat_ref (v105R m d) p a _ _).trans ?_
  simp only [row_at m d hE hx hy hw h6 h8]
theorem dom_at (p : Fin 4) (a : Fin 8) (h : Alg.First (Alg.catS (rowM m d p) (m ((d.tc : Thread nD τ).loc main_arg23)) (fun a => (m ((d.tc : Thread nD τ).loc main_arg24) : S8.Idx → EReal) (ix1 a))) a) :
    (v137R m d : IVec S4 32) (ix1 p) = BitVec.ofNat 32 a.val := by
  refine domL_at (v136R m d) p a ?_
  have e : (fun a => (v136R m d : FVec Ideal S4x8 .f32) (ix2 p a)) = _ := funext (cat_at m d hE hx hy hw h6 h8 p)
  rw [e]
  exact h
end

end Cert.Proof.Ref

end
-- ==== Proof.KerEnd.lean ====
/- The kernel's returned arrays in terms of its arguments. -/
module

public import proofs.«01_k».proof.Proof.KerBlk
public import proofs.«01_k».proof.Proof.KerVal
public import proofs.«01_k».proof.Proof.RefEnd

@[expose] public section

set_option maxRecDepth 16384

noncomputable section

namespace Cert.Proof.Adj

open Cert.KernelIdeal Cert.KernelIdeal.Gen
open Idealize.ShloMosaic Idealize.ShloMosaic.TcCoe Idealize.ShloMosaic.Tactic Idealize.SL.Sem

section Ends
variable (m : (ℓ : Loc nD τ sig) → Buf (Elt Ideal) ℓ) (c : Dev nD)

/-! ## What the call's inputs hold -/

theorem in5 (r k : Fin 896) (hE : ∀ j, ((m ((c : Thread nD τ).loc main_arg3) : S2x28256.Idx → BitVec 32) j).toNat < 883) :
    (VR m c main_v5 : S896x896.Idx → EReal) (ix2 r k) = edgeCount (m ((c : Thread nD τ).loc main_arg3)) r.val k.val := by
  refine (congrFun (outB5 (VS m c)) (ix2 r k)).trans ?_
  have hlt : r.val * 896 + k.val < 802816 := by have := r.isLt; have := k.isLt; omega
  rw [shapeCast_apply _ _ (ix2 r k) (ix1 (⟨r.val * 896 + k.val, hlt⟩ : Fin 802816))
    (by rw [Shape.rowMajor_val_one, Shape.rowMajor_val_two]; rfl)]
  have e : VS m c (Proc.devRef .tc main_v4) = adjFlat (F := Ideal) (svM m c) (dvM m c) := by
    unfold VS; exact Function.update_self _ _ _
  rw [e]
  exact adjFlat_at _ _ _ (svM_at m c) (dvM_at m c) (fun j => Nat.lt_trans (hE j) (by decide)) _ r k rfl

theorem VS_keep (r : Ref sig .tc) (h : r ∉ [main_v0, main_v1, main_v2, main_v3, main_v4]) : VS m c (Proc.devRef .tc r) = m ((c : Thread nD τ).loc r) := by
  simp only [List.mem_cons, not_or, List.not_mem_nil, not_false_eq_true, and_true] at h
  unfold VS
  rw [Function.update_of_ne (fun e => h.2.2.2.2 (Proc.devRef_injective .tc e))]
  unfold VA
  rw [keepA _ r (by simp only [List.mem_cons, not_or, List.not_mem_nil, not_false_eq_true, and_true]; tauto)]
  rfl

theorem padZero : (sitofp (F := Ideal) (s := S_) .f32 (constantI S_ 32 0#32) : S_.Idx → EReal) = fun _ => (0 : EReal) := by
  funext j
  simp [sitofp, constantI, FloatOps.sitofp]

theorem pad6 (x : S883x20.Idx → EReal) (v : S_.Idx → EReal) (r : Fin 883) (k : Fin 20) :
    pad S896x20 ![0, 0] ![13, 0] ![0, 0] x v pads_S883x20_S896x20_0130_000 h_S_ (ix2 (⟨r.val, by omega⟩ : Fin 896) k) = x (ix2 r k) := by
  pointwise
theorem pad8 (x : S4x883.Idx → EReal) (p : Fin 4) (r : Fin 896) :
    shapeCast S4x1x896 (pad S4x896 ![0, 0] ![0, 13] ![0, 0] x (fun _ : S_.Idx => (0 : EReal)) pads_S4x883_S4x896_000_0130 h_S_) shapeCasts_S4x896_S4x1x896 (ix3 p 0 r)
      = if h : r.val < 883 then x (ix2 p ⟨r.val, h⟩) else (0 : EReal) := by
  pointwise

theorem in6 (r : Fin 883) (k : Fin 20) : (VR m c main_v6 : S896x20.Idx → EReal) (ix2 (⟨r.val, by omega⟩ : Fin 896) k) = (m ((c : Thread nD τ).loc main_arg2) : S883x20.Idx → EReal) (ix2 r k) := by
  refine (congrFun (outB6 (VS m c)) _).trans ?_
  rw [VS_keep m c main_arg2 (by decide)]
  exact pad6 _ _ r k

theorem in8 (p : Fin 4) (r : Fin 896) : (VR m c main_v8 : S4x1x896.Idx → EReal) (ix3 p 0 r)
    = if h : r.val < 883 then (m ((c : Thread nD τ).loc main_arg4) : S4x883.Idx → EReal) (ix2 p ⟨r.val, h⟩) else (0 : EReal) := by
  refine (congrFun (outB8 (VS m c)) _).trans ?_
  rw [VS_keep m c main_arg4 (by decide), padZero]
  exact pad8 _ p r

theorem in9 (f : Fin 256) : (VR m c main_v9 : S1x256.Idx → EReal) (ix2 0 f) = (m ((c : Thread nD τ).loc main_arg10) : S256.Idx → EReal) (ix1 f) := by
  refine (congrFun (outB9 (VS m c)) _).trans ?_
  rw [VS_keep m c main_arg10 (by decide)]
  generalize m ((c : Thread nD τ).loc main_arg10) = x
  pointwise
theorem in10 (f : Fin 256) : (VR m c main_v10 : S1x256.Idx → EReal) (ix2 0 f) = (m ((c : Thread nD τ).loc main_arg12) : S256.Idx → EReal) (ix1 f) := by
  refine (congrFun (outB10 (VS m c)) _).trans ?_
  rw [VS_keep m c main_arg12 (by decide)]
  generalize m ((c : Thread nD τ).loc main_arg12) = x
  pointwise
theorem in11 (f : Fin 256) : (VR m c main_v11 : S1x256.Idx → EReal) (ix2 0 f) = (m ((c : Thread nD τ).loc main_arg14) : S256.Idx → EReal) (ix1 f) := by
  refine (congrFun (outB11 (VS m c)) _).trans ?_
  rw [VS_keep m c main_arg14 (by decide)]
  generalize m ((c : Thread nD τ).loc main_arg14) = x
  pointwise
theorem in12 (a : Fin 8) : (VR m c main_v12 : S8x1.Idx → EReal) (ix2 a 0) = (m ((c : Thread nD τ).loc main_arg18) : S8.Idx → EReal) (ix1 a) := by
  refine (congrFun (outB12 (VS m c)) _).trans ?_
  rw [VS_keep m c main_arg18 (by decide)]
  generalize m ((c : Thread nD τ).loc main_arg18) = x
  pointwise
theorem in13 (a : Fin 8) : (VR m c main_v13 : S8x1.Idx → EReal) (ix2 a 0) = (m ((c : Thread nD τ).loc main_arg20) : S8.Idx → EReal) (ix1 a) := by
  refine (congrFun (outB13 (VS m c)) _).trans ?_
  rw [VS_keep m c main_arg20 (by decide)]
  generalize m ((c : Thread nD τ).loc main_arg20) = x
  pointwise
theorem in14 (a : Fin 8) : (VR m c main_v14 : S8x1.Idx → EReal) (ix2 a 0) = (m ((c : Thread nD τ).loc main_arg22) : S8.Idx → EReal) (ix1 a) := by
  refine (congrFun (outB14 (VS m c)) _).trans ?_
  rw [VS_keep m c main_arg22 (by decide)]
  generalize m ((c : Thread nD τ).loc main_arg22) = x
  pointwise
theorem in15 (a : Fin 8) : (VR m c main_v15 : S1x8.Idx → EReal) (ix2 0 a) = (m ((c : Thread nD τ).loc main_arg24) : S8.Idx → EReal) (ix1 a) := by
  refine (congrFun (outB15 (VS m c)) _).trans ?_
  rw [VS_keep m c main_arg24 (by decide)]
  generalize m ((c : Thread nD τ).loc main_arg24) = x
  pointwise

/-! ## The row -/

/-- The fused row of protein `p`. -/
def rowM (p : Fin 4) : Fin 256 → EReal :=
  Alg.rowF (m ((c : Thread nD τ).loc main_arg3)) (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg7)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) p

theorem arg_in (r : Ref sig .tc)
    (h : r ∉ [main_v0, main_v1, main_v2, main_v3, main_v4, main_v5, main_c, main_call0_v0, main_v6, main_c_0, main_call1_v0, main_v7, main_v8, main_v9, main_v10, main_v11, main_v12, main_v13, main_v14, main_v15]) :
    VR m c r = m ((c : Thread nD τ).loc r) := VB_keep m c r h

section
variable (hE : ∀ j, ((m ((c : Thread nD τ).loc main_arg3) : S2x28256.Idx → BitVec 32) j).toNat < 883)
include hE

theorem an_in (r j : Fin 896) : anC (VR m) c (ix2 r j) = Alg.adjS (m ((c : Thread nD τ).loc main_arg3)) r.val j.val := by
  unfold anC
  rw [pay6_eq, blk0]
  exact an_eq _ hE _ (fun r k => in5 m c r k hE) r j

theorem cs_in (r : Fin 883) (f : Fin 256) : csC (VR m) c (ix2 (⟨r.val, by omega⟩ : Fin 896) f)
    = Alg.seqS (m ((c : Thread nD τ).loc main_arg3)) (Alg.s2S (m ((c : Thread nD τ).loc main_arg2)) (m ((c : Thread nD τ).loc main_arg5)) (m ((c : Thread nD τ).loc main_arg7))) (m ((c : Thread nD τ).loc main_arg9))
      (fun f => (m ((c : Thread nD τ).loc main_arg10) : S256.Idx → EReal) (ix1 f)) r f := by
  unfold csC
  rw [blk0, blk3, blk5, blk6, blk7, blk8, arg_in m c main_arg5 (by decide), arg_in m c main_arg7 (by decide), arg_in m c main_arg9 (by decide)]
  refine (seq_eq _ hE _ (fun r k => in5 m c r k hE) _ (m ((c : Thread nD τ).loc main_arg2)) (in6 m c) _ _ _ _ r f).trans ?_
  simp only [in9 m c]

theorem row_in (p : Fin cfg1.N) (f : Fin 256) : rowC (VR m) c p (ix2 0 f) = rowM m c p f := by
  unfold rowC
  have hS := cs_in m c hE
  have hm : ∀ j : Fin 896, 883 ≤ j.val → (iblk (VR m) c 4 p : S1x1x896.Idx → EReal) (ix3 0 0 j) = (0 : EReal) := fun j hj =>
    (blk4 (VR m) c p j).trans ((in8 m c p j).trans (dif_neg (by omega)))
  rw [← arg_in m c main_arg9 (by decide), ← blk7 (VR m) c p] at hS
  refine (row_eq _ hE _ (an_in m c hE) _ _ _ _ hS _ _ _ hm _ _ _ _ f).trans ?_
  · have e4 : ∀ r : Fin 883, (iblk (VR m) c 4 p : S1x1x896.Idx → EReal) (ix3 0 0 (⟨r.val, by omega⟩ : Fin 896)) = (m ((c : Thread nD τ).loc main_arg4) : S4x883.Idx → EReal) (ix2 p r) := fun r =>
      (blk4 (VR m) c p _).trans ((in8 m c p _).trans (dif_pos r.isLt))
    unfold rowM Alg.rowF
    simp only [e4, blk1, blk2, blk7, blk9, blk10, blk11, blk12, in10, in11]
    rw [arg_in m c main_arg0 (by decide), arg_in m c main_arg1 (by decide), arg_in m c main_arg9 (by decide), arg_in m c main_arg11 (by decide), arg_in m c main_arg13 (by decide)]

/-! ## The returned arrays -/

theorem row_at (p : Fin 4) (f : Fin 256) : (VE m c (Proc.devRef .tc main_v17) : S4x256.Idx → EReal) (ix2 p f) = rowM m c p f := by
  refine (congrFun (outC17 (VT m c)) (ix2 p f)).trans ?_
  rw [VT_23]
  have e := arr23 (VR m) c p 0 f
  generalize ((dat (VR m) c).arrAt 23 cfg1.N : S4x1x256.Idx → EReal) = x at e ⊢
  refine Eq.trans (b := x (ix3 p 0 f)) (by pointwise) (e.trans ?_)
  exact (row0_eq _ _ _ _ _ _ _ _ _ _ f).trans (row_in m c hE p f)

omit hE in
theorem prob_in (p : Fin cfg1.N) (z : Fin 256 → EReal) (hz : ∀ f, rowC (VR m) c p (ix2 0 f) = z f) (a : Fin 8) : outC1 (VR m) c p (ix3 0 a 0)
    = Alg.logisticS (Alg.scoreS (Alg.hidS (z) (m ((c : Thread nD τ).loc main_arg15)) (m ((c : Thread nD τ).loc main_arg16))) (m ((c : Thread nD τ).loc main_arg17)) (fun a => (m ((c : Thread nD τ).loc main_arg18) : S8.Idx → EReal) (ix1 a)) a) := by
  unfold outC1
  refine (prob_eq _ _ _ _ _ a).trans ?_
  simp only [hz, blk13, blk14, blk15, blk16, in12]
  rw [arg_in m c main_arg15 (by decide), arg_in m c main_arg16 (by decide), arg_in m c main_arg17 (by decide)]
theorem prob_out (p : Fin 4) (a : Fin 8) : (VE m c (Proc.devRef .tc main_v18) : S4x8.Idx → EReal) (ix2 p a)
    = Alg.logisticS (Alg.scoreS (Alg.hidS (rowM m c p) (m ((c : Thread nD τ).loc main_arg15)) (m ((c : Thread nD τ).loc main_arg16))) (m ((c : Thread nD τ).loc main_arg17)) (fun a => (m ((c : Thread nD τ).loc main_arg18) : S8.Idx → EReal) (ix1 a)) a) := by
  refine (congrFun (outC18 (VT m c)) (ix2 p a)).trans ?_
  rw [VT_24]
  have e := arr24 (VR m) c p a 0
  generalize ((dat (VR m) c).arrAt 24 cfg1.N : S4x8x1.Idx → EReal) = x at e ⊢
  refine Eq.trans (b := x (ix3 p a 0)) (by pointwise) (e.trans ?_)
  exact prob_in m c p _ (row_in m c hE p) a

omit hE in
theorem cat_in (p : Fin cfg1.N) (z : Fin 256 → EReal) (hz : ∀ f, rowC (VR m) c p (ix2 0 f) = z f) (a : Fin 8) : outC2 (VR m) c p (ix3 0 0 a)
    = Alg.catS (z) (m ((c : Thread nD τ).loc main_arg23)) (fun a => (m ((c : Thread nD τ).loc main_arg24) : S8.Idx → EReal) (ix1 a)) a := by
  unfold outC2
  refine (cat_eq _ _ _ a).trans ?_
  simp only [hz, blk21, blk22, in15]
  rw [arg_in m c main_arg23 (by decide)]
theorem cat_out (p : Fin 4) (a : Fin 8) : (VE m c (Proc.devRef .tc main_v19) : S4x8.Idx → EReal) (ix2 p a)
    = Alg.catS (rowM m c p) (m ((c : Thread nD τ).loc main_arg23)) (fun a => (m ((c : Thread nD τ).loc main_arg24) : S8.Idx → EReal) (ix1 a)) a := by
  refine (congrFun (outC19 (VT m c)) (ix2 p a)).trans ?_
  rw [VT_25]
  have e := arr25 (VR m) c p 0 a
  generalize ((dat (VR m) c).arrAt 25 cfg1.N : S4x1x8.Idx → EReal) = x at e ⊢
  refine Eq.trans (b := x (ix3 p 0 a)) (by pointwise) (e.trans ?_)
  exact cat_in m c p _ (row_in m c hE p) a

omit hE in
theorem dir_in (p : Fin cfg1.N) (z : Fin 256 → EReal) (hz : ∀ f, rowC (VR m) c p (ix2 0 f) = z f) (a : Fin 8) : outC3 (VR m) c p (ix3 0 a 0)
    = Alg.scoreS (Alg.hidS (z) (m ((c : Thread nD τ).loc main_arg15)) (m ((c : Thread nD τ).loc main_arg16))) (m ((c : Thread nD τ).loc main_arg19)) (fun a => (m ((c : Thread nD τ).loc main_arg20) : S8.Idx → EReal) (ix1 a)) a := by
  unfold outC3
  refine (sign_eq _ _ _ _ _ a).trans ?_
  simp only [hz, blk13, blk14, blk17, blk18, in13]
  rw [arg_in m c main_arg15 (by decide), arg_in m c main_arg16 (by decide), arg_in m c main_arg19 (by decide)]
theorem dir_out (p : Fin 4) (a : Fin 8) : (VE m c (Proc.devRef .tc main_v20) : S4x8.Idx → EReal) (ix2 p a)
    = Alg.scoreS (Alg.hidS (rowM m c p) (m ((c : Thread nD τ).loc main_arg15)) (m ((c : Thread nD τ).loc main_arg16))) (m ((c : Thread nD τ).loc main_arg19)) (fun a => (m ((c : Thread nD τ).loc main_arg20) : S8.Idx → EReal) (ix1 a)) a := by
  refine (congrFun (outC20 (VT m c)) (ix2 p a)).trans ?_
  rw [VT_26]
  have e := arr26 (VR m) c p a 0
  generalize ((dat (VR m) c).arrAt 26 cfg1.N : S4x8x1.Idx → EReal) = x at e ⊢
  refine Eq.trans (b := x (ix3 p a 0)) (by pointwise) (e.trans ?_)
  exact dir_in m c p _ (row_in m c hE p) a

omit hE in
theorem mag_in (p : Fin cfg1.N) (z : Fin 256 → EReal) (hz : ∀ f, rowC (VR m) c p (ix2 0 f) = z f) (a : Fin 8) : outC4 (VR m) c p (ix3 0 a 0)
    = Alg.softplusS (Alg.scoreS (Alg.hidS (z) (m ((c : Thread nD τ).loc main_arg15)) (m ((c : Thread nD τ).loc main_arg16))) (m ((c : Thread nD τ).loc main_arg21)) (fun a => (m ((c : Thread nD τ).loc main_arg22) : S8.Idx → EReal) (ix1 a)) a) := by
  unfold outC4
  refine (mag_eq _ _ _ _ _ a).trans ?_
  simp only [hz, blk13, blk14, blk19, blk20, in14]
  rw [arg_in m c main_arg15 (by decide), arg_in m c main_arg16 (by decide), arg_in m c main_arg21 (by decide)]
theorem mag_out (p : Fin 4) (a : Fin 8) : (VE m c (Proc.devRef .tc main_v21) : S4x8.Idx → EReal) (ix2 p a)
    = Alg.softplusS (Alg.scoreS (Alg.hidS (rowM m c p) (m ((c : Thread nD τ).loc main_arg15)) (m ((c : Thread nD τ).loc main_arg16))) (m ((c : Thread nD τ).loc main_arg21)) (fun a => (m ((c : Thread nD τ).loc main_arg22) : S8.Idx → EReal) (ix1 a)) a) := by
  refine (congrFun (outC21 (VT m c)) (ix2 p a)).trans ?_
  rw [VT_27]
  have e := arr27 (VR m) c p a 0
  generalize ((dat (VR m) c).arrAt 27 cfg1.N : S4x8x1.Idx → EReal) = x at e ⊢
  refine Eq.trans (b := x (ix3 p a 0)) (by pointwise) (e.trans ?_)
  exact mag_in m c p _ (row_in m c hE p) a

omit hE in
theorem dom_in (p : Fin cfg1.N) (z : Fin 256 → EReal) (hz : ∀ f, rowC (VR m) c p (ix2 0 f) = z f) (a : Fin 8)
    (h : Alg.First (Alg.catS z (m ((c : Thread nD τ).loc main_arg23)) (fun a => (m ((c : Thread nD τ).loc main_arg24) : S8.Idx → EReal) (ix1 a))) a) :
    outC5 (VR m) c p (ix3 0 0 0) = BitVec.ofNat 32 a.val := by
  unfold outC5
  refine dom_eq _ _ _ a ?_
  have e2 : (fun x : Fin 8 => k1_pay2 (rowC (VR m) c p) (iblk (VR m) c 21 p) (iblk (VR m) c 22 p) (ix2 0 x))
      = Alg.catS (z) (m ((c : Thread nD τ).loc main_arg23)) (fun a => (m ((c : Thread nD τ).loc main_arg24) : S8.Idx → EReal) (ix1 a)) := by
    funext x
    rw [cat_at]
    simp only [hz, blk21, blk22, in15]
    rw [arg_in m c main_arg23 (by decide)]
    rfl
  rw [e2]
  exact h
theorem dom_out (p : Fin 4) (a : Fin 8) (h : Alg.First (Alg.catS (rowM m c p) (m ((c : Thread nD τ).loc main_arg23)) (fun a => (m ((c : Thread nD τ).loc main_arg24) : S8.Idx → EReal) (ix1 a))) a) :
    (VE m c (Proc.devRef .tc main_v22) : S4.Idx → BitVec 32) (ix1 p) = BitVec.ofNat 32 a.val := by
  refine (congrFun (outC22 (VT m c)) (ix1 p)).trans ?_
  rw [VT_28]
  have e := arr28 (VR m) c p 0 0
  generalize ((dat (VR m) c).arrAt 28 cfg1.N : S4x1x1.Idx → BitVec 32) = x at e ⊢
  refine Eq.trans (b := x (ix3 p 0 0)) (by pointwise) (e.trans ?_)
  exact dom_in m c p _ (row_in m c hE p) a h
end

end Ends

end Cert.Proof.Adj

end
-- ==== Proof.Same.lean ====
/- The two sides compared: equal arguments give equal returned arrays, and the arguments end unchanged. -/
module

public import proofs.«01_k».proof.Proof.KerEnd
public import proofs.«01_k».proof.Proof.RefEnd

@[expose] public section

set_option maxRecDepth 16384

noncomputable section

namespace Cert.Proof

open Idealize.ShloMosaic Idealize.ShloMosaic.TcCoe Idealize.SL.Sem

section KernelEnd
open Cert.KernelIdeal Cert.KernelIdeal.Gen

/-- Every argument of the kernel ends as it began. -/
theorem ker_args {F : FTy → Type} [FloatOps F] (m : (ℓ : Loc nD τ sig) → Buf (Elt F) ℓ) (r : PUnit × MemSt nD τ sig (Elt F)) (h : Adj.QC m r) (c : Dev nD) :
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) :=
  ⟨(h.1 c main_arg0 rfl).trans (Adj.VE_keep m c main_arg0 (by decide) (by decide) (by decide)),
    (h.1 c main_arg1 rfl).trans (Adj.VE_keep m c main_arg1 (by decide) (by decide) (by decide)),
    (h.1 c main_arg2 rfl).trans (Adj.VE_keep m c main_arg2 (by decide) (by decide) (by decide)),
    (h.1 c main_arg3 rfl).trans (Adj.VE_keep m c main_arg3 (by decide) (by decide) (by decide)),
    (h.1 c main_arg4 rfl).trans (Adj.VE_keep m c main_arg4 (by decide) (by decide) (by decide)),
    (h.1 c main_arg5 rfl).trans (Adj.VE_keep m c main_arg5 (by decide) (by decide) (by decide)),
    (h.1 c main_arg6 rfl).trans (Adj.VE_keep m c main_arg6 (by decide) (by decide) (by decide)),
    (h.1 c main_arg7 rfl).trans (Adj.VE_keep m c main_arg7 (by decide) (by decide) (by decide)),
    (h.1 c main_arg8 rfl).trans (Adj.VE_keep m c main_arg8 (by decide) (by decide) (by decide)),
    (h.1 c main_arg9 rfl).trans (Adj.VE_keep m c main_arg9 (by decide) (by decide) (by decide)),
    (h.1 c main_arg10 rfl).trans (Adj.VE_keep m c main_arg10 (by decide) (by decide) (by decide)),
    (h.1 c main_arg11 rfl).trans (Adj.VE_keep m c main_arg11 (by decide) (by decide) (by decide)),
    (h.1 c main_arg12 rfl).trans (Adj.VE_keep m c main_arg12 (by decide) (by decide) (by decide)),
    (h.1 c main_arg13 rfl).trans (Adj.VE_keep m c main_arg13 (by decide) (by decide) (by decide)),
    (h.1 c main_arg14 rfl).trans (Adj.VE_keep m c main_arg14 (by decide) (by decide) (by decide)),
    (h.1 c main_arg15 rfl).trans (Adj.VE_keep m c main_arg15 (by decide) (by decide) (by decide)),
    (h.1 c main_arg16 rfl).trans (Adj.VE_keep m c main_arg16 (by decide) (by decide) (by decide)),
    (h.1 c main_arg17 rfl).trans (Adj.VE_keep m c main_arg17 (by decide) (by decide) (by decide)),
    (h.1 c main_arg18 rfl).trans (Adj.VE_keep m c main_arg18 (by decide) (by decide) (by decide)),
    (h.1 c main_arg19 rfl).trans (Adj.VE_keep m c main_arg19 (by decide) (by decide) (by decide)),
    (h.1 c main_arg20 rfl).trans (Adj.VE_keep m c main_arg20 (by decide) (by decide) (by decide)),
    (h.1 c main_arg21 rfl).trans (Adj.VE_keep m c main_arg21 (by decide) (by decide) (by decide)),
    (h.1 c main_arg22 rfl).trans (Adj.VE_keep m c main_arg22 (by decide) (by decide) (by decide)),
    (h.1 c main_arg23 rfl).trans (Adj.VE_keep m c main_arg23 (by decide) (by decide) (by decide)),
    (h.1 c main_arg24 rfl).trans (Adj.VE_keep m c main_arg24 (by decide) (by decide) (by decide))⟩

end KernelEnd

section ReferenceEnd
open Cert.ReferenceIdeal Cert.ReferenceIdeal.Gen

/-- and every argument of the reference. -/
theorem ref_args (m : (ℓ : Loc nD τ sig) → Buf (Elt Ideal) ℓ) (r : PUnit × MemSt nD τ sig (Elt Ideal))
    (h : ∀ (d : Dev nD) (b : Ref sig .tc), r.2.mem ((d.tc : Thread nD τ).loc b) = Ref.W28 m d (Proc.devRef .tc b)) (c : Dev nD) :
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) :=
  ⟨(h c main_arg0).trans (Ref.end_arg0 m c),
    (h c main_arg1).trans (Ref.end_arg1 m c),
    (h c main_arg2).trans (Ref.end_arg2 m c),
    (h c main_arg3).trans (Ref.end_arg3 m c),
    (h c main_arg4).trans (Ref.end_arg4 m c),
    (h c main_arg5).trans (Ref.end_arg5 m c),
    (h c main_arg6).trans (Ref.end_arg6 m c),
    (h c main_arg7).trans (Ref.end_arg7 m c),
    (h c main_arg8).trans (Ref.end_arg8 m c),
    (h c main_arg9).trans (Ref.end_arg9 m c),
    (h c main_arg10).trans (Ref.end_arg10 m c),
    (h c main_arg11).trans (Ref.end_arg11 m c),
    (h c main_arg12).trans (Ref.end_arg12 m c),
    (h c main_arg13).trans (Ref.end_arg13 m c),
    (h c main_arg14).trans (Ref.end_arg14 m c),
    (h c main_arg15).trans (Ref.end_arg15 m c),
    (h c main_arg16).trans (Ref.end_arg16 m c),
    (h c main_arg17).trans (Ref.end_arg17 m c),
    (h c main_arg18).trans (Ref.end_arg18 m c),
    (h c main_arg19).trans (Ref.end_arg19 m c),
    (h c main_arg20).trans (Ref.end_arg20 m c),
    (h c main_arg21).trans (Ref.end_arg21 m c),
    (h c main_arg22).trans (Ref.end_arg22 m c),
    (h c main_arg23).trans (Ref.end_arg23 m c),
    (h c main_arg24).trans (Ref.end_arg24 m c)⟩

end ReferenceEnd

section Same
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem row_same
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (p : Fin 4) : Ref.rowM m' c p = Adj.rowM m c p := by
  unfold Ref.rowM Adj.rowM
  rw [h3, h0, h1, h2, h4, h5, h7, h9, h10, h11, h12, h13, h14] <;> rfl

variable (hE : ∀ j, ((m ((c.tc : Thread Cert.KernelIdeal.nD Cert.KernelIdeal.τ).loc Cert.KernelIdeal.main_arg3)) j).toNat < 883) (hx : ∀ j, ∃ q : ℝ, ((m ((c.tc : Thread Cert.KernelIdeal.nD Cert.KernelIdeal.τ).loc Cert.KernelIdeal.main_arg0)) j : EReal) = (q : EReal)) (hy : ∀ j, ∃ q : ℝ, ((m ((c.tc : Thread Cert.KernelIdeal.nD Cert.KernelIdeal.τ).loc Cert.KernelIdeal.main_arg1)) j : EReal) = (q : EReal))
  (hw : ∀ j, ∃ q : ℝ, ((m ((c.tc : Thread Cert.KernelIdeal.nD Cert.KernelIdeal.τ).loc Cert.KernelIdeal.main_arg9)) j : EReal) = (q : EReal)) (z6 : ∀ j, ((m ((c.tc : Thread Cert.KernelIdeal.nD Cert.KernelIdeal.τ).loc Cert.KernelIdeal.main_arg6)) j : EReal) = (0 : EReal)) (z8 : ∀ j, ((m ((c.tc : Thread Cert.KernelIdeal.nD Cert.KernelIdeal.τ).loc Cert.KernelIdeal.main_arg8)) j : EReal) = (0 : EReal))
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
  (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
  (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
  (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
  (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
  (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
  (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
  (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
  (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
  (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
  (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
  (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
  (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
  (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
  (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))

include hE hx hy hw z6 z8 h0 h1 h2 h3 h4 h5 h6 h7 h8 h9 h10 h11 h12 h13 h14 h15 h16 h17 h18 h19 h20 h21 h22 h23 h24

theorem same17 : (Ref.v105R m' c : Cert.KernelIdeal.S4x256.Idx → EReal) = Adj.VE m c (Proc.devRef .tc Cert.KernelIdeal.main_v17) := by
  have hr := row_same m m' c h3 h0 h1 h2 h4 h5 h7 h9 h10 h11 h12 h13 h14
  funext j
  obtain ⟨p, a, rfl⟩ : ∃ (p : Fin 4) (a : Fin 256), j = ix2 p a := ⟨j 0, j 1, eq_ix2 j⟩
  refine (Ref.row_at m' c (by rw [h3]; exact hE) (by rw [h0]; exact hx) (by rw [h1]; exact hy) (by rw [h9]; exact hw) (by rw [h6]; exact z6) (by rw [h8]; exact z8) p a).trans (Eq.trans ?_ (Adj.row_at m c hE p a).symm)
  rw [hr]

theorem same18 : (Ref.v121R m' c : Cert.KernelIdeal.S4x8.Idx → EReal) = Adj.VE m c (Proc.devRef .tc Cert.KernelIdeal.main_v18) := by
  have hr := row_same m m' c h3 h0 h1 h2 h4 h5 h7 h9 h10 h11 h12 h13 h14
  funext j
  obtain ⟨p, a, rfl⟩ : ∃ (p : Fin 4) (a : Fin 8), j = ix2 p a := ⟨j 0, j 1, eq_ix2 j⟩
  refine (Ref.prob_at m' c (by rw [h3]; exact hE) (by rw [h0]; exact hx) (by rw [h1]; exact hy) (by rw [h9]; exact hw) (by rw [h6]; exact z6) (by rw [h8]; exact z8) p a).trans (Eq.trans ?_ (Adj.prob_out m c hE p a).symm)
  rw [hr, h15, h16, h17, h18]

theorem same19 : (Ref.v136R m' c : Cert.KernelIdeal.S4x8.Idx → EReal) = Adj.VE m c (Proc.devRef .tc Cert.KernelIdeal.main_v19) := by
  have hr := row_same m m' c h3 h0 h1 h2 h4 h5 h7 h9 h10 h11 h12 h13 h14
  funext j
  obtain ⟨p, a, rfl⟩ : ∃ (p : Fin 4) (a : Fin 8), j = ix2 p a := ⟨j 0, j 1, eq_ix2 j⟩
  refine (Ref.cat_at m' c (by rw [h3]; exact hE) (by rw [h0]; exact hx) (by rw [h1]; exact hy) (by rw [h9]; exact hw) (by rw [h6]; exact z6) (by rw [h8]; exact z8) p a).trans (Eq.trans ?_ (Adj.cat_out m c hE p a).symm)
  rw [hr, h23, h24]

theorem same20 : (Ref.v126R m' c : Cert.KernelIdeal.S4x8.Idx → EReal) = Adj.VE m c (Proc.devRef .tc Cert.KernelIdeal.main_v20) := by
  have hr := row_same m m' c h3 h0 h1 h2 h4 h5 h7 h9 h10 h11 h12 h13 h14
  funext j
  obtain ⟨p, a, rfl⟩ : ∃ (p : Fin 4) (a : Fin 8), j = ix2 p a := ⟨j 0, j 1, eq_ix2 j⟩
  refine (Ref.dir_at m' c (by rw [h3]; exact hE) (by rw [h0]; exact hx) (by rw [h1]; exact hy) (by rw [h9]; exact hw) (by rw [h6]; exact z6) (by rw [h8]; exact z8) p a).trans (Eq.trans ?_ (Adj.dir_out m c hE p a).symm)
  rw [hr, h15, h16, h19, h20]

theorem same21 : (Ref.v132R m' c : Cert.KernelIdeal.S4x8.Idx → EReal) = Adj.VE m c (Proc.devRef .tc Cert.KernelIdeal.main_v21) := by
  have hr := row_same m m' c h3 h0 h1 h2 h4 h5 h7 h9 h10 h11 h12 h13 h14
  funext j
  obtain ⟨p, a, rfl⟩ : ∃ (p : Fin 4) (a : Fin 8), j = ix2 p a := ⟨j 0, j 1, eq_ix2 j⟩
  refine (Ref.mag_at m' c (by rw [h3]; exact hE) (by rw [h0]; exact hx) (by rw [h1]; exact hy) (by rw [h9]; exact hw) (by rw [h6]; exact z6) (by rw [h8]; exact z8) p a).trans (Eq.trans ?_ (Adj.mag_out m c hE p a).symm)
  rw [hr, h15, h16, h21, h22]

theorem same22 : (Ref.v137R m' c : Cert.KernelIdeal.S4.Idx → BitVec 32) = Adj.VE m c (Proc.devRef .tc Cert.KernelIdeal.main_v22) := by
  have hr := row_same m m' c h3 h0 h1 h2 h4 h5 h7 h9 h10 h11 h12 h13 h14
  funext j
  obtain ⟨p, rfl⟩ : ∃ p : Fin 4, j = ix1 p := ⟨j 0, eq_ix1 j⟩
  obtain ⟨a, ha⟩ := Alg.exists_first (Alg.catS (Adj.rowM m c p) (m ((c.tc : Thread Cert.KernelIdeal.nD Cert.KernelIdeal.τ).loc Cert.KernelIdeal.main_arg23)) (fun a => ((m ((c.tc : Thread Cert.KernelIdeal.nD Cert.KernelIdeal.τ).loc Cert.KernelIdeal.main_arg24)) : Cert.KernelIdeal.S8.Idx → EReal) (ix1 a)))
  refine (Ref.dom_at m' c (by rw [h3]; exact hE) (by rw [h0]; exact hx) (by rw [h1]; exact hy) (by rw [h9]; exact hw) (by rw [h6]; exact z6) (by rw [h8]; exact z8) p a ?_).trans (Adj.dom_out m c hE p a ha).symm
  rw [hr, h23, h24]
  exact ha

end Same

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_nodes_in_range
public import proofs.«01_k».proof.Proof.Gen.Pre_inputs_ok
public import proofs.«01_k».proof.Proof.Pre
public import proofs.«01_k».proof.Proof.Same
public import Idealize.ShloMosaic.Lib.Tactic
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
open Cert.KernelIdeal

/-- The frame at machine floats, of the idealized kernel's text. -/
def QuietBits : Prop :=
  ∀ (m : (ℓ : Loc nD τ sig) → Buf (Elt Bits) ℓ) (g : Dev nD → PrngReg),
    (∀ c : Dev nD, (Cert.Pre_nodes_in_range.fn (F := Bits)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) (m ((c.tc : Thread nD τ).loc main_arg17))
      (m ((c.tc : Thread nD τ).loc main_arg18)) (m ((c.tc : Thread nD τ).loc main_arg19)) (m ((c.tc : Thread nD τ).loc main_arg20))
      (m ((c.tc : Thread nD τ).loc main_arg21)) (m ((c.tc : Thread nD τ).loc main_arg22)) (m ((c.tc : Thread nD τ).loc main_arg23))
      (m ((c.tc : Thread nD τ).loc main_arg24))) = (fun _ => 1#1)) →
    θ_run (Cert.KernelIdeal.defs (F := Bits)) (Cert.KernelIdeal.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0)

theorem quietBits : QuietBits := fun m g hpre =>
  (θ_run Cert.KernelIdeal.defs _ _).mono (fun r h => ⟨fun c => ker_args m r h c, h.2⟩)
    (Adj.run_main (F := Bits) m g fun d => Adj.srcOK m d (Pre.nodes (hpre d)))

end

/-- The two texts are the same, so the frame of one is the frame of the other. -/
theorem quietBits_eq : QuietBits = Cert.quiescent_Kernel := by sl_kernel_rfl

theorem frame_Kernel : Cert.quiescent_Kernel := quietBits_eq.mp quietBits

theorem frame_KernelIdeal : Cert.quiescent_KernelIdeal := fun m g hpre =>
  (θ_run Cert.KernelIdeal.defs _ _).mono (fun r h => ⟨fun c => ker_args m r h c, h.2⟩)
    (Adj.run_main (F := Ideal) m g fun d => Adj.srcOK m d (Pre.nodes (hpre d)))

theorem frame_KernelIdeal' : Cert.quiescent_KernelIdeal_pre_inputs_ok := fun m g hpre =>
  (θ_run Cert.KernelIdeal.defs _ _).mono (fun r h => ⟨fun c => ker_args m r h c, h.2⟩)
    (Adj.run_main (F := Ideal) m g fun d => Adj.srcOK m d (Pre.inputs (hpre d)).1)

theorem frame_ReferenceIdeal : Cert.quiescent_ReferenceIdeal := fun m g _ =>
  (θ_run Cert.ReferenceIdeal.defs _ _).mono (fun r h => ⟨fun c => ref_args m r h c, sem_eq_zero_of_no_sems (by decide) r.2⟩)
    (Ref.run (F := Ideal) m g)

theorem value : Cert.algebraic_KernelIdeal_ReferenceIdeal_pre_inputs_ok := by
  intro m g m' g' hpre harg
  refine ⟨fun c => Adj.VE m c (Proc.devRef .tc Cert.KernelIdeal.main_v17), fun c => Adj.VE m c (Proc.devRef .tc Cert.KernelIdeal.main_v18),
    fun c => Adj.VE m c (Proc.devRef .tc Cert.KernelIdeal.main_v19), fun c => Adj.VE m c (Proc.devRef .tc Cert.KernelIdeal.main_v20),
    fun c => Adj.VE m c (Proc.devRef .tc Cert.KernelIdeal.main_v21), fun c => Adj.VE m c (Proc.devRef .tc Cert.KernelIdeal.main_v22), ?_, ?_⟩
  · exact (θ_run Cert.KernelIdeal.defs _ _).mono (fun r h c => ⟨h.1 c _ rfl, h.1 c _ rfl, h.1 c _ rfl, h.1 c _ rfl, h.1 c _ rfl, h.1 c _ rfl, ker_args m r h c⟩)
      (Adj.run_main (F := Ideal) m g fun d => Adj.srcOK m d (Pre.inputs (hpre d)).1)
  · refine (θ_run Cert.ReferenceIdeal.defs _ _).mono (fun r h c => ?_) (Ref.run (F := Ideal) m' g')
    obtain ⟨hE, hx, hy, hw, z6, z8⟩ := Pre.inputs (hpre c)
    obtain ⟨h0, h1, h2, h3, h4, h5, h6, h7, h8, h9, h10, h11, h12, h13, h14, h15, h16, h17, h18, h19, h20, h21, h22, h23, h24⟩ := harg c
    exact ⟨((h c _).trans (Ref.end_v105 m' c)).trans (same17 m m' c hE hx hy hw z6 z8 h0 h1 h2 h3 h4 h5 h6 h7 h8 h9 h10 h11 h12 h13 h14 h15 h16 h17 h18 h19 h20 h21 h22 h23 h24),
      ((h c _).trans (Ref.end_v121 m' c)).trans (same18 m m' c hE hx hy hw z6 z8 h0 h1 h2 h3 h4 h5 h6 h7 h8 h9 h10 h11 h12 h13 h14 h15 h16 h17 h18 h19 h20 h21 h22 h23 h24),
      ((h c _).trans (Ref.end_v136 m' c)).trans (same19 m m' c hE hx hy hw z6 z8 h0 h1 h2 h3 h4 h5 h6 h7 h8 h9 h10 h11 h12 h13 h14 h15 h16 h17 h18 h19 h20 h21 h22 h23 h24),
      ((h c _).trans (Ref.end_v126 m' c)).trans (same20 m m' c hE hx hy hw z6 z8 h0 h1 h2 h3 h4 h5 h6 h7 h8 h9 h10 h11 h12 h13 h14 h15 h16 h17 h18 h19 h20 h21 h22 h23 h24),
      ((h c _).trans (Ref.end_v132 m' c)).trans (same21 m m' c hE hx hy hw z6 z8 h0 h1 h2 h3 h4 h5 h6 h7 h8 h9 h10 h11 h12 h13 h14 h15 h16 h17 h18 h19 h20 h21 h22 h23 h24),
      ((h c _).trans (Ref.end_v137 m' c)).trans (same22 m m' c hE hx hy hw z6 z8 h0 h1 h2 h3 h4 h5 h6 h7 h8 h9 h10 h11 h12 h13 h14 h15 h16 h17 h18 h19 h20 h21 h22 h23 h24),
      ref_args m' r h c⟩

theorem claim : Cert.Claim :=
  ⟨Cert.Kernel.Gen.facts, Cert.KernelIdeal.Gen.facts, Cert.ReferenceIdeal.Gen.facts, Cert.Pre_nodes_in_range.Gen.facts, Cert.Pre_inputs_ok.Gen.facts,
    frame_Kernel, frame_KernelIdeal, frame_KernelIdeal', frame_ReferenceIdeal, fun m g _ => frame_ReferenceIdeal m g trivial, trivial, value⟩

end Cert.Proof

end
